-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvIdeal_finite_mem [hPre_finite_mem : Cert.Pre_finite_mem.Facts] (m : (ℓ : Loc Cert.MemKvIdeal.nD Cert.MemKvIdeal.τ Cert.MemKvIdeal.sig) → Buf (Elt Ideal) ℓ) : Prop :=
  ∀ c : Dev Cert.MemKvIdeal.nD,
    (Cert.Pre_finite_mem.fn (F := Ideal) (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)) (m ((c.tc : Thread Cert.MemKvIdeal.nD Cert.MemKvIdeal.τ).loc Cert.MemKvIdeal.main_arg3))) = (fun _ => 1#1)

def Pre_MemKvRefIdeal (m : (ℓ : Loc Cert.MemKvRefIdeal.nD Cert.MemKvRefIdeal.τ Cert.MemKvRefIdeal.sig) → Buf (Elt Ideal) ℓ) : Prop :=
  True

def Pre_MemKvRefIdeal_finite_mem [hPre_finite_mem : Cert.Pre_finite_mem.Facts] (m : (ℓ : Loc Cert.MemKvRefIdeal.nD Cert.MemKvRefIdeal.τ Cert.MemKvRefIdeal.sig) → Buf (Elt Ideal) ℓ) : Prop :=
  ∀ c : Dev Cert.MemKvRefIdeal.nD,
    (Cert.Pre_finite_mem.fn (F := Ideal) (m ((c.tc : Thread Cert.MemKvRefIdeal.nD Cert.MemKvRefIdeal.τ).loc Cert.MemKvRefIdeal.main_arg0)) (m ((c.tc : Thread Cert.MemKvRefIdeal.nD Cert.MemKvRefIdeal.τ).loc Cert.MemKvRefIdeal.main_arg1)) (m ((c.tc : Thread Cert.MemKvRefIdeal.nD Cert.MemKvRefIdeal.τ).loc Cert.MemKvRefIdeal.main_arg2)) (m ((c.tc : Thread Cert.MemKvRefIdeal.nD Cert.MemKvRefIdeal.τ).loc Cert.MemKvRefIdeal.main_arg3))) = (fun _ => 1#1)

def Pre_NsaPrep (m : (ℓ : Loc Cert.NsaPrep.nD Cert.NsaPrep.τ Cert.NsaPrep.sig) → Buf (Elt Bits) ℓ) : Prop :=
  True

def Pre_NsaPrepIdeal (m : (ℓ : Loc Cert.NsaPrepIdeal.nD Cert.NsaPrepIdeal.τ Cert.NsaPrepIdeal.sig) → Buf (Elt Ideal) ℓ) : Prop :=
  True

def Pre_NsaPrepIdeal_finite_prep [hPre_finite_prep : Cert.Pre_finite_prep.Facts] (m : (ℓ : Loc Cert.NsaPrepIdeal.nD Cert.NsaPrepIdeal.τ Cert.NsaPrepIdeal.sig) → Buf (Elt Ideal) ℓ) : Prop :=
  ∀ c : Dev Cert.NsaPrepIdeal.nD,
    (Cert.Pre_finite_prep.fn (F := Ideal) (m ((c.tc : Thread Cert.NsaPrepIdeal.nD Cert.NsaPrepIdeal.τ).loc Cert.NsaPrepIdeal.main_arg0)) (m ((c.tc : Thread Cert.NsaPrepIdeal.nD Cert.NsaPrepIdeal.τ).loc Cert.NsaPrepIdeal.main_arg1))) = (fun _ => 1#1)

def Pre_NsaPrepRefIdeal (m : (ℓ : Loc Cert.NsaPrepRefIdeal.nD Cert.NsaPrepRefIdeal.τ Cert.NsaPrepRefIdeal.sig) → Buf (Elt Ideal) ℓ) : Prop :=
  True

def Pre_NsaPrepRefIdeal_finite_prep [hPre_finite_prep : Cert.Pre_finite_prep.Facts] (m : (ℓ : Loc Cert.NsaPrepRefIdeal.nD Cert.NsaPrepRefIdeal.τ Cert.NsaPrepRefIdeal.sig) → Buf (Elt Ideal) ℓ) : Prop :=
  ∀ c : Dev Cert.NsaPrepRefIdeal.nD,
    (Cert.Pre_finite_prep.fn (F := Ideal) (m ((c.tc : Thread Cert.NsaPrepRefIdeal.nD Cert.NsaPrepRefIdeal.τ).loc Cert.NsaPrepRefIdeal.main_arg0)) (m ((c.tc : Thread Cert.NsaPrepRefIdeal.nD Cert.NsaPrepRefIdeal.τ).loc Cert.NsaPrepRefIdeal.main_arg1))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_matt [hPre_finite_matt : Cert.Pre_finite_matt.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_matt.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_matt [hPre_finite_matt : Cert.Pre_finite_matt.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_matt.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))) = (fun _ => 1#1)

def Pre_OutFfnS (m : (ℓ : Loc Cert.OutFfnS.nD Cert.OutFfnS.τ Cert.OutFfnS.sig) → Buf (Elt Bits) ℓ) : Prop :=
  True

def Pre_OutFfnSIdeal (m : (ℓ : Loc Cert.OutFfnSIdeal.nD Cert.OutFfnSIdeal.τ Cert.OutFfnSIdeal.sig) → Buf (Elt Ideal) ℓ) : Prop :=
  True

def Pre_OutFfnSRefIdeal (m : (ℓ : Loc Cert.OutFfnSRefIdeal.nD Cert.OutFfnSRefIdeal.τ Cert.OutFfnSRefIdeal.sig) → Buf (Elt Ideal) ℓ) : Prop :=
  True

def Pre_ProjInS (m : (ℓ : Loc Cert.ProjInS.nD Cert.ProjInS.τ Cert.ProjInS.sig) → Buf (Elt Bits) ℓ) : Prop :=
  True

def Pre_ProjInSIdeal (m : (ℓ : Loc Cert.ProjInSIdeal.nD Cert.ProjInSIdeal.τ Cert.ProjInSIdeal.sig) → Buf (Elt Ideal) ℓ) : Prop :=
  True

def Pre_ProjInSRefIdeal (m : (ℓ : Loc Cert.ProjInSRefIdeal.nD Cert.ProjInSRefIdeal.τ Cert.ProjInSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvIdeal_pre_finite_mem [hMemKvIdeal : Cert.MemKvIdeal.Facts] [hPre_finite_mem : Cert.Pre_finite_mem.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal_finite_mem m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemKvRefIdeal_pre_finite_mem [hMemKvRefIdeal : Cert.MemKvRefIdeal.Facts] [hPre_finite_mem : Cert.Pre_finite_mem.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal_finite_mem m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_NsaPrep [hNsaPrep : Cert.NsaPrep.Facts] : Prop :=
  ∀ (m : (ℓ : Loc Cert.NsaPrep.nD Cert.NsaPrep.τ Cert.NsaPrep.sig) → Buf (Elt Bits) ℓ) (g : Dev Cert.NsaPrep.nD → PrngReg), Pre_NsaPrep m →
    θ_run (Cert.NsaPrep.defs (F := Bits)) (onTc (τ := Cert.NsaPrep.τ) (Cert.NsaPrep.main (F := Bits))) ⟨m, fun _ => 0, g⟩ (fun r => (∀ c : Dev Cert.NsaPrep.nD,
      r.2.mem ((c.tc : Thread Cert.NsaPrep.nD Cert.NsaPrep.τ).loc Cert.NsaPrep.main_arg0) = m ((c.tc : Thread Cert.NsaPrep.nD Cert.NsaPrep.τ).loc Cert.NsaPrep.main_arg0)
      ∧ r.2.mem ((c.tc : Thread Cert.NsaPrep.nD Cert.NsaPrep.τ).loc Cert.NsaPrep.main_arg1) = m ((c.tc : Thread Cert.NsaPrep.nD Cert.NsaPrep.τ).loc Cert.NsaPrep.main_arg1))
      ∧ r.2.sem = fun _ => 0)

def quiescent_NsaPrepIdeal [hNsaPrepIdeal : Cert.NsaPrepIdeal.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg), Pre_NsaPrepIdeal m →
    θ_run (Cert.NsaPrepIdeal.defs (F := Ideal)) (onTc (τ := Cert.NsaPrepIdeal.τ) (Cert.NsaPrepIdeal.main (F := Ideal))) ⟨m, fun _ => 0, g⟩ (fun r => (∀ c : Dev Cert.NsaPrepIdeal.nD,
      r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
      ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1))
      ∧ r.2.sem = fun _ => 0)

def quiescent_NsaPrepIdeal_pre_finite_prep [hNsaPrepIdeal : Cert.NsaPrepIdeal.Facts] [hPre_finite_prep : Cert.Pre_finite_prep.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg), Pre_NsaPrepIdeal_finite_prep m →
    θ_run (Cert.NsaPrepIdeal.defs (F := Ideal)) (onTc (τ := Cert.NsaPrepIdeal.τ) (Cert.NsaPrepIdeal.main (F := Ideal))) ⟨m, fun _ => 0, g⟩ (fun r => (∀ c : Dev Cert.NsaPrepIdeal.nD,
      r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
      ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1))
      ∧ r.2.sem = fun _ => 0)

def quiescent_NsaPrepRefIdeal [hNsaPrepRefIdeal : Cert.NsaPrepRefIdeal.Facts] : Prop :=
  ∀ (m : (ℓ : Loc Cert.NsaPrepRefIdeal.nD Cert.NsaPrepRefIdeal.τ Cert.NsaPrepRefIdeal.sig) → Buf (Elt Ideal) ℓ) (g : Dev Cert.NsaPrepRefIdeal.nD → PrngReg), Pre_NsaPrepRefIdeal m →
    θ_run (Cert.NsaPrepRefIdeal.defs (F := Ideal)) (onTc (τ := Cert.NsaPrepRefIdeal.τ) (Cert.NsaPrepRefIdeal.main (F := Ideal))) ⟨m, fun _ => 0, g⟩ (fun r => (∀ c : Dev Cert.NsaPrepRefIdeal.nD,
      r.2.mem ((c.tc : Thread Cert.NsaPrepRefIdeal.nD Cert.NsaPrepRefIdeal.τ).loc Cert.NsaPrepRefIdeal.main_arg0) = m ((c.tc : Thread Cert.NsaPrepRefIdeal.nD Cert.NsaPrepRefIdeal.τ).loc Cert.NsaPrepRefIdeal.main_arg0)
      ∧ r.2.mem ((c.tc : Thread Cert.NsaPrepRefIdeal.nD Cert.NsaPrepRefIdeal.τ).loc Cert.NsaPrepRefIdeal.main_arg1) = m ((c.tc : Thread Cert.NsaPrepRefIdeal.nD Cert.NsaPrepRefIdeal.τ).loc Cert.NsaPrepRefIdeal.main_arg1))
      ∧ r.2.sem = fun _ => 0)

def quiescent_NsaPrepRefIdeal_pre_finite_prep [hNsaPrepRefIdeal : Cert.NsaPrepRefIdeal.Facts] [hPre_finite_prep : Cert.Pre_finite_prep.Facts] : Prop :=
  ∀ (m : (ℓ : Loc Cert.NsaPrepRefIdeal.nD Cert.NsaPrepRefIdeal.τ Cert.NsaPrepRefIdeal.sig) → Buf (Elt Ideal) ℓ) (g : Dev Cert.NsaPrepRefIdeal.nD → PrngReg), Pre_NsaPrepRefIdeal_finite_prep m →
    θ_run (Cert.NsaPrepRefIdeal.defs (F := Ideal)) (onTc (τ := Cert.NsaPrepRefIdeal.τ) (Cert.NsaPrepRefIdeal.main (F := Ideal))) ⟨m, fun _ => 0, g⟩ (fun r => (∀ c : Dev Cert.NsaPrepRefIdeal.nD,
      r.2.mem ((c.tc : Thread Cert.NsaPrepRefIdeal.nD Cert.NsaPrepRefIdeal.τ).loc Cert.NsaPrepRefIdeal.main_arg0) = m ((c.tc : Thread Cert.NsaPrepRefIdeal.nD Cert.NsaPrepRefIdeal.τ).loc Cert.NsaPrepRefIdeal.main_arg0)
      ∧ r.2.mem ((c.tc : Thread Cert.NsaPrepRefIdeal.nD Cert.NsaPrepRefIdeal.τ).loc Cert.NsaPrepRefIdeal.main_arg1) = m ((c.tc : Thread Cert.NsaPrepRefIdeal.nD Cert.NsaPrepRefIdeal.τ).loc Cert.NsaPrepRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_finite_matt [hMemAttnIdeal : Cert.MemAttnIdeal.Facts] [hPre_finite_matt : Cert.Pre_finite_matt.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_matt m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_finite_matt [hMemAttnRefIdeal : Cert.MemAttnRefIdeal.Facts] [hPre_finite_matt : Cert.Pre_finite_matt.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_matt m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_OutFfnS [hOutFfnS : Cert.OutFfnS.Facts] : Prop :=
  ∀ (m : (ℓ : Loc Cert.OutFfnS.nD Cert.OutFfnS.τ Cert.OutFfnS.sig) → Buf (Elt Bits) ℓ) (g : Dev Cert.OutFfnS.nD → PrngReg), Pre_OutFfnS m →
    θ_run (Cert.OutFfnS.defs (F := Bits)) (onTc (τ := Cert.OutFfnS.τ) (Cert.OutFfnS.main (F := Bits))) ⟨m, fun _ => 0, g⟩ (fun r => (∀ c : Dev Cert.OutFfnS.nD,
      r.2.mem ((c.tc : Thread Cert.OutFfnS.nD Cert.OutFfnS.τ).loc Cert.OutFfnS.main_arg0) = m ((c.tc : Thread Cert.OutFfnS.nD Cert.OutFfnS.τ).loc Cert.OutFfnS.main_arg0)
      ∧ r.2.mem ((c.tc : Thread Cert.OutFfnS.nD Cert.OutFfnS.τ).loc Cert.OutFfnS.main_arg1) = m ((c.tc : Thread Cert.OutFfnS.nD Cert.OutFfnS.τ).loc Cert.OutFfnS.main_arg1)
      ∧ r.2.mem ((c.tc : Thread Cert.OutFfnS.nD Cert.OutFfnS.τ).loc Cert.OutFfnS.main_arg2) = m ((c.tc : Thread Cert.OutFfnS.nD Cert.OutFfnS.τ).loc Cert.OutFfnS.main_arg2)
      ∧ r.2.mem ((c.tc : Thread Cert.OutFfnS.nD Cert.OutFfnS.τ).loc Cert.OutFfnS.main_arg3) = m ((c.tc : Thread Cert.OutFfnS.nD Cert.OutFfnS.τ).loc Cert.OutFfnS.main_arg3)
      ∧ r.2.mem ((c.tc : Thread Cert.OutFfnS.nD Cert.OutFfnS.τ).loc Cert.OutFfnS.main_arg4) = m ((c.tc : Thread Cert.OutFfnS.nD Cert.OutFfnS.τ).loc Cert.OutFfnS.main_arg4)
      ∧ r.2.mem ((c.tc : Thread Cert.OutFfnS.nD Cert.OutFfnS.τ).loc Cert.OutFfnS.main_arg5) = m ((c.tc : Thread Cert.OutFfnS.nD Cert.OutFfnS.τ).loc Cert.OutFfnS.main_arg5)
      ∧ r.2.mem ((c.tc : Thread Cert.OutFfnS.nD Cert.OutFfnS.τ).loc Cert.OutFfnS.main_arg6) = m ((c.tc : Thread Cert.OutFfnS.nD Cert.OutFfnS.τ).loc Cert.OutFfnS.main_arg6))
      ∧ r.2.sem = fun _ => 0)

def quiescent_OutFfnSIdeal [hOutFfnSIdeal : Cert.OutFfnSIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg), Pre_OutFfnSIdeal m →
    θ_run (Cert.OutFfnSIdeal.defs (F := Ideal)) (onTc (τ := Cert.OutFfnSIdeal.τ) (Cert.OutFfnSIdeal.main (F := Ideal))) ⟨m, fun _ => 0, g⟩ (fun r => (∀ c : Dev Cert.OutFfnSIdeal.nD,
      r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
      ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
      ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
      ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
      ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
      ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
      ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6))
      ∧ r.2.sem = fun _ => 0)

def quiescent_OutFfnSRefIdeal [hOutFfnSRefIdeal : Cert.OutFfnSRefIdeal.Facts] : Prop :=
  ∀ (m : (ℓ : Loc Cert.OutFfnSRefIdeal.nD Cert.OutFfnSRefIdeal.τ Cert.OutFfnSRefIdeal.sig) → Buf (Elt Ideal) ℓ) (g : Dev Cert.OutFfnSRefIdeal.nD → PrngReg), Pre_OutFfnSRefIdeal m →
    θ_run (Cert.OutFfnSRefIdeal.defs (F := Ideal)) (onTc (τ := Cert.OutFfnSRefIdeal.τ) (Cert.OutFfnSRefIdeal.main (F := Ideal))) ⟨m, fun _ => 0, g⟩ (fun r => (∀ c : Dev Cert.OutFfnSRefIdeal.nD,
      r.2.mem ((c.tc : Thread Cert.OutFfnSRefIdeal.nD Cert.OutFfnSRefIdeal.τ).loc Cert.OutFfnSRefIdeal.main_arg0) = m ((c.tc : Thread Cert.OutFfnSRefIdeal.nD Cert.OutFfnSRefIdeal.τ).loc Cert.OutFfnSRefIdeal.main_arg0)
      ∧ r.2.mem ((c.tc : Thread Cert.OutFfnSRefIdeal.nD Cert.OutFfnSRefIdeal.τ).loc Cert.OutFfnSRefIdeal.main_arg1) = m ((c.tc : Thread Cert.OutFfnSRefIdeal.nD Cert.OutFfnSRefIdeal.τ).loc Cert.OutFfnSRefIdeal.main_arg1)
      ∧ r.2.mem ((c.tc : Thread Cert.OutFfnSRefIdeal.nD Cert.OutFfnSRefIdeal.τ).loc Cert.OutFfnSRefIdeal.main_arg2) = m ((c.tc : Thread Cert.OutFfnSRefIdeal.nD Cert.OutFfnSRefIdeal.τ).loc Cert.OutFfnSRefIdeal.main_arg2)
      ∧ r.2.mem ((c.tc : Thread Cert.OutFfnSRefIdeal.nD Cert.OutFfnSRefIdeal.τ).loc Cert.OutFfnSRefIdeal.main_arg3) = m ((c.tc : Thread Cert.OutFfnSRefIdeal.nD Cert.OutFfnSRefIdeal.τ).loc Cert.OutFfnSRefIdeal.main_arg3)
      ∧ r.2.mem ((c.tc : Thread Cert.OutFfnSRefIdeal.nD Cert.OutFfnSRefIdeal.τ).loc Cert.OutFfnSRefIdeal.main_arg4) = m ((c.tc : Thread Cert.OutFfnSRefIdeal.nD Cert.OutFfnSRefIdeal.τ).loc Cert.OutFfnSRefIdeal.main_arg4)
      ∧ r.2.mem ((c.tc : Thread Cert.OutFfnSRefIdeal.nD Cert.OutFfnSRefIdeal.τ).loc Cert.OutFfnSRefIdeal.main_arg5) = m ((c.tc : Thread Cert.OutFfnSRefIdeal.nD Cert.OutFfnSRefIdeal.τ).loc Cert.OutFfnSRefIdeal.main_arg5)
      ∧ r.2.mem ((c.tc : Thread Cert.OutFfnSRefIdeal.nD Cert.OutFfnSRefIdeal.τ).loc Cert.OutFfnSRefIdeal.main_arg6) = m ((c.tc : Thread Cert.OutFfnSRefIdeal.nD Cert.OutFfnSRefIdeal.τ).loc Cert.OutFfnSRefIdeal.main_arg6))
      ∧ r.2.sem = fun _ => 0)

def quiescent_ProjInS [hProjInS : Cert.ProjInS.Facts] : Prop :=
  ∀ (m : (ℓ : Loc Cert.ProjInS.nD Cert.ProjInS.τ Cert.ProjInS.sig) → Buf (Elt Bits) ℓ) (g : Dev Cert.ProjInS.nD → PrngReg), Pre_ProjInS m →
    θ_run (Cert.ProjInS.defs (F := Bits)) (onTc (τ := Cert.ProjInS.τ) (Cert.ProjInS.main (F := Bits))) ⟨m, fun _ => 0, g⟩ (fun r => (∀ c : Dev Cert.ProjInS.nD,
      r.2.mem ((c.tc : Thread Cert.ProjInS.nD Cert.ProjInS.τ).loc Cert.ProjInS.main_arg0) = m ((c.tc : Thread Cert.ProjInS.nD Cert.ProjInS.τ).loc Cert.ProjInS.main_arg0)
      ∧ r.2.mem ((c.tc : Thread Cert.ProjInS.nD Cert.ProjInS.τ).loc Cert.ProjInS.main_arg1) = m ((c.tc : Thread Cert.ProjInS.nD Cert.ProjInS.τ).loc Cert.ProjInS.main_arg1)
      ∧ r.2.mem ((c.tc : Thread Cert.ProjInS.nD Cert.ProjInS.τ).loc Cert.ProjInS.main_arg2) = m ((c.tc : Thread Cert.ProjInS.nD Cert.ProjInS.τ).loc Cert.ProjInS.main_arg2))
      ∧ r.2.sem = fun _ => 0)

def quiescent_ProjInSIdeal [hProjInSIdeal : Cert.ProjInSIdeal.Facts] : Prop :=
  ∀ (m : (ℓ : Loc Cert.ProjInSIdeal.nD Cert.ProjInSIdeal.τ Cert.ProjInSIdeal.sig) → Buf (Elt Ideal) ℓ) (g : Dev Cert.ProjInSIdeal.nD → PrngReg), Pre_ProjInSIdeal m →
    θ_run (Cert.ProjInSIdeal.defs (F := Ideal)) (onTc (τ := Cert.ProjInSIdeal.τ) (Cert.ProjInSIdeal.main (F := Ideal))) ⟨m, fun _ => 0, g⟩ (fun r => (∀ c : Dev Cert.ProjInSIdeal.nD,
      r.2.mem ((c.tc : Thread Cert.ProjInSIdeal.nD Cert.ProjInSIdeal.τ).loc Cert.ProjInSIdeal.main_arg0) = m ((c.tc : Thread Cert.ProjInSIdeal.nD Cert.ProjInSIdeal.τ).loc Cert.ProjInSIdeal.main_arg0)
      ∧ r.2.mem ((c.tc : Thread Cert.ProjInSIdeal.nD Cert.ProjInSIdeal.τ).loc Cert.ProjInSIdeal.main_arg1) = m ((c.tc : Thread Cert.ProjInSIdeal.nD Cert.ProjInSIdeal.τ).loc Cert.ProjInSIdeal.main_arg1)
      ∧ r.2.mem ((c.tc : Thread Cert.ProjInSIdeal.nD Cert.ProjInSIdeal.τ).loc Cert.ProjInSIdeal.main_arg2) = m ((c.tc : Thread Cert.ProjInSIdeal.nD Cert.ProjInSIdeal.τ).loc Cert.ProjInSIdeal.main_arg2))
      ∧ r.2.sem = fun _ => 0)

def quiescent_ProjInSRefIdeal [hProjInSRefIdeal : Cert.ProjInSRefIdeal.Facts] : Prop :=
  ∀ (m : (ℓ : Loc Cert.ProjInSRefIdeal.nD Cert.ProjInSRefIdeal.τ Cert.ProjInSRefIdeal.sig) → Buf (Elt Ideal) ℓ) (g : Dev Cert.ProjInSRefIdeal.nD → PrngReg), Pre_ProjInSRefIdeal m →
    θ_run (Cert.ProjInSRefIdeal.defs (F := Ideal)) (onTc (τ := Cert.ProjInSRefIdeal.τ) (Cert.ProjInSRefIdeal.main (F := Ideal))) ⟨m, fun _ => 0, g⟩ (fun r => (∀ c : Dev Cert.ProjInSRefIdeal.nD,
      r.2.mem ((c.tc : Thread Cert.ProjInSRefIdeal.nD Cert.ProjInSRefIdeal.τ).loc Cert.ProjInSRefIdeal.main_arg0) = m ((c.tc : Thread Cert.ProjInSRefIdeal.nD Cert.ProjInSRefIdeal.τ).loc Cert.ProjInSRefIdeal.main_arg0)
      ∧ r.2.mem ((c.tc : Thread Cert.ProjInSRefIdeal.nD Cert.ProjInSRefIdeal.τ).loc Cert.ProjInSRefIdeal.main_arg1) = m ((c.tc : Thread Cert.ProjInSRefIdeal.nD Cert.ProjInSRefIdeal.τ).loc Cert.ProjInSRefIdeal.main_arg1)
      ∧ r.2.mem ((c.tc : Thread Cert.ProjInSRefIdeal.nD Cert.ProjInSRefIdeal.τ).loc Cert.ProjInSRefIdeal.main_arg2) = m ((c.tc : Thread Cert.ProjInSRefIdeal.nD Cert.ProjInSRefIdeal.τ).loc Cert.ProjInSRefIdeal.main_arg2))
      ∧ r.2.sem = fun _ => 0)

def preserves_Kernel_KernelIdeal : Prop :=
  IdealRules.named_const.Statement Cert.KernelIdeal.κ "underflow" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)) →
    ∃ (v0 : (c : Dev Cert.OutFfnIdeal.nD) → Buf (Elt Ideal) ((c.tc : Thread Cert.OutFfnIdeal.nD Cert.OutFfnIdeal.τ).loc Cert.OutFfnIdeal.main_v7)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v7) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v22) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v2_0)) (v1 : (c : Dev Cert.ProjInIdeal.nD) → Buf (Elt Ideal) ((c.tc : Thread Cert.ProjInIdeal.nD Cert.ProjInIdeal.τ).loc Cert.ProjInIdeal.main_v2_2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v2_0) = v0 c
          ∧ r.2.mem ((c.tc : Thread Cert.ProjInIdeal.nD Cert.ProjInIdeal.τ).loc Cert.ProjInIdeal.main_v2_2) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v13) = v0 c
          ∧ r.2.mem ((c.tc : Thread Cert.ProjInRefIdeal.nD Cert.ProjInRefIdeal.τ).loc Cert.ProjInRefIdeal.main_v16) = v1 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_MemKv_MemKvIdeal : Prop :=
  True

def algebraic_MemKvIdeal_MemKvRefIdeal_pre_finite_mem [hMemKvIdeal : Cert.MemKvIdeal.Facts] [hMemKvRefIdeal : Cert.MemKvRefIdeal.Facts] [hPre_finite_mem : Cert.Pre_finite_mem.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal_finite_mem m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v18)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v18) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v34) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_NsaPrep_NsaPrepIdeal : Prop :=
  True

def algebraic_NsaPrepIdeal_NsaPrepRefIdeal_pre_finite_prep [hNsaPrepIdeal : Cert.NsaPrepIdeal.Facts] [hNsaPrepRefIdeal : Cert.NsaPrepRefIdeal.Facts] [hPre_finite_prep : Cert.Pre_finite_prep.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg)
    (m' : (ℓ : Loc Cert.NsaPrepRefIdeal.nD Cert.NsaPrepRefIdeal.τ Cert.NsaPrepRefIdeal.sig) → Buf (Elt Ideal) ℓ) (g' : Dev Cert.NsaPrepRefIdeal.nD → PrngReg), Pre_NsaPrepIdeal_finite_prep m →
    (∀ c : Dev Cert.NsaPrepIdeal.nD,
      m' ((c.tc : Thread Cert.NsaPrepRefIdeal.nD Cert.NsaPrepRefIdeal.τ).loc Cert.NsaPrepRefIdeal.main_arg0) = m ((c.tc : Thread Cert.NsaPrepIdeal.nD Cert.NsaPrepIdeal.τ).loc Cert.NsaPrepIdeal.main_arg0)
      ∧ m' ((c.tc : Thread Cert.NsaPrepRefIdeal.nD Cert.NsaPrepRefIdeal.τ).loc Cert.NsaPrepRefIdeal.main_arg1) = m ((c.tc : Thread Cert.NsaPrepIdeal.nD Cert.NsaPrepIdeal.τ).loc Cert.NsaPrepIdeal.main_arg1)) →
    ∃ (v0 : (c : Dev Cert.NsaPrepIdeal.nD) → Buf (Elt Ideal) ((c.tc : Thread Cert.NsaPrepIdeal.nD Cert.NsaPrepIdeal.τ).loc Cert.NsaPrepIdeal.main_v51_0)) (v1 : (c : Dev Cert.NsaPrepIdeal.nD) → Buf (Elt Ideal) ((c.tc : Thread Cert.NsaPrepIdeal.nD Cert.NsaPrepIdeal.τ).loc Cert.NsaPrepIdeal.main_v51_1)) (v2 : (c : Dev Cert.NsaPrepIdeal.nD) → Buf (Elt Ideal) ((c.tc : Thread Cert.NsaPrepIdeal.nD Cert.NsaPrepIdeal.τ).loc Cert.NsaPrepIdeal.main_v51_2)) (v3 : (c : Dev Cert.NsaPrepIdeal.nD) → Buf (Elt Ideal) ((c.tc : Thread Cert.NsaPrepIdeal.nD Cert.NsaPrepIdeal.τ).loc Cert.NsaPrepIdeal.main_v51_3)) (v4 : (c : Dev Cert.NsaPrepIdeal.nD) → Buf (Elt Ideal) ((c.tc : Thread Cert.NsaPrepIdeal.nD Cert.NsaPrepIdeal.τ).loc Cert.NsaPrepIdeal.main_v51_4)) (v5 : (c : Dev Cert.NsaPrepIdeal.nD) → Buf (Elt Ideal) ((c.tc : Thread Cert.NsaPrepIdeal.nD Cert.NsaPrepIdeal.τ).loc Cert.NsaPrepIdeal.main_v51_5)),
      θ_run (Cert.NsaPrepIdeal.defs (F := Ideal)) (onTc (τ := Cert.NsaPrepIdeal.τ) (Cert.NsaPrepIdeal.main (F := Ideal))) ⟨m, fun _ => 0, g⟩ (fun r => ∀ c : Dev Cert.NsaPrepIdeal.nD,
          r.2.mem ((c.tc : Thread Cert.NsaPrepIdeal.nD Cert.NsaPrepIdeal.τ).loc Cert.NsaPrepIdeal.main_v51_0) = v0 c
          ∧ r.2.mem ((c.tc : Thread Cert.NsaPrepIdeal.nD Cert.NsaPrepIdeal.τ).loc Cert.NsaPrepIdeal.main_v51_1) = v1 c
          ∧ r.2.mem ((c.tc : Thread Cert.NsaPrepIdeal.nD Cert.NsaPrepIdeal.τ).loc Cert.NsaPrepIdeal.main_v51_2) = v2 c
          ∧ r.2.mem ((c.tc : Thread Cert.NsaPrepIdeal.nD Cert.NsaPrepIdeal.τ).loc Cert.NsaPrepIdeal.main_v51_3) = v3 c
          ∧ r.2.mem ((c.tc : Thread Cert.NsaPrepIdeal.nD Cert.NsaPrepIdeal.τ).loc Cert.NsaPrepIdeal.main_v51_4) = v4 c
          ∧ r.2.mem ((c.tc : Thread Cert.NsaPrepIdeal.nD Cert.NsaPrepIdeal.τ).loc Cert.NsaPrepIdeal.main_v51_5) = v5 c
          ∧ r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
          ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1))
      ∧ θ_run (Cert.NsaPrepRefIdeal.defs (F := Ideal)) (onTc (τ := Cert.NsaPrepRefIdeal.τ) (Cert.NsaPrepRefIdeal.main (F := Ideal))) ⟨m', fun _ => 0, g'⟩ (fun r => ∀ c : Dev Cert.NsaPrepRefIdeal.nD,
          r.2.mem ((c.tc : Thread Cert.NsaPrepRefIdeal.nD Cert.NsaPrepRefIdeal.τ).loc Cert.NsaPrepRefIdeal.main_v52) = v0 c
          ∧ r.2.mem ((c.tc : Thread Cert.NsaPrepRefIdeal.nD Cert.NsaPrepRefIdeal.τ).loc Cert.NsaPrepRefIdeal.main_v161) = v1 c
          ∧ r.2.mem ((c.tc : Thread Cert.NsaPrepRefIdeal.nD Cert.NsaPrepRefIdeal.τ).loc Cert.NsaPrepRefIdeal.main_v216) = v2 c
          ∧ r.2.mem ((c.tc : Thread Cert.NsaPrepRefIdeal.nD Cert.NsaPrepRefIdeal.τ).loc Cert.NsaPrepRefIdeal.main_v223) = v3 c
          ∧ r.2.mem ((c.tc : Thread Cert.NsaPrepRefIdeal.nD Cert.NsaPrepRefIdeal.τ).loc Cert.NsaPrepRefIdeal.main_v225) = v4 c
          ∧ r.2.mem ((c.tc : Thread Cert.NsaPrepRefIdeal.nD Cert.NsaPrepRefIdeal.τ).loc Cert.NsaPrepRefIdeal.main_v227) = v5 c
          ∧ r.2.mem ((c.tc : Thread Cert.NsaPrepRefIdeal.nD Cert.NsaPrepRefIdeal.τ).loc Cert.NsaPrepRefIdeal.main_arg0) = m' ((c.tc : Thread Cert.NsaPrepRefIdeal.nD Cert.NsaPrepRefIdeal.τ).loc Cert.NsaPrepRefIdeal.main_arg0)
          ∧ r.2.mem ((c.tc : Thread Cert.NsaPrepRefIdeal.nD Cert.NsaPrepRefIdeal.τ).loc Cert.NsaPrepRefIdeal.main_arg1) = m' ((c.tc : Thread Cert.NsaPrepRefIdeal.nD Cert.NsaPrepRefIdeal.τ).loc Cert.NsaPrepRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v264) = v0 c
          ∧ r.2.mem ((c.tc : Thread Cert.ConvRefIdeal.nD Cert.ConvRefIdeal.τ).loc Cert.ConvRefIdeal.main_v265) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_MemAttn_MemAttnIdeal : Prop :=
  True

def algebraic_MemAttnIdeal_MemAttnRefIdeal_pre_finite_matt [hMemAttnIdeal : Cert.MemAttnIdeal.Facts] [hMemAttnRefIdeal : Cert.MemAttnRefIdeal.Facts] [hPre_finite_matt : Cert.Pre_finite_matt.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_matt m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v15)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v15) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v36) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_OutFfnS_OutFfnSIdeal : Prop :=
  True

def algebraic_OutFfnSIdeal_OutFfnSRefIdeal [hOutFfnSIdeal : Cert.OutFfnSIdeal.Facts] [hOutFfnSRefIdeal : Cert.OutFfnSRefIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg)
    (m' : (ℓ : Loc Cert.OutFfnSRefIdeal.nD Cert.OutFfnSRefIdeal.τ Cert.OutFfnSRefIdeal.sig) → Buf (Elt Ideal) ℓ) (g' : Dev Cert.OutFfnSRefIdeal.nD → PrngReg), Pre_OutFfnSIdeal m →
    (∀ c : Dev Cert.OutFfnSIdeal.nD,
      m' ((c.tc : Thread Cert.OutFfnSRefIdeal.nD Cert.OutFfnSRefIdeal.τ).loc Cert.OutFfnSRefIdeal.main_arg0) = m ((c.tc : Thread Cert.OutFfnSIdeal.nD Cert.OutFfnSIdeal.τ).loc Cert.OutFfnSIdeal.main_arg0)
      ∧ m' ((c.tc : Thread Cert.OutFfnSRefIdeal.nD Cert.OutFfnSRefIdeal.τ).loc Cert.OutFfnSRefIdeal.main_arg1) = m ((c.tc : Thread Cert.OutFfnSIdeal.nD Cert.OutFfnSIdeal.τ).loc Cert.OutFfnSIdeal.main_arg1)
      ∧ m' ((c.tc : Thread Cert.OutFfnSRefIdeal.nD Cert.OutFfnSRefIdeal.τ).loc Cert.OutFfnSRefIdeal.main_arg2) = m ((c.tc : Thread Cert.OutFfnSIdeal.nD Cert.OutFfnSIdeal.τ).loc Cert.OutFfnSIdeal.main_arg2)
      ∧ m' ((c.tc : Thread Cert.OutFfnSRefIdeal.nD Cert.OutFfnSRefIdeal.τ).loc Cert.OutFfnSRefIdeal.main_arg3) = m ((c.tc : Thread Cert.OutFfnSIdeal.nD Cert.OutFfnSIdeal.τ).loc Cert.OutFfnSIdeal.main_arg3)
      ∧ m' ((c.tc : Thread Cert.OutFfnSRefIdeal.nD Cert.OutFfnSRefIdeal.τ).loc Cert.OutFfnSRefIdeal.main_arg4) = m ((c.tc : Thread Cert.OutFfnSIdeal.nD Cert.OutFfnSIdeal.τ).loc Cert.OutFfnSIdeal.main_arg4)
      ∧ m' ((c.tc : Thread Cert.OutFfnSRefIdeal.nD Cert.OutFfnSRefIdeal.τ).loc Cert.OutFfnSRefIdeal.main_arg5) = m ((c.tc : Thread Cert.OutFfnSIdeal.nD Cert.OutFfnSIdeal.τ).loc Cert.OutFfnSIdeal.main_arg5)
      ∧ m' ((c.tc : Thread Cert.OutFfnSRefIdeal.nD Cert.OutFfnSRefIdeal.τ).loc Cert.OutFfnSRefIdeal.main_arg6) = m ((c.tc : Thread Cert.OutFfnSIdeal.nD Cert.OutFfnSIdeal.τ).loc Cert.OutFfnSIdeal.main_arg6)) →
    ∃ (v0 : (c : Dev Cert.OutFfnSIdeal.nD) → Buf (Elt Ideal) ((c.tc : Thread Cert.OutFfnSIdeal.nD Cert.OutFfnSIdeal.τ).loc Cert.OutFfnSIdeal.main_v7)),
      θ_run (Cert.OutFfnSIdeal.defs (F := Ideal)) (onTc (τ := Cert.OutFfnSIdeal.τ) (Cert.OutFfnSIdeal.main (F := Ideal))) ⟨m, fun _ => 0, g⟩ (fun r => ∀ c : Dev Cert.OutFfnSIdeal.nD,
          r.2.mem ((c.tc : Thread Cert.OutFfnSIdeal.nD Cert.OutFfnSIdeal.τ).loc Cert.OutFfnSIdeal.main_v7) = v0 c
          ∧ r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
          ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
          ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
          ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
          ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
          ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
          ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6))
      ∧ θ_run (Cert.OutFfnSRefIdeal.defs (F := Ideal)) (onTc (τ := Cert.OutFfnSRefIdeal.τ) (Cert.OutFfnSRefIdeal.main (F := Ideal))) ⟨m', fun _ => 0, g'⟩ (fun r => ∀ c : Dev Cert.OutFfnSRefIdeal.nD,
          r.2.mem ((c.tc : Thread Cert.OutFfnSRefIdeal.nD Cert.OutFfnSRefIdeal.τ).loc Cert.OutFfnSRefIdeal.main_v22) = v0 c
          ∧ r.2.mem ((c.tc : Thread Cert.OutFfnSRefIdeal.nD Cert.OutFfnSRefIdeal.τ).loc Cert.OutFfnSRefIdeal.main_arg0) = m' ((c.tc : Thread Cert.OutFfnSRefIdeal.nD Cert.OutFfnSRefIdeal.τ).loc Cert.OutFfnSRefIdeal.main_arg0)
          ∧ r.2.mem ((c.tc : Thread Cert.OutFfnSRefIdeal.nD Cert.OutFfnSRefIdeal.τ).loc Cert.OutFfnSRefIdeal.main_arg1) = m' ((c.tc : Thread Cert.OutFfnSRefIdeal.nD Cert.OutFfnSRefIdeal.τ).loc Cert.OutFfnSRefIdeal.main_arg1)
          ∧ r.2.mem ((c.tc : Thread Cert.OutFfnSRefIdeal.nD Cert.OutFfnSRefIdeal.τ).loc Cert.OutFfnSRefIdeal.main_arg2) = m' ((c.tc : Thread Cert.OutFfnSRefIdeal.nD Cert.OutFfnSRefIdeal.τ).loc Cert.OutFfnSRefIdeal.main_arg2)
          ∧ r.2.mem ((c.tc : Thread Cert.OutFfnSRefIdeal.nD Cert.OutFfnSRefIdeal.τ).loc Cert.OutFfnSRefIdeal.main_arg3) = m' ((c.tc : Thread Cert.OutFfnSRefIdeal.nD Cert.OutFfnSRefIdeal.τ).loc Cert.OutFfnSRefIdeal.main_arg3)
          ∧ r.2.mem ((c.tc : Thread Cert.OutFfnSRefIdeal.nD Cert.OutFfnSRefIdeal.τ).loc Cert.OutFfnSRefIdeal.main_arg4) = m' ((c.tc : Thread Cert.OutFfnSRefIdeal.nD Cert.OutFfnSRefIdeal.τ).loc Cert.OutFfnSRefIdeal.main_arg4)
          ∧ r.2.mem ((c.tc : Thread Cert.OutFfnSRefIdeal.nD Cert.OutFfnSRefIdeal.τ).loc Cert.OutFfnSRefIdeal.main_arg5) = m' ((c.tc : Thread Cert.OutFfnSRefIdeal.nD Cert.OutFfnSRefIdeal.τ).loc Cert.OutFfnSRefIdeal.main_arg5)
          ∧ r.2.mem ((c.tc : Thread Cert.OutFfnSRefIdeal.nD Cert.OutFfnSRefIdeal.τ).loc Cert.OutFfnSRefIdeal.main_arg6) = m' ((c.tc : Thread Cert.OutFfnSRefIdeal.nD Cert.OutFfnSRefIdeal.τ).loc Cert.OutFfnSRefIdeal.main_arg6))

def preserves_ProjInS_ProjInSIdeal : Prop :=
  True

def algebraic_ProjInSIdeal_ProjInSRefIdeal [hProjInSIdeal : Cert.ProjInSIdeal.Facts] [hProjInSRefIdeal : Cert.ProjInSRefIdeal.Facts] : Prop :=
  ∀ (m : (ℓ : Loc Cert.ProjInSIdeal.nD Cert.ProjInSIdeal.τ Cert.ProjInSIdeal.sig) → Buf (Elt Ideal) ℓ) (g : Dev Cert.ProjInSIdeal.nD → PrngReg)
    (m' : (ℓ : Loc Cert.ProjInSRefIdeal.nD Cert.ProjInSRefIdeal.τ Cert.ProjInSRefIdeal.sig) → Buf (Elt Ideal) ℓ) (g' : Dev Cert.ProjInSRefIdeal.nD → PrngReg), Pre_ProjInSIdeal m →
    (∀ c : Dev Cert.ProjInSIdeal.nD,
      m' ((c.tc : Thread Cert.ProjInSRefIdeal.nD Cert.ProjInSRefIdeal.τ).loc Cert.ProjInSRefIdeal.main_arg0) = m ((c.tc : Thread Cert.ProjInSIdeal.nD Cert.ProjInSIdeal.τ).loc Cert.ProjInSIdeal.main_arg0)
      ∧ m' ((c.tc : Thread Cert.ProjInSRefIdeal.nD Cert.ProjInSRefIdeal.τ).loc Cert.ProjInSRefIdeal.main_arg1) = m ((c.tc : Thread Cert.ProjInSIdeal.nD Cert.ProjInSIdeal.τ).loc Cert.ProjInSIdeal.main_arg1)
      ∧ m' ((c.tc : Thread Cert.ProjInSRefIdeal.nD Cert.ProjInSRefIdeal.τ).loc Cert.ProjInSRefIdeal.main_arg2) = m ((c.tc : Thread Cert.ProjInSIdeal.nD Cert.ProjInSIdeal.τ).loc Cert.ProjInSIdeal.main_arg2)) →
    ∃ (v0 : (c : Dev Cert.ProjInSIdeal.nD) → Buf (Elt Ideal) ((c.tc : Thread Cert.ProjInSIdeal.nD Cert.ProjInSIdeal.τ).loc Cert.ProjInSIdeal.main_v2)),
      θ_run (Cert.ProjInSIdeal.defs (F := Ideal)) (onTc (τ := Cert.ProjInSIdeal.τ) (Cert.ProjInSIdeal.main (F := Ideal))) ⟨m, fun _ => 0, g⟩ (fun r => ∀ c : Dev Cert.ProjInSIdeal.nD,
          r.2.mem ((c.tc : Thread Cert.ProjInSIdeal.nD Cert.ProjInSIdeal.τ).loc Cert.ProjInSIdeal.main_v2) = v0 c
          ∧ r.2.mem ((c.tc : Thread Cert.ProjInSIdeal.nD Cert.ProjInSIdeal.τ).loc Cert.ProjInSIdeal.main_arg0) = m ((c.tc : Thread Cert.ProjInSIdeal.nD Cert.ProjInSIdeal.τ).loc Cert.ProjInSIdeal.main_arg0)
          ∧ r.2.mem ((c.tc : Thread Cert.ProjInSIdeal.nD Cert.ProjInSIdeal.τ).loc Cert.ProjInSIdeal.main_arg1) = m ((c.tc : Thread Cert.ProjInSIdeal.nD Cert.ProjInSIdeal.τ).loc Cert.ProjInSIdeal.main_arg1)
          ∧ r.2.mem ((c.tc : Thread Cert.ProjInSIdeal.nD Cert.ProjInSIdeal.τ).loc Cert.ProjInSIdeal.main_arg2) = m ((c.tc : Thread Cert.ProjInSIdeal.nD Cert.ProjInSIdeal.τ).loc Cert.ProjInSIdeal.main_arg2))
      ∧ θ_run (Cert.ProjInSRefIdeal.defs (F := Ideal)) (onTc (τ := Cert.ProjInSRefIdeal.τ) (Cert.ProjInSRefIdeal.main (F := Ideal))) ⟨m', fun _ => 0, g'⟩ (fun r => ∀ c : Dev Cert.ProjInSRefIdeal.nD,
          r.2.mem ((c.tc : Thread Cert.ProjInSRefIdeal.nD Cert.ProjInSRefIdeal.τ).loc Cert.ProjInSRefIdeal.main_v13) = v0 c
          ∧ r.2.mem ((c.tc : Thread Cert.ProjInSRefIdeal.nD Cert.ProjInSRefIdeal.τ).loc Cert.ProjInSRefIdeal.main_arg0) = m' ((c.tc : Thread Cert.ProjInSRefIdeal.nD Cert.ProjInSRefIdeal.τ).loc Cert.ProjInSRefIdeal.main_arg0)
          ∧ r.2.mem ((c.tc : Thread Cert.ProjInSRefIdeal.nD Cert.ProjInSRefIdeal.τ).loc Cert.ProjInSRefIdeal.main_arg1) = m' ((c.tc : Thread Cert.ProjInSRefIdeal.nD Cert.ProjInSRefIdeal.τ).loc Cert.ProjInSRefIdeal.main_arg1)
          ∧ r.2.mem ((c.tc : Thread Cert.ProjInSRefIdeal.nD Cert.ProjInSRefIdeal.τ).loc Cert.ProjInSRefIdeal.main_arg2) = m' ((c.tc : Thread Cert.ProjInSRefIdeal.nD Cert.ProjInSRefIdeal.τ).loc Cert.ProjInSRefIdeal.main_arg2))

def Claim : Prop :=
  ∃ (hKernel : Cert.Kernel.Facts) (hKernelIdeal : Cert.KernelIdeal.Facts) (hReferenceIdeal : Cert.ReferenceIdeal.Facts) (hOutFfn : Cert.OutFfn.Facts) (hOutFfnIdeal : Cert.OutFfnIdeal.Facts) (hOutFfnRefIdeal : Cert.OutFfnRefIdeal.Facts) (hProjIn : Cert.ProjIn.Facts) (hProjInIdeal : Cert.ProjInIdeal.Facts) (hProjInRefIdeal : Cert.ProjInRefIdeal.Facts) (hMemKv : Cert.MemKv.Facts) (hMemKvIdeal : Cert.MemKvIdeal.Facts) (hMemKvRefIdeal : Cert.MemKvRefIdeal.Facts) (hNsaPrep : Cert.NsaPrep.Facts) (hNsaPrepIdeal : Cert.NsaPrepIdeal.Facts) (hNsaPrepRefIdeal : Cert.NsaPrepRefIdeal.Facts) (hConv : Cert.Conv.Facts) (hConvIdeal : Cert.ConvIdeal.Facts) (hConvRefIdeal : Cert.ConvRefIdeal.Facts) (hMemAttn : Cert.MemAttn.Facts) (hMemAttnIdeal : Cert.MemAttnIdeal.Facts) (hMemAttnRefIdeal : Cert.MemAttnRefIdeal.Facts) (hOutFfnS : Cert.OutFfnS.Facts) (hOutFfnSIdeal : Cert.OutFfnSIdeal.Facts) (hOutFfnSRefIdeal : Cert.OutFfnSRefIdeal.Facts) (hProjInS : Cert.ProjInS.Facts) (hProjInSIdeal : Cert.ProjInSIdeal.Facts) (hProjInSRefIdeal : Cert.ProjInSRefIdeal.Facts) (hPre_finite : Cert.Pre_finite.Facts) (hPre_finite_mem : Cert.Pre_finite_mem.Facts) (hPre_finite_prep : Cert.Pre_finite_prep.Facts) (hPre_finite_matt : Cert.Pre_finite_matt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_MemKv (hMemKv := hMemKv)
    ∧ quiescent_MemKvIdeal (hMemKvIdeal := hMemKvIdeal)
    ∧ quiescent_MemKvIdeal_pre_finite_mem (hMemKvIdeal := hMemKvIdeal) (hPre_finite_mem := hPre_finite_mem)
    ∧ quiescent_MemKvRefIdeal (hMemKvRefIdeal := hMemKvRefIdeal)
    ∧ quiescent_MemKvRefIdeal_pre_finite_mem (hMemKvRefIdeal := hMemKvRefIdeal) (hPre_finite_mem := hPre_finite_mem)
    ∧ quiescent_NsaPrep (hNsaPrep := hNsaPrep)
    ∧ quiescent_NsaPrepIdeal (hNsaPrepIdeal := hNsaPrepIdeal)
    ∧ quiescent_NsaPrepIdeal_pre_finite_prep (hNsaPrepIdeal := hNsaPrepIdeal) (hPre_finite_prep := hPre_finite_prep)
    ∧ quiescent_NsaPrepRefIdeal (hNsaPrepRefIdeal := hNsaPrepRefIdeal)
    ∧ quiescent_NsaPrepRefIdeal_pre_finite_prep (hNsaPrepRefIdeal := hNsaPrepRefIdeal) (hPre_finite_prep := hPre_finite_prep)
    ∧ quiescent_Conv (hConv := hConv)
    ∧ quiescent_ConvIdeal (hConvIdeal := hConvIdeal)
    ∧ quiescent_ConvRefIdeal (hConvRefIdeal := hConvRefIdeal)
    ∧ quiescent_MemAttn (hMemAttn := hMemAttn)
    ∧ quiescent_MemAttnIdeal (hMemAttnIdeal := hMemAttnIdeal)
    ∧ quiescent_MemAttnIdeal_pre_finite_matt (hMemAttnIdeal := hMemAttnIdeal) (hPre_finite_matt := hPre_finite_matt)
    ∧ quiescent_MemAttnRefIdeal (hMemAttnRefIdeal := hMemAttnRefIdeal)
    ∧ quiescent_MemAttnRefIdeal_pre_finite_matt (hMemAttnRefIdeal := hMemAttnRefIdeal) (hPre_finite_matt := hPre_finite_matt)
    ∧ quiescent_OutFfnS (hOutFfnS := hOutFfnS)
    ∧ quiescent_OutFfnSIdeal (hOutFfnSIdeal := hOutFfnSIdeal)
    ∧ quiescent_OutFfnSRefIdeal (hOutFfnSRefIdeal := hOutFfnSRefIdeal)
    ∧ quiescent_ProjInS (hProjInS := hProjInS)
    ∧ quiescent_ProjInSIdeal (hProjInSIdeal := hProjInSIdeal)
    ∧ quiescent_ProjInSRefIdeal (hProjInSRefIdeal := hProjInSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutFfn_OutFfnIdeal
    ∧ algebraic_OutFfnIdeal_OutFfnRefIdeal (hOutFfnIdeal := hOutFfnIdeal) (hOutFfnRefIdeal := hOutFfnRefIdeal)
    ∧ preserves_ProjIn_ProjInIdeal
    ∧ algebraic_ProjInIdeal_ProjInRefIdeal (hProjInIdeal := hProjInIdeal) (hProjInRefIdeal := hProjInRefIdeal)
    ∧ preserves_MemKv_MemKvIdeal
    ∧ algebraic_MemKvIdeal_MemKvRefIdeal_pre_finite_mem (hMemKvIdeal := hMemKvIdeal) (hMemKvRefIdeal := hMemKvRefIdeal) (hPre_finite_mem := hPre_finite_mem)
    ∧ preserves_NsaPrep_NsaPrepIdeal
    ∧ algebraic_NsaPrepIdeal_NsaPrepRefIdeal_pre_finite_prep (hNsaPrepIdeal := hNsaPrepIdeal) (hNsaPrepRefIdeal := hNsaPrepRefIdeal) (hPre_finite_prep := hPre_finite_prep)
    ∧ preserves_Conv_ConvIdeal
    ∧ algebraic_ConvIdeal_ConvRefIdeal (hConvIdeal := hConvIdeal) (hConvRefIdeal := hConvRefIdeal)
    ∧ preserves_MemAttn_MemAttnIdeal
    ∧ algebraic_MemAttnIdeal_MemAttnRefIdeal_pre_finite_matt (hMemAttnIdeal := hMemAttnIdeal) (hMemAttnRefIdeal := hMemAttnRefIdeal) (hPre_finite_matt := hPre_finite_matt)
    ∧ preserves_OutFfnS_OutFfnSIdeal
    ∧ algebraic_OutFfnSIdeal_OutFfnSRefIdeal (hOutFfnSIdeal := hOutFfnSIdeal) (hOutFfnSRefIdeal := hOutFfnSRefIdeal)
    ∧ preserves_ProjInS_ProjInSIdeal
    ∧ algebraic_ProjInSIdeal_ProjInSRefIdeal (hProjInSIdeal := hProjInSIdeal) (hProjInSRefIdeal := hProjInSRefIdeal)
-- ==== Pre_finite.lean ====
abbrev S16384x2560 : Shape := ⟨2, ![16384, 2560]⟩
abbrev S_ : Shape := ⟨0, ![]⟩

class Facts : Prop where
  bcast_S_S16384x2560 : S_.BroadcastsInDim S16384x2560 (![] : Fin 0 → Fin S16384x2560.rank)
  reducesTo_S16384x2560_S_d0_1 : S16384x2560.ReducesTo [0, 1] S_
  h_S_ : 0 < S_.numel

variable [Facts]

def fn {F : FTy → Type} [FloatOps F] (main_arg0 : FVec F S16384x2560 .f32) : IVec S_ 1 :=
  let main_v0 : FVec F S16384x2560 .f32 := Host.absf main_arg0
  let main_cst : FVec F S_ .f32 := constant S_ .f32 0x7F800000#32
  let main_v1 : FVec F S16384x2560 .f32 := broadcastInDim S16384x2560 ![] bcast_S_S16384x2560 main_cst
  let main_v2 : IVec S16384x2560 1 := cmpf .olt main_v0 main_v1
  let main_c : IVec S_ 1 := constantI S_ 1 1#1
  let main_v3 : IVec S_ 1 := (fun x v => Host.reduce IntOp.andi x v reducesTo_S16384x2560_S_d0_1 h_S_) main_v2 main_c
  main_v3
-- ==== Pre_finite_matt.lean ====
abbrev S16384x2560 : Shape := ⟨2, ![16384, 2560]⟩
abbrev S1024x512 : Shape := ⟨2, ![1024, 512]⟩
abbrev S64 : Shape := ⟨1, ![64]⟩
abbrev S16384x256 : Shape := ⟨2, ![16384, 256]⟩
abbrev S_ : Shape := ⟨0, ![]⟩

class Facts : Prop where
  slices_S16384x2560_S16384x256_0_2304 : S16384x2560.Slices ![0, 2304] S16384x256
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x2560 .f32) (main_arg1 : FVec F S1024x512 .f32) (main_arg2 : FVec F S64 .f32) : IVec S_ 1 :=
  let main_v0 : FVec F S16384x256 .f32 := (extractStridedSlice S16384x256 ![0, 2304] · slices_S16384x2560_S16384x256_0_2304) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  main_v4
-- ==== Pre_finite_mem.lean ====
abbrev S4x256x1024 : Shape := ⟨3, ![4, 256, 1024]⟩
abbrev S4x1024 : Shape := ⟨2, ![4, 1024]⟩
abbrev S4x1024x512 : Shape := ⟨3, ![4, 1024, 512]⟩
abbrev S4x64 : Shape := ⟨2, ![4, 64]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4x1024x512 : S_.BroadcastsInDim S4x1024x512 (![] : Fin 0 → Fin S4x1024x512.rank)
  reducesTo_S4x1024x512_S_d0_1_2 : S4x1024x512.ReducesTo [0, 1, 2] S_

variable [Facts]

def fn {F : FTy → Type} [FloatOps F] (main_arg0 : FVec F S4x256x1024 .f32) (main_arg1 : FVec F S4x1024 .f32) (main_arg2 : FVec F S4x1024x512 .f32) (main_arg3 : FVec F S4x64 .f32) : IVec S_ 1 :=
  let main_v0 : FVec F S4x1024 .f32 := Host.absf main_arg1
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S4x1024x512 .f32 := Host.absf main_arg2
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : IVec S_ 1 := andi main_v3 main_v7
  main_v8
-- ==== Pre_finite_prep.lean ====
abbrev S16384x1920 : Shape := ⟨2, ![16384, 1920]⟩
abbrev S4x64 : Shape := ⟨2, ![4, 64]⟩
abbrev S16384x896 : Shape := ⟨2, ![16384, 896]⟩
abbrev S_ : Shape := ⟨0, ![]⟩
abbrev S16384x128 : Shape := ⟨2, ![16384, 128]⟩

class Facts : Prop where
  slices_S16384x1920_S16384x896_0_0 : S16384x1920.Slices ![0, 0] S16384x896
  bcast_S_S16384x896 : S_.BroadcastsInDim S16384x896 (![] : Fin 0 → Fin S16384x896.rank)
  reducesTo_S16384x896_S_d0_1 : S16384x896.ReducesTo [0, 1] S_
  h_S_ : 0 < S_.numel
  slices_S16384x1920_S16384x128_0_1024 : S16384x1920.Slices ![0, 1024] S16384x128
  bcast_S_S16384x128 : S_.BroadcastsInDim S16384x128 (![] : Fin 0 → Fin S16384x128.rank)
  reducesTo_S16384x128_S_d0_1 : S16384x128.ReducesTo [0, 1] S_
  slices_S16384x1920_S16384x128_0_1280 : S16384x1920.Slices ![0, 1280] S16384x128

variable [Facts]

def fn {F : FTy → Type} [FloatOps F] (main_arg0 : FVec F S16384x1920 .f32) (main_arg1 : FVec F S4x64 .f32) : IVec S_ 1 :=
  let main_v0 : FVec F S16384x896 .f32 := (extractStridedSlice S16384x896 ![0, 0] · slices_S16384x1920_S16384x896_0_0) main_arg0
  let main_v1 : FVec F S16384x896 .f32 := Host.absf main_v0
  let main_cst : FVec F S_ .f32 := constant S_ .f32 0x7F800000#32
  let main_v2 : FVec F S16384x896 .f32 := broadcastInDim S16384x896 ![] bcast_S_S16384x896 main_cst
  let main_v3 : IVec S16384x896 1 := cmpf .olt main_v1 main_v2
  let main_c : IVec S_ 1 := constantI S_ 1 1#1
  let main_v4 : IVec S_ 1 := (fun x v => Host.reduce IntOp.andi x v reducesTo_S16384x896_S_d0_1 h_S_) main_v3 main_c
  let main_v5 : FVec F S16384x128 .f32 := (extractStridedSlice S16384x128 ![0, 1024] · slices_S16384x1920_S16384x128_0_1024) main_arg0
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_c_1 : IVec S_ 1 := constantI S_ 1 1#1
  let main_v9 : IVec S_ 1 := (fun x v => Host.reduce IntOp.andi x v reducesTo_S16384x128_S_d0_1 h_S_) main_v8 main_c_1
  let main_v10 : IVec S_ 1 := andi main_v4 main_v9
  let main_v11 : FVec F S16384x128 .f32 := (extractStridedSlice S16384x128 ![0, 1280] · slices_S16384x1920_S16384x128_0_1280) main_arg0
  let main_v12 : FVec F S16384x128 .f32 := Host.absf main_v11
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  let main_c_3 : IVec S_ 1 := constantI S_ 1 1#1
  let main_v15 : IVec S_ 1 := (fun x v => Host.reduce IntOp.andi x v reducesTo_S16384x128_S_d0_1 h_S_) main_v14 main_c_3
  let main_v16 : IVec S_ 1 := andi main_v10 main_v15
  main_v16
-- ==== Kernel.lean ====
abbrev S16384x2560 : Shape := ⟨2, ![16384, 2560]⟩
abbrev S16384x1536 : Shape := ⟨2, ![16384, 1536]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16384x768 : Shape := ⟨2, ![16384, 768]⟩
abbrev S128x768 : Shape := ⟨2, ![128, 768]⟩
abbrev S4096x768 : Shape := ⟨2, ![4096, 768]⟩
abbrev S6x256x128 : Shape := ⟨3, ![6, 256, 128]⟩
abbrev S1536x1 : Shape := ⟨2, ![1536, 1]⟩
abbrev S256x128 : Shape := ⟨2, ![256, 128]⟩
abbrev S1536x128 : Shape := ⟨2, ![1536, 128]⟩
abbrev S1x256x128 : Shape := ⟨3, ![1, 256, 128]⟩
abbrev S1x1536x1 : Shape := ⟨3, ![1, 1536, 1]⟩
abbrev S1 : Shape := ⟨1, ![1]⟩
abbrev S1x1x1 : Shape := ⟨3, ![1, 1, 1]⟩
abbrev S1x128x128 : Shape := ⟨3, ![1, 128, 128]⟩

abbrev nBuf : Space → Nat
  | .hbm => 16
  | .vmem => 10
  | .smem => 0
  | _ => 0

abbrev bufTy : (tb : Table) → Fin (tcTables nBuf tb) → BufTy
  | .hbm, ⟨0, _⟩ => ⟨S16384x2560, .f32⟩
  | .hbm, ⟨1, _⟩ => ⟨S16384x1536, .f32⟩
  | .hbm, ⟨2, _⟩ => ⟨S16384x1536, .bf16⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S_, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S16384x768, .f32⟩
  | .local _ .vmem, ⟨0, _⟩ => ⟨S128x768, .f32⟩
  | .local _ .vmem, ⟨1, _⟩ => ⟨S128x768, .f32⟩
  | .local _ .vmem, ⟨2, _⟩ => ⟨S4096x768, .bf16⟩
  | .local _ .vmem, ⟨3, _⟩ => ⟨S4096x768, .bf16⟩
  | .local _ .vmem, ⟨4, _⟩ => ⟨S4096x768, .bf16⟩
  | .local _ .vmem, ⟨5, _⟩ => ⟨S4096x768, .bf16⟩
  | .local _ .vmem, ⟨6, _⟩ => ⟨S128x128, .bf16⟩
  | .local _ .vmem, ⟨7, _⟩ => ⟨S128x768, .f32⟩
  | .local _ .vmem, ⟨8, _⟩ => ⟨S128x768, .f32⟩
  | .local _ .vmem, ⟨9, _⟩ => ⟨S6x256x128, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) (arg8 : BitVec 32) : BitVec 32 :=
  let arg1 : BitVec 32 := BitVec.ofNat 32 (i 1).val
  let v143 : BitVec 32 := Scalar.subi arg1 arg8
  let c128_i32_73 : BitVec 32 := 128#32
  let v144 : BitVec 32 := Scalar.muli v143 c128_i32_73
  v144

def k0_off1 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v152 : Index := Scalar.indexCast v145
  let c0_74 : Index := 0#32
  ![v152.toNat, 0]
def k0_off2 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v156 : Index := Scalar.indexCast v145
  let c128_76 : Index := 128#32
  ![v156.toNat, 128]
def k0_off3 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v160 : Index := Scalar.indexCast v145
  let c256_78 : Index := 256#32
  ![v160.toNat, 256]
def k0_off4 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v164 : Index := Scalar.indexCast v145
  let c384_80 : Index := 384#32
  ![v164.toNat, 384]
def k0_off5 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v168 : Index := Scalar.indexCast v145
  let c512_82 : Index := 512#32
  ![v168.toNat, 512]
def k0_off6 (i : grid0.Coords) (arg8 : BitVec 32) : Fin 2 → Nat :=
  let arg1 : BitVec 32 := BitVec.ofNat 32 (i 1).val
  let v143 : BitVec 32 := Scalar.subi arg1 arg8
  let c128_i32_73 : BitVec 32 := 128#32
  let v144 : BitVec 32 := Scalar.muli v143 c128_i32_73
  let v145 : BitVec 32 := v144
  let v172 : Index := Scalar.indexCast v145
  let c640_84 : Index := 640#32
  ![v172.toNat, 640]

def k0_chk1 (i : grid0.Coords) (arg8 : BitVec 32) : Prop :=
  (128 ∣ (k0_mult1 i arg8).toNat) ∧
  (∀ a, (k0_off1 i arg8) a + S128x128.size a ≤ S4096x768.size a) ∧
  (∀ a, (k0_off2 i arg8) a + S128x128.size a ≤ S4096x768.size a) ∧
  (∀ a, (k0_off3 i arg8) a + S128x128.size a ≤ S4096x768.size a) ∧
  (∀ a, (k0_off4 i arg8) a + S128x128.size a ≤ S4096x768.size a) ∧
  (∀ a, (k0_off5 i arg8) a + S128x128.size a ≤ S4096x768.size a) ∧
  (∀ a, (k0_off6 i arg8) a + S128x128.size a ≤ S4096x768.size a)
theorem k0_mult1_dvd : ∀ (i : grid0.Coords) (arg8 : BitVec 32) (k0_hw1 : k0_chk1 i arg8), 128 ∣ (k0_mult1 i arg8).toNat := fun i arg8 k0_hw1 => k0_hw1.1
theorem k0_off1_inb : ∀ (i : grid0.Coords) (arg8 : BitVec 32) (k0_hw1 : k0_chk1 i arg8), ∀ a, (k0_off1 i arg8) a + S128x128.size a ≤ S4096x768.size a := fun i arg8 k0_hw1 => k0_hw1.2.1
theorem k0_off2_inb : ∀ (i : grid0.Coords) (arg8 : BitVec 32) (k0_hw1 : k0_chk1 i arg8), ∀ a, (k0_off2 i arg8) a + S128x128.size a ≤ S4096x768.size a := fun i arg8 k0_hw1 => k0_hw1.2.2.1
theorem k0_off3_inb : ∀ (i : grid0.Coords) (arg8 : BitVec 32) (k0_hw1 : k0_chk1 i arg8), ∀ a, (k0_off3 i arg8) a + S128x128.size a ≤ S4096x768.size a := fun i arg8 k0_hw1 => k0_hw1.2.2.2.1
theorem k0_off4_inb : ∀ (i : grid0.Coords) (arg8 : BitVec 32) (k0_hw1 : k0_chk1 i arg8), ∀ a, (k0_off4 i arg8) a + S128x128.size a ≤ S4096x768.size a := fun i arg8 k0_hw1 => k0_hw1.2.2.2.2.1
theorem k0_off5_inb : ∀ (i : grid0.Coords) (arg8 : BitVec 32) (k0_hw1 : k0_chk1 i arg8), ∀ a, (k0_off5 i arg8) a + S128x128.size a ≤ S4096x768.size a := fun i arg8 k0_hw1 => k0_hw1.2.2.2.2.2.1
theorem k0_off6_inb : ∀ (i : grid0.Coords) (arg8 : BitVec 32) (k0_hw1 : k0_chk1 i arg8), ∀ a, (k0_off6 i arg8) a + S128x128.size a ≤ S4096x768.size a := fun i arg8 k0_hw1 => k0_hw1.2.2.2.2.2.2

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "underflow" => some ⊥
  | _ => none
-- ==== ReferenceIdeal.lean ====
abbrev S16384x2560 : Shape := ⟨2, ![16384, 2560]⟩
abbrev S16384x2304 : Shape := ⟨2, ![16384, 2304]⟩
abbrev S4x4096x3x12x64 : Shape := ⟨5, ![4, 4096, 3, 12, 64]⟩
abbrev S4x4096x1x12x64 : Shape := ⟨5, ![4, 4096, 1, 12, 64]⟩
abbrev S4x4096x12x64 : Shape := ⟨4, ![4, 4096, 12, 64]⟩
abbrev S4096 : Shape := ⟨1, ![4096]⟩
abbrev S4x12x4096x4096 : Shape := ⟨4, ![4, 12, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x12x64x4096 : Shape := ⟨4, ![4, 12, 64, 4096]⟩
abbrev S16384x768 : Shape := ⟨2, ![16384, 768]⟩

abbrev nBuf : Space → Nat
  | .hbm => 71
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S16384x2304, .f32⟩
  | .hbm, ⟨2, _⟩ => ⟨S4x4096x3x12x64, .f32⟩
  | .hbm, ⟨3, _⟩ => ⟨S4x4096x1x12x64, .f32⟩
  | .hbm, ⟨4, _⟩ => ⟨S4x4096x12x64, .f32⟩
  | .hbm, ⟨5, _⟩ => ⟨S4x4096x1x12x64, .f32⟩
  | .hbm, ⟨6, _⟩ => ⟨S4x4096x12x64, .f32⟩
  | .hbm, ⟨7, _⟩ => ⟨S4x4096x1x12x64, .f32⟩
  | .hbm, ⟨8, _⟩ => ⟨S4x4096x12x64, .f32⟩
  | .hbm, ⟨9, _⟩ => ⟨S4096, .i32⟩
  | .hbm, ⟨10, _⟩ => ⟨S4x12x4096x4096, .f32⟩
  | .hbm, ⟨11, _⟩ => ⟨S_, .f32⟩
  | .hbm, ⟨12, _⟩ => ⟨S4x12x4096x4096, .f32⟩
  | .hbm, ⟨13, _⟩ => ⟨S4x12x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x12x4096x4096, .f32⟩
  | .hbm, ⟨20, _⟩ => ⟨S4x12x4096x4096, .f32⟩
  | .hbm, ⟨21, _⟩ => ⟨S_, .f32⟩
  | .hbm, ⟨22, _⟩ => ⟨S4x12x4096x4096, .f32⟩
  | .hbm, ⟨23, _⟩ => ⟨S4x12x4096x4096, .f32⟩
  | .hbm, ⟨24, _⟩ => ⟨S4x12x4096x4096, .f32⟩
  | .hbm, ⟨25, _⟩ => ⟨S4x12x4096x4096, .f32⟩
  | .hbm, ⟨26, _⟩ => ⟨S4x12x4096x4096, .i1⟩
  | .hbm, ⟨27, _⟩ => ⟨S4x12x4096x4096, .f32⟩
  | .hbm, ⟨28, _⟩ => ⟨S4x12x4096x4096, .f32⟩
  | .hbm, ⟨29, _⟩ => ⟨S4x12x4096x4096, .f32⟩
  | .hbm, ⟨30, _⟩ => ⟨S4x12x4096x4096, .f32⟩
  | .hbm, ⟨31, _⟩ => ⟨S4x12x4096x4096, .f32⟩
  | .hbm, ⟨32, _⟩ => ⟨S4x12x4096x4096, .f32⟩
  | .hbm, ⟨33, _⟩ => ⟨S4x12x4096x4096, .f32⟩
  | .hbm, ⟨34, _⟩ => ⟨S4x12x4096x4096, .f32⟩
  | .hbm, ⟨35, _⟩ => ⟨S4x12x4096x4096, .f32⟩
  | .hbm, ⟨36, _⟩ => ⟨S_, .f32⟩
  | .hbm, ⟨37, _⟩ => ⟨S_, .f32⟩
  | .hbm, ⟨38, _⟩ => ⟨S4x12x4096x4096, .i1⟩
  | .hbm, ⟨39, _⟩ => ⟨S4x12x4096x4096, .f32⟩
  | .hbm, ⟨40, _⟩ => ⟨S4x12x4096x4096, .f32⟩
  | .hbm, ⟨41, _⟩ => ⟨S_, .f32⟩
  | .hbm, ⟨42, _⟩ => ⟨S_, .f32⟩
  | .hbm, ⟨43, _⟩ => ⟨S4x12x4096x4096, .f32⟩
  | .hbm, ⟨44, _⟩ => ⟨S4x12x4096x4096, .f32⟩
  | .hbm, ⟨45, _⟩ => ⟨S4x12x4096x4096, .f32⟩
  | .hbm, ⟨46, _⟩ => ⟨S_, .f32⟩
  | .hbm, ⟨47, _⟩ => ⟨S4x12x4096x4096, .f32⟩
  | .hbm, ⟨48, _⟩ => ⟨S4x12x4096x4096, .f32⟩
  | .hbm, ⟨49, _⟩ => ⟨S4x12x4096x4096, .f32⟩
  | .hbm, ⟨50, _⟩ => ⟨S4x12x4096x4096, .f32⟩
  | .hbm, ⟨51, _⟩ => ⟨S4x12x4096x4096, .i1⟩
  | .hbm, ⟨52, _⟩ => ⟨S4x12x4096x4096, .f32⟩
  | .hbm, ⟨53, _⟩ => ⟨S4x12x4096x4096, .f32⟩
  | .hbm, ⟨54, _⟩ => ⟨S4x12x4096x4096, .f32⟩
  | .hbm, ⟨55, _⟩ => ⟨S4x12x4096x4096, .f32⟩
  | .hbm, ⟨56, _⟩ => ⟨S4x12x4096x4096, .f32⟩
  | .hbm, ⟨57, _⟩ => ⟨S4x12x4096x4096, .f32⟩
  | .hbm, ⟨58, _⟩ => ⟨S4x12x4096x4096, .f32⟩
  | .hbm, ⟨59, _⟩ => ⟨S4x12x4096x4096, .f32⟩
  | .hbm, ⟨60, _⟩ => ⟨S4x12x4096x4096, .f32⟩
  | .hbm, ⟨61, _⟩ => ⟨S4x12x4096x4096, .f32⟩
  | .hbm, ⟨62, _⟩ => ⟨S4x12x4096x4096, .f32⟩
  | .hbm, ⟨63, _⟩ => ⟨S_, .f32⟩
  | .hbm, ⟨64, _⟩ => ⟨S_, .f32⟩
  | .hbm, ⟨65, _⟩ => ⟨S4x12x4096x4096, .i1⟩
  | .hbm, ⟨66, _⟩ => ⟨S4x12x4096x4096, .f32⟩
  | .hbm, ⟨67, _⟩ => ⟨S4x12x4096x4096, .f32⟩
  | .hbm, ⟨68, _⟩ => ⟨S4x12x64x4096, .f32⟩
  | .hbm, ⟨69, _⟩ => ⟨S4x4096x12x64, .f32⟩
  | .hbm, ⟨70, _⟩ => ⟨S16384x768, .f32⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== OutFfn.lean ====
abbrev S16384x768 : Shape := ⟨2, ![16384, 768]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S768x1024 : Shape := ⟨2, ![768, 1024]⟩
abbrev S256x1024 : Shape := ⟨2, ![256, 1024]⟩
abbrev S1x1024 : Shape := ⟨2, ![1, 1024]⟩
abbrev S256x768 : Shape := ⟨2, ![256, 768]⟩
abbrev S256x256 : Shape := ⟨2, ![256, 256]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 15
  | .vmem => 13
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S768x1024, .f32⟩
  | .hbm, ⟨8, _⟩ => ⟨S768x1024, .bf16⟩
  | .hbm, ⟨9, _⟩ => ⟨S256x1024, .f32⟩
  | .hbm, ⟨10, _⟩ => ⟨S256x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S16384x1024, .f32⟩
  | .local _ .vmem, ⟨0, _⟩ => ⟨S256x768, .f32⟩
  | .local _ .vmem, ⟨1, _⟩ => ⟨S256x768, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFfnRefIdeal.lean ====
abbrev S16384x768 : Shape := ⟨2, ![16384, 768]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 41
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== ProjIn.lean ====
abbrev S16384x1024 : Shape := ⟨2, ![16384, 1024]⟩
abbrev S1024 : Shape := ⟨1, ![1024]⟩
abbrev S1024x2560 : Shape := ⟨2, ![1024, 2560]⟩
abbrev S1x1024 : Shape := ⟨2, ![1, 1024]⟩
abbrev S16384x2560 : Shape := ⟨2, ![16384, 2560]⟩
abbrev S16384x1536 : Shape := ⟨2, ![16384, 1536]⟩
abbrev S4x1536x4096 : Shape := ⟨3, ![4, 1536, 4096]⟩
abbrev S512x1024 : Shape := ⟨2, ![512, 1024]⟩
abbrev S512x2560 : Shape := ⟨2, ![512, 2560]⟩
abbrev S512x1536 : Shape := ⟨2, ![512, 1536]⟩
abbrev S1x1536x512 : Shape := ⟨3, ![1, 1536, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1x1024, .f32⟩
  | .hbm, ⟨5, _⟩ => ⟨S16384x2560, .f32⟩
  | .hbm, ⟨6, _⟩ => ⟨S16384x1536, .bf16⟩
  | .hbm, ⟨7, _⟩ => ⟨S4x1536x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | .local _ .vmem, ⟨6, _⟩ => ⟨S512x1536, .bf16⟩
  | .local _ .vmem, ⟨7, _⟩ => ⟨S512x1536, .bf16⟩
  | .local _ .vmem, ⟨8, _⟩ => ⟨S1x1536x512, .f32⟩
  | .local _ .vmem, ⟨9, _⟩ => ⟨S1x1536x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjInRefIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x1536 : Shape := ⟨2, ![16384, 1536]⟩
abbrev S4x4096x1536 : Shape := ⟨3, ![4, 4096, 1536]⟩
abbrev S4x1536x4096 : Shape := ⟨3, ![4, 1536, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2560, .f32⟩
  | .hbm, ⟨20, _⟩ => ⟨S16384x1536, .f32⟩
  | .hbm, ⟨21, _⟩ => ⟨S4x4096x1536, .f32⟩
  | .hbm, ⟨22, _⟩ => ⟨S4x1536x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MemKv.lean ====
abbrev S4x256x1024 : Shape := ⟨3, ![4, 256, 1024]⟩
abbrev S4x1024 : Shape := ⟨2, ![4, 1024]⟩
abbrev S4x1024x512 : Shape := ⟨3, ![4, 1024, 512]⟩
abbrev S4x64 : Shape := ⟨2, ![4, 64]⟩
abbrev S1024x1024 : Shape := ⟨2, ![1024, 1024]⟩
abbrev S1x4x1x64 : Shape := ⟨4, ![1, 4, 1, 64]⟩
abbrev S1x4x2x64 : Shape := ⟨4, ![1, 4, 2, 64]⟩
abbrev S4x128 : Shape := ⟨2, ![4, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4x1x1024 : Shape := ⟨3, ![4, 1, 1024]⟩
abbrev S4x1x128 : Shape := ⟨3, ![4, 1, 128]⟩
abbrev S1x1x1024 : Shape := ⟨3, ![1, 1, 1024]⟩
abbrev S1x1024x512 : Shape := ⟨3, ![1, 1024, 512]⟩
abbrev S1x1x128 : Shape := ⟨3, ![1, 1, 128]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩
abbrev S1024x256 : Shape := ⟨2, ![1024, 256]⟩
abbrev S1x1024x256 : Shape := ⟨3, ![1, 1024, 256]⟩

abbrev nBuf : Space → Nat
  | .hbm => 32
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S4x1024, .f32⟩
  | .hbm, ⟨2, _⟩ => ⟨S4x1024x512, .f32⟩
  | .hbm, ⟨3, _⟩ => ⟨S4x64, .f32⟩
  | .hbm, ⟨4, _⟩ => ⟨S1024x1024, .f32⟩
  | .hbm, ⟨5, _⟩ => ⟨S4x1024x512, .bf16⟩
  | .hbm, ⟨6, _⟩ => ⟨S1x4x1x64, .f32⟩
  | .hbm, ⟨7, _⟩ => ⟨S1x4x2x64, .f32⟩
  | .hbm, ⟨8, _⟩ => ⟨S4x128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S1x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .bf16⟩
  | .hbm, ⟨29, _⟩ => ⟨S4x1x1024, .f32⟩
  | .hbm, ⟨30, _⟩ => ⟨S4x1x128, .f32⟩
  | .hbm, ⟨31, _⟩ => ⟨S4x1024x512, .f32⟩
  | .local _ .vmem, ⟨0, _⟩ => ⟨S1024x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1x128, .f32⟩
  | .local _ .vmem, ⟨6, _⟩ => ⟨S1x1x128, .f32⟩
  | .local _ .vmem, ⟨7, _⟩ => ⟨S128x128, .bf16⟩
  | .local _ .vmem, ⟨8, _⟩ => ⟨S1x1024x512, .f32⟩
  | .local _ .vmem, ⟨9, _⟩ => ⟨S1x1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S4x256x1024 : Shape := ⟨3, ![4, 256, 1024]⟩
abbrev S4x1024 : Shape := ⟨2, ![4, 1024]⟩
abbrev S4x1024x512 : Shape := ⟨3, ![4, 1024, 512]⟩
abbrev S4x64 : Shape := ⟨2, ![4, 64]⟩
abbrev S1024x1024 : Shape := ⟨2, ![1024, 1024]⟩
abbrev S4x1x1024 : Shape := ⟨3, ![4, 1, 1024]⟩
abbrev S_ : Shape := ⟨0, ![]⟩
abbrev S1024 : Shape := ⟨1, ![1024]⟩
abbrev S1024x1 : Shape := ⟨2, ![1024, 1]⟩
abbrev S1x1024x1024 : Shape := ⟨3, ![1, 1024, 1024]⟩
abbrev S4x1024x1024 : Shape := ⟨3, ![4, 1024, 1024]⟩
abbrev S4x1024x256 : Shape := ⟨3, ![4, 1024, 256]⟩
abbrev S4x1024x4x64 : Shape := ⟨4, ![4, 1024, 4, 64]⟩
abbrev S4x1x1x64 : Shape := ⟨4, ![4, 1, 1, 64]⟩
abbrev S4x1024x4 : Shape := ⟨3, ![4, 1024, 4]⟩
abbrev S4x1024x4x1 : Shape := ⟨4, ![4, 1024, 4, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1024, .f32⟩
  | .hbm, ⟨2, _⟩ => ⟨S4x1024x512, .f32⟩
  | .hbm, ⟨3, _⟩ => ⟨S4x64, .f32⟩
  | .hbm, ⟨4, _⟩ => ⟨S1024x1024, .f32⟩
  | .hbm, ⟨5, _⟩ => ⟨S4x1x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S4x1024x512, .f32⟩
  | .hbm, ⟨24, _⟩ => ⟨S4x1024x256, .f32⟩
  | .hbm, ⟨25, _⟩ => ⟨S4x1024x4x64, .f32⟩
  | .hbm, ⟨26, _⟩ => ⟨S4x1x1x64, .f32⟩
  | .hbm, ⟨27, _⟩ => ⟨S4x1024x4x64, .f32⟩
  | .hbm, ⟨28, _⟩ => ⟨S_, .f32⟩
  | .hbm, ⟨29, _⟩ => ⟨S4x1024x4, .f32⟩
  | .hbm, ⟨30, _⟩ => ⟨S4x1024x4x1, .f32⟩
  | .hbm, ⟨31, _⟩ => ⟨S_, .f32⟩
  | .hbm, ⟨32, _⟩ => ⟨S4x1024x4x1, .f32⟩
  | .hbm, ⟨33, _⟩ => ⟨S4x1024x4x1, .f32⟩
  | .hbm, ⟨34, _⟩ => ⟨S_, .f32⟩
  | .hbm, ⟨35, _⟩ => ⟨S4x1024x4x1, .f32⟩
  | .hbm, ⟨36, _⟩ => ⟨S4x1024x4x1, .f32⟩
  | .hbm, ⟨37, _⟩ => ⟨S4x1024x4x1, .f32⟩
  | .hbm, ⟨38, _⟩ => ⟨S4x1024x4x64, .f32⟩
  | .hbm, ⟨39, _⟩ => ⟨S4x1024x4x64, .f32⟩
  | .hbm, ⟨40, _⟩ => ⟨S4x1024x4x64, .f32⟩
  | .hbm, ⟨41, _⟩ => ⟨S4x1024x4x64, .f32⟩
  | .hbm, ⟨42, _⟩ => ⟨S4x1024x256, .f32⟩
  | .hbm, ⟨43, _⟩ => ⟨S4x1024x256, .f32⟩
  | .hbm, ⟨44, _⟩ => ⟨S4x1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== NsaPrep.lean ====
abbrev S16384x1920 : Shape := ⟨2, ![16384, 1920]⟩
abbrev S4x64 : Shape := ⟨2, ![4, 64]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S3x64 : Shape := ⟨2, ![3, 64]⟩
abbrev S1x3x1x64 : Shape := ⟨4, ![1, 3, 1, 64]⟩
abbrev S1x3x2x64 : Shape := ⟨4, ![1, 3, 2, 64]⟩
abbrev S3x128 : Shape := ⟨2, ![3, 128]⟩
abbrev S3x1x128 : Shape := ⟨3, ![3, 1, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S128x1 : Shape := ⟨2, ![128, 1]⟩
abbrev S128x128 : Shape := ⟨2, ![128, 128]⟩
abbrev S16384x768 : Shape := ⟨2, ![16384, 768]⟩
abbrev S16384x512 : Shape := ⟨2, ![16384, 512]⟩
abbrev S16384x256 : Shape := ⟨2, ![16384, 256]⟩
abbrev S16384x128 : Shape := ⟨2, ![16384, 128]⟩
abbrev S4x512x4096 : Shape := ⟨3, ![4, 512, 4096]⟩
abbrev S4x256x4096 : Shape := ⟨3, ![4, 256, 4096]⟩
abbrev S256x768 : Shape := ⟨2, ![256, 768]⟩
abbrev S256x128 : Shape := ⟨2, ![256, 128]⟩
abbrev S256x512 : Shape := ⟨2, ![256, 512]⟩
abbrev S256x256 : Shape := ⟨2, ![256, 256]⟩
abbrev S1x512x256 : Shape := ⟨3, ![1, 512, 256]⟩
abbrev S1x256x256 : Shape := ⟨3, ![1, 256, 256]⟩
abbrev S1x1x128 : Shape := ⟨3, ![1, 1, 128]⟩
abbrev S128x256 : Shape := ⟨2, ![128, 256]⟩
abbrev S1x128x256 : Shape := ⟨3, ![1, 128, 256]⟩

abbrev nBuf : Space → Nat
  | .hbm => 75
  | .vmem => 27
  | .smem => 0
  | _ => 0

abbrev bufTy : (tb : Table) → Fin (tcTables nBuf tb) → BufTy
  | .hbm, ⟨0, _⟩ => ⟨S16384x1920, .f32⟩
  | .hbm, ⟨1, _⟩ => ⟨S4x64, .f32⟩
  | .hbm, ⟨2, _⟩ => ⟨S1x64, .f32⟩
  | .hbm, ⟨3, _⟩ => ⟨S64, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S3x64, .f32⟩
  | .hbm, ⟨9, _⟩ => ⟨S1x3x1x64, .f32⟩
  | .hbm, ⟨10, _⟩ => ⟨S1x3x2x64, .f32⟩
  | .hbm, ⟨11, _⟩ => ⟨S3x128, .f32⟩
  | .hbm, ⟨12, _⟩ => ⟨S3x1x128, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S4096, .f32⟩
  | .hbm, ⟨28, _⟩ => ⟨S4096x1, .f32⟩
  | .hbm, ⟨29, _⟩ => ⟨S1x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S4096x8, .f32⟩
  | .hbm, ⟨37, _⟩ => ⟨S_, .f32⟩
  | .hbm, ⟨38, _⟩ => ⟨S4096x48, .f32⟩
  | .hbm, ⟨39, _⟩ => ⟨S_, .f32⟩
  | .hbm, ⟨40, _⟩ => ⟨S4096x48, .f32⟩
  | .hbm, ⟨41, _⟩ => ⟨S4096x48, .f32⟩
  | .hbm, ⟨42, _⟩ => ⟨S4096x64, .f32⟩
  | .hbm, ⟨43, _⟩ => ⟨S4096x64, .f32⟩
  | .hbm, ⟨44, _⟩ => ⟨S4096x8, .f32⟩
  | .hbm, ⟨45, _⟩ => ⟨S4096x64, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S128x1, .i32⟩
  | .hbm, ⟨59, _⟩ => ⟨S1x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .bf16⟩
  | .hbm, ⟨69, _⟩ => ⟨S16384x768, .f32⟩
  | .hbm, ⟨70, _⟩ => ⟨S16384x512, .f32⟩
  | .hbm, ⟨71, _⟩ => ⟨S16384x256, .f32⟩
  | .hbm, ⟨72, _⟩ => ⟨S16384x128, .f32⟩
  | .hbm, ⟨73, _⟩ => ⟨S4x512x4096, .f32⟩
  | .hbm, ⟨74, _⟩ => ⟨S4x256x4096, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S3x1x128, .f32⟩
  | .local _ .vmem, ⟨14, _⟩ => ⟨S128x128, .bf16⟩
  | .local _ .vmem, ⟨15, _⟩ => ⟨S256x768, .f32⟩
  | .local _ .vmem, ⟨16, _⟩ => ⟨S256x768, .f32⟩
  | .local _ .vmem, ⟨17, _⟩ => ⟨S256x512, .f32⟩
  | .local _ .vmem, ⟨18, _⟩ => ⟨S256x512, .f32⟩
  | .local _ .vmem, ⟨19, _⟩ => ⟨S256x256, .f32⟩
  | .local _ .vmem, ⟨20, _⟩ => ⟨S256x256, .f32⟩
  | .local _ .vmem, ⟨21, _⟩ => ⟨S256x128, .f32⟩
  | .local _ .vmem, ⟨22, _⟩ => ⟨S256x128, .f32⟩
  | .local _ .vmem, ⟨23, _⟩ => ⟨S1x512x256, .f32⟩
  | .local _ .vmem, ⟨24, _⟩ => ⟨S1x512x256, .f32⟩
  | .local _ .vmem, ⟨25, _⟩ => ⟨S1x256x256, .f32⟩
  | .local _ .vmem, ⟨26, _⟩ => ⟨S1x256x256, .f32⟩
  | _, _ => ⟨S16384x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_v41 : Ref sig .tc := ⟨.hbm, 51, rfl⟩
abbrev main_v42 : Ref sig .tc := ⟨.hbm, 52, rfl⟩
abbrev main_c_6 : Ref sig .tc := ⟨.hbm, 53, rfl⟩
abbrev main_c_7 : Ref sig .tc := ⟨.hbm, 54, rfl⟩
abbrev main_call0_v0 : Ref sig .tc := ⟨.hbm, 55, rfl⟩
abbrev main_call0_v1 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v49 : Ref sig .tc := ⟨.hbm, 67, rfl⟩
abbrev main_v50 : Ref sig .tc := ⟨.hbm, 68, rfl⟩
abbrev main_v51_0 : Ref sig .tc := ⟨.hbm, 69, rfl⟩
abbrev main_v51_1 : Ref sig .tc := ⟨.hbm, 70, rfl⟩
abbrev main_v51_2 : Ref sig .tc := ⟨.hbm, 71, rfl⟩
abbrev main_v51_3 : Ref sig .tc := ⟨.hbm, 72, rfl⟩
abbrev main_v51_4 : Ref sig .tc := ⟨.hbm, 73, rfl⟩
abbrev main_v51_5 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== NsaPrepRefIdeal.lean ====
abbrev S16384x1920 : Shape := ⟨2, ![16384, 1920]⟩
abbrev S4x64 : Shape := ⟨2, ![4, 64]⟩
abbrev S16384x768 : Shape := ⟨2, ![16384, 768]⟩
abbrev S4x4096x12x64 : Shape := ⟨4, ![4, 4096, 12, 64]⟩
abbrev S1x64 : Shape := ⟨2, ![1, 64]⟩
abbrev S64 : Shape := ⟨1, ![64]⟩
abbrev S_ : Shape := ⟨0, ![]⟩
abbrev S4x4096x12 : Shape := ⟨3, ![4, 4096, 12]⟩
abbrev S4x4096x12x1 : Shape := ⟨4, ![4, 4096, 12, 1]⟩
abbrev S1x1x1x64 : Shape := ⟨4, ![1, 1, 1, 64]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x12x8 : Shape := ⟨4, ![4, 4096, 12, 8]⟩
abbrev S4x4096x12x48 : Shape := ⟨4, ![4, 4096, 12, 48]⟩
abbrev S16384x128 : Shape := ⟨2, ![16384, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x8 : Shape := ⟨4, ![4, 4096, 2, 8]⟩
abbrev S4x4096x2x48 : Shape := ⟨4, ![4, 4096, 2, 48]⟩
abbrev S16384x512 : Shape := ⟨2, ![16384, 512]⟩
abbrev S16384x256 : Shape := ⟨2, ![16384, 256]⟩
abbrev S4x4096x512 : Shape := ⟨3, ![4, 4096, 512]⟩
abbrev S4x512x4096 : Shape := ⟨3, ![4, 512, 4096]⟩
abbrev S4x4096x256 : Shape := ⟨3, ![4, 4096, 256]⟩
abbrev S4x256x4096 : Shape := ⟨3, ![4, 256, 4096]⟩

abbrev nBuf : Space → Nat
  | .hbm => 260
  | .vmem => 0
  | .smem => 0
  | _ => 0

abbrev hbmTy0_0 (i : Nat) : BufTy := match i % 128 with
  | 0 => ⟨S16384x1920, .f32⟩
  | 1 => ⟨S4x64, .f32⟩
  | 2 => ⟨S16384x768, .f32⟩
  | 3 => ⟨S4x4096x12x64, .f32⟩
  | 4 => ⟨S1x64, .f32⟩
  | 5 => ⟨S64, .f32⟩
  | 6 => ⟨S4x4096x12x64, .f32⟩
  | 7 => ⟨S_, .f32⟩
  | 8 => ⟨S4x4096x12, .f32⟩
  | 9 => ⟨S4x4096x12x1, .f32⟩
  | 10 => ⟨S_, .f32⟩
  | 11 => ⟨S4x4096x12x1, .f32⟩
  | 12 => ⟨S4x4096x12x1, .f32⟩
  | 13 => ⟨S_, .f32⟩
  | 14 => ⟨S4x4096x12x1, .f32⟩
  | 15 => ⟨S4x4096x12x1, .f32⟩
  | 16 => ⟨S4x4096x12x1, .f32⟩
  | 17 => ⟨S4x4096x12x64, .f32⟩
  | 18 => ⟨S4x4096x12x64, .f32⟩
  | 19 => ⟨S1x1x1x64, .f32⟩
  | 20 => ⟨S4x4096x12x64, .f32⟩
  | 21 => ⟨S4x4096x12x64, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S4096, .i32⟩
  | 37 => ⟨S4096, .f32⟩
  | 38 => ⟨S4096x1, .f32⟩
  | 39 => ⟨S1x8, .f32⟩
  | 40 => ⟨S4096x8, .f32⟩
  | 41 => ⟨S4096x8, .f32⟩
  | 42 => ⟨S4096x8, .f32⟩
  | 43 => ⟨S4096x8, .f32⟩
  | 44 => ⟨S1x4096x1x8, .f32⟩
  | 45 => ⟨S4096x8, .f32⟩
  | 46 => ⟨S1x4096x1x8, .f32⟩
  | 47 => ⟨S4x4096x12x8, .f32⟩
  | 48 => ⟨S4x4096x12x8, .f32⟩
  | 49 => ⟨S4x4096x12x8, .f32⟩
  | 50 => ⟨S4x4096x12x8, .f32⟩
  | 51 => ⟨S4x4096x12x8, .f32⟩
  | 52 => ⟨S4x4096x12x8, .f32⟩
  | 53 => ⟨S4x4096x12x8, .f32⟩
  | 54 => ⟨S4x4096x12x8, .f32⟩
  | 55 => ⟨S4x4096x12x8, .f32⟩
  | 56 => ⟨S4x4096x12x8, .f32⟩
  | 57 => ⟨S4x4096x12x8, .f32⟩
  | 58 => ⟨S4x4096x12x8, .f32⟩
  | 59 => ⟨S4x4096x12x48, .f32⟩
  | 60 => ⟨S4x4096x12x64, .f32⟩
  | 61 => ⟨S16384x768, .f32⟩
  | 62 => ⟨S16384x128, .f32⟩
  | 63 => ⟨S4x4096x2x64, .f32⟩
  | 64 => ⟨S1x64, .f32⟩
  | 65 => ⟨S64, .f32⟩
  | 66 => ⟨S4x4096x2x64, .f32⟩
  | 67 => ⟨S_, .f32⟩
  | 68 => ⟨S4x4096x2, .f32⟩
  | 69 => ⟨S4x4096x2x1, .f32⟩
  | 70 => ⟨S_, .f32⟩
  | 71 => ⟨S4x4096x2x1, .f32⟩
  | 72 => ⟨S4x4096x2x1, .f32⟩
  | 73 => ⟨S_, .f32⟩
  | 74 => ⟨S4x4096x2x1, .f32⟩
  | 75 => ⟨S4x4096x2x1, .f32⟩
  | 76 => ⟨S4x4096x2x1, .f32⟩
  | 77 => ⟨S4x4096x2x64, .f32⟩
  | 78 => ⟨S4x4096x2x64, .f32⟩
  | 79 => ⟨S1x1x1x64, .f32⟩
  | 80 => ⟨S4x4096x2x64, .f32⟩
  | 81 => ⟨S4x4096x2x64, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S4096, .i32⟩
  | 97 => ⟨S4096, .f32⟩
  | 98 => ⟨S4096x1, .f32⟩
  | 99 => ⟨S1x8, .f32⟩
  | 100 => ⟨S4096x8, .f32⟩
  | 101 => ⟨S4096x8, .f32⟩
  | 102 => ⟨S4096x8, .f32⟩
  | 103 => ⟨S4096x8, .f32⟩
  | 104 => ⟨S1x4096x1x8, .f32⟩
  | 105 => ⟨S4096x8, .f32⟩
  | 106 => ⟨S1x4096x1x8, .f32⟩
  | 107 => ⟨S4x4096x2x8, .f32⟩
  | 108 => ⟨S4x4096x2x8, .f32⟩
  | 109 => ⟨S4x4096x2x8, .f32⟩
  | 110 => ⟨S4x4096x2x8, .f32⟩
  | 111 => ⟨S4x4096x2x8, .f32⟩
  | 112 => ⟨S4x4096x2x8, .f32⟩
  | 113 => ⟨S4x4096x2x8, .f32⟩
  | 114 => ⟨S4x4096x2x8, .f32⟩
  | 115 => ⟨S4x4096x2x8, .f32⟩
  | 116 => ⟨S4x4096x2x8, .f32⟩
  | 117 => ⟨S4x4096x2x8, .f32⟩
  | 118 => ⟨S4x4096x2x8, .f32⟩
  | 119 => ⟨S4x4096x2x48, .f32⟩
  | 120 => ⟨S4x4096x2x64, .f32⟩
  | 121 => ⟨S16384x128, .f32⟩
  | 122 => ⟨S16384x128, .f32⟩
  | 123 => ⟨S16384x128, .f32⟩
  | 124 => ⟨S4x4096x2x64, .f32⟩
  | 125 => ⟨S1x64, .f32⟩
  | 126 => ⟨S64, .f32⟩
  | 127 => ⟨S4x4096x2x64, .f32⟩
  | _ => ⟨S16384x1920, .f32⟩

abbrev hbmTy0_1 (i : Nat) : BufTy := match i % 128 with
  | 0 => ⟨S_, .f32⟩
  | 1 => ⟨S4x4096x2, .f32⟩
  | 2 => ⟨S4x4096x2x1, .f32⟩
  | 3 => ⟨S_, .f32⟩
  | 4 => ⟨S4x4096x2x1, .f32⟩
  | 5 => ⟨S4x4096x2x1, .f32⟩
  | 6 => ⟨S_, .f32⟩
  | 7 => ⟨S4x4096x2x1, .f32⟩
  | 8 => ⟨S4x4096x2x1, .f32⟩
  | 9 => ⟨S4x4096x2x1, .f32⟩
  | 10 => ⟨S4x4096x2x64, .f32⟩
  | 11 => ⟨S4x4096x2x64, .f32⟩
  | 12 => ⟨S1x1x1x64, .f32⟩
  | 13 => ⟨S4x4096x2x64, .f32⟩
  | 14 => ⟨S4x4096x2x64, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S4096, .i32⟩
  | 30 => ⟨S4096, .f32⟩
  | 31 => ⟨S4096x1, .f32⟩
  | 32 => ⟨S1x8, .f32⟩
  | 33 => ⟨S4096x8, .f32⟩
  | 34 => ⟨S4096x8, .f32⟩
  | 35 => ⟨S4096x8, .f32⟩
  | 36 => ⟨S4096x8, .f32⟩
  | 37 => ⟨S1x4096x1x8, .f32⟩
  | 38 => ⟨S4096x8, .f32⟩
  | 39 => ⟨S1x4096x1x8, .f32⟩
  | 40 => ⟨S4x4096x2x8, .f32⟩
  | 41 => ⟨S4x4096x2x8, .f32⟩
  | 42 => ⟨S4x4096x2x8, .f32⟩
  | 43 => ⟨S4x4096x2x8, .f32⟩
  | 44 => ⟨S4x4096x2x8, .f32⟩
  | 45 => ⟨S4x4096x2x8, .f32⟩
  | 46 => ⟨S4x4096x2x8, .f32⟩
  | 47 => ⟨S4x4096x2x8, .f32⟩
  | 48 => ⟨S4x4096x2x8, .f32⟩
  | 49 => ⟨S4x4096x2x8, .f32⟩
  | 50 => ⟨S4x4096x2x8, .f32⟩
  | 51 => ⟨S4x4096x2x8, .f32⟩
  | 52 => ⟨S4x4096x2x48, .f32⟩
  | 53 => ⟨S4x4096x2x64, .f32⟩
  | 54 => ⟨S16384x128, .f32⟩
  | 55 => ⟨S16384x128, .f32⟩
  | 56 => ⟨S16384x512, .f32⟩
  | 57 => ⟨S16384x128, .f32⟩
  | 58 => ⟨S4x4096x2x64, .f32⟩
  | 59 => ⟨S1x64, .f32⟩
  | 60 => ⟨S64, .f32⟩
  | 61 => ⟨S4x4096x2x64, .f32⟩
  | 62 => ⟨S_, .f32⟩
  | 63 => ⟨S4x4096x2, .f32⟩
  | 64 => ⟨S4x4096x2x1, .f32⟩
  | 65 => ⟨S_, .f32⟩
  | 66 => ⟨S4x4096x2x1, .f32⟩
  | 67 => ⟨S4x4096x2x1, .f32⟩
  | 68 => ⟨S_, .f32⟩
  | 69 => ⟨S4x4096x2x1, .f32⟩
  | 70 => ⟨S4x4096x2x1, .f32⟩
  | 71 => ⟨S4x4096x2x1, .f32⟩
  | 72 => ⟨S4x4096x2x64, .f32⟩
  | 73 => ⟨S4x4096x2x64, .f32⟩
  | 74 => ⟨S1x1x1x64, .f32⟩
  | 75 => ⟨S4x4096x2x64, .f32⟩
  | 76 => ⟨S4x4096x2x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S4096, .i32⟩
  | 92 => ⟨S4096, .f32⟩
  | 93 => ⟨S4096x1, .f32⟩
  | 94 => ⟨S1x8, .f32⟩
  | 95 => ⟨S4096x8, .f32⟩
  | 96 => ⟨S4096x8, .f32⟩
  | 97 => ⟨S4096x8, .f32⟩
  | 98 => ⟨S4096x8, .f32⟩
  | 99 => ⟨S1x4096x1x8, .f32⟩
  | 100 => ⟨S4096x8, .f32⟩
  | 101 => ⟨S1x4096x1x8, .f32⟩
  | 102 => ⟨S4x4096x2x8, .f32⟩
  | 103 => ⟨S4x4096x2x8, .f32⟩
  | 104 => ⟨S4x4096x2x8, .f32⟩
  | 105 => ⟨S4x4096x2x8, .f32⟩
  | 106 => ⟨S4x4096x2x8, .f32⟩
  | 107 => ⟨S4x4096x2x8, .f32⟩
  | 108 => ⟨S4x4096x2x8, .f32⟩
  | 109 => ⟨S4x4096x2x8, .f32⟩
  | 110 => ⟨S4x4096x2x8, .f32⟩
  | 111 => ⟨S4x4096x2x8, .f32⟩
  | 112 => ⟨S4x4096x2x8, .f32⟩
  | 113 => ⟨S4x4096x2x8, .f32⟩
  | 114 => ⟨S4x4096x2x48, .f32⟩
  | 115 => ⟨S4x4096x2x64, .f32⟩
  | 116 => ⟨S16384x128, .f32⟩
  | 117 => ⟨S16384x128, .f32⟩
  | 118 => ⟨S16384x256, .f32⟩
  | 119 => ⟨S16384x128, .f32⟩
  | 120 => ⟨S16384x128, .f32⟩
  | 121 => ⟨S16384x128, .f32⟩
  | 122 => ⟨S_, .f32⟩
  | 123 => ⟨S16384x128, .f32⟩
  | 124 => ⟨S16384x128, .f32⟩
  | 125 => ⟨S_, .f32⟩
  | 126 => ⟨S16384x128, .f32⟩
  | 127 => ⟨S16384x128, .f32⟩
  | _ => ⟨S16384x1920, .f32⟩

abbrev hbmTy0_2 (i : Nat) : BufTy := match i % 128 with
  | 0 => ⟨S4x4096x512, .f32⟩
  | 1 => ⟨S4x512x4096, .f32⟩
  | 2 => ⟨S4x4096x256, .f32⟩
  | 3 => ⟨S4x256x4096, .f32⟩
  | _ => ⟨S16384x1920, .f32⟩

abbrev hbmTy (i : Nat) : BufTy := match i / 128 with
  | 0 => hbmTy0_0 i
  | 1 => hbmTy0_1 i
  | 2 => hbmTy0_2 i
  | _ => ⟨S16384x1920, .f32⟩

abbrev bufTy : (tb : Table) → Fin (tcTables nBuf tb) → BufTy
  | .hbm, ⟨i, _⟩ => hbmTy i
  | _, _ => ⟨S16384x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_6 : Ref sig .tc := ⟨.hbm, 67, rfl⟩
abbrev main_v58 : Ref sig .tc := ⟨.hbm, 68, rfl⟩
abbrev main_v59 : Ref sig .tc := ⟨.hbm, 69, rfl⟩
abbrev main_cst_7 : Ref sig .tc := ⟨.hbm, 70, rfl⟩
abbrev main_v60 : Ref sig .tc := ⟨.hbm, 71, rfl⟩
abbrev main_v61 : Ref sig .tc := ⟨.hbm, 72, rfl⟩
abbrev main_cst_8 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_9 : Ref sig .tc := ⟨.hbm, 83, rfl⟩
abbrev main_v71 : Ref sig .tc := ⟨.hbm, 84, rfl⟩
abbrev main_v72 : Ref sig .tc := ⟨.hbm, 85, rfl⟩
abbrev main_cst_10 : Ref sig .tc := ⟨.hbm, 86, rfl⟩
abbrev main_v73 : Ref sig .tc := ⟨.hbm, 87, rfl⟩
abbrev main_v74 : Ref sig .tc := ⟨.hbm, 88, rfl⟩
abbrev main_cst_11 : Ref sig .tc := ⟨.hbm, 89, rfl⟩
abbrev main_v75 : Ref sig .tc := ⟨.hbm, 90, rfl⟩
abbrev main_v76 : Ref sig .tc := ⟨.hbm, 91, rfl⟩
abbrev main_cst_12 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_13 : Ref sig .tc := ⟨.hbm, 128, rfl⟩
abbrev main_v112 : Ref sig .tc := ⟨.hbm, 129, rfl⟩
abbrev main_v113 : Ref sig .tc := ⟨.hbm, 130, rfl⟩
abbrev main_cst_14 : Ref sig .tc := ⟨.hbm, 131, rfl⟩
abbrev main_v114 : Ref sig .tc := ⟨.hbm, 132, rfl⟩
abbrev main_v115 : Ref sig .tc := ⟨.hbm, 133, rfl⟩
abbrev main_cst_15 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_16 : Ref sig .tc := ⟨.hbm, 144, rfl⟩
abbrev main_v125 : Ref sig .tc := ⟨.hbm, 145, rfl⟩
abbrev main_v126 : Ref sig .tc := ⟨.hbm, 146, rfl⟩
abbrev main_cst_17 : Ref sig .tc := ⟨.hbm, 147, rfl⟩
abbrev main_v127 : Ref sig .tc := ⟨.hbm, 148, rfl⟩
abbrev main_v128 : Ref sig .tc := ⟨.hbm, 149, rfl⟩
abbrev main_cst_18 : Ref sig .tc := ⟨.hbm, 150, rfl⟩
abbrev main_v129 : Ref sig .tc := ⟨.hbm, 151, rfl⟩
abbrev main_v130 : Ref sig .tc := ⟨.hbm, 152, rfl⟩
abbrev main_cst_19 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_cst_20 : Ref sig .tc := ⟨.hbm, 190, rfl⟩
abbrev main_v167 : Ref sig .tc := ⟨.hbm, 191, rfl⟩
abbrev main_v168 : Ref sig .tc := ⟨.hbm, 192, rfl⟩
abbrev main_cst_21 : Ref sig .tc := ⟨.hbm, 193, rfl⟩
abbrev main_v169 : Ref sig .tc := ⟨.hbm, 194, rfl⟩
abbrev main_v170 : Ref sig .tc := ⟨.hbm, 195, rfl⟩
abbrev main_cst_22 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_cst_23 : Ref sig .tc := ⟨.hbm, 206, rfl⟩
abbrev main_v180 : Ref sig .tc := ⟨.hbm, 207, rfl⟩
abbrev main_v181 : Ref sig .tc := ⟨.hbm, 208, rfl⟩
abbrev main_cst_24 : Ref sig .tc := ⟨.hbm, 209, rfl⟩
abbrev main_v182 : Ref sig .tc := ⟨.hbm, 210, rfl⟩
abbrev main_v183 : Ref sig .tc := ⟨.hbm, 211, rfl⟩
abbrev main_cst_25 : Ref sig .tc := ⟨.hbm, 212, rfl⟩
abbrev main_v184 : Ref sig .tc := ⟨.hbm, 213, rfl⟩
abbrev main_v185 : Ref sig .tc := ⟨.hbm, 214, rfl⟩
abbrev main_cst_26 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_cst_27 : Ref sig .tc := ⟨.hbm, 250, rfl⟩
abbrev main_v220 : Ref sig .tc := ⟨.hbm, 251, rfl⟩
abbrev main_v221 : Ref sig .tc := ⟨.hbm, 252, rfl⟩
abbrev main_cst_28 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩

abbrev nD : Nat := 1
abbrev τ : Topo := Topo.v7x

variable {F : FTy → Type} [FloatOps F]
-- ==== Conv.lean ====
abbrev S16384x1792 : Shape := ⟨2, ![16384, 1792]⟩
abbrev S31x768 : Shape := ⟨2, ![31, 768]⟩
abbrev S768 : Shape := ⟨1, ![768]⟩
abbrev S_ : Shape := ⟨0, ![]⟩
abbrev S1x768 : Shape := ⟨2, ![1, 768]⟩
abbrev S32x768 : Shape := ⟨2, ![32, 768]⟩
abbrev S16384x768 : Shape := ⟨2, ![16384, 768]⟩
abbrev S4x32x768 : Shape := ⟨3, ![4, 32, 768]⟩
abbrev S512x768 : Shape := ⟨2, ![512, 768]⟩
abbrev S1x32x768 : Shape := ⟨3, ![1, 32, 768]⟩
abbrev S544x768 : Shape := ⟨2, ![544, 768]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S16384x1792, .f32⟩
  | .hbm, ⟨1, _⟩ => ⟨S31x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S_, .f32⟩
  | .hbm, ⟨6, _⟩ => ⟨S1x768, .f32⟩
  | .hbm, ⟨7, _⟩ => ⟨S32x768, .f32⟩
  | .hbm, ⟨8, _⟩ => ⟨S1x768, .f32⟩
  | .hbm, ⟨9, _⟩ => ⟨S1x768, .f32⟩
  | .hbm, ⟨10, _⟩ => ⟨S1x768, .f32⟩
  | .hbm, ⟨11, _⟩ => ⟨S16384x768, .f32⟩
  | .hbm, ⟨12, _⟩ => ⟨S4x32x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S32x768, .f32⟩
  | .local _ .vmem, ⟨5, _⟩ => ⟨S32x768, .f32⟩
  | .local _ .vmem, ⟨6, _⟩ => ⟨S32x768, .f32⟩
  | .local _ .vmem, ⟨7, _⟩ => ⟨S32x768, .f32⟩
  | .local _ .vmem, ⟨8, _⟩ => ⟨S32x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S512x768, .f32⟩
  | .local _ .vmem, ⟨13, _⟩ => ⟨S512x768, .f32⟩
  | .local _ .vmem, ⟨14, _⟩ => ⟨S1x32x768, .f32⟩
  | .local _ .vmem, ⟨15, _⟩ => ⟨S1x32x768, .f32⟩
  | .local _ .vmem, ⟨16, _⟩ => ⟨S544x768, .f32⟩
  | _, _ => ⟨S16384x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c7_i32 : BitVec 32 := 7#32
  let v255 : BitVec 1 := Scalar.cmpi .eq arg1 c7_i32
  let v256 : BitVec 32 := Scalar.extui v255
  let c0_i32_126 : BitVec 32 := 0#32
  let v257 : BitVec 1 := Scalar.cmpi .ne v256 c0_i32_126
  v257

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S16384x1792 : Shape := ⟨2, ![16384, 1792]⟩
abbrev S31x768 : Shape := ⟨2, ![31, 768]⟩
abbrev S768 : Shape := ⟨1, ![768]⟩
abbrev S16384x768 : Shape := ⟨2, ![16384, 768]⟩
abbrev S_ : Shape := ⟨0, ![]⟩
abbrev S4x4096x768 : Shape := ⟨3, ![4, 4096, 768]⟩
abbrev S4x30x768 : Shape := ⟨3, ![4, 30, 768]⟩
abbrev S4x4126x768 : Shape := ⟨3, ![4, 4126, 768]⟩
abbrev S1x768 : Shape := ⟨2, ![1, 768]⟩
abbrev S1x1x768 : Shape := ⟨3, ![1, 1, 768]⟩
abbrev S4x4096 : Shape := ⟨2, ![4, 4096]⟩
abbrev S4x4096x1 : Shape := ⟨3, ![4, 4096, 1]⟩
abbrev S4x32x768 : Shape := ⟨3, ![4, 32, 768]⟩

abbrev nBuf : Space → Nat
  | .hbm => 282
  | .vmem => 0
  | .smem => 0
  | _ => 0

abbrev hbmTy0_0 (i : Nat) : BufTy := match i % 128 with
  | 0 => ⟨S16384x1792, .f32⟩
  | 1 => ⟨S31x768, .f32⟩
  | 2 => ⟨S768, .f32⟩
  | 3 => ⟨S768, .f32⟩
  | 4 => ⟨S768, .f32⟩
  | 5 => ⟨S16384x768, .f32⟩
  | 6 => ⟨S16384x768, .f32⟩
  | 7 => ⟨S16384x768, .f32⟩
  | 8 => ⟨S16384x768, .f32⟩
  | 9 => ⟨S_, .f32⟩
  | 10 => ⟨S16384x768, .f32⟩
  | 11 => ⟨S16384x768, .f32⟩
  | 12 => ⟨S_, .f32⟩
  | 13 => ⟨S16384x768, .f32⟩
  | 14 => ⟨S16384x768, .f32⟩
  | 15 => ⟨S16384x768, .f32⟩
  | 16 => ⟨S4x4096x768, .f32⟩
  | 17 => ⟨S_, .f32⟩
  | 18 => ⟨S4x30x768, .f32⟩
  | 19 => ⟨S4x4126x768, .f32⟩
  | 20 => ⟨S4x4096x768, .f32⟩
  | 21 => ⟨S1x768, .f32⟩
  | 22 => ⟨S768, .f32⟩
  | 23 => ⟨S1x1x768, .f32⟩
  | 24 => ⟨S4x4096x768, .f32⟩
  | 25 => ⟨S4x4096x768, .f32⟩
  | 26 => ⟨S_, .f32⟩
  | 27 => ⟨S4x4096x768, .f32⟩
  | 28 => ⟨S4x4096x768, .f32⟩
  | 29 => ⟨S4x4096x768, .f32⟩
  | 30 => ⟨S1x768, .f32⟩
  | 31 => ⟨S768, .f32⟩
  | 32 => ⟨S1x1x768, .f32⟩
  | 33 => ⟨S4x4096x768, .f32⟩
  | 34 => ⟨S4x4096x768, .f32⟩
  | 35 => ⟨S4x4096x768, .f32⟩
  | 36 => ⟨S4x4096x768, .f32⟩
  | 37 => ⟨S1x768, .f32⟩
  | 38 => ⟨S768, .f32⟩
  | 39 => ⟨S1x1x768, .f32⟩
  | 40 => ⟨S4x4096x768, .f32⟩
  | 41 => ⟨S4x4096x768, .f32⟩
  | 42 => ⟨S4x4096x768, .f32⟩
  | 43 => ⟨S4x4096x768, .f32⟩
  | 44 => ⟨S1x768, .f32⟩
  | 45 => ⟨S768, .f32⟩
  | 46 => ⟨S1x1x768, .f32⟩
  | 47 => ⟨S4x4096x768, .f32⟩
  | 48 => ⟨S4x4096x768, .f32⟩
  | 49 => ⟨S4x4096x768, .f32⟩
  | 50 => ⟨S4x4096x768, .f32⟩
  | 51 => ⟨S1x768, .f32⟩
  | 52 => ⟨S768, .f32⟩
  | 53 => ⟨S1x1x768, .f32⟩
  | 54 => ⟨S4x4096x768, .f32⟩
  | 55 => ⟨S4x4096x768, .f32⟩
  | 56 => ⟨S4x4096x768, .f32⟩
  | 57 => ⟨S4x4096x768, .f32⟩
  | 58 => ⟨S1x768, .f32⟩
  | 59 => ⟨S768, .f32⟩
  | 60 => ⟨S1x1x768, .f32⟩
  | 61 => ⟨S4x4096x768, .f32⟩
  | 62 => ⟨S4x4096x768, .f32⟩
  | 63 => ⟨S4x4096x768, .f32⟩
  | 64 => ⟨S4x4096x768, .f32⟩
  | 65 => ⟨S1x768, .f32⟩
  | 66 => ⟨S768, .f32⟩
  | 67 => ⟨S1x1x768, .f32⟩
  | 68 => ⟨S4x4096x768, .f32⟩
  | 69 => ⟨S4x4096x768, .f32⟩
  | 70 => ⟨S4x4096x768, .f32⟩
  | 71 => ⟨S4x4096x768, .f32⟩
  | 72 => ⟨S1x768, .f32⟩
  | 73 => ⟨S768, .f32⟩
  | 74 => ⟨S1x1x768, .f32⟩
  | 75 => ⟨S4x4096x768, .f32⟩
  | 76 => ⟨S4x4096x768, .f32⟩
  | 77 => ⟨S4x4096x768, .f32⟩
  | 78 => ⟨S4x4096x768, .f32⟩
  | 79 => ⟨S1x768, .f32⟩
  | 80 => ⟨S768, .f32⟩
  | 81 => ⟨S1x1x768, .f32⟩
  | 82 => ⟨S4x4096x768, .f32⟩
  | 83 => ⟨S4x4096x768, .f32⟩
  | 84 => ⟨S4x4096x768, .f32⟩
  | 85 => ⟨S4x4096x768, .f32⟩
  | 86 => ⟨S1x768, .f32⟩
  | 87 => ⟨S768, .f32⟩
  | 88 => ⟨S1x1x768, .f32⟩
  | 89 => ⟨S4x4096x768, .f32⟩
  | 90 => ⟨S4x4096x768, .f32⟩
  | 91 => ⟨S4x4096x768, .f32⟩
  | 92 => ⟨S4x4096x768, .f32⟩
  | 93 => ⟨S1x768, .f32⟩
  | 94 => ⟨S768, .f32⟩
  | 95 => ⟨S1x1x768, .f32⟩
  | 96 => ⟨S4x4096x768, .f32⟩
  | 97 => ⟨S4x4096x768, .f32⟩
  | 98 => ⟨S4x4096x768, .f32⟩
  | 99 => ⟨S4x4096x768, .f32⟩
  | 100 => ⟨S1x768, .f32⟩
  | 101 => ⟨S768, .f32⟩
  | 102 => ⟨S1x1x768, .f32⟩
  | 103 => ⟨S4x4096x768, .f32⟩
  | 104 => ⟨S4x4096x768, .f32⟩
  | 105 => ⟨S4x4096x768, .f32⟩
  | 106 => ⟨S4x4096x768, .f32⟩
  | 107 => ⟨S1x768, .f32⟩
  | 108 => ⟨S768, .f32⟩
  | 109 => ⟨S1x1x768, .f32⟩
  | 110 => ⟨S4x4096x768, .f32⟩
  | 111 => ⟨S4x4096x768, .f32⟩
  | 112 => ⟨S4x4096x768, .f32⟩
  | 113 => ⟨S4x4096x768, .f32⟩
  | 114 => ⟨S1x768, .f32⟩
  | 115 => ⟨S768, .f32⟩
  | 116 => ⟨S1x1x768, .f32⟩
  | 117 => ⟨S4x4096x768, .f32⟩
  | 118 => ⟨S4x4096x768, .f32⟩
  | 119 => ⟨S4x4096x768, .f32⟩
  | 120 => ⟨S4x4096x768, .f32⟩
  | 121 => ⟨S1x768, .f32⟩
  | 122 => ⟨S768, .f32⟩
  | 123 => ⟨S1x1x768, .f32⟩
  | 124 => ⟨S4x4096x768, .f32⟩
  | 125 => ⟨S4x4096x768, .f32⟩
  | 126 => ⟨S4x4096x768, .f32⟩
  | 127 => ⟨S4x4096x768, .f32⟩
  | _ => ⟨S16384x1792, .f32⟩

abbrev hbmTy0_1 (i : Nat) : BufTy := match i % 128 with
  | 0 => ⟨S1x768, .f32⟩
  | 1 => ⟨S768, .f32⟩
  | 2 => ⟨S1x1x768, .f32⟩
  | 3 => ⟨S4x4096x768, .f32⟩
  | 4 => ⟨S4x4096x768, .f32⟩
  | 5 => ⟨S4x4096x768, .f32⟩
  | 6 => ⟨S4x4096x768, .f32⟩
  | 7 => ⟨S1x768, .f32⟩
  | 8 => ⟨S768, .f32⟩
  | 9 => ⟨S1x1x768, .f32⟩
  | 10 => ⟨S4x4096x768, .f32⟩
  | 11 => ⟨S4x4096x768, .f32⟩
  | 12 => ⟨S4x4096x768, .f32⟩
  | 13 => ⟨S4x4096x768, .f32⟩
  | 14 => ⟨S1x768, .f32⟩
  | 15 => ⟨S768, .f32⟩
  | 16 => ⟨S1x1x768, .f32⟩
  | 17 => ⟨S4x4096x768, .f32⟩
  | 18 => ⟨S4x4096x768, .f32⟩
  | 19 => ⟨S4x4096x768, .f32⟩
  | 20 => ⟨S4x4096x768, .f32⟩
  | 21 => ⟨S1x768, .f32⟩
  | 22 => ⟨S768, .f32⟩
  | 23 => ⟨S1x1x768, .f32⟩
  | 24 => ⟨S4x4096x768, .f32⟩
  | 25 => ⟨S4x4096x768, .f32⟩
  | 26 => ⟨S4x4096x768, .f32⟩
  | 27 => ⟨S4x4096x768, .f32⟩
  | 28 => ⟨S1x768, .f32⟩
  | 29 => ⟨S768, .f32⟩
  | 30 => ⟨S1x1x768, .f32⟩
  | 31 => ⟨S4x4096x768, .f32⟩
  | 32 => ⟨S4x4096x768, .f32⟩
  | 33 => ⟨S4x4096x768, .f32⟩
  | 34 => ⟨S4x4096x768, .f32⟩
  | 35 => ⟨S1x768, .f32⟩
  | 36 => ⟨S768, .f32⟩
  | 37 => ⟨S1x1x768, .f32⟩
  | 38 => ⟨S4x4096x768, .f32⟩
  | 39 => ⟨S4x4096x768, .f32⟩
  | 40 => ⟨S4x4096x768, .f32⟩
  | 41 => ⟨S4x4096x768, .f32⟩
  | 42 => ⟨S1x768, .f32⟩
  | 43 => ⟨S768, .f32⟩
  | 44 => ⟨S1x1x768, .f32⟩
  | 45 => ⟨S4x4096x768, .f32⟩
  | 46 => ⟨S4x4096x768, .f32⟩
  | 47 => ⟨S4x4096x768, .f32⟩
  | 48 => ⟨S4x4096x768, .f32⟩
  | 49 => ⟨S1x768, .f32⟩
  | 50 => ⟨S768, .f32⟩
  | 51 => ⟨S1x1x768, .f32⟩
  | 52 => ⟨S4x4096x768, .f32⟩
  | 53 => ⟨S4x4096x768, .f32⟩
  | 54 => ⟨S4x4096x768, .f32⟩
  | 55 => ⟨S4x4096x768, .f32⟩
  | 56 => ⟨S1x768, .f32⟩
  | 57 => ⟨S768, .f32⟩
  | 58 => ⟨S1x1x768, .f32⟩
  | 59 => ⟨S4x4096x768, .f32⟩
  | 60 => ⟨S4x4096x768, .f32⟩
  | 61 => ⟨S4x4096x768, .f32⟩
  | 62 => ⟨S4x4096x768, .f32⟩
  | 63 => ⟨S1x768, .f32⟩
  | 64 => ⟨S768, .f32⟩
  | 65 => ⟨S1x1x768, .f32⟩
  | 66 => ⟨S4x4096x768, .f32⟩
  | 67 => ⟨S4x4096x768, .f32⟩
  | 68 => ⟨S4x4096x768, .f32⟩
  | 69 => ⟨S4x4096x768, .f32⟩
  | 70 => ⟨S1x768, .f32⟩
  | 71 => ⟨S768, .f32⟩
  | 72 => ⟨S1x1x768, .f32⟩
  | 73 => ⟨S4x4096x768, .f32⟩
  | 74 => ⟨S4x4096x768, .f32⟩
  | 75 => ⟨S4x4096x768, .f32⟩
  | 76 => ⟨S4x4096x768, .f32⟩
  | 77 => ⟨S1x768, .f32⟩
  | 78 => ⟨S768, .f32⟩
  | 79 => ⟨S1x1x768, .f32⟩
  | 80 => ⟨S4x4096x768, .f32⟩
  | 81 => ⟨S4x4096x768, .f32⟩
  | 82 => ⟨S4x4096x768, .f32⟩
  | 83 => ⟨S4x4096x768, .f32⟩
  | 84 => ⟨S1x768, .f32⟩
  | 85 => ⟨S768, .f32⟩
  | 86 => ⟨S1x1x768, .f32⟩
  | 87 => ⟨S4x4096x768, .f32⟩
  | 88 => ⟨S4x4096x768, .f32⟩
  | 89 => ⟨S4x4096x768, .f32⟩
  | 90 => ⟨S4x4096x768, .f32⟩
  | 91 => ⟨S1x768, .f32⟩
  | 92 => ⟨S768, .f32⟩
  | 93 => ⟨S1x1x768, .f32⟩
  | 94 => ⟨S4x4096x768, .f32⟩
  | 95 => ⟨S4x4096x768, .f32⟩
  | 96 => ⟨S4x4096x768, .f32⟩
  | 97 => ⟨S4x4096x768, .f32⟩
  | 98 => ⟨S1x768, .f32⟩
  | 99 => ⟨S768, .f32⟩
  | 100 => ⟨S1x1x768, .f32⟩
  | 101 => ⟨S4x4096x768, .f32⟩
  | 102 => ⟨S4x4096x768, .f32⟩
  | 103 => ⟨S4x4096x768, .f32⟩
  | 104 => ⟨S4x4096x768, .f32⟩
  | 105 => ⟨S1x768, .f32⟩
  | 106 => ⟨S768, .f32⟩
  | 107 => ⟨S1x1x768, .f32⟩
  | 108 => ⟨S4x4096x768, .f32⟩
  | 109 => ⟨S4x4096x768, .f32⟩
  | 110 => ⟨S4x4096x768, .f32⟩
  | 111 => ⟨S1x1x768, .f32⟩
  | 112 => ⟨S4x4096x768, .f32⟩
  | 113 => ⟨S4x4096x768, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S4x4096x768, .f32⟩
  | 121 => ⟨S4x4096x768, .f32⟩
  | 122 => ⟨S4x4096x768, .f32⟩
  | 123 => ⟨S_, .f32⟩
  | 124 => ⟨S4x4096, .f32⟩
  | 125 => ⟨S4x4096x1, .f32⟩
  | 126 => ⟨S_, .f32⟩
  | 127 => ⟨S4x4096x1, .f32⟩
  | _ => ⟨S16384x1792, .f32⟩

abbrev hbmTy0_2 (i : Nat) : BufTy := match i % 128 with
  | 0 => ⟨S4x4096x1, .f32⟩
  | 1 => ⟨S4x4096x768, .f32⟩
  | 2 => ⟨S4x4096x768, .f32⟩
  | 3 => ⟨S_, .f32⟩
  | 4 => ⟨S4x4096x1, .f32⟩
  | 5 => ⟨S4x4096x1, .f32⟩
  | 6 => ⟨S4x4096x1, .f32⟩
  | 7 => ⟨S4x4096x768, .f32⟩
  | 8 => ⟨S4x4096x768, .f32⟩
  | 9 => ⟨S1x1x768, .f32⟩
  | 10 => ⟨S4x4096x768, .f32⟩
  | 11 => ⟨S4x4096x768, .f32⟩
  | 12 => ⟨S1x1x768, .f32⟩
  | 13 => ⟨S4x4096x768, .f32⟩
  | 14 => ⟨S4x4096x768, .f32⟩
  | 15 => ⟨S4x4096x768, .f32⟩
  | 16 => ⟨S4x4096x768, .f32⟩
  | 17 => ⟨S_, .f32⟩
  | 18 => ⟨S4x4096x768, .f32⟩
  | 19 => ⟨S4x4096x768, .f32⟩
  | 20 => ⟨S_, .f32⟩
  | 21 => ⟨S4x4096x768, .f32⟩
  | 22 => ⟨S4x4096x768, .f32⟩
  | 23 => ⟨S4x4096x768, .f32⟩
  | 24 => ⟨S16384x768, .f32⟩
  | 25 => ⟨S4x32x768, .f32⟩
  | _ => ⟨S16384x1792, .f32⟩

abbrev hbmTy (i : Nat) : BufTy := match i / 128 with
  | 0 => hbmTy0_0 i
  | 1 => hbmTy0_1 i
  | 2 => hbmTy0_2 i
  | _ => ⟨S16384x1792, .f32⟩

abbrev bufTy : (tb : Table) → Fin (tcTables nBuf tb) → BufTy
  | .hbm, ⟨i, _⟩ => hbmTy i
  | _, _ => ⟨S16384x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_7 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_8 : Ref sig .tc := ⟨.hbm, 273, rfl⟩
abbrev main_v259 : Ref sig .tc := ⟨.hbm, 274, rfl⟩
abbrev main_v260 : Ref sig .tc := ⟨.hbm, 275, rfl⟩
abbrev main_cst_9 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩

abbrev nD : Nat := 1
abbrev τ : Topo := Topo.v7x

variable {F : FTy → Type} [FloatOps F]
-- ==== MemAttn.lean ====
abbrev S16384x2560 : Shape := ⟨2, ![16384, 2560]⟩
abbrev S1024x512 : Shape := ⟨2, ![1024, 512]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S16384x256 : Shape := ⟨2, ![16384, 256]⟩
abbrev S256x256 : Shape := ⟨2, ![256, 256]⟩
abbrev S256x512 : Shape := ⟨2, ![256, 512]⟩
abbrev S256x128 : Shape := ⟨2, ![256, 128]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 28
  | .vmem => 8
  | .smem => 0
  | _ => 0

abbrev bufTy : (tb : Table) → Fin (tcTables nBuf tb) → BufTy
  | .hbm, ⟨0, _⟩ => ⟨S16384x2560, .f32⟩
  | .hbm, ⟨1, _⟩ => ⟨S1024x512, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S128x128, .bf16⟩
  | .local _ .vmem, ⟨6, _⟩ => ⟨S256x256, .f32⟩
  | .local _ .vmem, ⟨7, _⟩ => ⟨S256x256, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S16384x2560 : Shape := ⟨2, ![16384, 2560]⟩
abbrev S1024x512 : Shape := ⟨2, ![1024, 512]⟩
abbrev S64 : Shape := ⟨1, ![64]⟩
abbrev S16384x256 : Shape := ⟨2, ![16384, 256]⟩
abbrev S4x4096x4x64 : Shape := ⟨4, ![4, 4096, 4, 64]⟩
abbrev S_ : Shape := ⟨0, ![]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S4x256x2x4x64 : Shape := ⟨5, ![4, 256, 2, 4, 64]⟩
abbrev S4x256x1x4x64 : Shape := ⟨5, ![4, 256, 1, 4, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S1024x512, .f32⟩
  | .hbm, ⟨2, _⟩ => ⟨S64, .f32⟩
  | .hbm, ⟨3, _⟩ => ⟨S16384x256, .f32⟩
  | .hbm, ⟨4, _⟩ => ⟨S4x4096x4x64, .f32⟩
  | .hbm, ⟨5, _⟩ => ⟨S4x4096x4x64, .f32⟩
  | .hbm, ⟨6, _⟩ => ⟨S_, .f32⟩
  | .hbm, ⟨7, _⟩ => ⟨S4x4096x4, .f32⟩
  | .hbm, ⟨8, _⟩ => ⟨S4x4096x4x1, .f32⟩
  | .hbm, ⟨9, _⟩ => ⟨S_, .f32⟩
  | .hbm, ⟨10, _⟩ => ⟨S4x4096x4x1, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S4x4096x4x1, .f32⟩
  | .hbm, ⟨16, _⟩ => ⟨S4x4096x4x64, .f32⟩
  | .hbm, ⟨17, _⟩ => ⟨S4x4096x4x64, .f32⟩
  | .hbm, ⟨18, _⟩ => ⟨S1x1x1x64, .f32⟩
  | .hbm, ⟨19, _⟩ => ⟨S4x4096x4x64, .f32⟩
  | .hbm, ⟨20, _⟩ => ⟨S4x4096x4x64, .f32⟩
  | .hbm, ⟨21, _⟩ => ⟨S4x256x2x4x64, .f32⟩
  | .hbm, ⟨22, _⟩ => ⟨S4x256x1x4x64, .f32⟩
  | .hbm, ⟨23, _⟩ => ⟨S4x256x4x64, .f32⟩
  | .hbm, ⟨24, _⟩ => ⟨S4x4x4096x256, .f32⟩
  | .hbm, ⟨25, _⟩ => ⟨S_, .f32⟩
  | .hbm, ⟨26, _⟩ => ⟨S4x4x4096x256, .f32⟩
  | .hbm, ⟨27, _⟩ => ⟨S4x4x4096x256, .f32⟩
  | .hbm, ⟨28, _⟩ => ⟨S_, .f32⟩
  | .hbm, ⟨29, _⟩ => ⟨S4x4x4096, .f32⟩
  | .hbm, ⟨30, _⟩ => ⟨S_, .f32⟩
  | .hbm, ⟨31, _⟩ => ⟨S4x4x4096, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x4096x256, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S4x4x4096x256, .f32⟩
  | .hbm, ⟨41, _⟩ => ⟨S4x4x4096x256, .f32⟩
  | .hbm, ⟨42, _⟩ => ⟨S4x256x1x4x64, .f32⟩
  | .hbm, ⟨43, _⟩ => ⟨S4x256x4x64, .f32⟩
  | .hbm, ⟨44, _⟩ => ⟨S4x4x64x4096, .f32⟩
  | .hbm, ⟨45, _⟩ => ⟨S4x4096x4x64, .f32⟩
  | .hbm, ⟨46, _⟩ => ⟨S16384x256, .f32⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== OutFfnS.lean ====
abbrev S128x768 : Shape := ⟨2, ![128, 768]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S768x1024 : Shape := ⟨2, ![768, 1024]⟩
abbrev S256x1024 : Shape := ⟨2, ![256, 1024]⟩
abbrev S1x1024 : Shape := ⟨2, ![1, 1024]⟩
abbrev S128 : Shape := ⟨1, ![128]⟩
abbrev S128x1 : Shape := ⟨2, ![128, 1]⟩
abbrev S128x5632 : Shape := ⟨2, ![128, 5632]⟩
abbrev S128x2816 : Shape := ⟨2, ![128, 2816]⟩

abbrev nBuf : Space → Nat
  | .hbm => 15
  | .vmem => 9
  | .smem => 0
  | _ => 0

abbrev bufTy : (tb : Table) → Fin (tcTables nBuf tb) → BufTy
  | .hbm, ⟨0, _⟩ => ⟨S128x768, .f32⟩
  | .hbm, ⟨1, _⟩ => ⟨S128x256, .f32⟩
  | .hbm, ⟨2, _⟩ => ⟨S128x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S768x1024, .f32⟩
  | .hbm, ⟨8, _⟩ => ⟨S768x1024, .bf16⟩
  | .hbm, ⟨9, _⟩ => ⟨S256x1024, .f32⟩
  | .hbm, ⟨10, _⟩ => ⟨S256x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S128x1024, .f32⟩
  | .local _ .vmem, ⟨0, _⟩ => ⟨S128x768, .f32⟩
  | .local _ .vmem, ⟨1, _⟩ => ⟨S128x256, .f32⟩
  | .local _ .vmem, ⟨2, _⟩ => ⟨S128x1024, .f32⟩
  | .local _ .vmem, ⟨3, _⟩ => ⟨S768x1024, .bf16⟩
  | .local _ .vmem, ⟨4, _⟩ => ⟨S256x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S128x1024, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutFfnSRefIdeal.lean ====
abbrev S128x768 : Shape := ⟨2, ![128, 768]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 41
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S128x256, .f32⟩
  | .hbm, ⟨2, _⟩ => ⟨S128x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x1024, .f32⟩
  | .hbm, ⟨22, _⟩ => ⟨S128x1024, .f32⟩
  | .hbm, ⟨23, _⟩ => ⟨S1x1024, .f32⟩
  | .hbm, ⟨24, _⟩ => ⟨S128x1024, .f32⟩
  | .hbm, ⟨25, _⟩ => ⟨S128x1024, .f32⟩
  | .hbm, ⟨26, _⟩ => ⟨S128x5632, .f32⟩
  | .hbm, ⟨27, _⟩ => ⟨S128x2816, .f32⟩
  | .hbm, ⟨28, _⟩ => ⟨S128x2816, .f32⟩
  | .hbm, ⟨29, _⟩ => ⟨S128x2816, .f32⟩
  | .hbm, ⟨30, _⟩ => ⟨S_, .f32⟩
  | .hbm, ⟨31, _⟩ => ⟨S128x2816, .f32⟩
  | .hbm, ⟨32, _⟩ => ⟨S128x2816, .f32⟩
  | .hbm, ⟨33, _⟩ => ⟨S_, .f32⟩
  | .hbm, ⟨34, _⟩ => ⟨S128x2816, .f32⟩
  | .hbm, ⟨35, _⟩ => ⟨S128x2816, .f32⟩
  | .hbm, ⟨36, _⟩ => ⟨S128x2816, .f32⟩
  | .hbm, ⟨37, _⟩ => ⟨S128x2816, .f32⟩
  | .hbm, ⟨38, _⟩ => ⟨S128x2816, .f32⟩
  | .hbm, ⟨39, _⟩ => ⟨S128x1024, .f32⟩
  | .hbm, ⟨40, _⟩ => ⟨S128x1024, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== ProjInS.lean ====
abbrev S128x1024 : Shape := ⟨2, ![128, 1024]⟩
abbrev S1024 : Shape := ⟨1, ![1024]⟩
abbrev S1024x2560 : Shape := ⟨2, ![1024, 2560]⟩
abbrev S1x1024 : Shape := ⟨2, ![1, 1024]⟩
abbrev S128x2560 : Shape := ⟨2, ![128, 2560]⟩
abbrev S128 : Shape := ⟨1, ![128]⟩
abbrev S128x1 : Shape := ⟨2, ![128, 1]⟩

abbrev nBuf : Space → Nat
  | .hbm => 6
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1x1024, .f32⟩
  | .hbm, ⟨5, _⟩ => ⟨S128x2560, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S128x2560, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ProjInSRefIdeal.lean ====
abbrev S128x1024 : Shape := ⟨2, ![128, 1024]⟩
abbrev S1024 : Shape := ⟨1, ![1024]⟩
abbrev S1024x2560 : Shape := ⟨2, ![1024, 2560]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2560 : Shape := ⟨2, ![128, 2560]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2560, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x2560, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Rows.lean ====
module

public import Idealize.ShloMosaic.Lib.Pointwise

@[expose] public section

set_option maxRecDepth 16384

noncomputable section

namespace Cert.Rows

open Idealize.ShloMosaic

/-- A row divided by its root mean square and scaled. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The activation of the gated block. -/
def silu (x : EReal) : EReal := x * Ideal.div 1 (1 + Ideal.exp (-x))

/-- A row of the residual stream after the output projection of the two mixers. -/
def mid (o : Fin 768 → EReal) (om : Fin 256 → EReal) (x : Fin 1024 → EReal) (w : Fin 1024 → Fin 1024 → EReal) (c : Fin 1024) : EReal :=
  x c + ((∑ k : Fin 768, o k * w ⟨k.val, by omega⟩ c) + ∑ k : Fin 256, om k * w ⟨768 + k.val, by omega⟩ c)

/-- The gates and the values of the gated block, from a row. -/
def gateUp (x g : Fin 1024 → EReal) (w : Fin 1024 → Fin 5632 → EReal) (j : Fin 5632) : EReal := ∑ c, rms x g c * w c j

/-- A row after the gated block. -/
def ffn (x g : Fin 1024 → EReal) (wi : Fin 1024 → Fin 5632 → EReal) (wo : Fin 2816 → Fin 1024 → EReal) (c : Fin 1024) : EReal :=
  x c + ∑ j : Fin 2816, silu (gateUp x g wi ⟨j.val, by omega⟩) * gateUp x g wi ⟨2816 + j.val, by omega⟩ * wo j c

/-- A row of the layer's result. -/
def layer (o : Fin 768 → EReal) (om : Fin 256 → EReal) (x : Fin 1024 → EReal) (w : Fin 1024 → Fin 1024 → EReal) (g : Fin 1024 → EReal)
    (wi : Fin 1024 → Fin 5632 → EReal) (wo : Fin 2816 → Fin 1024 → EReal) (c : Fin 1024) : EReal :=
  ffn (mid o om x w) g wi wo c

/-- The layer's result, from the arrays the call is given. -/
def layerOf (x0 : (⟨2, ![16384, 768]⟩ : Shape).Idx → EReal) (x1 : (⟨2, ![16384, 256]⟩ : Shape).Idx → EReal) (x2 : (⟨2, ![16384, 1024]⟩ : Shape).Idx → EReal)
    (x3 : (⟨2, ![1024, 1024]⟩ : Shape).Idx → EReal) (x4 : (⟨1, ![1024]⟩ : Shape).Idx → EReal) (x5 : (⟨2, ![1024, 5632]⟩ : Shape).Idx → EReal)
    (x6 : (⟨2, ![2816, 1024]⟩ : Shape).Idx → EReal) (j : (⟨2, ![16384, 1024]⟩ : Shape).Idx) : EReal :=
  layer (fun k => x0 (ix2 (j 0) k)) (fun k => x1 (ix2 (j 0) k)) (fun k => x2 (ix2 (j 0) k)) (fun k c => x3 (ix2 k c)) (fun k => x4 (ix1 k))
    (fun k c => x5 (ix2 k c)) (fun k c => x6 (ix2 k c)) (j 1)

/-- A row projected: divided by its root mean square, scaled, times the weights. -/
def proj (x g : Fin 1024 → EReal) (w : Fin 1024 → Fin 2560 → EReal) (j : Fin 2560) : EReal := ∑ c, rms x g c * w c j

/-- The projections of all rows. -/
def projOf (x0 : (⟨2, ![16384, 1024]⟩ : Shape).Idx → EReal) (x1 : (⟨1, ![1024]⟩ : Shape).Idx → EReal)
    (x2 : (⟨2, ![1024, 2560]⟩ : Shape).Idx → EReal) (j : (⟨2, ![16384, 2560]⟩ : Shape).Idx) : EReal :=
  proj (fun k => x0 (ix2 (j 0) k)) (fun k => x1 (ix1 k)) (fun k c => x2 (ix2 k c)) (j 1)

/-- The keys and values of each batch, the positions along the last axis. -/
def kvOf (x0 : (⟨2, ![16384, 1024]⟩ : Shape).Idx → EReal) (x1 : (⟨1, ![1024]⟩ : Shape).Idx → EReal)
    (x2 : (⟨2, ![1024, 2560]⟩ : Shape).Idx → EReal) (j : (⟨3, ![4, 1536, 4096]⟩ : Shape).Idx) : EReal :=
  proj (fun k => x0 (ix2 (⟨(j 0).val * 4096 + (j 2).val, by
      have h0 : (j 0).val < 4 := (j 0).isLt
      have h2 : (j 2).val < 4096 := (j 2).isLt
      omega⟩ : Fin 16384) k)) (fun k => x1 (ix1 k)) (fun k c => x2 (ix2 k c)) (⟨768 + (j 1).val, by
      have h1 : (j 1).val < 1536 := (j 1).isLt
      omega⟩ : Fin 2560)

end Cert.Rows

end
-- ==== Proof.HeadRms.lean ====
/- The norm of a head of 64 numbers: plainly, and as a pair of heads computes it by a product with a matrix of ones. -/
module

public import proofs.«01_k».proof.Proof.Rows

@[expose] public section

set_option maxRecDepth 16384

noncomputable section

namespace Cert.Rows

open Idealize.ShloMosaic

/-- A number that is neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {n : ℕ} {f : Fin n → EReal} (h : ∀ k, IsReal (f k)) : IsReal (∑ k, f k) := by
  refine Finset.sum_induction f IsReal (fun _ _ => IsReal.add) ⟨0, rfl⟩ (fun k _ => h k)

/-- A real number less itself is nothing. -/
theorem IsReal.sub_self {x : EReal} (hx : IsReal x) : x - x = 0 := by
  obtain ⟨a, rfl⟩ := hx
  rw [← EReal.coe_sub, _root_.sub_self]
  rfl

/-- A square is not negative. -/
theorem sq_nonneg (x : EReal) : 0 ≤ x * x := by
  induction x using EReal.rec with
  | bot => simp
  | top => simp
  | coe r => rw [← EReal.coe_mul]; exact EReal.coe_nonneg.mpr (mul_self_nonneg r)

/-- The literal 1024. -/
theorem lit_1024 : Ideal.ofBits .f32 0x44800000#32 = ((1024 : ℝ) : EReal) := by
  simp [Ideal.ofBits, Ideal.ieee, -EReal.coe_mul]; norm_num

/-- The literal 64. -/
theorem lit_64 : Ideal.ofBits .f32 0x42800000#32 = ((64 : ℝ) : EReal) := by
  simp [Ideal.ofBits, Ideal.ieee, -EReal.coe_mul]; norm_num

/-- The literal one sixty-fourth. -/
theorem lit_inv_64 : Ideal.ofBits .f32 0x3C800000#32 = ((1 / 64 : ℝ) : EReal) := by
  simp [Ideal.ofBits, Ideal.ieee, -EReal.coe_mul]; norm_num

/-- The literal added under the root is positive. -/
theorem lit_eps : ∃ e : ℝ, 0 < e ∧ Ideal.ofBits .f32 0x358637BD#32 = (e : EReal) :=
  ⟨8796093 * (2 : ℝ) ^ (-43 : ℤ), by norm_num, by simp [Ideal.ofBits, Ideal.ieee, -EReal.coe_mul]⟩

/-- Dividing by 64. -/
theorem div_64 (x : EReal) : x * Ideal.ofBits .f32 0x3C800000#32 = Ideal.div x (Ideal.ofBits .f32 0x42800000#32) := by
  rw [lit_inv_64, lit_64]
  have h : ((64 : ℝ) : EReal) ≠ 0 := by norm_num
  rw [Ideal.div, if_neg h, ← EReal.coe_inv]
  norm_num

/-- The inverse root of a sum of squares, divided and with the small literal added, is real. -/
theorem rsqrt_real {S : EReal} (h : 0 ≤ S) : IsReal (Ideal.rsqrt (Ideal.div S (Ideal.ofBits .f32 0x44800000#32) + Ideal.ofBits .f32 0x358637BD#32)) := by
  obtain ⟨e, he, hl⟩ := lit_eps
  rw [hl, lit_1024, Ideal.div, if_neg (by norm_num), ← EReal.coe_inv]
  induction S using EReal.rec with
  | bot => simp at h
  | top =>
    rw [EReal.top_mul_coe_of_pos (by norm_num), EReal.top_add_coe]
    exact ⟨0, rfl⟩
  | coe r =>
    rw [← EReal.coe_mul, ← EReal.coe_add]
    have hr : 0 ≤ r := EReal.coe_nonneg.mp h
    have hp : 0 < r * (1024 : ℝ)⁻¹ + e := by positivity
    refine ⟨(Real.sqrt (r * (1024 : ℝ)⁻¹ + e))⁻¹, ?_⟩
    show (if r * (1024 : ℝ)⁻¹ + e < 0 then (⊥ : EReal) else if r * (1024 : ℝ)⁻¹ + e = 0 then ⊤ else _) = _
    rw [if_neg (not_lt.mpr hp.le), if_neg hp.ne']

/-- A row of the norm is real when the gains are, whatever the row. -/
theorem rms_real (x g : Fin 1024 → EReal) (hg : ∀ c, IsReal (g c)) (c : Fin 1024) : IsReal (rms x g c) := by
  have hS : 0 ≤ ∑ k, x k * x k := Finset.sum_nonneg fun k _ => sq_nonneg (x k)
  unfold rms
  by_cases ht : (∑ k, x k * x k) = ⊤
  · rw [ht]
    obtain ⟨e, he, hl⟩ := lit_eps
    rw [hl, lit_1024, Ideal.div, if_neg (by norm_num), ← EReal.coe_inv, EReal.top_mul_coe_of_pos (by norm_num), EReal.top_add_coe]
    show IsReal (x c * 0 * g c)
    rw [mul_zero, zero_mul]
    exact ⟨0, rfl⟩
  · refine IsReal.mul (IsReal.mul ?_ (rsqrt_real hS)) (hg c)
    have hle : x c * x c ≤ ∑ k, x k * x k := Finset.single_le_sum (fun k _ => sq_nonneg (x k)) (Finset.mem_univ c)
    generalize x c = y at hle
    induction y using EReal.rec with
    | bot => exact absurd (top_le_iff.mp (by simpa using hle)) ht
    | top => exact absurd (top_le_iff.mp (by simpa using hle)) ht
    | coe r => exact ⟨r, rfl⟩

/-- A head divided by its root mean square and scaled. -/
def headRms (x g : Fin 64 → EReal) (e : Fin 64) : EReal :=
  x e * Ideal.rsqrt (Ideal.div (∑ k, x k * x k) (Ideal.ofBits .f32 0x42800000#32) + Ideal.ofBits .f32 0x358637BD#32) * g e

/-- A lane of a pair of heads: the head it lies in, as a row of 64. -/
def headOf (x : Fin 128 → EReal) (C : Fin 128) (e : Fin 64) : EReal := x ⟨C.val / 64 * 64 + e.val, by omega⟩

/-- A sum over a pair of heads that counts only the lanes of one head. -/
theorem sum_head (x : Fin 128 → EReal) (C : Fin 128) :
    ∑ k : Fin 128, x k * (if k.val / 64 = C.val / 64 then (1 : EReal) else 0) = ∑ e : Fin 64, headOf x C e := by
  have split : ∀ f : Fin 128 → EReal, ∑ k, f k = (∑ e : Fin 64, f ⟨e.val, by omega⟩) + ∑ e : Fin 64, f ⟨64 + e.val, by omega⟩ :=
    fun f => Fin.sum_univ_add (a := 64) (b := 64) f
  rw [split]
  have hC : C.val / 64 = 0 ∨ C.val / 64 = 1 := by omega
  have e0 : ∀ e : Fin 64, e.val / 64 = 0 := fun e => by omega
  have e1 : ∀ e : Fin 64, (64 + e.val) / 64 = 1 := fun e => by omega
  rcases hC with h | h <;> simp [headOf, h, e0, e1]

/-- The mean square of a head, as the pair of heads computes it: the squares' leading part and remainder each times the matrix of ones. -/
theorem pair_ms (x : Fin 128 → EReal) (hx : ∀ k, IsReal (x k)) (s : Fin 128 → EReal) (C : Fin 128)
    (hs : ∀ k : Fin 128, s k = if k.val / 64 = C.val / 64 then 1 else 0) :
    (((∑ k, x k * x k * s k) + ∑ k, (x k * x k - x k * x k) * s k) * Ideal.ofBits .f32 0x3C800000#32)
      = Ideal.div (∑ e, headOf x C e * headOf x C e) (Ideal.ofBits .f32 0x42800000#32) := by
  have h2 : ∑ k, (x k * x k - x k * x k) * s k = 0 :=
    Finset.sum_eq_zero fun k _ => by rw [((hx k).mul (hx k)).sub_self, zero_mul]
  rw [h2, add_zero, div_64]
  congr 1
  simp only [hs]
  exact sum_head (fun k => x k * x k) C

/-- A pair of heads divided by its heads' root mean squares, at a lane: the head the lane lies in. -/
theorem pair_norm (x : Fin 128 → EReal) (hx : ∀ k, IsReal (x k)) (s : Fin 128 → EReal) (C : Fin 128)
    (hs : ∀ k : Fin 128, s k = if k.val / 64 = C.val / 64 then 1 else 0) (y : EReal) (g : Fin 64 → EReal) (hy : y = g ⟨C.val % 64, Nat.mod_lt _ (by omega)⟩) :
    x C * Ideal.rsqrt (((∑ k, x k * x k * s k) + ∑ k, (x k * x k - x k * x k) * s k) * Ideal.ofBits .f32 0x3C800000#32 + Ideal.ofBits .f32 0x358637BD#32) * y
      = headRms (headOf x C) g ⟨C.val % 64, Nat.mod_lt _ (by omega)⟩ := by
  have e : headOf x C ⟨C.val % 64, Nat.mod_lt _ (by omega)⟩ = x C := congrArg x (Fin.ext (by show C.val / 64 * 64 + C.val % 64 = C.val; omega))
  rw [pair_ms x hx s C hs, hy, headRms, e]

/-- Whether two lanes of a pair of heads lie in the same head, as the comparisons that build the matrix of ones say it. -/
theorem same_head : ∀ k C : Fin 128,
    IntOp.cmpi .eq (Scalar.select (IntOp.cmpi .slt (BitVec.ofNat 32 k.val) 64#32) (0#32 : BitVec 32) 1#32)
      (Scalar.select (IntOp.cmpi .slt (BitVec.ofNat 32 C.val) 64#32) (0#32 : BitVec 32) 1#32) = if k.val / 64 = C.val / 64 then 1#1 else 0#1 := by
  decide +kernel

/-- An entry of the matrix of ones. -/
theorem ones_entry (k C : Fin 128) :
    Scalar.select (IntOp.cmpi .eq (Scalar.select (IntOp.cmpi .slt (BitVec.ofNat 32 k.val) 64#32) (0#32 : BitVec 32) 1#32)
      (Scalar.select (IntOp.cmpi .slt (BitVec.ofNat 32 C.val) 64#32) (0#32 : BitVec 32) 1#32)) (1 : EReal) 0 = if k.val / 64 = C.val / 64 then 1 else 0 := by
  rw [same_head]
  split <;> simp [Scalar.select]

end Cert.Rows

end
-- ==== Proof.MemKv.Spec.lean ====
module

public import proofs.«01_k».proof.Proof.HeadRms

@[expose] public section

noncomputable section

namespace Cert.Rows

open Idealize.ShloMosaic

/-- A row's keys and values of one layer before the keys are normed: the row divided by its root mean square, times the weights. -/
def kvRow (x g : Fin 1024 → EReal) (w : Fin 1024 → Fin 512 → EReal) (C : Fin 512) : EReal := ∑ k, rms x g k * w k C

/-- With real gains and weights they are real whatever the row holds. -/
theorem kvRow_real (x g : Fin 1024 → EReal) (hg : ∀ c, IsReal (g c)) (w : Fin 1024 → Fin 512 → EReal) (hw : ∀ k C, IsReal (w k C)) (C : Fin 512) :
    IsReal (kvRow x g w C) := IsReal.sum fun k => (rms_real x g hg k).mul (hw k C)

/-- A row's keys, normed per head, followed by its values. -/
def memRow (x g : Fin 1024 → EReal) (w : Fin 1024 → Fin 512 → EReal) (gk : Fin 64 → EReal) (C : Fin 512) : EReal :=
  if h : C.val < 256 then headRms (fun e => kvRow x g w ⟨C.val / 64 * 64 + e.val, by omega⟩) gk ⟨C.val % 64, Nat.mod_lt _ (by omega)⟩
  else kvRow x g w C

/-- Where a row of the memories lies: its batch entry and its place there. -/
def memPlace (R : Fin 1024) : Fin 4 × Fin 256 := (⟨R.val / 256, by omega⟩, ⟨R.val % 256, Nat.mod_lt _ (by omega)⟩)

/-- The keys and values of every layer. -/
def memOf (x : (⟨3, ![4, 256, 1024]⟩ : Shape).Idx → EReal) (g : (⟨2, ![4, 1024]⟩ : Shape).Idx → EReal) (w : (⟨3, ![4, 1024, 512]⟩ : Shape).Idx → EReal)
    (gk : (⟨2, ![4, 64]⟩ : Shape).Idx → EReal) (j : (⟨3, ![4, 1024, 512]⟩ : Shape).Idx) : EReal :=
  memRow (fun k => x (ix3 (memPlace (j 1)).1 (memPlace (j 1)).2 k)) (fun k => g (ix2 (j 0) k)) (fun k C => w (ix3 (j 0) k C)) (fun e => gk (ix2 (j 0) e)) (j 2)

end Cert.Rows

end
-- ==== Proof.MemKv.Kernel.lean ====
module

public import proofs.«01_k».proof.Proof.Gen.MemKvIdeal.Value
public import proofs.«01_k».proof.Proof.MemKv.Spec
public import Idealize.ShloMosaic.Lib.Pointwise
public import Idealize.ShloMosaic.Lib.Pipeline.ValueKit
public import Idealize.ShloMosaic.Lib.Claim

@[expose] public section

set_option maxRecDepth 16384

noncomputable section

namespace Cert.MemKvIdeal.Mem

open Cert.MemKvIdeal Cert.MemKvIdeal.Gen Cert.Rows
open Idealize.ShloMosaic Idealize.ShloMosaic.TcCoe Idealize.ShloMosaic.Tactic Idealize.SL.Sem
open Idealize.ShloMosaic.Pipeline (Dat)

section

variable (v0 : Vec Ideal S1024x1024 .f32) (v2 : Vec Ideal S1x1x1024 .f32) (v17 : Vec Ideal S1x1024x512 .bf16) (v20 : Vec Ideal S128x128 .bf16)
  (v23 : Vec Ideal S1x1x128 .f32)

/-- A row's keys and values before the norm per head. -/
theorem pay4_apply (r : Fin 1024) (C : Fin 512) :
    k0_pay4 (F := Ideal) v0 v2 v17 (ix2 r C) = kvRow (fun c => v0 (ix2 r c)) (fun c => v2 (ix3 0 0 c)) (fun k c => v17 (ix3 0 k c)) C := by
  pointwise [k0_pay4]
  rfl

/-- The first pair of heads' keys: each divided by its root mean square and scaled. -/
theorem pay1_apply (r : Fin 1024) (C : Fin 128) (kv : Fin 512 → EReal) (h : ∀ c, k0_pay4 (F := Ideal) v0 v2 v17 (ix2 r c) = kv c) (hkv : ∀ c, IsReal (kv c))
    (hs : ∀ k : Fin 128, v20 (ix2 k C) = if k.val / 64 = C.val / 64 then 1 else 0) (g : Fin 64 → EReal) (hg : v23 (ix3 0 0 C) = g ⟨C.val % 64, Nat.mod_lt _ (by omega)⟩) :
    k0_pay1 (F := Ideal) (k0_pay6 v0 v2 v17) (k0_pay7 v23) (k0_pay8 v0 v2 v17 v20) (Scalar.ofBits .f32 0x358637BD#32) (ix3 0 r C)
      = headRms (headOf (fun k => kv ⟨k.val, by omega⟩) C) g ⟨C.val % 64, Nat.mod_lt _ (by omega)⟩ := by
  rw [← pair_norm (fun k => kv ⟨k.val, by omega⟩) (fun k => hkv _) (fun k => v20 (ix2 k C)) C hs _ g hg]
  simp only [← h]
  unfold k0_pay8 k0_pay6
  generalize k0_pay4 (F := Ideal) v0 v2 v17 = q
  pointwise [k0_pay1, k0_pay7, k0_pay5]

/-- The second pair of heads' keys. -/
theorem pay2_apply (r : Fin 1024) (C : Fin 128) (q : FVec Ideal S1024x512 .f32) (kv : Fin 512 → EReal) (h : ∀ c, q (ix2 r c) = kv c) (hkv : ∀ c, IsReal (kv c))
    (hs : ∀ k : Fin 128, v20 (ix2 k C) = if k.val / 64 = C.val / 64 then 1 else 0) (g : Fin 64 → EReal) (hg : v23 (ix3 0 0 C) = g ⟨C.val % 64, Nat.mod_lt _ (by omega)⟩) :
    k0_pay2 (F := Ideal) q (k0_pay5 v20) v23 (ix3 0 r C)
      = headRms (headOf (fun k => kv ⟨128 + k.val, by omega⟩) C) g ⟨C.val % 64, Nat.mod_lt _ (by omega)⟩ := by
  rw [← pair_norm (fun k => kv ⟨128 + k.val, by omega⟩) (fun k => hkv _) (fun k => v20 (ix2 k C)) C hs _ g hg]
  simp only [← h]
  pointwise [k0_pay2, k0_pay5]

/-- The values. -/
theorem pay3_apply (r : Fin 1024) (C : Fin 256) (kv : FVec Ideal S1024x512 .f32) :
    k0_pay3 (F := Ideal) kv (ix3 0 r C) = kv (ix2 r ⟨256 + C.val, by omega⟩) := by
  pointwise [k0_pay3]

/-- A row's first pair of heads, as its keys and values hold them. -/
theorem memRow_first (x g : Fin 1024 → EReal) (w : Fin 1024 → Fin 512 → EReal) (gk : Fin 64 → EReal) (C : Fin 128) (c : Fin 512) (hc : c.val = C.val) :
    headRms (headOf (fun k => kvRow x g w ⟨k.val, by omega⟩) C) gk ⟨C.val % 64, Nat.mod_lt _ (by omega)⟩ = memRow x g w gk c := by
  obtain ⟨c, hlt⟩ := c
  simp only at hc
  subst hc
  rw [memRow, dif_pos (by show C.val < 256; omega)]
  rfl

/-- A row's second pair of heads. -/
theorem memRow_second (x g : Fin 1024 → EReal) (w : Fin 1024 → Fin 512 → EReal) (gk : Fin 64 → EReal) (C : Fin 128) (c : Fin 512) (hc : c.val = 128 + C.val) :
    headRms (headOf (fun k => kvRow x g w ⟨128 + k.val, by omega⟩) C) gk ⟨C.val % 64, Nat.mod_lt _ (by omega)⟩ = memRow x g w gk c := by
  obtain ⟨c, hlt⟩ := c
  simp only at hc
  subst hc
  rw [memRow, dif_pos (by show 128 + C.val < 256; omega)]
  have e1 : (⟨(128 + C.val) % 64, Nat.mod_lt _ (by omega)⟩ : Fin 64) = ⟨C.val % 64, Nat.mod_lt _ (by omega)⟩ := Fin.ext (by show (128 + C.val) % 64 = C.val % 64; omega)
  have e2 : (fun e : Fin 64 => kvRow x g w ⟨(128 + C.val) / 64 * 64 + e.val, by omega⟩) = headOf (fun k => kvRow x g w ⟨128 + k.val, by omega⟩) C :=
    funext fun e => congrArg (kvRow x g w) (Fin.ext (by show (128 + C.val) / 64 * 64 + e.val = 128 + (C.val / 64 * 64 + e.val); omega))
  show _ = headRms (fun e : Fin 64 => kvRow x g w ⟨(128 + C.val) / 64 * 64 + e.val, by omega⟩) gk ⟨(128 + C.val) % 64, Nat.mod_lt _ (by omega)⟩
  rw [e1, e2]

end

section

variable (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x512 .bf16) (harg3 : arg3.IsWhole) (arg4 : Memref sig .tc .vmem S1x1x128 .f32) (harg4 : arg4.IsWhole) (arg5 : Memref sig .tc .vmem S128x128 .bf16) (harg5 : arg5.IsWhole) (arg6 : Memref sig .tc .vmem S1x1024x512 .f32) (harg6 : arg6.IsWhole)
    (x0 : Vec Ideal S1024x1024 .f32) (x1 : Vec Ideal S1x1x1024 .f32) (x2 : Vec Ideal S1x1024x512 .bf16) (x3 : Vec Ideal S1x1x128 .f32) (x4 : Vec Ideal S128x128 .bf16)

/-- What one layer's grid point leaves in its block: every row's normed keys and its values. -/
theorem out_apply (g : Fin 64 → EReal) (g1 : ∀ k, IsReal (x1 (ix3 0 0 k))) (g2 : ∀ k C, IsReal (x2 (ix3 0 k C)))
    (h3 : ∀ C : Fin 128, x3 (ix3 0 0 C) = g ⟨C.val % 64, Nat.mod_lt _ (by omega)⟩)
    (h4 : ∀ k C : Fin 128, x4 (ix2 k C) = if k.val / 64 = C.val / 64 then 1 else 0) (r : Fin 1024) (C : Fin 512) :
    out0_A_5 (F := Ideal) c i arg1 harg1 arg2 harg2 arg3 harg3 arg4 harg4 arg5 harg5 arg6 harg6 x0 x1 x2 x3 x4 (ix3 0 r C)
      = memRow (fun k => x0 (ix2 r k)) (fun k => x1 (ix3 0 0 k)) (fun k c => x2 (ix3 0 k c)) g C := by
  unfold out0_A_5
  rw [View.read_writes_eq_canon _ _ _ (cover0_A_5 c i arg1 harg1 arg2 harg2 arg3 harg3 arg4 harg4 arg5 harg5 arg6 harg6 x0 x1 x2 x3 x4)]
  have hcover := cover0_A_5 c i arg1 harg1 arg2 harg2 arg3 harg3 arg4 harg4 arg5 harg5 arg6 harg6 x0 x1 x2 x3 x4
  revert hcover
  unfold kernelRun0_A
  dsimp only
  sl_unfold_words
  simp only [View.readAt_eq_ld, harg1.read_unread, harg2.read_unread, harg3.read_unread, harg4.read_unread, harg5.read_unread]
  rw [View.ld_unit_lit _ x0 (by decide), View.ld_unit_lit _ x1 (by decide), View.ld_unit_lit _ x2 (by decide), View.ld_unit_lit _ x3 (by decide), View.ld_unit_lit _ x4 (by decide)]
  intro hcover
  canon_tiles x h using hcover _
  all_goals
    rw [eq_ix3 x]
    have e0 : x 0 = (0 : Fin 1) := Subsingleton.elim (α := Fin 1) _ _
    have hr : x 1 = r := Fin.ext h1.symm
    rw [e0, hr]
    replace h2 : C.val = _ := h2
  · refine (pay3_apply r (x 2) _).trans ((pay4_apply x0 x1 x2 r _).trans ?_)
    rw [memRow, dif_neg (by omega)]
    exact congrArg _ (Fin.ext h2.symm)
  · exact (pay2_apply x4 x3 r (x 2) _ _ (fun c => pay4_apply x0 x1 x2 r c) (fun c => kvRow_real _ _ g1 _ g2 c) (fun k => h4 k _) g (h3 _)).trans
      (memRow_second _ _ _ _ _ _ h2)
  · exact (pay1_apply x0 x1 x2 x4 x3 r (x 2) _ (fun c => pay4_apply x0 x1 x2 r c) (fun c => kvRow_real _ _ g1 _ g2 c) (fun k => h4 k _) g (h3 _)).trans
      (memRow_first _ _ _ _ _ _ h2)

end

end Cert.MemKvIdeal.Mem

end
-- ==== Proof.MemKv.Array.lean ====
module

public import proofs.«01_k».proof.Proof.MemKv.Kernel

@[expose] public section

set_option maxRecDepth 16384

noncomputable section

namespace Cert.MemKvIdeal.Mem

open Cert.MemKvIdeal Cert.MemKvIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The memories' rows, as the pipeline finds them. -/
theorem V_x (c : Dev nD) (R : Fin 1024) (k : Fin 1024) :
    V m c main_v0 (ix2 R k) = m ((c : Thread nD τ).loc main_arg0) (ix3 (memPlace R).1 (memPlace R).2 k) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise
  rfl

/-- The weights, as the pipeline finds them. -/
theorem V_w (c : Dev nD) (l : Fin 4) (k : Fin 1024) (C : Fin 512) : V m c main_v1 (ix3 l k C) = m ((c : Thread nD τ).loc main_arg2) (ix3 l k C) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The gains, as the pipeline finds them. -/
theorem V_g (c : Dev nD) (l : Fin 4) (k : Fin 1024) : V m c main_v16 (ix3 l 0 k) = m ((c : Thread nD τ).loc main_arg1) (ix2 l k) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The heads' gains, as the pipeline finds them: twice one after the other. -/
theorem V_gk (c : Dev nD) (l : Fin 4) (C : Fin 128) :
    V m c main_v17 (ix3 l 0 C) = m ((c : Thread nD τ).loc main_arg3) (ix2 l ⟨C.val % 64, Nat.mod_lt _ (by omega)⟩) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The matrix of ones on the heads' lanes, as the pipeline finds it. -/
theorem V_s (c : Dev nD) (k C : Fin 128) : V m c main_v15 (ix2 k C) = (if k.val / 64 = C.val / 64 then 1 else 0 : EReal) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise
  simp only [StableHlo.TRef.toBuf, StableHlo.TRef.ofBuf, cast_eq]
  pointwise
  exact ones_entry k C

/-- The windows' block indices. -/
theorem idx : ∀ t : Fin grid0.N, win0_0.index t = ![0, 0] ∧ win0_1.index t = ![t.val, 0, 0] ∧ win0_2.index t = ![t.val, 0, 0]
    ∧ win0_3.index t = ![t.val, 0, 0] ∧ win0_4.index t = ![0, 0] ∧ win0_5.index t = ![t.val, 0, 0] := by
  decide +kernel

/-- The grid has four points, one a layer. -/
theorem lt (t : Fin grid0.N) : t.val < 4 := t.isLt

/-- The rows at a grid point: all of them. -/
theorem x_block (c : Dev nD) (t : Fin grid0.N) (r k : Fin 1024) : iblk m c 0 t (ix2 r k) = V m c main_v0 (ix2 r k) := by
  blk_ext [iblk, V, idx t]

/-- The gains at a grid point. -/
theorem g_block (c : Dev nD) (t : Fin grid0.N) (k : Fin 1024) : iblk m c 1 t (ix3 0 0 k) = V m c main_v16 (ix3 ⟨t.val, lt t⟩ 0 k) := by
  blk_ext [iblk, V, idx t]

/-- The weights at a grid point. -/
theorem w_block (c : Dev nD) (t : Fin grid0.N) (k : Fin 1024) (C : Fin 512) : iblk m c 2 t (ix3 0 k C) = V m c main_v1 (ix3 ⟨t.val, lt t⟩ k C) := by
  blk_ext [iblk, V, idx t]

/-- The heads' gains at a grid point. -/
theorem gk_block (c : Dev nD) (t : Fin grid0.N) (C : Fin 128) : iblk m c 3 t (ix3 0 0 C) = V m c main_v17 (ix3 ⟨t.val, lt t⟩ 0 C) := by
  blk_ext [iblk, V, idx t]

/-- The matrix of ones at a grid point. -/
theorem s_block (c : Dev nD) (t : Fin grid0.N) (k C : Fin 128) : iblk m c 4 t (ix2 k C) = V m c main_v15 (ix2 k C) := by
  blk_ext [iblk, V, idx t]

/-- The windows' blocks tile the array. -/
theorem covers : win0_5.Covers := by decide +kernel

/-- All keys and values. -/
def results (c : Dev nD) : S4x1024x512.Idx → EReal :=
  memOf (m ((c : Thread nD τ).loc main_arg0)) (m ((c : Thread nD τ).loc main_arg1)) (m ((c : Thread nD τ).loc main_arg2)) (m ((c : Thread nD τ).loc main_arg3))

/-- The keys and values at an index given by its three coordinates. -/
theorem results_at (c : Dev nD) (j : S4x1024x512.Idx) (l : Fin 4) (R : Fin 1024) (C : Fin 512) (h0 : (j 0).val = l.val) (h1 : (j 1).val = R.val) (h2 : (j 2).val = C.val) :
    results m c j = memRow (fun k => m ((c : Thread nD τ).loc main_arg0) (ix3 (memPlace R).1 (memPlace R).2 k)) (fun k => m ((c : Thread nD τ).loc main_arg1) (ix2 l k))
      (fun k C => m ((c : Thread nD τ).loc main_arg2) (ix3 l k C)) (fun e => m ((c : Thread nD τ).loc main_arg3) (ix2 l e)) C := by
  have e0 : j 0 = l := Fin.ext h0
  have e1 : j 1 = R := Fin.ext h1
  have e2 : j 2 = C := Fin.ext h2
  unfold results memOf
  rw [e0, e1, e2]

/-- What a grid point's body leaves is the keys and values at its block's places, when the gains and the weights are real. -/
theorem point (c : Dev nD) (hg : ∀ i, IsReal (m ((c : Thread nD τ).loc main_arg1) i)) (hw : ∀ i, IsReal (m ((c : Thread nD τ).loc main_arg2) i))
    (t : Fin grid0.N) (r : Fin 1024) (C : Fin 512) :
    outsAt0 m c t (ix3 0 r C) = results m c ((win0_5.blk t).view.emb (ix3 0 r C)) := by
  have ht := lt t
  rw [results_at m c _ ⟨t.val, ht⟩ r C (by blk_simp [idx t]; exact Nat.add_zero _) (by blk_simp [idx t]) (by blk_simp [idx t])]
  have e0 : (fun k => iblk m c 0 t (ix2 r k)) = fun k => m ((c : Thread nD τ).loc main_arg0) (ix3 (memPlace r).1 (memPlace r).2 k) :=
    funext fun k => (x_block m c t r k).trans (V_x m c r k)
  have e1 : (fun k => iblk m c 1 t (ix3 0 0 k)) = fun k => m ((c : Thread nD τ).loc main_arg1) (ix2 ⟨t.val, ht⟩ k) :=
    funext fun k => (g_block m c t k).trans (V_g m c _ k)
  have e2 : (fun k c' => iblk m c 2 t (ix3 0 k c')) = fun k c' => m ((c : Thread nD τ).loc main_arg2) (ix3 ⟨t.val, ht⟩ k c') :=
    funext fun k => funext fun c' => (w_block m c t k c').trans (V_w m c _ k c')
  rw [← e0, ← e1, ← e2]
  unfold outsAt0
  exact out_apply c _ _ _ _ _ _ _ _ _ _ _ _ _ (iblk m c 0 t) (iblk m c 1 t) (iblk m c 2 t) (iblk m c 3 t) (iblk m c 4 t) (fun e => m ((c : Thread nD τ).loc main_arg3) (ix2 ⟨t.val, ht⟩ e))
    (fun k => by rw [congrFun e1 k]; exact hg _) (fun k c' => by rw [congrFun (congrFun e2 k) c']; exact hw _)
    (fun C => (gk_block m c t C).trans (V_gk m c _ C)) (fun k C => (s_block m c t k C).trans (V_s m c k C)) r C

/-- The array the kernel leaves. -/
theorem arr_eq (c : Dev nD) (hg : ∀ i, IsReal (m ((c : Thread nD τ).loc main_arg1) i)) (hw : ∀ i, IsReal (m ((c : Thread nD τ).loc main_arg2) i)) :
    (dats m 0 c).arrAt 5 cfg0.N = results m c := by
  refine (dats m 0 c).arrAt_eq_of_covers 5 _ covers fun t hf y => ?_
  blk_simp
  rw [after0_5]
  have e : y = ix3 (y 0) (y 1) (y 2) := eq_ix3 y
  have e0 : y 0 = (0 : Fin 1) := Subsingleton.elim (α := Fin 1) _ _
  rw [e, e0]
  exact point m c hg hw t (y 1) (y 2)

/-- The run: the result array is the keys and values, and the arguments end unchanged. -/
theorem run (hg : ∀ (c : Dev nD) i, IsReal (m ((c : Thread nD τ).loc main_arg1) i)) (hw : ∀ (c : Dev nD) i, IsReal (m ((c : Thread nD τ).loc main_arg2) i)) :
    θ_run (defs (F := Ideal)) (onTc (τ := τ) (main (F := Ideal))) ⟨m, fun _ => 0, ρ⟩ fun r => ∀ c : Dev nD,
      r.2.mem ((c : Thread nD τ).loc main_v18) = results m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run (defs (F := Ideal)) _ _).mono (fun _ h c => ⟨(h c).1.trans (arr_eq m c (hg c) (hw c)), (h c).2⟩) (Value.run_blocks m ρ)

end Cert.MemKvIdeal.Mem

end
-- ==== Proof.MemKv.Reference.lean ====
module

public import proofs.«01_k».proof.Proof.Gen.MemKvRefIdeal.Read
public import proofs.«01_k».proof.Proof.MemKv.Spec
public import Idealize.ShloMosaic.Lib.Pointwise
public import Idealize.ShloMosaic.Lib.Pipeline.ValueKit

@[expose] public section

set_option maxRecDepth 16384

noncomputable section

namespace Cert.MemKvRefIdeal.Mem

open Cert.MemKvRefIdeal Cert.MemKvRefIdeal.Read Cert.Rows
open Idealize.ShloMosaic

variable (x0 : Vec Ideal S4x256x1024 .f32) (x1 : Vec Ideal S4x1024 .f32) (x2 : Vec Ideal S4x1024x512 .f32) (x3 : Vec Ideal S4x64 .f32)

/-- A layer's rows divided by their root mean square and scaled. -/
theorem rms_apply (l : Fin 4) (R : Fin 1024) (k : Fin 1024) :
    val_main_v15 (F := Ideal) x0 x1 (ix3 l R k) = rms (fun k => x0 (ix3 (memPlace R).1 (memPlace R).2 k)) (fun k => x1 (ix2 l k)) k := by
  pointwise [val_main_v15, val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- A layer's keys and values before the norm per head. -/
theorem kv_apply (l : Fin 4) (R : Fin 1024) (C : Fin 512) :
    val_main_v16 (F := Ideal) x0 x1 x2 (ix3 l R C)
      = kvRow (fun k => x0 (ix3 (memPlace R).1 (memPlace R).2 k)) (fun k => x1 (ix2 l k)) (fun k C => x2 (ix3 l k C)) C := by
  unfold kvRow
  simp only [← rms_apply]
  pointwise [val_main_v16]

/-- A layer's keys, normed per head. -/
theorem key_apply (l : Fin 4) (R : Fin 1024) (C : Fin 256) :
    val_main_v32 (F := Ideal) x0 x1 x2 x3 (ix3 l R C)
      = headRms (fun e => val_main_v16 (F := Ideal) x0 x1 x2 (ix3 l R ⟨C.val / 64 * 64 + e.val, by omega⟩)) (fun e => x3 (ix2 l e)) ⟨C.val % 64, Nat.mod_lt _ (by omega)⟩ := by
  unfold headRms
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_cst_2, val_main_cst_3, val_main_cst_4]
  have e : (⟨C.val / 64 * 64 + C.val % 64, by omega⟩ : Fin 512) = ⟨C.val, by omega⟩ := Fin.ext (by show C.val / 64 * 64 + C.val % 64 = C.val; omega)
  rw [e]

/-- The reference's keys and values at a place. -/
theorem out_apply (l : Fin 4) (R : Fin 1024) (C : Fin 512) :
    val_main_v34 (F := Ideal) x0 x1 x2 x3 (ix3 l R C)
      = memRow (fun k => x0 (ix3 (memPlace R).1 (memPlace R).2 k)) (fun k => x1 (ix2 l k)) (fun k C => x2 (ix3 l k C)) (fun e => x3 (ix2 l e)) C := by
  by_cases hC : C.val < 256
  · rw [memRow, dif_pos hC]
    simp only [← kv_apply]
    refine Eq.trans ?_ (key_apply x0 x1 x2 x3 l R ⟨C.val, hC⟩)
    pointwise [val_main_v34]
    rw [dif_pos hC]
  · rw [memRow, dif_neg hC, ← kv_apply]
    pointwise [val_main_v34, val_main_v33]
    rw [dif_neg hC]
    exact congrArg (fun c => val_main_v16 (F := Ideal) x0 x1 x2 (ix3 l R c)) (Fin.ext (by show 256 + (C.val - 256) = C.val; omega))

/-- The reference's keys and values. -/
theorem out_eq : val_main_v34 (F := Ideal) x0 x1 x2 x3 = memOf x0 x1 x2 x3 := by
  funext j
  have ej : j = ix3 (j 0) (j 1) (j 2) := eq_ix3 j
  rw [ej]
  exact out_apply x0 x1 x2 x3 (j 0) (j 1) (j 2)

end Cert.MemKvRefIdeal.Mem

end
-- ==== Proof.NsaPrep.Spec.lean ====
/- A token's queries, keys and gates: heads divided by their root mean square, their first sixteen lanes turned by the token's time. -/
module

public import proofs.«01_k».proof.Proof.HeadRms

@[expose] public section

set_option maxRecDepth 16384

noncomputable section

namespace Cert.Rows

open Idealize.ShloMosaic

/-- The angle by which a token's pair of lanes is turned: its time times the pair's frequency. -/
def ropeAngle (t : Fin 4096) (j : Fin 8) : EReal :=
  FloatOps.sitofp (F := Ideal) .f32 (BitVec.ofNat 32 t.val)
    * Ideal.exp (Ideal.div (Ideal.ofBits .f32 0xC151F533#32 * (Ideal.ofBits .f32 0x40000000#32 * FloatOps.sitofp (F := Ideal) .f32 (BitVec.ofNat 32 j.val)))
        (Ideal.ofBits .f32 0x41800000#32))

/-- A head with its first eight lanes and its next eight turned, given the cosines and the sines. -/
def ropeHead (y : Fin 64 → EReal) (cs sn : Fin 8 → EReal) (e : Fin 64) : EReal :=
  if h : e.val < 8 then y e * cs ⟨e.val, h⟩ - y ⟨e.val + 8, by omega⟩ * sn ⟨e.val, h⟩
  else if h' : e.val - 8 < 8 then y e * cs ⟨e.val - 8, h'⟩ + y ⟨e.val - 8, by omega⟩ * sn ⟨e.val - 8, h'⟩
  else y e

/-- A pair of heads, each normed, scaled and turned. -/
def pairRow (x : Fin 128 → EReal) (g : Fin 64 → EReal) (cs sn : Fin 8 → EReal) (C : Fin 128) : EReal :=
  ropeHead (headRms (headOf x C) g) cs sn ⟨C.val % 64, Nat.mod_lt _ (by omega)⟩

/-- What a lane is multiplied by in place. -/
def cosLane (cs : Fin 8 → EReal) (C : Fin 128) : EReal :=
  if h : C.val % 64 < 8 then cs ⟨C.val % 64, h⟩ else if h' : C.val % 64 - 8 < 8 then cs ⟨C.val % 64 - 8, h'⟩ else 1

/-- What the lane eight below is multiplied by. -/
def upLane (sn : Fin 8 → EReal) (C : Fin 128) : EReal :=
  if C.val % 64 < 8 then 0 else if h' : C.val % 64 - 8 < 8 then sn ⟨C.val % 64 - 8, h'⟩ else 0

/-- What the lane eight above is multiplied by. -/
def downLane (sn : Fin 8 → EReal) (C : Fin 128) : EReal :=
  if h : C.val % 64 < 8 then -sn ⟨C.val % 64, h⟩ else 0

/-- A normed lane, read as a lane of the head that another lane lies in. -/
theorem norm_lane (x : Fin 128 → EReal) (g : Fin 64 → EReal) (C D : Fin 128) (e : Fin 64) (hd : D.val / 64 = C.val / 64) (he : D.val % 64 = e.val) :
    headRms (headOf x D) g ⟨D.val % 64, Nat.mod_lt _ (by omega)⟩ = headRms (headOf x C) g e := by
  have e1 : (⟨D.val % 64, Nat.mod_lt _ (by omega)⟩ : Fin 64) = e := Fin.ext he
  have e2 : headOf x D = headOf x C := funext fun k => congrArg x (Fin.ext (by show D.val / 64 * 64 + k.val = C.val / 64 * 64 + k.val; rw [hd]))
  rw [e1, e2]

/-- Turning by three products: in place, with the lane eight below and with the lane eight above, where the products that do not belong vanish. -/
theorem rope_pair (x : Fin 128 → EReal) (g : Fin 64 → EReal) (cs sn : Fin 8 → EReal) (C : Fin 128) (y : Fin 128 → EReal)
    (hy : ∀ D, y D = headRms (headOf x D) g ⟨D.val % 64, Nat.mod_lt _ (by omega)⟩) (D1 D2 : Fin 128)
    (hd1 : D1.val = (C.val + 128 - 8) % 128) (hd2 : D2.val = (C.val + 128 - 120) % 128) :
    y C * cosLane cs C + y D1 * upLane sn C + y D2 * downLane sn C = pairRow x g cs sn C := by
  have hC := hy C
  rw [pairRow, ropeHead, cosLane, upLane, downLane]
  by_cases h : C.val % 64 < 8
  · rw [dif_pos h, if_pos h, dif_pos h, dif_pos h, mul_zero, add_zero, hC, hy D2,
      norm_lane x g C D2 ⟨C.val % 64 + 8, by omega⟩ (by omega) (by show D2.val % 64 = C.val % 64 + 8; omega), mul_neg, sub_eq_add_neg]
  · rw [dif_neg h, if_neg h, dif_neg h, dif_neg h, mul_zero, add_zero]
    by_cases h' : C.val % 64 - 8 < 8
    · rw [dif_pos h', dif_pos h', dif_pos h', hC, hy D1,
        norm_lane x g C D1 ⟨C.val % 64 - 8, by omega⟩ (by omega) (by show D1.val % 64 = C.val % 64 - 8; omega)]
    · rw [dif_neg h', dif_neg h', dif_neg h', mul_zero, add_zero, mul_one, hC]

/-- A row's column in its pair of heads, the pairs counted from a column where a pair starts. -/
theorem pairRow_at (f : Fin 768 → EReal) (g : Fin 64 → EReal) (cs sn : Fin 8 → EReal) (o : ℕ) (ho : o % 128 = 0) (D : Fin 128) (C : Fin 768) (hC : C.val = o + D.val) :
    pairRow (fun k => f ⟨o + k.val, by omega⟩) g cs sn D
      = pairRow (fun k => f ⟨C.val / 128 * 128 + k.val, by omega⟩) g cs sn ⟨C.val % 128, Nat.mod_lt _ (by omega)⟩ := by
  have e1 : (⟨C.val % 128, Nat.mod_lt _ (by omega)⟩ : Fin 128) = D := Fin.ext (by show C.val % 128 = D.val; omega)
  have e2 : C.val / 128 * 128 = o := by omega
  rw [e1]
  simp only [e2]

/-- A token's queries. -/
def qRow (f : Fin 768 → EReal) (g : Fin 64 → EReal) (cs sn : Fin 8 → EReal) (C : Fin 768) : EReal :=
  pairRow (fun k => f ⟨C.val / 128 * 128 + k.val, by omega⟩) g cs sn ⟨C.val % 128, Nat.mod_lt _ (by omega)⟩

/-- A token's keys and values, pair of heads by pair of heads: keys are normed, scaled and turned, values stay. -/
def kvPrep (f : Fin 768 → EReal) (g : Fin 3 → Fin 64 → EReal) (cs sn : Fin 8 → EReal) (C : Fin 768) : EReal :=
  if C.val / 128 % 2 = 0 then qRow f (g ⟨C.val / 256, by omega⟩) cs sn C else f C

/-- The queries of one pair of heads. -/
theorem qRow_at (f : Fin 768 → EReal) (g : Fin 64 → EReal) (cs sn : Fin 8 → EReal) (o : ℕ) (ho : o % 128 = 0) (D : Fin 128) (C : Fin 768) (hC : C.val = o + D.val) :
    pairRow (fun k => f ⟨o + k.val, by omega⟩) g cs sn D = qRow f g cs sn C := pairRow_at f g cs sn o ho D C hC

/-- The keys of one pair of heads. -/
theorem kvPrep_key (f : Fin 768 → EReal) (g : Fin 3 → Fin 64 → EReal) (cs sn : Fin 8 → EReal) (o : ℕ) (ho : o % 256 = 0) (D : Fin 128) (C : Fin 768) (hC : C.val = o + D.val)
    (i : Fin 3) (hi : i.val = o / 256) : pairRow (fun k => f ⟨o + k.val, by omega⟩) (g i) cs sn D = kvPrep f g cs sn C := by
  rw [kvPrep, if_pos (by omega), pairRow_at f (g i) cs sn o (by omega) D C hC]
  have e : (⟨C.val / 256, by omega⟩ : Fin 3) = i := Fin.ext (by show C.val / 256 = i.val; omega)
  rw [e]
  rfl

/-- The values of one pair of heads. -/
theorem kvPrep_value (f : Fin 768 → EReal) (g : Fin 3 → Fin 64 → EReal) (cs sn : Fin 8 → EReal) (o : ℕ) (ho : o % 256 = 128) (D : Fin 128) (C : Fin 768) (hC : C.val = o + D.val)
    (h : o + D.val < 768) : f ⟨o + D.val, h⟩ = kvPrep f g cs sn C := by
  rw [kvPrep, if_neg (by omega)]
  exact congrArg f (Fin.ext hC.symm)

/-- A gate. -/
def gateOf (x : EReal) : EReal := Ideal.div 1 (1 + Ideal.exp (0 - x))

/-- The time of a row of tokens: the batches' rows one after the other. -/
def timeOf (R : Fin 16384) : Fin 4096 := ⟨R.val % 4096, Nat.mod_lt _ (by omega)⟩

/-- A token's cosines. -/
def cosOf (R : Fin 16384) (j : Fin 8) : EReal := Ideal.cos (ropeAngle (timeOf R) j)

/-- A token's sines. -/
def sinOf (R : Fin 16384) (j : Fin 8) : EReal := Ideal.sin (ropeAngle (timeOf R) j)

/-- The queries of one token at one column. -/
def qAt (u : (⟨2, ![16384, 1920]⟩ : Shape).Idx → EReal) (g : (⟨2, ![4, 64]⟩ : Shape).Idx → EReal) (R : Fin 16384) (C : Fin 768) : EReal :=
  qRow (fun k => u (ix2 R ⟨k.val, by omega⟩)) (fun e => g (ix2 0 e)) (cosOf R) (sinOf R) C

/-- The keys and values of one token at one column. -/
def kvAt (u : (⟨2, ![16384, 1920]⟩ : Shape).Idx → EReal) (g : (⟨2, ![4, 64]⟩ : Shape).Idx → EReal) (R : Fin 16384) (C : Fin 768) : EReal :=
  kvPrep (fun k => u (ix2 R ⟨768 + k.val, by omega⟩)) (fun i e => g (ix2 ⟨1 + i.val, by omega⟩ e)) (cosOf R) (sinOf R) C

/-- The first two keys and values of one token. -/
def csAt (u : (⟨2, ![16384, 1920]⟩ : Shape).Idx → EReal) (g : (⟨2, ![4, 64]⟩ : Shape).Idx → EReal) (R : Fin 16384) (C : Fin 512) : EReal :=
  kvAt u g R ⟨0 + C.val, by omega⟩

/-- The third keys and values of one token. -/
def winAt (u : (⟨2, ![16384, 1920]⟩ : Shape).Idx → EReal) (g : (⟨2, ![4, 64]⟩ : Shape).Idx → EReal) (R : Fin 16384) (C : Fin 256) : EReal :=
  kvAt u g R ⟨512 + C.val, by omega⟩

/-- The gates of one token. -/
def gateAt (u : (⟨2, ![16384, 1920]⟩ : Shape).Idx → EReal) (R : Fin 16384) (C : Fin 128) : EReal := gateOf (u (ix2 R ⟨1792 + C.val, by omega⟩))

/-- The row of a batch entry's token. -/
def rowOf (b : Fin 4) (t : Fin 4096) : Fin 16384 := ⟨b.val * 4096 + t.val, by omega⟩

end Cert.Rows

end
-- ==== Proof.NsaPrep.Kernel.lean ====
module

public import proofs.«01_k».proof.Proof.Gen.NsaPrepIdeal.Value
public import proofs.«01_k».proof.Proof.NsaPrep.Spec
public import Idealize.ShloMosaic.Lib.Pointwise
public import Idealize.ShloMosaic.Lib.Pipeline.ValueKit
public import Idealize.ShloMosaic.Lib.Claim

@[expose] public section

set_option maxRecDepth 16384

noncomputable section

namespace Cert.NsaPrepIdeal.Prep

open Cert.NsaPrepIdeal Cert.NsaPrepIdeal.Gen Cert.Rows
open Idealize.ShloMosaic Idealize.ShloMosaic.TcCoe Idealize.ShloMosaic.Tactic Idealize.SL.Sem
open Idealize.ShloMosaic.Pipeline (Dat)

section

variable (v0 v2 v4 : Vec Ideal S256x128 .f32) (v6 : Vec Ideal S128x128 .bf16) (x : Vec Ideal S256x128 .f32) (gv : Vec Ideal S1x128 .f32)

/-- A block's pair of heads: normed by a product with the matrix of ones, scaled and turned. -/
theorem pair_apply (r : Fin 256) (C : Fin 128) (g : Fin 64 → EReal) (cs sn : Fin 8 → EReal) (hx : ∀ k, IsReal (x (ix2 r k)))
    (hc : v0 (ix2 r C) = cosLane cs C) (hu : v2 (ix2 r C) = upLane sn C) (hd : v4 (ix2 r C) = downLane sn C)
    (hs : ∀ k C : Fin 128, v6 (ix2 k C) = if k.val / 64 = C.val / 64 then 1 else 0) (hg : ∀ C : Fin 128, gv (ix2 0 C) = g ⟨C.val % 64, Nat.mod_lt _ (by omega)⟩) :
    k0_pay6 (F := Ideal) v0 v2 v4 v6 x gv (ix2 r C) = pairRow (fun k => x (ix2 r k)) g cs sn C := by
  refine Eq.trans ?_ (rope_pair (fun k => x (ix2 r k)) g cs sn C
    (fun D => x (ix2 r D) * Ideal.rsqrt (((∑ k, x (ix2 r k) * x (ix2 r k) * v6 (ix2 k D)) + ∑ k, (x (ix2 r k) * x (ix2 r k) - x (ix2 r k) * x (ix2 r k)) * v6 (ix2 k D))
      * Ideal.ofBits .f32 0x3C800000#32 + Ideal.ofBits .f32 0x358637BD#32) * gv (ix2 0 D))
    (fun D => pair_norm (fun k => x (ix2 r k)) hx (fun k => v6 (ix2 k D)) D (fun k => hs k D) _ g (hg D))
    ⟨(C.val + 128 - 8) % 128, Nat.mod_lt _ (by omega)⟩ ⟨(C.val + 128 - 120) % 128, Nat.mod_lt _ (by omega)⟩ rfl rfl)
  rw [← hc, ← hu, ← hd]
  pointwise [k0_pay6, k0_pay5, k0_pay4, k0_pay3, k0_pay2]

/-- A row given the shape it has is itself. -/
theorem cast_same (g : FVec Ideal S1x128 .f32) : shapeCast S1x128 g shapeCasts_S1x128_S1x128 = g := by
  funext j
  have ej := eq_ix2 (n0 := 1) (n1 := 128) j
  rw [ej]
  pointwise

/-- The second pair of query heads is computed as the first. -/
theorem pay7_eq : k0_pay7 (F := Ideal) (k0_pay2 v0) (k0_pay3 v2) (k0_pay4 v4) (k0_pay5 v6) x gv = k0_pay6 v0 v2 v4 v6 x gv := rfl

/-- The third pair of query heads is computed as the first. -/
theorem pay13_eq : k0_pay13 (F := Ideal) (k0_pay2 v0) (k0_pay3 v2) (k0_pay4 v4) (k0_pay5 v6) x (k0_pay8 gv) (k0_pay11 x) (k0_pay12 (k0_pay5 v6) x) = k0_pay6 v0 v2 v4 v6 x gv := rfl

/-- The fourth pair of query heads is computed as the first. -/
theorem pay17_eq : k0_pay17 (F := Ideal) (k0_pay4 v4) (k0_pay14 (k0_pay5 v6) x gv) (k0_pay15 (k0_pay2 v0) (k0_pay5 v6) x gv) (k0_pay16 (k0_pay3 v2) (k0_pay5 v6) x gv)
    = k0_pay6 v0 v2 v4 v6 x gv := rfl

/-- The fifth pair of query heads is computed as the first. -/
theorem pay18_eq : k0_pay18 (F := Ideal) (k0_pay2 v0) (k0_pay3 v2) (k0_pay4 v4) (k0_pay5 v6) x gv = k0_pay6 v0 v2 v4 v6 x gv := rfl

/-- The sixth pair of query heads is computed as the first. -/
theorem pay21_eq : k0_pay21 (F := Ideal) (k0_pay2 v0) (k0_pay3 v2) (k0_pay4 v4) (k0_pay5 v6) x (k0_pay19 gv) (k0_pay20 x) = k0_pay6 v0 v2 v4 v6 x gv := rfl

/-- The first keys are computed as the queries. -/
theorem pay24_eq : k0_pay24 (F := Ideal) (k0_pay2 v0) (k0_pay3 v2) (k0_pay4 v4) x gv (k0_pay23 (k0_pay5 v6) x) (FloatOps.ofBits .f32 897988541#32) = k0_pay6 v0 v2 v4 v6 x gv := by
  have h := cast_same gv
  revert h
  dsimp only [k0_pay6]
  intro h
  rw [h]
  rfl

/-- The second keys are computed as the queries. -/
theorem pay32_eq : k0_pay32 (F := Ideal) (k0_pay2 v0) (k0_pay3 v2) (k0_pay4 v4) (k0_pay5 v6) x gv (k0_pay30 x) (k0_pay31 (k0_pay5 v6) x) = k0_pay6 v0 v2 v4 v6 x gv := by
  have h := cast_same gv
  revert h
  dsimp only [k0_pay6]
  intro h
  rw [h]
  rfl

/-- The third keys are computed as the queries. -/
theorem pay39_eq : k0_pay39 (F := Ideal) (k0_pay2 v0) (k0_pay3 v2) (k0_pay4 v4) (k0_pay5 v6) x gv (k0_pay36 x) (k0_pay37 x) (k0_pay38 x) = k0_pay6 v0 v2 v4 v6 x gv := by
  have h := cast_same gv
  revert h
  dsimp only [k0_pay6]
  intro h
  rw [h]
  rfl

/-- The first keys once more, the lanes down the rows. -/
theorem pay25_apply (a b c : FVec Ideal S256x128 .f32) (n : FVec Ideal S256x128 .f32) (l : EReal) (C : Fin 128) (r : Fin 256) :
    k0_pay25 (F := Ideal) a b c x gv n l (ix3 0 C r) = k0_pay24 (F := Ideal) a b c x gv n l (ix2 r C) := by
  unfold k0_pay25
  generalize k0_pay24 (F := Ideal) a b c x gv n l = y
  pointwise

/-- The second keys once more, the lanes down the rows. -/
theorem pay33_apply (a b c : FVec Ideal S256x128 .f32) (d : FVec Ideal S128x128 .bf16) (n : FVec Ideal S256x128 .bf16) (l : FVec Ideal S256x128 .f32) (C : Fin 128) (r : Fin 256) :
    k0_pay33 (F := Ideal) a b c d x gv n l (ix3 0 C r) = k0_pay32 (F := Ideal) a b c d x gv n l (ix2 r C) := by
  unfold k0_pay33
  generalize k0_pay32 (F := Ideal) a b c d x gv n l = y
  pointwise

/-- The third keys once more, the lanes down the rows. -/
theorem pay40_apply (a b c : FVec Ideal S256x128 .f32) (d : FVec Ideal S128x128 .bf16) (k : FVec Ideal S256x128 .f32) (n : FVec Ideal S256x128 .bf16) (l : FVec Ideal S256x128 .f32) (C : Fin 128) (r : Fin 256) :
    k0_pay40 (F := Ideal) a b c d x gv k n l (ix3 0 C r) = k0_pay39 (F := Ideal) a b c d x gv k n l (ix2 r C) := by
  unfold k0_pay40
  generalize k0_pay39 (F := Ideal) a b c d x gv k n l = y
  pointwise

/-- The first values once more, the lanes down the rows. -/
theorem pay26_apply (C : Fin 128) (r : Fin 256) : k0_pay26 (F := Ideal) x (ix3 0 C r) = x (ix2 r C) := by
  pointwise [k0_pay26]

/-- The second values once more, the lanes down the rows. -/
theorem pay34_apply (C : Fin 128) (r : Fin 256) : k0_pay34 (F := Ideal) x (ix3 0 C r) = x (ix2 r C) := by
  pointwise [k0_pay34]

/-- The third values once more, the lanes down the rows. -/
theorem pay41_apply (C : Fin 128) (r : Fin 256) : k0_pay41 (F := Ideal) x (ix3 0 C r) = x (ix2 r C) := by
  pointwise [k0_pay41]

/-- The gates. -/
theorem pay1_apply (r : Fin 256) (C : Fin 128) :
    k0_pay1 (F := Ideal) x (FloatOps.ofBits .f32 0#32) (ix2 r C) = gateOf (x (ix2 r C)) := by
  pointwise [k0_pay1]
  rfl

end

section

variable (x0 x1 : Vec Ideal S256x768 .f32) (x7 : Vec Ideal S3x1x128 .f32)

/-- A block's columns from 0 on. -/
theorem cols_0 (r : Fin 256) (k : Fin 128) :
    View.ld x1 (Rect.unit ![0, 0] ![256, 128] inb_S256x768_S256x128_0_0) (ix2 r k) = x1 (ix2 r ⟨0 + k.val, by omega⟩) := by
  pointwise

/-- A block's columns from 128 on. -/
theorem cols_128 (r : Fin 256) (k : Fin 128) :
    View.ld x1 (Rect.unit ![0, 128] ![256, 128] inb_S256x768_S256x128_0_128) (ix2 r k) = x1 (ix2 r ⟨128 + k.val, by omega⟩) := by
  pointwise

/-- A block's columns from 256 on. -/
theorem cols_256 (r : Fin 256) (k : Fin 128) :
    View.ld x1 (Rect.unit ![0, 256] ![256, 128] inb_S256x768_S256x128_0_256) (ix2 r k) = x1 (ix2 r ⟨256 + k.val, by omega⟩) := by
  pointwise

/-- A block's columns from 384 on. -/
theorem cols_384 (r : Fin 256) (k : Fin 128) :
    View.ld x1 (Rect.unit ![0, 384] ![256, 128] inb_S256x768_S256x128_0_384) (ix2 r k) = x1 (ix2 r ⟨384 + k.val, by omega⟩) := by
  pointwise

/-- A block's columns from 512 on. -/
theorem cols_512 (r : Fin 256) (k : Fin 128) :
    View.ld x1 (Rect.unit ![0, 512] ![256, 128] inb_S256x768_S256x128_0_512) (ix2 r k) = x1 (ix2 r ⟨512 + k.val, by omega⟩) := by
  pointwise

/-- A block's columns from 640 on. -/
theorem cols_640 (r : Fin 256) (k : Fin 128) :
    View.ld x1 (Rect.unit ![0, 640] ![256, 128] inb_S256x768_S256x128_0_640) (ix2 r k) = x1 (ix2 r ⟨640 + k.val, by omega⟩) := by
  pointwise

/-- The gains of the keys of number 0. -/
theorem gains_0 (C : Fin 128) :
    k0_pay22 (F := Ideal) (View.ld x7 (Rect.unit ![0, 0, 0] ![1, 1, 128] inb_S3x1x128_S1x1x128_0_0_0)) (ix2 0 C) = x7 (ix3 0 0 C) := by
  pointwise [k0_pay22]

/-- The gains of the keys of number 1. -/
theorem gains_1 (C : Fin 128) :
    k0_pay27 (F := Ideal) (View.ld x7 (Rect.unit ![1, 0, 0] ![1, 1, 128] inb_S3x1x128_S1x1x128_1_0_0)) (ix2 0 C) = x7 (ix3 1 0 C) := by
  pointwise [k0_pay27]

/-- The gains of the keys of number 2. -/
theorem gains_2 (C : Fin 128) :
    k0_pay35 (F := Ideal) (View.ld x7 (Rect.unit ![2, 0, 0] ![1, 1, 128] inb_S3x1x128_S1x1x128_2_0_0)) (ix2 0 C) = x7 (ix3 2 0 C) := by
  pointwise [k0_pay35]

end

section

variable (c : Dev nD) (i : grid0.Coords) (arg1 : Memref sig .tc .vmem S256x768 .f32) (harg1 : arg1.IsWhole) (arg2 : Memref sig .tc .vmem S256x768 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S3x1x128 .f32) (harg8 : arg8.IsWhole) (arg9 : Memref sig .tc .vmem S128x128 .bf16) (harg9 : arg9.IsWhole) (arg10 : Memref sig .tc .vmem S256x768 .f32) (harg10 : arg10.IsWhole) (arg11 : Memref sig .tc .vmem S256x512 .f32) (harg11 : arg11.IsWhole) (arg12 : Memref sig .tc .vmem S256x256 .f32) (harg12 : arg12.IsWhole) (arg13 : Memref sig .tc .vmem S256x128 .f32) (harg13 : arg13.IsWhole) (arg14 : Memref sig .tc .vmem S1x512x256 .f32) (harg14 : arg14.IsWhole) (arg15 : Memref sig .tc .vmem S1x256x256 .f32) (harg15 : arg15.IsWhole)
    (x0 : Vec Ideal S256x768 .f32) (x1 : Vec Ideal S256x768 .f32) (x2 : Vec Ideal S256x128 .f32) (x3 : Vec Ideal S256x128 .f32) (x4 : Vec Ideal S256x128 .f32) (x5 : Vec Ideal S256x128 .f32) (x6 : Vec Ideal S1x128 .f32) (x7 : Vec Ideal S3x1x128 .f32) (x8 : Vec Ideal S128x128 .bf16)

/-- What a grid point leaves of the queries. -/
theorem q_apply (cs sn : Fin 256 → Fin 8 → EReal) (g : Fin 64 → EReal) (hx : ∀ r k, IsReal (x0 (ix2 r k)))
    (h3 : ∀ r C, x3 (ix2 r C) = cosLane (cs r) C) (h4 : ∀ r C, x4 (ix2 r C) = upLane (sn r) C) (h5 : ∀ r C, x5 (ix2 r C) = downLane (sn r) C)
    (h8 : ∀ k C : Fin 128, x8 (ix2 k C) = if k.val / 64 = C.val / 64 then 1 else 0)
    (h6 : ∀ C : Fin 128, x6 (ix2 0 C) = g ⟨C.val % 64, Nat.mod_lt _ (by omega)⟩) (r : Fin 256) (C : Fin 768) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r C) = qRow (fun k => x0 (ix2 r k)) g (cs r) (sn r) C := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x3 (by decide), View.ld_unit_lit _ x4 (by decide), View.ld_unit_lit _ x5 (by decide), View.ld_unit_lit _ x8 (by decide), View.ld_unit_lit _ x6 (by decide)]
  intro hcover
  canon_tiles x h using hcover _
  all_goals
    rw [eq_ix2 (n0 := 256) (n1 := 128) x]
    have hr : x 0 = r := Fin.ext h0.symm
    rw [hr]
    replace h1 : C.val = _ := h1
  · refine Eq.trans (congrFun (pay21_eq x3 x4 x5 x8 (View.ld x0 (Rect.unit ![0, 640] ![256, 128] inb_S256x768_S256x128_0_640)) x6) _) ((pair_apply x3 x4 x5 x8 (View.ld x0 (Rect.unit ![0, 640] ![256, 128] inb_S256x768_S256x128_0_640)) x6 r (x 1) g (cs r) (sn r)
      (fun k => by rw [cols_640]; exact hx _ _) (h3 r _) (h4 r _) (h5 r _) h8 h6).trans ?_)
    refine (congrArg (fun f => pairRow f g (cs r) (sn r) (x 1)) (funext fun k => cols_640 x0 r k)).trans ?_
    exact qRow_at (fun k => x0 (ix2 r k)) g (cs r) (sn r) 640 (by norm_num) (x 1) C h1
  · refine Eq.trans (congrFun (pay18_eq x3 x4 x5 x8 (View.ld x0 (Rect.unit ![0, 512] ![256, 128] inb_S256x768_S256x128_0_512)) x6) _) ((pair_apply x3 x4 x5 x8 (View.ld x0 (Rect.unit ![0, 512] ![256, 128] inb_S256x768_S256x128_0_512)) x6 r (x 1) g (cs r) (sn r)
      (fun k => by rw [cols_512]; exact hx _ _) (h3 r _) (h4 r _) (h5 r _) h8 h6).trans ?_)
    refine (congrArg (fun f => pairRow f g (cs r) (sn r) (x 1)) (funext fun k => cols_512 x0 r k)).trans ?_
    exact qRow_at (fun k => x0 (ix2 r k)) g (cs r) (sn r) 512 (by norm_num) (x 1) C h1
  · refine Eq.trans (congrFun (pay17_eq x3 x4 x5 x8 (View.ld x0 (Rect.unit ![0, 384] ![256, 128] inb_S256x768_S256x128_0_384)) x6) _) ((pair_apply x3 x4 x5 x8 (View.ld x0 (Rect.unit ![0, 384] ![256, 128] inb_S256x768_S256x128_0_384)) x6 r (x 1) g (cs r) (sn r)
      (fun k => by rw [cols_384]; exact hx _ _) (h3 r _) (h4 r _) (h5 r _) h8 h6).trans ?_)
    refine (congrArg (fun f => pairRow f g (cs r) (sn r) (x 1)) (funext fun k => cols_384 x0 r k)).trans ?_
    exact qRow_at (fun k => x0 (ix2 r k)) g (cs r) (sn r) 384 (by norm_num) (x 1) C h1
  · refine Eq.trans (congrFun (pay13_eq x3 x4 x5 x8 (View.ld x0 (Rect.unit ![0, 256] ![256, 128] inb_S256x768_S256x128_0_256)) x6) _) ((pair_apply x3 x4 x5 x8 (View.ld x0 (Rect.unit ![0, 256] ![256, 128] inb_S256x768_S256x128_0_256)) x6 r (x 1) g (cs r) (sn r)
      (fun k => by rw [cols_256]; exact hx _ _) (h3 r _) (h4 r _) (h5 r _) h8 h6).trans ?_)
    refine (congrArg (fun f => pairRow f g (cs r) (sn r) (x 1)) (funext fun k => cols_256 x0 r k)).trans ?_
    exact qRow_at (fun k => x0 (ix2 r k)) g (cs r) (sn r) 256 (by norm_num) (x 1) C h1
  · refine Eq.trans (congrFun (pay7_eq x3 x4 x5 x8 (View.ld x0 (Rect.unit ![0, 128] ![256, 128] inb_S256x768_S256x128_0_128)) x6) _) ((pair_apply x3 x4 x5 x8 (View.ld x0 (Rect.unit ![0, 128] ![256, 128] inb_S256x768_S256x128_0_128)) x6 r (x 1) g (cs r) (sn r)
      (fun k => by rw [cols_128]; exact hx _ _) (h3 r _) (h4 r _) (h5 r _) h8 h6).trans ?_)
    refine (congrArg (fun f => pairRow f g (cs r) (sn r) (x 1)) (funext fun k => cols_128 x0 r k)).trans ?_
    exact qRow_at (fun k => x0 (ix2 r k)) g (cs r) (sn r) 128 (by norm_num) (x 1) C h1
  · refine Eq.trans (rfl) ((pair_apply x3 x4 x5 x8 (View.ld x0 (Rect.unit ![0, 0] ![256, 128] inb_S256x768_S256x128_0_0)) x6 r (x 1) g (cs r) (sn r)
      (fun k => by rw [cols_0]; exact hx _ _) (h3 r _) (h4 r _) (h5 r _) h8 h6).trans ?_)
    refine (congrArg (fun f => pairRow f g (cs r) (sn r) (x 1)) (funext fun k => cols_0 x0 r k)).trans ?_
    exact qRow_at (fun k => x0 (ix2 r k)) g (cs r) (sn r) 0 (by norm_num) (x 1) C (h1.trans (Nat.zero_add _).symm)

/-- What a grid point leaves of the first two keys and values. -/
theorem cs_apply (cs sn : Fin 256 → Fin 8 → EReal) (g : Fin 3 → Fin 64 → EReal) (hx : ∀ r (k : Fin 768), k.val / 128 % 2 = 0 → IsReal (x1 (ix2 r k)))
    (h3 : ∀ r C, x3 (ix2 r C) = cosLane (cs r) C) (h4 : ∀ r C, x4 (ix2 r C) = upLane (sn r) C) (h5 : ∀ r C, x5 (ix2 r C) = downLane (sn r) C)
    (h8 : ∀ k C : Fin 128, x8 (ix2 k C) = if k.val / 64 = C.val / 64 then 1 else 0)
    (h7 : ∀ (i : Fin 3) (C : Fin 128), x7 (ix3 i 0 C) = g i ⟨C.val % 64, Nat.mod_lt _ (by omega)⟩) (r : Fin 256) (C : Fin 512) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r C) = kvPrep (fun k => x1 (ix2 r k)) g (cs r) (sn r) ⟨0 + C.val, by omega⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x3 (by decide), View.ld_unit_lit _ x4 (by decide), View.ld_unit_lit _ x5 (by decide), View.ld_unit_lit _ x8 (by decide)]
  intro hcover
  canon_tiles x h using hcover _
  all_goals
    rw [eq_ix2 (n0 := 256) (n1 := 128) x]
    have hr : x 0 = r := Fin.ext h0.symm
    rw [hr]
    replace h1 : C.val = _ := h1
  · exact ((cols_384 x1 r (x 1)).trans (kvPrep_value (fun k => x1 (ix2 r k)) g (cs r) (sn r) 384 (by norm_num) (x 1) _ (by show 0 + C.val = 384 + (x 1).val; omega) _))
  · refine (congrFun (pay32_eq x3 x4 x5 x8 (View.ld x1 (Rect.unit ![0, 256] ![256, 128] inb_S256x768_S256x128_0_256)) (k0_pay27 (F := Ideal) (View.ld x7 (Rect.unit ![1, 0, 0] ![1, 1, 128] inb_S3x1x128_S1x1x128_1_0_0)))) _).trans
      ((pair_apply x3 x4 x5 x8 (View.ld x1 (Rect.unit ![0, 256] ![256, 128] inb_S256x768_S256x128_0_256)) (k0_pay27 (F := Ideal) (View.ld x7 (Rect.unit ![1, 0, 0] ![1, 1, 128] inb_S3x1x128_S1x1x128_1_0_0))) r (x 1) (g 1) (cs r) (sn r)
      (fun k => by rw [cols_256]; exact hx _ _ (by show (256 + k.val) / 128 % 2 = 0; omega)) (h3 r _) (h4 r _) (h5 r _) h8 (fun C => (gains_1 x7 C).trans (h7 1 C))).trans ?_)
    refine (congrArg (fun f => pairRow f (g 1) (cs r) (sn r) (x 1)) (funext fun k => cols_256 x1 r k)).trans ?_
    exact kvPrep_key (fun k => x1 (ix2 r k)) g (cs r) (sn r) 256 (by norm_num) (x 1) _ (by show 0 + C.val = 256 + (x 1).val; omega) 1 (by norm_num)
  · exact ((cols_128 x1 r (x 1)).trans (kvPrep_value (fun k => x1 (ix2 r k)) g (cs r) (sn r) 128 (by norm_num) (x 1) _ (by show 0 + C.val = 128 + (x 1).val; omega) _))
  · refine (congrFun (pay24_eq x3 x4 x5 x8 (View.ld x1 (Rect.unit ![0, 0] ![256, 128] inb_S256x768_S256x128_0_0)) (k0_pay22 (F := Ideal) (View.ld x7 (Rect.unit ![0, 0, 0] ![1, 1, 128] inb_S3x1x128_S1x1x128_0_0_0)))) _).trans
      ((pair_apply x3 x4 x5 x8 (View.ld x1 (Rect.unit ![0, 0] ![256, 128] inb_S256x768_S256x128_0_0)) (k0_pay22 (F := Ideal) (View.ld x7 (Rect.unit ![0, 0, 0] ![1, 1, 128] inb_S3x1x128_S1x1x128_0_0_0))) r (x 1) (g 0) (cs r) (sn r)
      (fun k => by rw [cols_0]; exact hx _ _ (by show (0 + k.val) / 128 % 2 = 0; omega)) (h3 r _) (h4 r _) (h5 r _) h8 (fun C => (gains_0 x7 C).trans (h7 0 C))).trans ?_)
    refine (congrArg (fun f => pairRow f (g 0) (cs r) (sn r) (x 1)) (funext fun k => cols_0 x1 r k)).trans ?_
    exact kvPrep_key (fun k => x1 (ix2 r k)) g (cs r) (sn r) 0 (by norm_num) (x 1) _ (by show 0 + C.val = 0 + (x 1).val; omega) 0 (by norm_num)

/-- What a grid point leaves of the third keys and values. -/
theorem win_apply (cs sn : Fin 256 → Fin 8 → EReal) (g : Fin 3 → Fin 64 → EReal) (hx : ∀ r (k : Fin 768), k.val / 128 % 2 = 0 → IsReal (x1 (ix2 r k)))
    (h3 : ∀ r C, x3 (ix2 r C) = cosLane (cs r) C) (h4 : ∀ r C, x4 (ix2 r C) = upLane (sn r) C) (h5 : ∀ r C, x5 (ix2 r C) = downLane (sn r) C)
    (h8 : ∀ k C : Fin 128, x8 (ix2 k C) = if k.val / 64 = C.val / 64 then 1 else 0)
    (h7 : ∀ (i : Fin 3) (C : Fin 128), x7 (ix3 i 0 C) = g i ⟨C.val % 64, Nat.mod_lt _ (by omega)⟩) (r : Fin 256) (C : Fin 256) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r C) = kvPrep (fun k => x1 (ix2 r k)) g (cs r) (sn r) ⟨512 + C.val, by omega⟩ := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x3 (by decide), View.ld_unit_lit _ x4 (by decide), View.ld_unit_lit _ x5 (by decide), View.ld_unit_lit _ x8 (by decide)]
  intro hcover
  canon_tiles x h using hcover _
  all_goals
    rw [eq_ix2 (n0 := 256) (n1 := 128) x]
    have hr : x 0 = r := Fin.ext h0.symm
    rw [hr]
    replace h1 : C.val = _ := h1
  · exact ((cols_640 x1 r (x 1)).trans (kvPrep_value (fun k => x1 (ix2 r k)) g (cs r) (sn r) 640 (by norm_num) (x 1) _ (by show 512 + C.val = 640 + (x 1).val; omega) _))
  · refine (congrFun (pay39_eq x3 x4 x5 x8 (View.ld x1 (Rect.unit ![0, 512] ![256, 128] inb_S256x768_S256x128_0_512)) (k0_pay35 (F := Ideal) (View.ld x7 (Rect.unit ![2, 0, 0] ![1, 1, 128] inb_S3x1x128_S1x1x128_2_0_0)))) _).trans
      ((pair_apply x3 x4 x5 x8 (View.ld x1 (Rect.unit ![0, 512] ![256, 128] inb_S256x768_S256x128_0_512)) (k0_pay35 (F := Ideal) (View.ld x7 (Rect.unit ![2, 0, 0] ![1, 1, 128] inb_S3x1x128_S1x1x128_2_0_0))) r (x 1) (g 2) (cs r) (sn r)
      (fun k => by rw [cols_512]; exact hx _ _ (by show (512 + k.val) / 128 % 2 = 0; omega)) (h3 r _) (h4 r _) (h5 r _) h8 (fun C => (gains_2 x7 C).trans (h7 2 C))).trans ?_)
    refine (congrArg (fun f => pairRow f (g 2) (cs r) (sn r) (x 1)) (funext fun k => cols_512 x1 r k)).trans ?_
    exact kvPrep_key (fun k => x1 (ix2 r k)) g (cs r) (sn r) 512 (by norm_num) (x 1) _ (by show 512 + C.val = 512 + (x 1).val; omega) 2 (by norm_num)

/-- What a grid point leaves of the first two keys and values, the lanes down the rows. -/
theorem csT_apply (cs sn : Fin 256 → Fin 8 → EReal) (g : Fin 3 → Fin 64 → EReal) (hx : ∀ r (k : Fin 768), k.val / 128 % 2 = 0 → IsReal (x1 (ix2 r k)))
    (h3 : ∀ r C, x3 (ix2 r C) = cosLane (cs r) C) (h4 : ∀ r C, x4 (ix2 r C) = upLane (sn r) C) (h5 : ∀ r C, x5 (ix2 r C) = downLane (sn r) C)
    (h8 : ∀ k C : Fin 128, x8 (ix2 k C) = if k.val / 64 = C.val / 64 then 1 else 0)
    (h7 : ∀ (i : Fin 3) (C : Fin 128), x7 (ix3 i 0 C) = g i ⟨C.val % 64, Nat.mod_lt _ (by omega)⟩) (r : Fin 256) (C : Fin 512) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 0 C r) = kvPrep (fun k => x1 (ix2 r k)) g (cs r) (sn r) ⟨0 + C.val, by omega⟩ := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x3 (by decide), View.ld_unit_lit _ x4 (by decide), View.ld_unit_lit _ x5 (by decide), View.ld_unit_lit _ x8 (by decide)]
  intro hcover
  canon_tiles x h using hcover _
  all_goals
    rw [eq_ix3 (n0 := 1) (n1 := 128) (n2 := 256) x]
    have e0 : x 0 = (0 : Fin 1) := Subsingleton.elim (α := Fin 1) _ _
    have hr : x 2 = r := Fin.ext h2.symm
    rw [e0, hr]
    replace h1 : C.val = _ := h1
  · exact (pay34_apply _ (x 1) r).trans ((cols_384 x1 r (x 1)).trans (kvPrep_value (fun k => x1 (ix2 r k)) g (cs r) (sn r) 384 (by norm_num) (x 1) _ (by show 0 + C.val = 384 + (x 1).val; omega) _))
  · refine (pay33_apply _ _ _ _ _ _ _ _ (x 1) r).trans (((congrFun (pay32_eq x3 x4 x5 x8 (View.ld x1 (Rect.unit ![0, 256] ![256, 128] inb_S256x768_S256x128_0_256)) (k0_pay27 (F := Ideal) (View.ld x7 (Rect.unit ![1, 0, 0] ![1, 1, 128] inb_S3x1x128_S1x1x128_1_0_0)))) _).trans
      ((pair_apply x3 x4 x5 x8 (View.ld x1 (Rect.unit ![0, 256] ![256, 128] inb_S256x768_S256x128_0_256)) (k0_pay27 (F := Ideal) (View.ld x7 (Rect.unit ![1, 0, 0] ![1, 1, 128] inb_S3x1x128_S1x1x128_1_0_0))) r (x 1) (g 1) (cs r) (sn r)
      (fun k => by rw [cols_256]; exact hx _ _ (by show (256 + k.val) / 128 % 2 = 0; omega)) (h3 r _) (h4 r _) (h5 r _) h8 (fun C => (gains_1 x7 C).trans (h7 1 C))).trans ?_)))
    refine (congrArg (fun f => pairRow f (g 1) (cs r) (sn r) (x 1)) (funext fun k => cols_256 x1 r k)).trans ?_
    exact kvPrep_key (fun k => x1 (ix2 r k)) g (cs r) (sn r) 256 (by norm_num) (x 1) _ (by show 0 + C.val = 256 + (x 1).val; omega) 1 (by norm_num)
  · exact (pay26_apply _ (x 1) r).trans ((cols_128 x1 r (x 1)).trans (kvPrep_value (fun k => x1 (ix2 r k)) g (cs r) (sn r) 128 (by norm_num) (x 1) _ (by show 0 + C.val = 128 + (x 1).val; omega) _))
  · refine (pay25_apply _ _ _ _ _ _ _ (x 1) r).trans (((congrFun (pay24_eq x3 x4 x5 x8 (View.ld x1 (Rect.unit ![0, 0] ![256, 128] inb_S256x768_S256x128_0_0)) (k0_pay22 (F := Ideal) (View.ld x7 (Rect.unit ![0, 0, 0] ![1, 1, 128] inb_S3x1x128_S1x1x128_0_0_0)))) _).trans
      ((pair_apply x3 x4 x5 x8 (View.ld x1 (Rect.unit ![0, 0] ![256, 128] inb_S256x768_S256x128_0_0)) (k0_pay22 (F := Ideal) (View.ld x7 (Rect.unit ![0, 0, 0] ![1, 1, 128] inb_S3x1x128_S1x1x128_0_0_0))) r (x 1) (g 0) (cs r) (sn r)
      (fun k => by rw [cols_0]; exact hx _ _ (by show (0 + k.val) / 128 % 2 = 0; omega)) (h3 r _) (h4 r _) (h5 r _) h8 (fun C => (gains_0 x7 C).trans (h7 0 C))).trans ?_)))
    refine (congrArg (fun f => pairRow f (g 0) (cs r) (sn r) (x 1)) (funext fun k => cols_0 x1 r k)).trans ?_
    exact kvPrep_key (fun k => x1 (ix2 r k)) g (cs r) (sn r) 0 (by norm_num) (x 1) _ (by show 0 + C.val = 0 + (x 1).val; omega) 0 (by norm_num)

/-- What a grid point leaves of the third keys and values, the lanes down the rows. -/
theorem winT_apply (cs sn : Fin 256 → Fin 8 → EReal) (g : Fin 3 → Fin 64 → EReal) (hx : ∀ r (k : Fin 768), k.val / 128 % 2 = 0 → IsReal (x1 (ix2 r k)))
    (h3 : ∀ r C, x3 (ix2 r C) = cosLane (cs r) C) (h4 : ∀ r C, x4 (ix2 r C) = upLane (sn r) C) (h5 : ∀ r C, x5 (ix2 r C) = downLane (sn r) C)
    (h8 : ∀ k C : Fin 128, x8 (ix2 k C) = if k.val / 64 = C.val / 64 then 1 else 0)
    (h7 : ∀ (i : Fin 3) (C : Fin 128), x7 (ix3 i 0 C) = g i ⟨C.val % 64, Nat.mod_lt _ (by omega)⟩) (r : Fin 256) (C : Fin 256) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 0 C r) = kvPrep (fun k => x1 (ix2 r k)) g (cs r) (sn r) ⟨512 + C.val, by omega⟩ := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x3 (by decide), View.ld_unit_lit _ x4 (by decide), View.ld_unit_lit _ x5 (by decide), View.ld_unit_lit _ x8 (by decide)]
  intro hcover
  canon_tiles x h using hcover _
  all_goals
    rw [eq_ix3 (n0 := 1) (n1 := 128) (n2 := 256) x]
    have e0 : x 0 = (0 : Fin 1) := Subsingleton.elim (α := Fin 1) _ _
    have hr : x 2 = r := Fin.ext h2.symm
    rw [e0, hr]
    replace h1 : C.val = _ := h1
  · exact (pay41_apply _ (x 1) r).trans ((cols_640 x1 r (x 1)).trans (kvPrep_value (fun k => x1 (ix2 r k)) g (cs r) (sn r) 640 (by norm_num) (x 1) _ (by show 512 + C.val = 640 + (x 1).val; omega) _))
  · refine (pay40_apply _ _ _ _ _ _ _ _ _ (x 1) r).trans (((congrFun (pay39_eq x3 x4 x5 x8 (View.ld x1 (Rect.unit ![0, 512] ![256, 128] inb_S256x768_S256x128_0_512)) (k0_pay35 (F := Ideal) (View.ld x7 (Rect.unit ![2, 0, 0] ![1, 1, 128] inb_S3x1x128_S1x1x128_2_0_0)))) _).trans
      ((pair_apply x3 x4 x5 x8 (View.ld x1 (Rect.unit ![0, 512] ![256, 128] inb_S256x768_S256x128_0_512)) (k0_pay35 (F := Ideal) (View.ld x7 (Rect.unit ![2, 0, 0] ![1, 1, 128] inb_S3x1x128_S1x1x128_2_0_0))) r (x 1) (g 2) (cs r) (sn r)
      (fun k => by rw [cols_512]; exact hx _ _ (by show (512 + k.val) / 128 % 2 = 0; omega)) (h3 r _) (h4 r _) (h5 r _) h8 (fun C => (gains_2 x7 C).trans (h7 2 C))).trans ?_)))
    refine (congrArg (fun f => pairRow f (g 2) (cs r) (sn r) (x 1)) (funext fun k => cols_512 x1 r k)).trans ?_
    exact kvPrep_key (fun k => x1 (ix2 r k)) g (cs r) (sn r) 512 (by norm_num) (x 1) _ (by show 512 + C.val = 512 + (x 1).val; omega) 2 (by norm_num)

/-- What a grid point leaves of the gates. -/
theorem gate_apply (r : Fin 256) (C : Fin 128) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r C) = gateOf (x2 (ix2 r C)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  have hcover := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
  revert hcover
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit _ x2 (by decide)]
  intro hcover
  canon_tiles x h using hcover _
  rw [eq_ix2 (n0 := 256) (n1 := 128) x]
  have hr : x 0 = r := Fin.ext h0.symm
  have hC : x 1 = C := Fin.ext h1.symm
  rw [hr, hC]
  exact pay1_apply x2 r C

end

end Cert.NsaPrepIdeal.Prep

end
-- ==== Proof.NsaPrep.Array.lean ====
module

public import proofs.«01_k».proof.Proof.NsaPrep.Kernel

@[expose] public section

set_option maxRecDepth 16384

noncomputable section

namespace Cert.NsaPrepIdeal.Prep

open Cert.NsaPrepIdeal Cert.NsaPrepIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The query heads' gains, as the pipeline finds them: twice one after the other. -/
theorem V_gq (c : Dev nD) (C : Fin 128) :
    V m c main_v5 (ix2 0 C) = m ((c : Thread nD τ).loc main_arg1) (ix2 0 ⟨C.val % 64, Nat.mod_lt _ (by omega)⟩) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The key heads' gains, as the pipeline finds them: each twice one after the other. -/
theorem V_gkv (c : Dev nD) (i : Fin 3) (C : Fin 128) :
    V m c main_v10 (ix3 i 0 C) = m ((c : Thread nD τ).loc main_arg1) (ix2 ⟨1 + i.val, by omega⟩ ⟨C.val % 64, Nat.mod_lt _ (by omega)⟩) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The matrix of ones on the heads' lanes, as the pipeline finds it. -/
theorem V_s (c : Dev nD) (k C : Fin 128) : V m c main_v50 (ix2 k C) = (if k.val / 64 = C.val / 64 then 1 else 0 : EReal) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise
  simp only [StableHlo.TRef.toBuf, StableHlo.TRef.ofBuf, cast_eq]
  pointwise
  exact ones_entry k C

/-- A row of a table made of three parts, twice one after the other. -/
theorem cat3 (a b : FVec Ideal S4096x8 .f32) (r : FVec Ideal S4096x48 .f32) (t : Fin 4096) (C : Fin 128) :
    concatenate S4096x128 1 [⟨S4096x64, concatenate S4096x64 1 [⟨S4096x8, a⟩, ⟨S4096x8, b⟩, ⟨S4096x48, r⟩] concatenates_S4096x8_S4096x8_S4096x48_S4096x64_d1⟩,
      ⟨S4096x64, concatenate S4096x64 1 [⟨S4096x8, a⟩, ⟨S4096x8, b⟩, ⟨S4096x48, r⟩] concatenates_S4096x8_S4096x8_S4096x48_S4096x64_d1⟩]
      concatenates_S4096x64_S4096x64_S4096x128_d1 (ix2 t C)
      = if h : C.val % 64 < 8 then a (ix2 t ⟨C.val % 64, h⟩) else if h' : C.val % 64 - 8 < 8 then b (ix2 t ⟨C.val % 64 - 8, h'⟩)
        else r (ix2 t ⟨C.val % 64 - 8 - 8, by omega⟩) := by
  pointwise
  by_cases hC : C.val < 64
  · have e : C.val % 64 = C.val := by omega
    rw [dif_pos hC]
    simp only [e]
  · have e : C.val % 64 = C.val - 64 := by omega
    rw [dif_neg hC]
    simp only [e]

/-- Lines of operations one after the other, cut in two. -/
theorem after_split (n : ℕ) (l : List (HloOp τ sig (Elt Ideal))) (F : Valuation τ sig (Elt Ideal)) :
    StableHlo.after l F = StableHlo.after (l.drop n) (StableHlo.after (l.take n) F) := by
  rw [← StableHlo.after_append, List.take_append_drop]

/-- The table multiplied in place, as the pipeline finds it. -/
theorem V_cos (c : Dev nD) (t : Fin 4096) (C : Fin 128) : V m c main_v37 (ix2 t C) = cosLane (fun j => Ideal.cos (ropeAngle t j)) C := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  rw [after_split 40]
  generalize hG : StableHlo.after (List.take 40 _) _ = G
  have h27 (j : Fin 8) : G (Proc.devRef .tc main_v27) (ix2 t j) = Ideal.cos (ropeAngle t j) := by
    rw [← hG]
    simp only [List.take_succ_cons, List.take_zero]
    after_results
    pointwise
    rfl
  have h32 (j : Fin 48) : G (Proc.devRef .tc main_v32) (ix2 t j) = (1 : EReal) := by
    rw [← hG]
    simp only [List.take_succ_cons, List.take_zero]
    after_results
    pointwise
  simp only [List.drop_succ_cons, List.drop_zero]
  after_results
  refine (cat3 (G (Proc.devRef .tc main_v27)) (G (Proc.devRef .tc main_v27)) (G (Proc.devRef .tc main_v32)) t C).trans ?_
  unfold cosLane
  simp only [h27, h32]

/-- The table for the lane eight below, as the pipeline finds it. -/
theorem V_up (c : Dev nD) (t : Fin 4096) (C : Fin 128) : V m c main_v38 (ix2 t C) = upLane (fun j => Ideal.sin (ropeAngle t j)) C := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  rw [after_split 40]
  generalize hG : StableHlo.after (List.take 40 _) _ = G
  have h28 (j : Fin 8) : G (Proc.devRef .tc main_v28) (ix2 t j) = Ideal.sin (ropeAngle t j) := by
    rw [← hG]
    simp only [List.take_succ_cons, List.take_zero]
    after_results
    pointwise
    rfl
  have h29 (j : Fin 8) : G (Proc.devRef .tc main_v29) (ix2 t j) = (0 : EReal) := by
    rw [← hG]
    simp only [List.take_succ_cons, List.take_zero]
    after_results
    pointwise
  have h30 (j : Fin 48) : G (Proc.devRef .tc main_v30) (ix2 t j) = (0 : EReal) := by
    rw [← hG]
    simp only [List.take_succ_cons, List.take_zero]
    after_results
    pointwise
  simp only [List.drop_succ_cons, List.drop_zero]
  after_results
  refine (cat3 (G (Proc.devRef .tc main_v29)) (G (Proc.devRef .tc main_v28)) (G (Proc.devRef .tc main_v30)) t C).trans ?_
  unfold upLane
  simp only [h28, h29, h30]
  rfl

/-- The table for the lane eight above, as the pipeline finds it. -/
theorem V_down (c : Dev nD) (t : Fin 4096) (C : Fin 128) : V m c main_v39 (ix2 t C) = downLane (fun j => Ideal.sin (ropeAngle t j)) C := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  rw [after_split 40]
  generalize hG : StableHlo.after (List.take 40 _) _ = G
  have h28 (j : Fin 8) : G (Proc.devRef .tc main_v28) (ix2 t j) = Ideal.sin (ropeAngle t j) := by
    rw [← hG]
    simp only [List.take_succ_cons, List.take_zero]
    after_results
    pointwise
    rfl
  have h29 (j : Fin 8) : G (Proc.devRef .tc main_v29) (ix2 t j) = (0 : EReal) := by
    rw [← hG]
    simp only [List.take_succ_cons, List.take_zero]
    after_results
    pointwise
  have h30 (j : Fin 48) : G (Proc.devRef .tc main_v30) (ix2 t j) = (0 : EReal) := by
    rw [← hG]
    simp only [List.take_succ_cons, List.take_zero]
    after_results
    pointwise
  simp only [List.drop_succ_cons, List.drop_zero]
  after_results
  refine (cat3 (Host.negf (F := Ideal) (G (Proc.devRef .tc main_v28))) (G (Proc.devRef .tc main_v29)) (G (Proc.devRef .tc main_v30)) t C).trans ?_
  have hn (j : Fin 8) : (Host.negf (F := Ideal) (s := S4096x8) (φ := .f32) (G (Proc.devRef .tc main_v28))) (ix2 t j) = -Ideal.sin (ropeAngle t j) := by
    rw [← h28 j]
    rfl
  unfold downLane
  by_cases h : C.val % 64 < 8
  · rw [dif_pos h, dif_pos h]
    exact hn _
  · rw [dif_neg h, dif_neg h]
    by_cases h' : C.val % 64 - 8 < 8
    · rw [dif_pos h']
      exact h29 _
    · rw [dif_neg h']
      exact h30 _

/-- The windows' block indices. -/
theorem idx : ∀ t : Fin grid0.N, win0_0.index t = ![t.val, 0] ∧ win0_1.index t = ![t.val, 1] ∧ win0_2.index t = ![t.val, 14]
    ∧ win0_3.index t = ![t.val % 16, 0] ∧ win0_4.index t = ![t.val % 16, 0] ∧ win0_5.index t = ![t.val % 16, 0] ∧ win0_6.index t = ![0, 0]
    ∧ win0_7.index t = ![0, 0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val / 16, 0, t.val % 16]
    ∧ win0_14.index t = ![t.val / 16, 0, t.val % 16] := by
  decide +kernel

/-- The grid has sixty-four points, each of 256 rows. -/
theorem lt (t : Fin grid0.N) : t.val < 64 := t.isLt

/-- The row a grid point's row is. -/
def rowAt (t : Fin grid0.N) (r : Fin 256) : Fin 16384 := ⟨t.val * 256 + r.val, by have := lt t; omega⟩

/-- The queries' columns at a grid point. -/
theorem q_block (c : Dev nD) (t : Fin grid0.N) (r : Fin 256) (k : Fin 768) :
    X0_0 m c t (ix2 r k) = m ((c : Thread nD τ).loc main_arg0) (ix2 (rowAt t r) ⟨k.val, by omega⟩) := by
  unfold X0_0 Pipeline.Window.fill
  rw [dif_pos (moved0_0 t _)]
  blk_simp [iblk]
  refine (congrFun (V_main_arg0 m c) _).trans ?_
  blk_ext [idx t, rowAt]

/-- The keys' and values' columns at a grid point. -/
theorem kv_block (c : Dev nD) (t : Fin grid0.N) (r : Fin 256) (k : Fin 768) :
    X0_1 m c t (ix2 r k) = m ((c : Thread nD τ).loc main_arg0) (ix2 (rowAt t r) ⟨768 + k.val, by omega⟩) := by
  unfold X0_1 Pipeline.Window.fill
  rw [dif_pos (moved0_1 t _)]
  blk_simp [iblk]
  refine (congrFun (V_main_arg0 m c) _).trans ?_
  blk_ext [idx t, rowAt]

/-- The gates' columns at a grid point. -/
theorem gate_block (c : Dev nD) (t : Fin grid0.N) (r : Fin 256) (k : Fin 128) :
    iblk m c 2 t (ix2 r k) = m ((c : Thread nD τ).loc main_arg0) (ix2 (rowAt t r) ⟨1792 + k.val, by omega⟩) := by
  refine Eq.trans ?_ (congrFun (V_main_arg0 m c) _)
  blk_ext [iblk, V, idx t, rowAt]

/-- The table multiplied in place, at a grid point. -/
theorem cos_block (c : Dev nD) (t : Fin grid0.N) (r : Fin 256) (C : Fin 128) : iblk m c 3 t (ix2 r C) = cosLane (cosOf (rowAt t r)) C := by
  have ht := lt t
  have e : timeOf (rowAt t r) = ⟨t.val % 16 * 256 + r.val, by omega⟩ := Fin.ext (by show (t.val * 256 + r.val) % 4096 = t.val % 16 * 256 + r.val; omega)
  unfold cosOf
  rw [e, ← V_cos m c]
  blk_ext [iblk, V, idx t]

/-- The table for the lane eight below, at a grid point. -/
theorem up_block (c : Dev nD) (t : Fin grid0.N) (r : Fin 256) (C : Fin 128) : iblk m c 4 t (ix2 r C) = upLane (sinOf (rowAt t r)) C := by
  have ht := lt t
  have e : timeOf (rowAt t r) = ⟨t.val % 16 * 256 + r.val, by omega⟩ := Fin.ext (by show (t.val * 256 + r.val) % 4096 = t.val % 16 * 256 + r.val; omega)
  unfold sinOf
  rw [e, ← V_up m c]
  blk_ext [iblk, V, idx t]

/-- The table for the lane eight above, at a grid point. -/
theorem down_block (c : Dev nD) (t : Fin grid0.N) (r : Fin 256) (C : Fin 128) : iblk m c 5 t (ix2 r C) = downLane (sinOf (rowAt t r)) C := by
  have ht := lt t
  have e : timeOf (rowAt t r) = ⟨t.val % 16 * 256 + r.val, by omega⟩ := Fin.ext (by show (t.val * 256 + r.val) % 4096 = t.val % 16 * 256 + r.val; omega)
  unfold sinOf
  rw [e, ← V_down m c]
  blk_ext [iblk, V, idx t]

/-- The query heads' gains at a grid point. -/
theorem gq_block (c : Dev nD) (t : Fin grid0.N) (C : Fin 128) : iblk m c 6 t (ix2 0 C) = V m c main_v5 (ix2 0 C) := by
  blk_ext [iblk, V, idx t]

/-- The key heads' gains at a grid point. -/
theorem gkv_block (c : Dev nD) (t : Fin grid0.N) (i : Fin 3) (C : Fin 128) : iblk m c 7 t (ix3 i 0 C) = V m c main_v10 (ix3 i 0 C) := by
  blk_ext [iblk, V, idx t]

/-- The matrix of ones at a grid point. -/
theorem s_block (c : Dev nD) (t : Fin grid0.N) (k C : Fin 128) : iblk m c 8 t (ix2 k C) = V m c main_v50 (ix2 k C) := by
  blk_ext [iblk, V, idx t]

/-- The windows' blocks tile the array of the queries. -/
theorem q_covers : win0_9.Covers := by decide +kernel

/-- All queries. -/
def qOf (c : Dev nD) : S16384x768.Idx → EReal := fun j => qAt (m ((c : Thread nD τ).loc main_arg0)) (m ((c : Thread nD τ).loc main_arg1)) (j 0) (j 1)

/-- The queries at an index given by its two coordinates. -/
theorem q_at (c : Dev nD) (j : S16384x768.Idx) (R : Fin 16384) (C : Fin 768) (h0 : (j 0).val = R.val) (h1 : (j 1).val = C.val) : qOf m c j = qAt (m ((c : Thread nD τ).loc main_arg0)) (m ((c : Thread nD τ).loc main_arg1)) R C := by
  have e0 : j 0 = R := Fin.ext h0
  have e1 : j 1 = C := Fin.ext h1
  unfold qOf
  rw [e0, e1]

/-- What a grid point leaves of the queries is theirs at its block's places. -/
theorem q_point (c : Dev nD) (hq : ∀ R (k : Fin 768), IsReal (m ((c : Thread nD τ).loc main_arg0) (ix2 R ⟨k.val, by omega⟩))) (t : Fin grid0.N) (r : Fin 256) (C : Fin 768) :
    (outsAt0 m c t).1 (ix2 r C) = qOf m c ((win0_9.blk t).view.emb (ix2 r C)) := by
  have ht := lt t
  rw [q_at m c _ (rowAt t r) C (by blk_simp [idx t, rowAt]) (by blk_simp [idx t])]
  unfold qAt
  rw [← funext fun k => q_block m c t r k]
  unfold outsAt0
  dsimp only
  exact q_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (fun r => cosOf (rowAt t r)) (fun r => sinOf (rowAt t r)) (fun e => (m ((c : Thread nD τ).loc main_arg1)) (ix2 0 e))
    (fun r k => by rw [q_block]; exact hq _ _) (fun r C => cos_block m c t r C) (fun r C => up_block m c t r C) (fun r C => down_block m c t r C) (fun k C => (s_block m c t k C).trans (V_s m c k C)) (fun C => (gq_block m c t C).trans (V_gq m c C)) r C

/-- The array of the queries the kernel leaves. -/
theorem q_arr (c : Dev nD) (hq : ∀ R (k : Fin 768), IsReal (m ((c : Thread nD τ).loc main_arg0) (ix2 R ⟨k.val, by omega⟩))) : (dats m 0 c).arrAt 9 cfg0.N = qOf m c := by
  refine (dats m 0 c).arrAt_eq_of_covers 9 _ q_covers fun t hf y => ?_
  blk_simp
  rw [after0_9]
  have e : y = ix2 (y 0) (y 1) := eq_ix2 y
  rw [e]
  exact q_point m c hq t (y 0) (y 1)

/-- The windows' blocks tile the array of the first two keys and values. -/
theorem cs_covers : win0_10.Covers := by decide +kernel

/-- All first two keys and values. -/
def csOf (c : Dev nD) : S16384x512.Idx → EReal := fun j => csAt (m ((c : Thread nD τ).loc main_arg0)) (m ((c : Thread nD τ).loc main_arg1)) (j 0) (j 1)

/-- The first two keys and values at an index given by its two coordinates. -/
theorem cs_at (c : Dev nD) (j : S16384x512.Idx) (R : Fin 16384) (C : Fin 512) (h0 : (j 0).val = R.val) (h1 : (j 1).val = C.val) : csOf m c j = csAt (m ((c : Thread nD τ).loc main_arg0)) (m ((c : Thread nD τ).loc main_arg1)) R C := by
  have e0 : j 0 = R := Fin.ext h0
  have e1 : j 1 = C := Fin.ext h1
  unfold csOf
  rw [e0, e1]

/-- What a grid point leaves of the first two keys and values is theirs at its block's places. -/
theorem cs_point (c : Dev nD) (hk : ∀ R (k : Fin 768), k.val / 128 % 2 = 0 → IsReal (m ((c : Thread nD τ).loc main_arg0) (ix2 R ⟨768 + k.val, by omega⟩))) (t : Fin grid0.N) (r : Fin 256) (C : Fin 512) :
    (outsAt0 m c t).2.1 (ix2 r C) = csOf m c ((win0_10.blk t).view.emb (ix2 r C)) := by
  have ht := lt t
  rw [cs_at m c _ (rowAt t r) C (by blk_simp [idx t, rowAt]) (by blk_simp [idx t])]
  unfold csAt kvAt
  rw [← funext fun k => kv_block m c t r k]
  unfold outsAt0
  dsimp only
  exact cs_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (fun r => cosOf (rowAt t r)) (fun r => sinOf (rowAt t r)) (fun i e => (m ((c : Thread nD τ).loc main_arg1)) (ix2 ⟨1 + i.val, by omega⟩ e))
    (fun r k h => by rw [kv_block]; exact hk _ _ h) (fun r C => cos_block m c t r C) (fun r C => up_block m c t r C) (fun r C => down_block m c t r C) (fun k C => (s_block m c t k C).trans (V_s m c k C)) (fun i C => (gkv_block m c t i C).trans (V_gkv m c i C)) r C

/-- The array of the first two keys and values the kernel leaves. -/
theorem cs_arr (c : Dev nD) (hk : ∀ R (k : Fin 768), k.val / 128 % 2 = 0 → IsReal (m ((c : Thread nD τ).loc main_arg0) (ix2 R ⟨768 + k.val, by omega⟩))) : (dats m 0 c).arrAt 10 cfg0.N = csOf m c := by
  refine (dats m 0 c).arrAt_eq_of_covers 10 _ cs_covers fun t hf y => ?_
  blk_simp
  rw [after0_10]
  have e : y = ix2 (y 0) (y 1) := eq_ix2 y
  rw [e]
  exact cs_point m c hk t (y 0) (y 1)

/-- The windows' blocks tile the array of the third keys and values. -/
theorem win_covers : win0_11.Covers := by decide +kernel

/-- All third keys and values. -/
def winOf (c : Dev nD) : S16384x256.Idx → EReal := fun j => winAt (m ((c : Thread nD τ).loc main_arg0)) (m ((c : Thread nD τ).loc main_arg1)) (j 0) (j 1)

/-- The third keys and values at an index given by its two coordinates. -/
theorem win_at (c : Dev nD) (j : S16384x256.Idx) (R : Fin 16384) (C : Fin 256) (h0 : (j 0).val = R.val) (h1 : (j 1).val = C.val) : winOf m c j = winAt (m ((c : Thread nD τ).loc main_arg0)) (m ((c : Thread nD τ).loc main_arg1)) R C := by
  have e0 : j 0 = R := Fin.ext h0
  have e1 : j 1 = C := Fin.ext h1
  unfold winOf
  rw [e0, e1]

/-- What a grid point leaves of the third keys and values is theirs at its block's places. -/
theorem win_point (c : Dev nD) (hk : ∀ R (k : Fin 768), k.val / 128 % 2 = 0 → IsReal (m ((c : Thread nD τ).loc main_arg0) (ix2 R ⟨768 + k.val, by omega⟩))) (t : Fin grid0.N) (r : Fin 256) (C : Fin 256) :
    (outsAt0 m c t).2.2.1 (ix2 r C) = winOf m c ((win0_11.blk t).view.emb (ix2 r C)) := by
  have ht := lt t
  rw [win_at m c _ (rowAt t r) C (by blk_simp [idx t, rowAt]) (by blk_simp [idx t])]
  unfold winAt kvAt
  rw [← funext fun k => kv_block m c t r k]
  unfold outsAt0
  dsimp only
  exact win_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (fun r => cosOf (rowAt t r)) (fun r => sinOf (rowAt t r)) (fun i e => (m ((c : Thread nD τ).loc main_arg1)) (ix2 ⟨1 + i.val, by omega⟩ e))
    (fun r k h => by rw [kv_block]; exact hk _ _ h) (fun r C => cos_block m c t r C) (fun r C => up_block m c t r C) (fun r C => down_block m c t r C) (fun k C => (s_block m c t k C).trans (V_s m c k C)) (fun i C => (gkv_block m c t i C).trans (V_gkv m c i C)) r C

/-- The array of the third keys and values the kernel leaves. -/
theorem win_arr (c : Dev nD) (hk : ∀ R (k : Fin 768), k.val / 128 % 2 = 0 → IsReal (m ((c : Thread nD τ).loc main_arg0) (ix2 R ⟨768 + k.val, by omega⟩))) : (dats m 0 c).arrAt 11 cfg0.N = winOf m c := by
  refine (dats m 0 c).arrAt_eq_of_covers 11 _ win_covers fun t hf y => ?_
  blk_simp
  rw [after0_11]
  have e : y = ix2 (y 0) (y 1) := eq_ix2 y
  rw [e]
  exact win_point m c hk t (y 0) (y 1)

/-- The windows' blocks tile the array of the gates. -/
theorem gate_covers : win0_12.Covers := by decide +kernel

/-- All gates. -/
def gateOf (c : Dev nD) : S16384x128.Idx → EReal := fun j => gateAt (m ((c : Thread nD τ).loc main_arg0)) (j 0) (j 1)

/-- The gates at an index given by its two coordinates. -/
theorem gate_at (c : Dev nD) (j : S16384x128.Idx) (R : Fin 16384) (C : Fin 128) (h0 : (j 0).val = R.val) (h1 : (j 1).val = C.val) : gateOf m c j = gateAt (m ((c : Thread nD τ).loc main_arg0)) R C := by
  have e0 : j 0 = R := Fin.ext h0
  have e1 : j 1 = C := Fin.ext h1
  unfold gateOf
  rw [e0, e1]

/-- What a grid point leaves of the gates is theirs at its block's places. -/
theorem gate_point (c : Dev nD) (t : Fin grid0.N) (r : Fin 256) (C : Fin 128) :
    (outsAt0 m c t).2.2.2.1 (ix2 r C) = gateOf m c ((win0_12.blk t).view.emb (ix2 r C)) := by
  have ht := lt t
  rw [gate_at m c _ (rowAt t r) C (by blk_simp [idx t, rowAt]) (by blk_simp [idx t])]
  unfold gateAt
  rw [← gate_block m c t r C]
  unfold outsAt0
  dsimp only
  exact gate_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) r C

/-- The array of the gates the kernel leaves. -/
theorem gate_arr (c : Dev nD) : (dats m 0 c).arrAt 12 cfg0.N = gateOf m c := by
  refine (dats m 0 c).arrAt_eq_of_covers 12 _ gate_covers fun t hf y => ?_
  blk_simp
  rw [after0_12]
  have e : y = ix2 (y 0) (y 1) := eq_ix2 y
  rw [e]
  exact gate_point m c t (y 0) (y 1)

/-- The windows' blocks tile the array of the first two keys and values with the lanes down the rows. -/
theorem csT_covers : win0_13.Covers := by decide +kernel

/-- All first two keys and values with the lanes down the rows. -/
def csTOf (c : Dev nD) : S4x512x4096.Idx → EReal := fun j => csAt (m ((c : Thread nD τ).loc main_arg0)) (m ((c : Thread nD τ).loc main_arg1)) (rowOf (j 0) (j 2)) (j 1)

/-- The first two keys and values with the lanes down the rows at an index given by its three coordinates. -/
theorem csT_at (c : Dev nD) (j : S4x512x4096.Idx) (R : Fin 16384) (C : Fin 512) (h0 : (j 0).val * 4096 + (j 2).val = R.val) (h1 : (j 1).val = C.val) : csTOf m c j = csAt (m ((c : Thread nD τ).loc main_arg0)) (m ((c : Thread nD τ).loc main_arg1)) R C := by
  have e0 : rowOf (j 0) (j 2) = R := Fin.ext h0
  have e1 : j 1 = C := Fin.ext h1
  unfold csTOf
  rw [e0, e1]

/-- What a grid point leaves of the first two keys and values with the lanes down the rows is theirs at its block's places. -/
theorem csT_point (c : Dev nD) (hk : ∀ R (k : Fin 768), k.val / 128 % 2 = 0 → IsReal (m ((c : Thread nD τ).loc main_arg0) (ix2 R ⟨768 + k.val, by omega⟩))) (t : Fin grid0.N) (r : Fin 256) (C : Fin 512) :
    (outsAt0 m c t).2.2.2.2.1 (ix3 0 C r) = csTOf m c ((win0_13.blk t).view.emb (ix3 0 C r)) := by
  have ht := lt t
  rw [csT_at m c _ (rowAt t r) C (by blk_simp [idx t]; show _ = t.val * 256 + r.val; omega) (by blk_simp [idx t])]
  unfold csAt kvAt
  rw [← funext fun k => kv_block m c t r k]
  unfold outsAt0
  dsimp only
  exact csT_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (fun r => cosOf (rowAt t r)) (fun r => sinOf (rowAt t r)) (fun i e => (m ((c : Thread nD τ).loc main_arg1)) (ix2 ⟨1 + i.val, by omega⟩ e))
    (fun r k h => by rw [kv_block]; exact hk _ _ h) (fun r C => cos_block m c t r C) (fun r C => up_block m c t r C) (fun r C => down_block m c t r C) (fun k C => (s_block m c t k C).trans (V_s m c k C)) (fun i C => (gkv_block m c t i C).trans (V_gkv m c i C)) r C

/-- The array of the first two keys and values with the lanes down the rows the kernel leaves. -/
theorem csT_arr (c : Dev nD) (hk : ∀ R (k : Fin 768), k.val / 128 % 2 = 0 → IsReal (m ((c : Thread nD τ).loc main_arg0) (ix2 R ⟨768 + k.val, by omega⟩))) : (dats m 0 c).arrAt 13 cfg0.N = csTOf m c := by
  refine (dats m 0 c).arrAt_eq_of_covers 13 _ csT_covers fun t hf y => ?_
  blk_simp
  rw [after0_13]
  have e : y = ix3 (y 0) (y 1) (y 2) := eq_ix3 y
  have e0 : y 0 = (0 : Fin 1) := Subsingleton.elim (α := Fin 1) _ _
  rw [e, e0]
  exact csT_point m c hk t (y 2) (y 1)

/-- The windows' blocks tile the array of the third keys and values with the lanes down the rows. -/
theorem winT_covers : win0_14.Covers := by decide +kernel

/-- All third keys and values with the lanes down the rows. -/
def winTOf (c : Dev nD) : S4x256x4096.Idx → EReal := fun j => winAt (m ((c : Thread nD τ).loc main_arg0)) (m ((c : Thread nD τ).loc main_arg1)) (rowOf (j 0) (j 2)) (j 1)

/-- The third keys and values with the lanes down the rows at an index given by its three coordinates. -/
theorem winT_at (c : Dev nD) (j : S4x256x4096.Idx) (R : Fin 16384) (C : Fin 256) (h0 : (j 0).val * 4096 + (j 2).val = R.val) (h1 : (j 1).val = C.val) : winTOf m c j = winAt (m ((c : Thread nD τ).loc main_arg0)) (m ((c : Thread nD τ).loc main_arg1)) R C := by
  have e0 : rowOf (j 0) (j 2) = R := Fin.ext h0
  have e1 : j 1 = C := Fin.ext h1
  unfold winTOf
  rw [e0, e1]

/-- What a grid point leaves of the third keys and values with the lanes down the rows is theirs at its block's places. -/
theorem winT_point (c : Dev nD) (hk : ∀ R (k : Fin 768), k.val / 128 % 2 = 0 → IsReal (m ((c : Thread nD τ).loc main_arg0) (ix2 R ⟨768 + k.val, by omega⟩))) (t : Fin grid0.N) (r : Fin 256) (C : Fin 256) :
    (outsAt0 m c t).2.2.2.2.2 (ix3 0 C r) = winTOf m c ((win0_14.blk t).view.emb (ix3 0 C r)) := by
  have ht := lt t
  rw [winT_at m c _ (rowAt t r) C (by blk_simp [idx t]; show _ = t.val * 256 + r.val; omega) (by blk_simp [idx t])]
  unfold winAt kvAt
  rw [← funext fun k => kv_block m c t r k]
  unfold outsAt0
  dsimp only
  exact winT_apply c _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (fun r => cosOf (rowAt t r)) (fun r => sinOf (rowAt t r)) (fun i e => (m ((c : Thread nD τ).loc main_arg1)) (ix2 ⟨1 + i.val, by omega⟩ e))
    (fun r k h => by rw [kv_block]; exact hk _ _ h) (fun r C => cos_block m c t r C) (fun r C => up_block m c t r C) (fun r C => down_block m c t r C) (fun k C => (s_block m c t k C).trans (V_s m c k C)) (fun i C => (gkv_block m c t i C).trans (V_gkv m c i C)) r C

/-- The array of the third keys and values with the lanes down the rows the kernel leaves. -/
theorem winT_arr (c : Dev nD) (hk : ∀ R (k : Fin 768), k.val / 128 % 2 = 0 → IsReal (m ((c : Thread nD τ).loc main_arg0) (ix2 R ⟨768 + k.val, by omega⟩))) : (dats m 0 c).arrAt 14 cfg0.N = winTOf m c := by
  refine (dats m 0 c).arrAt_eq_of_covers 14 _ winT_covers fun t hf y => ?_
  blk_simp
  rw [after0_14]
  have e : y = ix3 (y 0) (y 1) (y 2) := eq_ix3 y
  have e0 : y 0 = (0 : Fin 1) := Subsingleton.elim (α := Fin 1) _ _
  rw [e, e0]
  exact winT_point m c hk t (y 2) (y 1)

/-- The run: the result arrays are the queries, the keys and values, the gates, and the keys and values with the lanes down the rows; the arguments end unchanged. -/
theorem run (hq : ∀ (c : Dev nD) R (k : Fin 768), IsReal (m ((c : Thread nD τ).loc main_arg0) (ix2 R ⟨k.val, by omega⟩)))
    (hk : ∀ (c : Dev nD) R (k : Fin 768), k.val / 128 % 2 = 0 → IsReal (m ((c : Thread nD τ).loc main_arg0) (ix2 R ⟨768 + k.val, by omega⟩))) :
    θ_run (defs (F := Ideal)) (onTc (τ := τ) (main (F := Ideal))) ⟨m, fun _ => 0, ρ⟩ fun r => ∀ c : Dev nD,
      r.2.mem ((c : Thread nD τ).loc main_v51_0) = qOf m c
      ∧ r.2.mem ((c : Thread nD τ).loc main_v51_1) = csOf m c
      ∧ r.2.mem ((c : Thread nD τ).loc main_v51_2) = winOf m c
      ∧ r.2.mem ((c : Thread nD τ).loc main_v51_3) = gateOf m c
      ∧ r.2.mem ((c : Thread nD τ).loc main_v51_4) = csTOf m c
      ∧ r.2.mem ((c : Thread nD τ).loc main_v51_5) = winTOf m c
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun _ h c => by
    obtain ⟨a0, a1, a2, a3, a4, a5, a6, a7⟩ := h c
    exact ⟨a0.trans (q_arr m c (hq c)), a1.trans (cs_arr m c (hk c)), a2.trans (win_arr m c (hk c)), a3.trans (gate_arr m c), a4.trans (csT_arr m c (hk c)),
      a5.trans (winT_arr m c (hk c)), a6, a7⟩) (Value.run_blocks m ρ)

end Cert.NsaPrepIdeal.Prep

end
-- ==== Proof.NsaPrep.Reference.lean ====
module

public import proofs.«01_k».proof.Proof.Gen.NsaPrepRefIdeal.Read
public import proofs.«01_k».proof.Proof.NsaPrep.Spec
public import Idealize.ShloMosaic.Lib.Pointwise
public import Idealize.ShloMosaic.Lib.Pipeline.ValueKit

@[expose] public section

set_option maxRecDepth 16384

noncomputable section

namespace Cert.NsaPrepRefIdeal.Prep

open Cert.NsaPrepRefIdeal Cert.NsaPrepRefIdeal.Read Cert.Rows
open Idealize.ShloMosaic

variable (x0 : Vec Ideal S16384x1920 .f32) (x1 : Vec Ideal S4x64 .f32)

/-- The queries: the heads divided by their root mean square and scaled. -/
theorem query_norm (b : Fin 4) (t : Fin 4096) (h : Fin 12) (e : Fin 64) :
    val_main_v16 (F := Ideal) x0 x1 (ix4 b t h e)
      = headRms (fun e => x0 (ix2 (rowOf b t) ⟨0 + (h.val * 64 + e.val), by omega⟩)) (fun e => x1 (ix2 0 e)) e := by
  unfold headRms rowOf
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The queries: the angles. -/
theorem query_angle (t : Fin 4096) (j : Fin 8) : val_main_v33 (F := Ideal) (ix2 t j) = ropeAngle t j := by
  unfold ropeAngle
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5]

/-- The queries: the heads turned. -/
theorem query_turn (b : Fin 4) (t : Fin 4096) (h : Fin 12) (e : Fin 64) :
    val_main_v51 (F := Ideal) x0 x1 (ix4 b t h e)
      = ropeHead (fun e => val_main_v16 (F := Ideal) x0 x1 (ix4 b t h e)) (fun j => Ideal.cos (ropeAngle t j)) (fun j => Ideal.sin (ropeAngle t j)) e := by
  simp only [← query_angle]
  unfold ropeHead val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34
  generalize val_main_v16 (F := Ideal) x0 x1 = y
  generalize val_main_v33 (F := Ideal) = a
  pointwise
  by_cases h1 : e.val < 8
  · have e1 : (⟨8 + e.val, by omega⟩ : Fin 64) = ⟨e.val + 8, by omega⟩ := Fin.ext (Nat.add_comm _ _)
    rw [dif_pos h1, dif_pos h1, e1]
  · rw [dif_neg h1, dif_neg h1]
    by_cases h2 : e.val - 8 < 8
    · have e1 : (⟨8 + (e.val - 8), by omega⟩ : Fin 64) = e := Fin.ext (by show 8 + (e.val - 8) = e.val; omega)
      rw [dif_pos h2, dif_pos h2, e1]
    · have e1 : (⟨16 + (e.val - 8 - 8), by omega⟩ : Fin 64) = e := Fin.ext (by show 16 + (e.val - 8 - 8) = e.val; omega)
      rw [dif_neg h2, dif_neg h2, e1]

/-- The queries. -/
theorem query_apply (R : Fin 16384) (C : Fin 768) :
    val_main_v52 (F := Ideal) x0 x1 (ix2 R C)
      = ropeHead (headRms (fun e => x0 (ix2 R ⟨0 + (C.val / 64 * 64 + e.val), by omega⟩)) (fun e => x1 (ix2 0 e))) (cosOf R) (sinOf R)
        ⟨C.val % 64, Nat.mod_lt _ (by omega)⟩ := by
  have e : val_main_v52 (F := Ideal) x0 x1 (ix2 R C)
      = val_main_v51 (F := Ideal) x0 x1 (ix4 ⟨R.val / 4096, by omega⟩ (timeOf R) ⟨C.val / 64, by omega⟩ ⟨C.val % 64, Nat.mod_lt _ (by omega)⟩) := by
    unfold val_main_v52 timeOf
    generalize val_main_v51 (F := Ideal) x0 x1 = y
    pointwise
  have hR : rowOf ⟨R.val / 4096, by omega⟩ (timeOf R) = R := Fin.ext (by show R.val / 4096 * 4096 + R.val % 4096 = R.val; omega)
  rw [e, query_turn]
  simp only [query_norm, hR]
  rfl

/-- The first keys: the heads divided by their root mean square and scaled. -/
theorem key0_norm (b : Fin 4) (t : Fin 4096) (h : Fin 2) (e : Fin 64) :
    val_main_v69 (F := Ideal) x0 x1 (ix4 b t h e)
      = headRms (fun e => x0 (ix2 (rowOf b t) ⟨768 + (h.val * 64 + e.val), by omega⟩)) (fun e => x1 (ix2 1 e)) e := by
  unfold headRms rowOf
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_6, val_main_cst_7, val_main_cst_8]

/-- The first keys: the angles. -/
theorem key0_angle (t : Fin 4096) (j : Fin 8) : val_main_v86 (F := Ideal) (ix2 t j) = ropeAngle t j := by
  unfold ropeAngle
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_9, val_main_cst_10, val_main_cst_11, val_main_cst_12]

/-- The first keys: the heads turned. -/
theorem key0_turn (b : Fin 4) (t : Fin 4096) (h : Fin 2) (e : Fin 64) :
    val_main_v104 (F := Ideal) x0 x1 (ix4 b t h e)
      = ropeHead (fun e => val_main_v69 (F := Ideal) x0 x1 (ix4 b t h e)) (fun j => Ideal.cos (ropeAngle t j)) (fun j => Ideal.sin (ropeAngle t j)) e := by
  simp only [← key0_angle]
  unfold ropeHead val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87
  generalize val_main_v69 (F := Ideal) x0 x1 = y
  generalize val_main_v86 (F := Ideal) = a
  pointwise
  by_cases h1 : e.val < 8
  · have e1 : (⟨8 + e.val, by omega⟩ : Fin 64) = ⟨e.val + 8, by omega⟩ := Fin.ext (Nat.add_comm _ _)
    rw [dif_pos h1, dif_pos h1, e1]
  · rw [dif_neg h1, dif_neg h1]
    by_cases h2 : e.val - 8 < 8
    · have e1 : (⟨8 + (e.val - 8), by omega⟩ : Fin 64) = e := Fin.ext (by show 8 + (e.val - 8) = e.val; omega)
      rw [dif_pos h2, dif_pos h2, e1]
    · have e1 : (⟨16 + (e.val - 8 - 8), by omega⟩ : Fin 64) = e := Fin.ext (by show 16 + (e.val - 8 - 8) = e.val; omega)
      rw [dif_neg h2, dif_neg h2, e1]

/-- The first keys. -/
theorem key0_apply (R : Fin 16384) (C : Fin 128) :
    val_main_v105 (F := Ideal) x0 x1 (ix2 R C)
      = ropeHead (headRms (fun e => x0 (ix2 R ⟨768 + (C.val / 64 * 64 + e.val), by omega⟩)) (fun e => x1 (ix2 1 e))) (cosOf R) (sinOf R)
        ⟨C.val % 64, Nat.mod_lt _ (by omega)⟩ := by
  have e : val_main_v105 (F := Ideal) x0 x1 (ix2 R C)
      = val_main_v104 (F := Ideal) x0 x1 (ix4 ⟨R.val / 4096, by omega⟩ (timeOf R) ⟨C.val / 64, by omega⟩ ⟨C.val % 64, Nat.mod_lt _ (by omega)⟩) := by
    unfold val_main_v105 timeOf
    generalize val_main_v104 (F := Ideal) x0 x1 = y
    pointwise
  have hR : rowOf ⟨R.val / 4096, by omega⟩ (timeOf R) = R := Fin.ext (by show R.val / 4096 * 4096 + R.val % 4096 = R.val; omega)
  rw [e, key0_turn]
  simp only [key0_norm, hR]
  rfl

/-- The second keys: the heads divided by their root mean square and scaled. -/
theorem key2_norm (b : Fin 4) (t : Fin 4096) (h : Fin 2) (e : Fin 64) :
    val_main_v123 (F := Ideal) x0 x1 (ix4 b t h e)
      = headRms (fun e => x0 (ix2 (rowOf b t) ⟨1024 + (h.val * 64 + e.val), by omega⟩)) (fun e => x1 (ix2 2 e)) e := by
  unfold headRms rowOf
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_cst_13, val_main_cst_14, val_main_cst_15]

/-- The second keys: the angles. -/
theorem key2_angle (t : Fin 4096) (j : Fin 8) : val_main_v140 (F := Ideal) (ix2 t j) = ropeAngle t j := by
  unfold ropeAngle
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_cst_16, val_main_cst_17, val_main_cst_18, val_main_cst_19]

/-- The second keys: the heads turned. -/
theorem key2_turn (b : Fin 4) (t : Fin 4096) (h : Fin 2) (e : Fin 64) :
    val_main_v158 (F := Ideal) x0 x1 (ix4 b t h e)
      = ropeHead (fun e => val_main_v123 (F := Ideal) x0 x1 (ix4 b t h e)) (fun j => Ideal.cos (ropeAngle t j)) (fun j => Ideal.sin (ropeAngle t j)) e := by
  simp only [← key2_angle]
  unfold ropeHead val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141
  generalize val_main_v123 (F := Ideal) x0 x1 = y
  generalize val_main_v140 (F := Ideal) = a
  pointwise
  by_cases h1 : e.val < 8
  · have e1 : (⟨8 + e.val, by omega⟩ : Fin 64) = ⟨e.val + 8, by omega⟩ := Fin.ext (Nat.add_comm _ _)
    rw [dif_pos h1, dif_pos h1, e1]
  · rw [dif_neg h1, dif_neg h1]
    by_cases h2 : e.val - 8 < 8
    · have e1 : (⟨8 + (e.val - 8), by omega⟩ : Fin 64) = e := Fin.ext (by show 8 + (e.val - 8) = e.val; omega)
      rw [dif_pos h2, dif_pos h2, e1]
    · have e1 : (⟨16 + (e.val - 8 - 8), by omega⟩ : Fin 64) = e := Fin.ext (by show 16 + (e.val - 8 - 8) = e.val; omega)
      rw [dif_neg h2, dif_neg h2, e1]

/-- The second keys. -/
theorem key2_apply (R : Fin 16384) (C : Fin 128) :
    val_main_v159 (F := Ideal) x0 x1 (ix2 R C)
      = ropeHead (headRms (fun e => x0 (ix2 R ⟨1024 + (C.val / 64 * 64 + e.val), by omega⟩)) (fun e => x1 (ix2 2 e))) (cosOf R) (sinOf R)
        ⟨C.val % 64, Nat.mod_lt _ (by omega)⟩ := by
  have e : val_main_v159 (F := Ideal) x0 x1 (ix2 R C)
      = val_main_v158 (F := Ideal) x0 x1 (ix4 ⟨R.val / 4096, by omega⟩ (timeOf R) ⟨C.val / 64, by omega⟩ ⟨C.val % 64, Nat.mod_lt _ (by omega)⟩) := by
    unfold val_main_v159 timeOf
    generalize val_main_v158 (F := Ideal) x0 x1 = y
    pointwise
  have hR : rowOf ⟨R.val / 4096, by omega⟩ (timeOf R) = R := Fin.ext (by show R.val / 4096 * 4096 + R.val % 4096 = R.val; omega)
  rw [e, key2_turn]
  simp only [key2_norm, hR]
  rfl

/-- The third keys: the heads divided by their root mean square and scaled. -/
theorem key4_norm (b : Fin 4) (t : Fin 4096) (h : Fin 2) (e : Fin 64) :
    val_main_v178 (F := Ideal) x0 x1 (ix4 b t h e)
      = headRms (fun e => x0 (ix2 (rowOf b t) ⟨1280 + (h.val * 64 + e.val), by omega⟩)) (fun e => x1 (ix2 3 e)) e := by
  unfold headRms rowOf
  pointwise [val_main_v178, val_main_v177, val_main_v176, val_main_v175, val_main_v174, val_main_v173, val_main_v172, val_main_v171, val_main_v170, val_main_v169, val_main_v168, val_main_v167, val_main_v166, val_main_v165, val_main_v164, val_main_v163, val_main_v162, val_main_cst_20, val_main_cst_21, val_main_cst_22]

/-- The third keys: the angles. -/
theorem key4_angle (t : Fin 4096) (j : Fin 8) : val_main_v195 (F := Ideal) (ix2 t j) = ropeAngle t j := by
  unfold ropeAngle
  pointwise [val_main_v195, val_main_v194, val_main_v193, val_main_v192, val_main_v191, val_main_v190, val_main_v189, val_main_v188, val_main_v187, val_main_v186, val_main_v185, val_main_v184, val_main_v183, val_main_v182, val_main_v181, val_main_v180, val_main_v179, val_main_cst_23, val_main_cst_24, val_main_cst_25, val_main_cst_26]

/-- The third keys: the heads turned. -/
theorem key4_turn (b : Fin 4) (t : Fin 4096) (h : Fin 2) (e : Fin 64) :
    val_main_v213 (F := Ideal) x0 x1 (ix4 b t h e)
      = ropeHead (fun e => val_main_v178 (F := Ideal) x0 x1 (ix4 b t h e)) (fun j => Ideal.cos (ropeAngle t j)) (fun j => Ideal.sin (ropeAngle t j)) e := by
  simp only [← key4_angle]
  unfold ropeHead val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196
  generalize val_main_v178 (F := Ideal) x0 x1 = y
  generalize val_main_v195 (F := Ideal) = a
  pointwise
  by_cases h1 : e.val < 8
  · have e1 : (⟨8 + e.val, by omega⟩ : Fin 64) = ⟨e.val + 8, by omega⟩ := Fin.ext (Nat.add_comm _ _)
    rw [dif_pos h1, dif_pos h1, e1]
  · rw [dif_neg h1, dif_neg h1]
    by_cases h2 : e.val - 8 < 8
    · have e1 : (⟨8 + (e.val - 8), by omega⟩ : Fin 64) = e := Fin.ext (by show 8 + (e.val - 8) = e.val; omega)
      rw [dif_pos h2, dif_pos h2, e1]
    · have e1 : (⟨16 + (e.val - 8 - 8), by omega⟩ : Fin 64) = e := Fin.ext (by show 16 + (e.val - 8 - 8) = e.val; omega)
      rw [dif_neg h2, dif_neg h2, e1]

/-- The third keys. -/
theorem key4_apply (R : Fin 16384) (C : Fin 128) :
    val_main_v214 (F := Ideal) x0 x1 (ix2 R C)
      = ropeHead (headRms (fun e => x0 (ix2 R ⟨1280 + (C.val / 64 * 64 + e.val), by omega⟩)) (fun e => x1 (ix2 3 e))) (cosOf R) (sinOf R)
        ⟨C.val % 64, Nat.mod_lt _ (by omega)⟩ := by
  have e : val_main_v214 (F := Ideal) x0 x1 (ix2 R C)
      = val_main_v213 (F := Ideal) x0 x1 (ix4 ⟨R.val / 4096, by omega⟩ (timeOf R) ⟨C.val / 64, by omega⟩ ⟨C.val % 64, Nat.mod_lt _ (by omega)⟩) := by
    unfold val_main_v214 timeOf
    generalize val_main_v213 (F := Ideal) x0 x1 = y
    pointwise
  have hR : rowOf ⟨R.val / 4096, by omega⟩ (timeOf R) = R := Fin.ext (by show R.val / 4096 * 4096 + R.val % 4096 = R.val; omega)
  rw [e, key4_turn]
  simp only [key4_norm, hR]
  rfl

end Cert.NsaPrepRefIdeal.Prep
-- ==== Proof.NsaPrep.Lanes.lean ====
module

public import proofs.«01_k».proof.Proof.Gen.NsaPrepRefIdeal.Read
public import proofs.«01_k».proof.Proof.NsaPrep.Reference
public import proofs.«01_k».proof.Proof.NsaPrep.Spec
public import Idealize.ShloMosaic.Lib.Pointwise
public import Idealize.ShloMosaic.Lib.Pipeline.ValueKit

@[expose] public section

set_option maxRecDepth 16384

noncomputable section

namespace Cert.NsaPrepRefIdeal.Prep

open Cert.NsaPrepRefIdeal Cert.NsaPrepRefIdeal.Read Cert.Rows
open Idealize.ShloMosaic

variable (x0 : Vec Ideal S16384x1920 .f32) (x1 : Vec Ideal S4x64 .f32)

/-- Keys of number 0, as a token's keys and values hold them. -/
theorem key0_kv (R : Fin 16384) (D : Fin 128) (C : Fin 768) (hC : C.val = 0 + D.val) : val_main_v105 (F := Ideal) x0 x1 (ix2 R D) = kvAt x0 x1 R C := by
  refine (key0_apply x0 x1 R D).trans (Eq.trans ?_ (kvPrep_key (fun k => x0 (ix2 R ⟨768 + k.val, by omega⟩)) (fun i e => x1 (ix2 ⟨1 + i.val, by omega⟩ e)) (cosOf R) (sinOf R) 0 (by norm_num) D C hC 0 (by norm_num)))
  exact congrArg (fun f : Fin 64 → EReal => ropeHead (headRms f (fun e => x1 (ix2 1 e))) (cosOf R) (sinOf R) ⟨D.val % 64, Nat.mod_lt _ (by omega)⟩)
    (funext fun e => congrArg (fun k => x0 (ix2 R k)) (Fin.ext (by show 768 + (D.val / 64 * 64 + e.val) = 768 + (0 + (D.val / 64 * 64 + e.val)); omega)))

/-- Keys of number 1, as a token's keys and values hold them. -/
theorem key2_kv (R : Fin 16384) (D : Fin 128) (C : Fin 768) (hC : C.val = 256 + D.val) : val_main_v159 (F := Ideal) x0 x1 (ix2 R D) = kvAt x0 x1 R C := by
  refine (key2_apply x0 x1 R D).trans (Eq.trans ?_ (kvPrep_key (fun k => x0 (ix2 R ⟨768 + k.val, by omega⟩)) (fun i e => x1 (ix2 ⟨1 + i.val, by omega⟩ e)) (cosOf R) (sinOf R) 256 (by norm_num) D C hC 1 (by norm_num)))
  exact congrArg (fun f : Fin 64 → EReal => ropeHead (headRms f (fun e => x1 (ix2 2 e))) (cosOf R) (sinOf R) ⟨D.val % 64, Nat.mod_lt _ (by omega)⟩)
    (funext fun e => congrArg (fun k => x0 (ix2 R k)) (Fin.ext (by show 1024 + (D.val / 64 * 64 + e.val) = 768 + (256 + (D.val / 64 * 64 + e.val)); omega)))

/-- Keys of number 2, as a token's keys and values hold them. -/
theorem key4_kv (R : Fin 16384) (D : Fin 128) (C : Fin 768) (hC : C.val = 512 + D.val) : val_main_v214 (F := Ideal) x0 x1 (ix2 R D) = kvAt x0 x1 R C := by
  refine (key4_apply x0 x1 R D).trans (Eq.trans ?_ (kvPrep_key (fun k => x0 (ix2 R ⟨768 + k.val, by omega⟩)) (fun i e => x1 (ix2 ⟨1 + i.val, by omega⟩ e)) (cosOf R) (sinOf R) 512 (by norm_num) D C hC 2 (by norm_num)))
  exact congrArg (fun f : Fin 64 → EReal => ropeHead (headRms f (fun e => x1 (ix2 3 e))) (cosOf R) (sinOf R) ⟨D.val % 64, Nat.mod_lt _ (by omega)⟩)
    (funext fun e => congrArg (fun k => x0 (ix2 R k)) (Fin.ext (by show 1280 + (D.val / 64 * 64 + e.val) = 768 + (512 + (D.val / 64 * 64 + e.val)); omega)))

/-- Values, as a token's keys and values hold them. -/
theorem value1_kv (R : Fin 16384) (D : Fin 128) (C : Fin 768) (hC : C.val = 128 + D.val) : val_main_v106 (F := Ideal) x0 (ix2 R D) = kvAt x0 x1 R C := by
  refine Eq.trans ?_ (kvPrep_value (fun k => x0 (ix2 R ⟨768 + k.val, by omega⟩)) (fun i e => x1 (ix2 ⟨1 + i.val, by omega⟩ e)) (cosOf R) (sinOf R) 128 (by norm_num) D C hC (by omega))
  pointwise [val_main_v106]
  exact congrArg (fun k => x0 (ix2 R k)) (Fin.ext (by show 896 + D.val = 768 + (128 + D.val); omega))

/-- Values, as a token's keys and values hold them. -/
theorem value3_kv (R : Fin 16384) (D : Fin 128) (C : Fin 768) (hC : C.val = 384 + D.val) : val_main_v160 (F := Ideal) x0 (ix2 R D) = kvAt x0 x1 R C := by
  refine Eq.trans ?_ (kvPrep_value (fun k => x0 (ix2 R ⟨768 + k.val, by omega⟩)) (fun i e => x1 (ix2 ⟨1 + i.val, by omega⟩ e)) (cosOf R) (sinOf R) 384 (by norm_num) D C hC (by omega))
  pointwise [val_main_v160]
  exact congrArg (fun k => x0 (ix2 R k)) (Fin.ext (by show 1152 + D.val = 768 + (384 + D.val); omega))

/-- Values, as a token's keys and values hold them. -/
theorem value5_kv (R : Fin 16384) (D : Fin 128) (C : Fin 768) (hC : C.val = 640 + D.val) : val_main_v215 (F := Ideal) x0 (ix2 R D) = kvAt x0 x1 R C := by
  refine Eq.trans ?_ (kvPrep_value (fun k => x0 (ix2 R ⟨768 + k.val, by omega⟩)) (fun i e => x1 (ix2 ⟨1 + i.val, by omega⟩ e)) (cosOf R) (sinOf R) 640 (by norm_num) D C hC (by omega))
  pointwise [val_main_v215]
  exact congrArg (fun k => x0 (ix2 R k)) (Fin.ext (by show 1408 + D.val = 768 + (640 + D.val); omega))

end Cert.NsaPrepRefIdeal.Prep
-- ==== Proof.NsaPrep.Outputs.lean ====
module

public import proofs.«01_k».proof.Proof.Gen.NsaPrepRefIdeal.Read
public import proofs.«01_k».proof.Proof.NsaPrep.Reference
public import proofs.«01_k».proof.Proof.NsaPrep.Lanes
public import proofs.«01_k».proof.Proof.NsaPrep.Spec
public import Idealize.ShloMosaic.Lib.Pointwise
public import Idealize.ShloMosaic.Lib.Pipeline.ValueKit

@[expose] public section

set_option maxRecDepth 16384

noncomputable section

namespace Cert.NsaPrepRefIdeal.Prep

open Cert.NsaPrepRefIdeal Cert.NsaPrepRefIdeal.Read Cert.Rows
open Idealize.ShloMosaic

variable (x0 : Vec Ideal S16384x1920 .f32) (x1 : Vec Ideal S4x64 .f32)

/-- The reference's queries. -/
theorem q_eq (R : Fin 16384) (C : Fin 768) : val_main_v52 (F := Ideal) x0 x1 (ix2 R C) = qAt x0 x1 R C := by
  rw [query_apply, qAt, qRow, pairRow]
  have e1 : (⟨C.val % 128 % 64, Nat.mod_lt _ (by omega)⟩ : Fin 64) = ⟨C.val % 64, Nat.mod_lt _ (by omega)⟩ := Fin.ext (by show C.val % 128 % 64 = C.val % 64; omega)
  show _ = ropeHead _ _ _ (⟨C.val % 128 % 64, Nat.mod_lt _ (by omega)⟩ : Fin 64)
  rw [e1]
  exact congrArg (fun f : Fin 64 → EReal => ropeHead (headRms f (fun e => x1 (ix2 0 e))) (cosOf R) (sinOf R) ⟨C.val % 64, Nat.mod_lt _ (by omega)⟩)
    (funext fun e => congrArg (fun k => x0 (ix2 R k)) (Fin.ext (by show 0 + (C.val / 64 * 64 + e.val) = C.val / 128 * 128 + (C.val % 128 / 64 * 64 + e.val); omega)))

/-- The reference's first two keys and values. -/
theorem cs_eq (R : Fin 16384) (C : Fin 512) : val_main_v161 (F := Ideal) x0 x1 (ix2 R C) = csAt x0 x1 R C := by
  unfold csAt val_main_v161
  have h0 := key0_kv x0 x1 R
  have h1 := value1_kv x0 x1 R
  have h2 := key2_kv x0 x1 R
  have h3 := value3_kv x0 x1 R
  revert h0 h1 h2 h3
  generalize val_main_v105 (F := Ideal) x0 x1 = a0
  generalize val_main_v106 (F := Ideal) x0 = a1
  generalize val_main_v159 (F := Ideal) x0 x1 = a2
  generalize val_main_v160 (F := Ideal) x0 = a3
  intro h0 h1 h2 h3
  pointwise
  by_cases c0 : C.val < 128
  · rw [dif_pos c0]
    exact h0 _ _ (by show C.val = 0 + C.val; omega)
  · rw [dif_neg c0]
    by_cases c1 : C.val - 128 < 128
    · rw [dif_pos c1]
      exact h1 _ _ (by show C.val = 128 + (C.val - 128); omega)
    · rw [dif_neg c1]
      by_cases c2 : C.val - 128 - 128 < 128
      · rw [dif_pos c2]
        exact h2 _ _ (by show C.val = 256 + (C.val - 128 - 128); omega)
      · rw [dif_neg c2]
        exact h3 _ _ (by show C.val = 384 + (C.val - 128 - 128 - 128); omega)

/-- The reference's third keys and values. -/
theorem win_eq (R : Fin 16384) (C : Fin 256) : val_main_v216 (F := Ideal) x0 x1 (ix2 R C) = winAt x0 x1 R C := by
  unfold winAt val_main_v216
  have h0 := key4_kv x0 x1 R
  have h1 := value5_kv x0 x1 R
  revert h0 h1
  generalize val_main_v214 (F := Ideal) x0 x1 = a0
  generalize val_main_v215 (F := Ideal) x0 = a1
  intro h0 h1
  pointwise
  by_cases c0 : C.val < 128
  · rw [dif_pos c0]
    exact h0 _ _ rfl
  · rw [dif_neg c0]
    exact h1 _ _ (by show 512 + C.val = 640 + (C.val - 128); omega)

/-- The reference's gates. -/
theorem gate_eq (R : Fin 16384) (C : Fin 128) : val_main_v223 (F := Ideal) x0 (ix2 R C) = gateAt x0 R C := by
  unfold gateAt gateOf
  pointwise [val_main_v223, val_main_v222, val_main_v221, val_main_v220, val_main_v219, val_main_v218, val_main_v217, val_main_cst_27, val_main_cst_28]
  rw [zero_sub]

end Cert.NsaPrepRefIdeal.Prep
-- ==== Proof.NsaPrep.Turned.lean ====
module

public import proofs.«01_k».proof.Proof.Gen.NsaPrepRefIdeal.Read
public import proofs.«01_k».proof.Proof.NsaPrep.Reference
public import proofs.«01_k».proof.Proof.NsaPrep.Lanes
public import proofs.«01_k».proof.Proof.NsaPrep.Outputs
public import proofs.«01_k».proof.Proof.NsaPrep.Spec
public import Idealize.ShloMosaic.Lib.Pointwise
public import Idealize.ShloMosaic.Lib.Pipeline.ValueKit

@[expose] public section

set_option maxRecDepth 16384

noncomputable section

namespace Cert.NsaPrepRefIdeal.Prep

open Cert.NsaPrepRefIdeal Cert.NsaPrepRefIdeal.Read Cert.Rows
open Idealize.ShloMosaic

variable (x0 : Vec Ideal S16384x1920 .f32) (x1 : Vec Ideal S4x64 .f32)

/-- The reference's first two keys and values, the lanes down the rows. -/
theorem csT_eq (b : Fin 4) (C : Fin 512) (t : Fin 4096) : val_main_v225 (F := Ideal) x0 x1 (ix3 b C t) = csAt x0 x1 (rowOf b t) C := by
  rw [← cs_eq]
  refine (val_main_v225_apply x0 x1 _).trans ((val_main_v224_apply x0 x1 _).trans ?_)
  generalize val_main_v161 (F := Ideal) x0 x1 = y
  refine congrArg y (funext fun a => ?_)
  match a with
  | ⟨0, _⟩ => exact Fin.ext (by show ((b.val * 4096 + t.val) * 512 + C.val) / 512 = b.val * 4096 + t.val; omega)
  | ⟨1, _⟩ => exact Fin.ext (by show ((b.val * 4096 + t.val) * 512 + C.val) % 512 = C.val; omega)

/-- The reference's third keys and values, the lanes down the rows. -/
theorem winT_eq (b : Fin 4) (C : Fin 256) (t : Fin 4096) : val_main_v227 (F := Ideal) x0 x1 (ix3 b C t) = winAt x0 x1 (rowOf b t) C := by
  rw [← win_eq]
  refine (val_main_v227_apply x0 x1 _).trans ((val_main_v226_apply x0 x1 _).trans ?_)
  generalize val_main_v216 (F := Ideal) x0 x1 = y
  refine congrArg y (funext fun a => ?_)
  match a with
  | ⟨0, _⟩ => exact Fin.ext (by show ((b.val * 4096 + t.val) * 256 + C.val) / 256 = b.val * 4096 + t.val; omega)
  | ⟨1, _⟩ => exact Fin.ext (by show ((b.val * 4096 + t.val) * 256 + C.val) % 256 = C.val; omega)

/-- All queries. -/
def qAll (x0 : Vec Ideal S16384x1920 .f32) (x1 : Vec Ideal S4x64 .f32) : S16384x768.Idx → EReal := fun j => qAt x0 x1 (j 0) (j 1)

/-- The array of the queries the reference leaves. -/
theorem q_all : val_main_v52 (F := Ideal) x0 x1 = qAll x0 x1 := by
  funext j
  have ej : j = ix2 (j 0) (j 1) := eq_ix2 j
  rw [ej]
  exact q_eq x0 x1 (j 0) (j 1)

/-- All first two keys and values. -/
def csAll (x0 : Vec Ideal S16384x1920 .f32) (x1 : Vec Ideal S4x64 .f32) : S16384x512.Idx → EReal := fun j => csAt x0 x1 (j 0) (j 1)

/-- The array of the first two keys and values the reference leaves. -/
theorem cs_all : val_main_v161 (F := Ideal) x0 x1 = csAll x0 x1 := by
  funext j
  have ej : j = ix2 (j 0) (j 1) := eq_ix2 j
  rw [ej]
  exact cs_eq x0 x1 (j 0) (j 1)

/-- All third keys and values. -/
def winAll (x0 : Vec Ideal S16384x1920 .f32) (x1 : Vec Ideal S4x64 .f32) : S16384x256.Idx → EReal := fun j => winAt x0 x1 (j 0) (j 1)

/-- The array of the third keys and values the reference leaves. -/
theorem win_all : val_main_v216 (F := Ideal) x0 x1 = winAll x0 x1 := by
  funext j
  have ej : j = ix2 (j 0) (j 1) := eq_ix2 j
  rw [ej]
  exact win_eq x0 x1 (j 0) (j 1)

/-- All gates. -/
def gateAll (x0 : Vec Ideal S16384x1920 .f32) : S16384x128.Idx → EReal := fun j => gateAt x0 (j 0) (j 1)

/-- The array of the gates the reference leaves. -/
theorem gate_all : val_main_v223 (F := Ideal) x0 = gateAll x0 := by
  funext j
  have ej : j = ix2 (j 0) (j 1) := eq_ix2 j
  rw [ej]
  exact gate_eq x0 (j 0) (j 1)

/-- All first two keys and values with the lanes down the rows. -/
def csTAll (x0 : Vec Ideal S16384x1920 .f32) (x1 : Vec Ideal S4x64 .f32) : S4x512x4096.Idx → EReal := fun j => csAt x0 x1 (rowOf (j 0) (j 2)) (j 1)

/-- The array of the first two keys and values with the lanes down the rows the reference leaves. -/
theorem csT_all : val_main_v225 (F := Ideal) x0 x1 = csTAll x0 x1 := by
  funext j
  have ej : j = ix3 (j 0) (j 1) (j 2) := eq_ix3 j
  rw [ej]
  exact csT_eq x0 x1 (j 0) (j 1) (j 2)

/-- All third keys and values with the lanes down the rows. -/
def winTAll (x0 : Vec Ideal S16384x1920 .f32) (x1 : Vec Ideal S4x64 .f32) : S4x256x4096.Idx → EReal := fun j => winAt x0 x1 (rowOf (j 0) (j 2)) (j 1)

/-- The array of the third keys and values with the lanes down the rows the reference leaves. -/
theorem winT_all : val_main_v227 (F := Ideal) x0 x1 = winTAll x0 x1 := by
  funext j
  have ej : j = ix3 (j 0) (j 1) (j 2) := eq_ix3 j
  rw [ej]
  exact winT_eq x0 x1 (j 0) (j 1) (j 2)

end Cert.NsaPrepRefIdeal.Prep

end
-- ==== Proof.Conv.Spec.lean ====
module

public import Idealize.ShloMosaic.Lib.Pointwise

@[expose] public section

noncomputable section

namespace Cert.ConvRows

open Idealize.ShloMosaic

/-- A number gated by the sigmoid of another. -/
def gated (a b : EReal) : EReal := a * Ideal.div 1 (1 + Ideal.exp (0 - b))

/-- The mean of a row of 768. -/
def mean (y : Fin 768 → EReal) : EReal := Ideal.div (∑ k, y k) (Ideal.ofBits .f32 0x44400000#32)

/-- A row minus its mean, by the root of its variance, scaled and shifted. -/
def normRow (y g b : Fin 768 → EReal) (C : Fin 768) : EReal :=
  (y C - mean y) * Ideal.rsqrt (mean (fun k => (y k - mean y) * (y k - mean y)) + Ideal.ofBits .f32 0x358637BD#32) * g C + b C

/-- The normed row gated by its own sigmoid. -/
def swishRow (y g b : Fin 768 → EReal) (C : Fin 768) : EReal := gated (normRow y g b C) (normRow y g b C)

/-- The weighted sum over 31 taps. -/
def taps (w x : ℕ → EReal) : EReal := ∑ k ∈ Finset.range 31, w k * x k

/-- The row of all four sequences at which a position of one of them is. -/
def rowOf (b : Fin 4) (t : Fin 4096) : Fin 16384 := ⟨b.val * 4096 + t.val, by omega⟩

/-- The sequence of a row. -/
def seqOf (R : Fin 16384) : Fin 4 := ⟨R.val / 4096, by omega⟩

/-- The position of a row in its sequence. -/
def timeOf (R : Fin 16384) : Fin 4096 := ⟨R.val % 4096, Nat.mod_lt _ (by omega)⟩

/-- The gated channels of a row. -/
def gluAt (u : (⟨2, ![16384, 1792]⟩ : Shape).Idx → EReal) (R : Fin 16384) (C : Fin 768) : EReal :=
  gated (u (ix2 R ⟨C.val, by omega⟩)) (u (ix2 R ⟨768 + C.val, by omega⟩))

/-- A sequence's gated channels with thirty positions of zeros before them. -/
def padded (u : (⟨2, ![16384, 1792]⟩ : Shape).Idx → EReal) (b : Fin 4) (s : ℕ) (C : Fin 768) : EReal :=
  if h : 30 ≤ s ∧ s < 4126 then gluAt u (rowOf b ⟨s - 30, by omega⟩) C else 0

/-- The weights of a tap. -/
def tapAt (w : (⟨2, ![31, 768]⟩ : Shape).Idx → EReal) (k : ℕ) (C : Fin 768) : EReal := if h : k < 31 then w (ix2 ⟨k, h⟩ C) else 0

/-- The convolution of a position's channels, normed and gated. -/
def convAt (u : (⟨2, ![16384, 1792]⟩ : Shape).Idx → EReal) (w : (⟨2, ![31, 768]⟩ : Shape).Idx → EReal) (cb lg lb : (⟨1, ![768]⟩ : Shape).Idx → EReal)
    (b : Fin 4) (t : Fin 4096) (C : Fin 768) : EReal :=
  swishRow (fun D => taps (fun k => tapAt w k D) (fun k => padded u b (t.val + k) D) + cb (ix1 D)) (fun D => lg (ix1 D)) (fun D => lb (ix1 D)) C

/-- The gated channels of one of a sequence's last 32 positions. -/
def tailAt (u : (⟨2, ![16384, 1792]⟩ : Shape).Idx → EReal) (b : Fin 4) (s : Fin 32) (C : Fin 768) : EReal := gluAt u (rowOf b ⟨4064 + s.val, by omega⟩) C

/-- Before the start there are zeros. -/
theorem padded_lt (u : (⟨2, ![16384, 1792]⟩ : Shape).Idx → EReal) (b : Fin 4) (s : ℕ) (C : Fin 768) (h : s < 30) : padded u b s C = 0 :=
  dif_neg (by omega)

/-- From the start on there are the gated channels. -/
theorem padded_ge (u : (⟨2, ![16384, 1792]⟩ : Shape).Idx → EReal) (b : Fin 4) (s : ℕ) (C : Fin 768) (t : Fin 4096) (h : s = 30 + t.val) :
    padded u b s C = gluAt u (rowOf b t) C := by
  unfold padded
  rw [dif_pos (by omega)]
  exact congrArg (fun t => gluAt u (rowOf b t) C) (Fin.ext (by show s - 30 = t.val; omega))

end Cert.ConvRows

end
-- ==== Proof.Conv.Body.lean ====
module

public import proofs.«01_k».proof.Proof.Gen.ConvIdeal.Value
public import proofs.«01_k».proof.Proof.Conv.Spec
public import Idealize.ShloMosaic.Lib.Pointwise
public import Idealize.ShloMosaic.Lib.Pipeline.ValueKit
public import Idealize.ShloMosaic.Lib.Claim

@[expose] public section

set_option maxRecDepth 16384

noncomputable section

namespace Cert.ConvIdeal.Conv

open Cert.ConvIdeal Cert.ConvIdeal.Gen Cert.ConvRows
open Idealize.ShloMosaic Idealize.ShloMosaic.TcCoe Idealize.ShloMosaic.Tactic Idealize.SL.Sem
open Idealize.ShloMosaic.Pipeline (Dat)

/-- The gated channels of a block. -/
theorem glu_apply (x0 x1 : Vec Ideal S512x768 .f32) (r : Fin 512) (C : Fin 768) : k0_pay2 (F := Ideal) x0 x1 (ix2 r C) = gated (x0 (ix2 r C)) (x1 (ix2 r C)) := by
  unfold gated
  pointwise [k0_pay2]

/-- The same as they are stored. -/
theorem cur_apply (x0 x1 : Vec Ideal S512x768 .f32) (r : Fin 512) (C : Fin 768) : k0_pay4 (F := Ideal) x0 x1 (ix2 r C) = gated (x0 (ix2 r C)) (x1 (ix2 r C)) := by
  refine Eq.trans ?_ (glu_apply x0 x1 r C)
  unfold k0_pay4
  generalize k0_pay2 (F := Ideal) x0 x1 = y
  pointwise

/-- The last rows of a block as they are given out. -/
theorem tail_apply (y : Vec Ideal S512x768 .f32) (s : Fin 32) (C : Fin 768) : k0_pay1 (F := Ideal) y (ix3 0 s C) = y (ix2 ⟨480 + s.val, by omega⟩ C) := by
  pointwise [k0_pay1]

/-- Whether a tile is not the first of its sequence. -/
theorem later : ∀ n : Fin 8, Scalar.cmpi .sgt (BitVec.ofNat 32 n.val) 0#32 = if n.val = 0 then 0#1 else 1#1 := by decide

/-- The rows before a tile: zeros for the first tile of a sequence. -/
theorem prev_first (i : grid0.Coords) (hi : (i 1).val = 0) (x2 x3 : Vec Ideal S32x768 .f32) (s : Fin 32) (C : Fin 768) : k0_pay3 (F := Ideal) i x2 x3 (ix2 s C) = 0 := by
  have e : Scalar.cmpi .sgt (BitVec.ofNat 32 (i 1).val) 0#32 = 0#1 := (later (i 1)).trans (if_pos hi)
  unfold k0_pay3
  dsimp only
  rw [e]
  pointwise

/-- The rows before a tile: the gated channels before it for the others. -/
theorem prev_later (i : grid0.Coords) (hi : (i 1).val ≠ 0) (x2 x3 : Vec Ideal S32x768 .f32) (s : Fin 32) (C : Fin 768) :
    k0_pay3 (F := Ideal) i x2 x3 (ix2 s C) = gated (x2 (ix2 s C)) (x3 (ix2 s C)) := by
  have e : Scalar.cmpi .sgt (BitVec.ofNat 32 (i 1).val) 0#32 = 1#1 := (later (i 1)).trans (if_neg hi)
  unfold k0_pay3 gated
  dsimp only
  rw [e]
  pointwise

/-- A row of weights given the shape it has is itself. -/
theorem same_row (v : Vec Ideal S1x768 .f32) (C : Fin 768) : k0_pay6 (F := Ideal) v (ix2 0 C) = v (ix2 0 C) := by
  pointwise [k0_pay6]

/-- Six taps added. -/
theorem six_apply (a : Vec Ideal S512x768 .f32) (w0 : Vec Ideal S1x768 .f32) (b0 : Vec Ideal S512x768 .f32) (w1 : Vec Ideal S1x768 .f32) (b1 : Vec Ideal S512x768 .f32)
    (w2 : Vec Ideal S1x768 .f32) (b2 : Vec Ideal S512x768 .f32) (w3 : Vec Ideal S1x768 .f32) (b3 : Vec Ideal S512x768 .f32) (w4 : Vec Ideal S1x768 .f32)
    (b4 : Vec Ideal S512x768 .f32) (w5 : Vec Ideal S1x768 .f32) (b5 : Vec Ideal S512x768 .f32) (r : Fin 512) (C : Fin 768) :
    k0_pay7 (F := Ideal) a w0 b0 w1 b1 w2 b2 w3 b3 w4 b4 w5 b5 (ix2 r C)
      = a (ix2 r C) + w0 (ix2 0 C) * b0 (ix2 r C) + w1 (ix2 0 C) * b1 (ix2 r C) + w2 (ix2 0 C) * b2 (ix2 r C) + w3 (ix2 0 C) * b3 (ix2 r C)
        + w4 (ix2 0 C) * b4 (ix2 r C) + w5 (ix2 0 C) * b5 (ix2 r C) := by
  pointwise [k0_pay7]

/-- The last tap, the shift, the norm and the gate. -/
theorem last_apply (a : Vec Ideal S512x768 .f32) (w : Vec Ideal S1x768 .f32) (b : Vec Ideal S512x768 .f32) (cb lg lb : Vec Ideal S1x768 .f32) (r : Fin 512) (C : Fin 768) :
    k0_pay17 (F := Ideal) a w b cb lg lb (ix2 r C)
      = swishRow (fun D => a (ix2 r D) + w (ix2 0 D) * b (ix2 r D) + cb (ix2 0 D)) (fun D => lg (ix2 0 D)) (fun D => lb (ix2 0 D)) C := by
  unfold swishRow gated normRow mean
  pointwise [k0_pay17]

/-- A row of the weights as it is loaded. -/
theorem tap_row (x : Vec Ideal S32x768 .f32) (k : ℕ) (inb : ∀ a, (![k, 0] : Fin 2 → ℕ) a + (![1, 768] : Fin 2 → ℕ) a ≤ S32x768.size a) (hk : k < 32) (C : Fin 768) :
    View.ld x (Rect.unit (s := S32x768) ![k, 0] ![1, 768] inb) (ix2 0 C) = x (ix2 ⟨k, hk⟩ C) := by
  refine congrArg x (funext fun a => ?_)
  match a with
  | ⟨0, _⟩ => exact Fin.ext (by show k + 1 * 0 = k; omega)
  | ⟨1, _⟩ => exact Fin.ext (by show 0 + 1 * C.val = C.val; omega)

/-- A load from the rows before a tile and the tile's own, one after the other. -/
theorem window_row {sp : Space} (v : View sig .tc sp S544x768 .f32) (P : Vec Ideal S32x768 .f32) (G : Vec Ideal S512x768 .f32) (X : ℕ → Fin 768 → EReal)
    (hP : ∀ (s : Fin 32) C, 2 ≤ s.val → P (ix2 s C) = X s.val C) (hG : ∀ (r : Fin 512) C, G (ix2 r C) = X (32 + r.val) C)
    (inb1 : ∀ a, (![32, 0] : Fin 2 → ℕ) a + (![512, 768] : Fin 2 → ℕ) a ≤ S544x768.size a) (inb0 : ∀ a, (![0, 0] : Fin 2 → ℕ) a + (![32, 768] : Fin 2 → ℕ) a ≤ S544x768.size a)
    (o : ℕ) (ho : 2 ≤ o) (inb : ∀ a, (![o, 0] : Fin 2 → ℕ) a + (![512, 768] : Fin 2 → ℕ) a ≤ S544x768.size a) (r : Fin 512) (C : Fin 768) :
    v.readCov (Val := Elt Ideal) [⟨Rect.unit (s := S544x768) ![32, 0] ![512, 768] inb1, G⟩, ⟨Rect.unit (s := S544x768) ![0, 0] ![32, 768] inb0, P⟩]
      (Rect.unit (s := S544x768) ![o, 0] ![512, 768] inb).toLoadRect (ix2 r C) = X (o + r.val) C := by
  rw [View.readCov_eq_canon']
  have hi : o + r.val < 544 := by have h := inb 0; have e : o + 512 ≤ 544 := h; omega
  have e : (Rect.unit (s := S544x768) ![o, 0] ![512, 768] inb).toLoadRect.idx (ix2 r C) = ix2 (⟨o + r.val, hi⟩ : Fin 544) C := by
    funext a
    match a with
    | ⟨0, _⟩ => exact Fin.ext (by show o + 1 * r.val = o + r.val; omega)
    | ⟨1, _⟩ => exact Fin.ext (by show 0 + 1 * C.val = C.val; omega)
  show View.canon _ ((Rect.unit (s := S544x768) ![o, 0] ![512, 768] inb).toLoadRect.idx (ix2 r C)) = _
  rw [e]
  by_cases h : o + r.val < 32
  · rw [View.canon_cons_of_not_mem]
    · have e2 : ix2 (⟨o + r.val, hi⟩ : Fin 544) C = (Rect.unit (s := S544x768) ![0, 0] ![32, 768] inb0).emb (ix2 (⟨o + r.val, h⟩ : Fin 32) C) := by
        funext a
        match a with
        | ⟨0, _⟩ => exact Fin.ext (by show o + r.val = 0 + 1 * (o + r.val); omega)
        | ⟨1, _⟩ => exact Fin.ext (by show C.val = 0 + 1 * C.val; omega)
      rw [e2]
      exact (View.canon_cons_emb (Rect.unit (s := S544x768) ![0, 0] ![32, 768] inb0) P [] (ix2 (⟨o + r.val, h⟩ : Fin 32) C)).trans (hP ⟨o + r.val, h⟩ C (by show 2 ≤ o + r.val; omega))
    · intro hm
      obtain ⟨j, hj, hj'⟩ := (LoadRect.mem_set _).1 hm 0
      have e3 : o + r.val = 32 + 1 * j := hj'
      omega
  · have h' : o + r.val - 32 < 512 := by omega
    have e2 : ix2 (⟨o + r.val, hi⟩ : Fin 544) C = (Rect.unit (s := S544x768) ![32, 0] ![512, 768] inb1).emb (ix2 (⟨o + r.val - 32, h'⟩ : Fin 512) C) := by
      funext a
      match a with
      | ⟨0, _⟩ => exact Fin.ext (by show o + r.val = 32 + 1 * (o + r.val - 32); omega)
      | ⟨1, _⟩ => exact Fin.ext (by show C.val = 0 + 1 * C.val; omega)
    rw [e2]
    refine (View.canon_cons_emb (Rect.unit (s := S544x768) ![32, 0] ![512, 768] inb1) G _ (ix2 (⟨o + r.val - 32, h'⟩ : Fin 512) C)).trans ((hG ⟨o + r.val - 32, h'⟩ C).trans ?_)
    exact congrArg (fun n => X n C) (by show 32 + (o + r.val - 32) = o + r.val; omega)

end Cert.ConvIdeal.Conv

end
-- ==== Proof.Conv.Kernel.lean ====
module

public import proofs.«01_k».proof.Proof.Conv.Body
public import Idealize.ShloMosaic.Lib.Pointwise
public import Idealize.ShloMosaic.Lib.Pipeline.ValueKit
public import Idealize.ShloMosaic.Lib.Claim

@[expose] public section

set_option maxRecDepth 16384

noncomputable section

namespace Cert.ConvIdeal.Conv

open Cert.ConvIdeal Cert.ConvIdeal.Gen Cert.ConvRows
open Idealize.ShloMosaic Idealize.ShloMosaic.TcCoe Idealize.ShloMosaic.Tactic Idealize.SL.Sem
open Idealize.ShloMosaic.Pipeline (Dat)

/-- A tap's row of the padded weights. -/
def rowTap (x : Vec Ideal S32x768 .f32) (k : ℕ) (C : Fin 768) : EReal := if h : k < 32 then x (ix2 ⟨k, h⟩ C) else 0

section A

variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S32x768 .f32) (harg4 : arg4.IsWhole) (arg5 : Memref sig .tc .vmem S32x768 .f32) (harg5 : arg5.IsWhole) (arg6 : Memref sig .tc .vmem S32x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S512x768 .f32) (harg10 : arg10.IsWhole) (arg11 : Memref sig .tc .vmem S1x32x768 .f32) (harg11 : arg11.IsWhole) (arg12 : Memref sig .tc .vmem S544x768 .f32) (harg12 : arg12.IsWhole) (hc0 : ¬cond0_0 i)
  (x0 : Vec Ideal S512x768 .f32) (x1 : Vec Ideal S512x768 .f32) (x2 : Vec Ideal S32x768 .f32) (x3 : Vec Ideal S32x768 .f32) (x4 : Vec Ideal S32x768 .f32) (x5 : Vec Ideal S1x768 .f32) (x6 : Vec Ideal S1x768 .f32) (x7 : Vec Ideal S1x768 .f32)

/-- What a grid point before the last of its sequence leaves of the convolution. -/
theorem conv_A (X : ℕ → Fin 768 → EReal) (hP : ∀ (s : Fin 32) C, 2 ≤ s.val → k0_pay3 (F := Ideal) i x2 x3 (ix2 s C) = X s.val C)
    (hG : ∀ (r : Fin 512) C, k0_pay4 (F := Ideal) x0 x1 (ix2 r C) = X (32 + r.val) C) (r : Fin 512) (C : Fin 768) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 r C)
      = swishRow (fun D => taps (fun k => rowTap x4 k D) (fun k => X (2 + k + r.val) D) + x5 (ix2 0 D)) (fun D => x6 (ix2 0 D)) (fun D => x7 (ix2 0 D)) C := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  have hcover := cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7
  revert hcover
  unfold kernelRun0_A
  dsimp only
  sl_unfold_words
  simp only [View.readAt_eq_ld, harg2.read_unread, harg3.read_unread, harg4.read_unread, harg5.read_unread, harg6.read_unread, harg7.read_unread, harg8.read_unread, harg9.read_unread]
  rw [View.ld_unit_lit _ x0 (by decide), View.ld_unit_lit _ x1 (by decide), View.ld_unit_lit _ x2 (by decide), View.ld_unit_lit _ x3 (by decide), View.ld_unit_lit _ x5 (by decide), View.ld_unit_lit _ x6 (by decide), View.ld_unit_lit _ x7 (by decide)]
  intro hcover
  canon_tiles x h using hcover _
  all_goals
    rw [eq_ix2 (n0 := 512) (n1 := 768) x]
    have hr : x 0 = r := Fin.ext (by have e : r.val = _ := h0; rw [e])
    have hC : x 1 = C := Fin.ext (by have e : C.val = _ := h1; rw [e])
    rw [hr, hC]
  refine (last_apply _ _ _ _ _ _ r C).trans (congrArg (fun f => swishRow f (fun D => x6 (ix2 0 D)) (fun D => x7 (ix2 0 D)) C) (funext fun D => ?_))
  refine congrArg (· + x5 (ix2 0 D)) ?_
  generalize k0_pay3 (F := Ideal) i x2 x3 = P at hP ⊢
  generalize k0_pay4 (F := Ideal) x0 x1 = G at hG ⊢
  unfold taps
  simp only [Finset.sum_range_succ, Finset.sum_range_zero]
  have w (k : ℕ) (inb : ∀ a, (![k, 0] : Fin 2 → ℕ) a + (![1, 768] : Fin 2 → ℕ) a ≤ S32x768.size a) : View.ld x4 (Rect.unit (s := S32x768) ![k, 0] ![1, 768] inb) (ix2 0 D) = rowTap x4 k D := by
    have hk : k < 32 := by have h := inb 0; have e : k + 1 ≤ 32 := h; omega
    refine (tap_row x4 k inb hk D).trans ?_
    unfold rowTap
    rw [dif_pos hk]
  have b (o : ℕ) (ho : 2 ≤ o) (inb1 inb0 inb) : arg12.view.readCov (Val := Elt Ideal) [⟨Rect.unit (s := S544x768) ![32, 0] ![512, 768] inb1, G⟩, ⟨Rect.unit (s := S544x768) ![0, 0] ![32, 768] inb0, P⟩]
      (Rect.unit (s := S544x768) ![o, 0] ![512, 768] inb).toLoadRect (ix2 r D) = X (o + r.val) D :=
    window_row arg12.view P G X hP hG inb1 inb0 o ho inb r D
  have z : k0_pay5 (F := Ideal) (ix2 r D) = 0 := by pointwise [k0_pay5]
  rw [show k0_pay15 (F := Ideal) = k0_pay7 from rfl, show k0_pay13 (F := Ideal) = k0_pay7 from rfl, show k0_pay11 (F := Ideal) = k0_pay7 from rfl, show k0_pay9 (F := Ideal) = k0_pay7 from rfl,
    show k0_pay16 (F := Ideal) = k0_pay6 from rfl, show k0_pay14 (F := Ideal) = k0_pay6 from rfl, show k0_pay12 (F := Ideal) = k0_pay6 from rfl, show k0_pay10 (F := Ideal) = k0_pay6 from rfl, show k0_pay8 (F := Ideal) = k0_pay6 from rfl]
  simp only [six_apply, same_row, z]
  simp (disch := decide) only [b]
  simp only [w]

end A

section B

variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S32x768 .f32) (harg4 : arg4.IsWhole) (arg5 : Memref sig .tc .vmem S32x768 .f32) (harg5 : arg5.IsWhole) (arg6 : Memref sig .tc .vmem S32x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S512x768 .f32) (harg10 : arg10.IsWhole) (arg11 : Memref sig .tc .vmem S1x32x768 .f32) (harg11 : arg11.IsWhole) (arg12 : Memref sig .tc .vmem S544x768 .f32) (harg12 : arg12.IsWhole) (hc0 : cond0_0 i)
  (x0 : Vec Ideal S512x768 .f32) (x1 : Vec Ideal S512x768 .f32) (x2 : Vec Ideal S32x768 .f32) (x3 : Vec Ideal S32x768 .f32) (x4 : Vec Ideal S32x768 .f32) (x5 : Vec Ideal S1x768 .f32) (x6 : Vec Ideal S1x768 .f32) (x7 : Vec Ideal S1x768 .f32)

/-- What a grid point that is the last of its sequence leaves of the convolution. -/
theorem conv_B (X : ℕ → Fin 768 → EReal) (hP : ∀ (s : Fin 32) C, 2 ≤ s.val → k0_pay3 (F := Ideal) i x2 x3 (ix2 s C) = X s.val C)
    (hG : ∀ (r : Fin 512) C, k0_pay4 (F := Ideal) x0 x1 (ix2 r C) = X (32 + r.val) C) (r : Fin 512) (C : Fin 768) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 r C)
      = swishRow (fun D => taps (fun k => rowTap x4 k D) (fun k => X (2 + k + r.val) D) + x5 (ix2 0 D)) (fun D => x6 (ix2 0 D)) (fun D => x7 (ix2 0 D)) C := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7)]
  have hcover := cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7
  revert hcover
  unfold kernelRun0_B
  dsimp only
  sl_unfold_words
  simp only [View.readAt_eq_ld, harg2.read_unread, harg3.read_unread, harg4.read_unread, harg5.read_unread, harg6.read_unread, harg7.read_unread, harg8.read_unread, harg9.read_unread]
  rw [View.ld_unit_lit _ x0 (by decide), View.ld_unit_lit _ x1 (by decide), View.ld_unit_lit _ x2 (by decide), View.ld_unit_lit _ x3 (by decide), View.ld_unit_lit _ x5 (by decide), View.ld_unit_lit _ x6 (by decide), View.ld_unit_lit _ x7 (by decide)]
  intro hcover
  canon_tiles x h using hcover _
  all_goals
    rw [eq_ix2 (n0 := 512) (n1 := 768) x]
    have hr : x 0 = r := Fin.ext (by have e : r.val = _ := h0; rw [e])
    have hC : x 1 = C := Fin.ext (by have e : C.val = _ := h1; rw [e])
    rw [hr, hC]
  refine (last_apply _ _ _ _ _ _ r C).trans (congrArg (fun f => swishRow f (fun D => x6 (ix2 0 D)) (fun D => x7 (ix2 0 D)) C) (funext fun D => ?_))
  refine congrArg (· + x5 (ix2 0 D)) ?_
  generalize k0_pay3 (F := Ideal) i x2 x3 = P at hP ⊢
  generalize k0_pay4 (F := Ideal) x0 x1 = G at hG ⊢
  unfold taps
  simp only [Finset.sum_range_succ, Finset.sum_range_zero]
  have w (k : ℕ) (inb : ∀ a, (![k, 0] : Fin 2 → ℕ) a + (![1, 768] : Fin 2 → ℕ) a ≤ S32x768.size a) : View.ld x4 (Rect.unit (s := S32x768) ![k, 0] ![1, 768] inb) (ix2 0 D) = rowTap x4 k D := by
    have hk : k < 32 := by have h := inb 0; have e : k + 1 ≤ 32 := h; omega
    refine (tap_row x4 k inb hk D).trans ?_
    unfold rowTap
    rw [dif_pos hk]
  have b (o : ℕ) (ho : 2 ≤ o) (inb1 inb0 inb) : arg12.view.readCov (Val := Elt Ideal) [⟨Rect.unit (s := S544x768) ![32, 0] ![512, 768] inb1, G⟩, ⟨Rect.unit (s := S544x768) ![0, 0] ![32, 768] inb0, P⟩]
      (Rect.unit (s := S544x768) ![o, 0] ![512, 768] inb).toLoadRect (ix2 r D) = X (o + r.val) D :=
    window_row arg12.view P G X hP hG inb1 inb0 o ho inb r D
  have z : k0_pay5 (F := Ideal) (ix2 r D) = 0 := by pointwise [k0_pay5]
  rw [show k0_pay15 (F := Ideal) = k0_pay7 from rfl, show k0_pay13 (F := Ideal) = k0_pay7 from rfl, show k0_pay11 (F := Ideal) = k0_pay7 from rfl, show k0_pay9 (F := Ideal) = k0_pay7 from rfl,
    show k0_pay16 (F := Ideal) = k0_pay6 from rfl, show k0_pay14 (F := Ideal) = k0_pay6 from rfl, show k0_pay12 (F := Ideal) = k0_pay6 from rfl, show k0_pay10 (F := Ideal) = k0_pay6 from rfl, show k0_pay8 (F := Ideal) = k0_pay6 from rfl]
  simp only [six_apply, same_row, z]
  simp (disch := decide) only [b]
  simp only [w]

end B

section last

variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S32x768 .f32) (harg4 : arg4.IsWhole) (arg5 : Memref sig .tc .vmem S32x768 .f32) (harg5 : arg5.IsWhole) (arg6 : Memref sig .tc .vmem S32x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S512x768 .f32) (harg10 : arg10.IsWhole) (arg11 : Memref sig .tc .vmem S1x32x768 .f32) (harg11 : arg11.IsWhole) (arg12 : Memref sig .tc .vmem S544x768 .f32) (harg12 : arg12.IsWhole) (hc0 : cond0_0 i)
  (x0 : Vec Ideal S512x768 .f32) (x1 : Vec Ideal S512x768 .f32) (x2 : Vec Ideal S32x768 .f32) (x3 : Vec Ideal S32x768 .f32) (x4 : Vec Ideal S32x768 .f32) (x5 : Vec Ideal S1x768 .f32) (x6 : Vec Ideal S1x768 .f32) (x7 : Vec Ideal S1x768 .f32)

/-- What the last grid point of a sequence leaves of its last rows. -/
theorem tail_B (s : Fin 32) (C : Fin 768) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 0 s C)
      = gated (x0 (ix2 ⟨480 + s.val, by omega⟩ C)) (x1 (ix2 ⟨480 + s.val, by omega⟩ C)) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7)]
  have hcover := cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7
  revert hcover
  unfold kernelRun0_B
  dsimp only
  sl_unfold_words
  simp only [View.readAt_eq_ld, harg2.read_unread, harg3.read_unread, harg4.read_unread, harg5.read_unread, harg6.read_unread, harg7.read_unread, harg8.read_unread, harg9.read_unread]
  rw [View.ld_unit_lit _ x0 (by decide), View.ld_unit_lit _ x1 (by decide)]
  intro hcover
  canon_tiles x h using hcover _
  all_goals
    rw [eq_ix3 (n0 := 1) (n1 := 32) (n2 := 768) x]
    have h0' : x 0 = (0 : Fin 1) := Subsingleton.elim (α := Fin 1) _ _
    have hr : x 1 = s := Fin.ext (by have e : s.val = _ := h1; rw [e])
    have hC : x 2 = C := Fin.ext (by have e : C.val = _ := h2; rw [e])
    rw [h0', hr, hC]
  exact (tail_apply (k0_pay2 (F := Ideal) x0 x1) s C).trans (glu_apply x0 x1 ⟨480 + s.val, by omega⟩ C)

end last

end Cert.ConvIdeal.Conv

end
-- ==== Proof.Conv.Array.lean ====
module

public import proofs.«01_k».proof.Proof.Conv.Kernel

@[expose] public section

set_option maxRecDepth 16384

noncomputable section

namespace Cert.ConvIdeal.Conv

open Cert.ConvIdeal Cert.ConvIdeal.Gen Cert.ConvRows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The taps' weights, as the pipeline finds them: a row of zeros added. -/
theorem V_w (c : Dev nD) (k : Fin 31) (C : Fin 768) : V m c main_v1 (ix2 ⟨k.val, by omega⟩ C) = m ((c : Thread nD τ).loc main_arg1) (ix2 k C) := by
  show StableHlo.after hostOps0 _ (Proc.devRef .tc _) _ = _
  simp only [hostOps0]
  after_results
  pointwise

/-- The shift, as the pipeline finds it. -/
theorem V_v2 (c : Dev nD) (C : Fin 768) : V m c main_v2 (ix2 0 C) = m ((c : Thread nD τ).loc main_arg2) (ix1 C) := by
  show StableHlo.after hostOps0 _ (Proc.devRef .tc _) _ = _
  simp only [hostOps0]
  after_results
  pointwise

/-- The norm's gains, as the pipeline finds them. -/
theorem V_v3 (c : Dev nD) (C : Fin 768) : V m c main_v3 (ix2 0 C) = m ((c : Thread nD τ).loc main_arg3) (ix1 C) := by
  show StableHlo.after hostOps0 _ (Proc.devRef .tc _) _ = _
  simp only [hostOps0]
  after_results
  pointwise

/-- The norm's shift, as the pipeline finds it. -/
theorem V_v4 (c : Dev nD) (C : Fin 768) : V m c main_v4 (ix2 0 C) = m ((c : Thread nD τ).loc main_arg4) (ix1 C) := by
  show StableHlo.after hostOps0 _ (Proc.devRef .tc _) _ = _
  simp only [hostOps0]
  after_results
  pointwise

/-- The windows' block indices. -/
theorem idx : ∀ t : Fin grid0.N, win0_0.index t = ![t.val, 0] ∧ win0_1.index t = ![t.val, 1] ∧ win0_2.index t = ![t.val * 16 - 1, 0]
    ∧ win0_3.index t = ![t.val * 16 - 1, 1] ∧ win0_4.index t = ![0, 0] ∧ win0_5.index t = ![0, 0] ∧ win0_6.index t = ![0, 0]
    ∧ win0_7.index t = ![0, 0] ∧ win0_8.index t = ![t.val, 0] ∧ win0_9.index t = ![t.val / 8, 0, 0] := by
  decide +kernel

/-- A grid point's tile within its sequence. -/
theorem tile : ∀ t : Fin grid0.N, (grid0.coords t 1).val = t.val % 8 := by
  decide +kernel

/-- The last rows are written back at a sequence's last tile alone. -/
theorem flush_last : ∀ t : Fin grid0.N, win0_9.flush t = true → t.val % 8 = 7 := by
  decide +kernel

/-- The grid has thirty-two points, each of 512 rows. -/
theorem lt (t : Fin grid0.N) : t.val < 32 := t.isLt

/-- The row a grid point's row is. -/
def rowAt (t : Fin grid0.N) (r : Fin 512) : Fin 16384 := ⟨t.val * 512 + r.val, by have := lt t; omega⟩

/-- The row before a grid point's rows that a row of its second windows is. -/
def haloAt (t : Fin grid0.N) (s : Fin 32) : Fin 16384 := ⟨(t.val * 16 - 1) * 32 + s.val, by have := lt t; omega⟩

/-- The channels at a grid point. -/
theorem a_block (c : Dev nD) (t : Fin grid0.N) (r : Fin 512) (C : Fin 768) :
    X0_0 m c t (ix2 r C) = m ((c : Thread nD τ).loc main_arg0) (ix2 (rowAt t r) ⟨C.val, by omega⟩) := by
  unfold X0_0 Pipeline.Window.fill
  rw [dif_pos (moved0_0 t _)]
  blk_simp [iblk]
  refine (congrFun (V_main_arg0 m c) _).trans ?_
  blk_ext [idx t, rowAt]

/-- The gates at a grid point. -/
theorem b_block (c : Dev nD) (t : Fin grid0.N) (r : Fin 512) (C : Fin 768) :
    X0_1 m c t (ix2 r C) = m ((c : Thread nD τ).loc main_arg0) (ix2 (rowAt t r) ⟨768 + C.val, by omega⟩) := by
  unfold X0_1 Pipeline.Window.fill
  rw [dif_pos (moved0_1 t _)]
  blk_simp [iblk]
  refine (congrFun (V_main_arg0 m c) _).trans ?_
  blk_ext [idx t, rowAt]

/-- The channels before a grid point. -/
theorem pa_block (c : Dev nD) (t : Fin grid0.N) (r : Fin 32) (C : Fin 768) :
    X0_2 m c t (ix2 r C) = m ((c : Thread nD τ).loc main_arg0) (ix2 (haloAt t r) ⟨C.val, by omega⟩) := by
  unfold X0_2 Pipeline.Window.fill
  rw [dif_pos (moved0_2 t _)]
  blk_simp [iblk]
  refine (congrFun (V_main_arg0 m c) _).trans ?_
  blk_ext [idx t, haloAt]

/-- The gates before a grid point. -/
theorem pb_block (c : Dev nD) (t : Fin grid0.N) (r : Fin 32) (C : Fin 768) :
    X0_3 m c t (ix2 r C) = m ((c : Thread nD τ).loc main_arg0) (ix2 (haloAt t r) ⟨768 + C.val, by omega⟩) := by
  unfold X0_3 Pipeline.Window.fill
  rw [dif_pos (moved0_3 t _)]
  blk_simp [iblk]
  refine (congrFun (V_main_arg0 m c) _).trans ?_
  blk_ext [idx t, haloAt]

/-- The taps' weights at a grid point. -/
theorem w_block (c : Dev nD) (t : Fin grid0.N) (k : ℕ) (hk : k < 31) (C : Fin 768) : rowTap (iblk m c 4 t) k C = tapAt (m ((c : Thread nD τ).loc main_arg1)) k C := by
  unfold rowTap tapAt
  rw [dif_pos (show k < 32 by omega), dif_pos hk, ← V_w m c ⟨k, hk⟩ C]
  blk_ext [iblk, V, idx t]

/-- The shift at a grid point. -/
theorem v2_block (c : Dev nD) (t : Fin grid0.N) (C : Fin 768) : iblk m c 5 t (ix2 0 C) = m ((c : Thread nD τ).loc main_arg2) (ix1 C) := by
  rw [← V_v2 m c C]
  blk_ext [iblk, V, idx t]

/-- The norm's gains at a grid point. -/
theorem v3_block (c : Dev nD) (t : Fin grid0.N) (C : Fin 768) : iblk m c 6 t (ix2 0 C) = m ((c : Thread nD τ).loc main_arg3) (ix1 C) := by
  rw [← V_v3 m c C]
  blk_ext [iblk, V, idx t]

/-- The norm's shift at a grid point. -/
theorem v4_block (c : Dev nD) (t : Fin grid0.N) (C : Fin 768) : iblk m c 7 t (ix2 0 C) = m ((c : Thread nD τ).loc main_arg4) (ix1 C) := by
  rw [← V_v4 m c C]
  blk_ext [iblk, V, idx t]

/-- The sequence of a grid point. -/
def seqAt (t : Fin grid0.N) : Fin 4 := ⟨t.val / 8, by have := lt t; omega⟩

/-- What a grid point has in its buffer, from its place's third row on. -/
def bufAt (u : (⟨2, ![16384, 1792]⟩ : Shape).Idx → EReal) (t : Fin grid0.N) (s : ℕ) (C : Fin 768) : EReal := padded u (seqAt t) (t.val % 8 * 512 + s - 2) C

/-- The buffer's first rows. -/
theorem prev_rows (c : Dev nD) (t : Fin grid0.N) (s : Fin 32) (C : Fin 768) (hs : 2 ≤ s.val) :
    k0_pay3 (F := Ideal) (grid0.coords t) (X0_2 m c t) (X0_3 m c t) (ix2 s C) = bufAt (m ((c : Thread nD τ).loc main_arg0)) t s.val C := by
  have ht := lt t
  unfold bufAt
  by_cases h : t.val % 8 = 0
  · rw [prev_first _ ((tile t).trans h), padded_lt _ _ _ _ (by omega)]
  · rw [prev_later _ (by rw [tile t]; exact h), padded_ge _ _ _ _ ⟨t.val % 8 * 512 + s.val - 32, by omega⟩ (by show _ = 30 + (t.val % 8 * 512 + s.val - 32); omega), pa_block, pb_block]
    have e : haloAt t s = rowOf (seqAt t) ⟨t.val % 8 * 512 + s.val - 32, by omega⟩ :=
      Fin.ext (by show (t.val * 16 - 1) * 32 + s.val = t.val / 8 * 4096 + (t.val % 8 * 512 + s.val - 32); omega)
    rw [e]
    rfl

/-- The buffer's other rows. -/
theorem cur_rows (c : Dev nD) (t : Fin grid0.N) (r : Fin 512) (C : Fin 768) :
    k0_pay4 (F := Ideal) (X0_0 m c t) (X0_1 m c t) (ix2 r C) = bufAt (m ((c : Thread nD τ).loc main_arg0)) t (32 + r.val) C := by
  have ht := lt t
  unfold bufAt
  rw [cur_apply, padded_ge _ _ _ _ ⟨t.val % 8 * 512 + r.val, by omega⟩ (by show _ = 30 + (t.val % 8 * 512 + r.val); omega), a_block, b_block]
  have e : rowAt t r = rowOf (seqAt t) ⟨t.val % 8 * 512 + r.val, by omega⟩ :=
    Fin.ext (by show t.val * 512 + r.val = t.val / 8 * 4096 + (t.val % 8 * 512 + r.val); omega)
  rw [e]
  rfl

/-- The convolution at a grid point's rows. -/
theorem conv_value (c : Dev nD) (t : Fin grid0.N) (r : Fin 512) (C : Fin 768) :
    swishRow (fun D => taps (fun k => rowTap (iblk m c 4 t) k D) (fun k => bufAt (m ((c : Thread nD τ).loc main_arg0)) t (2 + k + r.val) D) + iblk m c 5 t (ix2 0 D))
        (fun D => iblk m c 6 t (ix2 0 D)) (fun D => iblk m c 7 t (ix2 0 D)) C
      = convAt (m ((c : Thread nD τ).loc main_arg0)) (m ((c : Thread nD τ).loc main_arg1)) (m ((c : Thread nD τ).loc main_arg2)) (m ((c : Thread nD τ).loc main_arg3)) (m ((c : Thread nD τ).loc main_arg4))
        (seqAt t) ⟨t.val % 8 * 512 + r.val, by omega⟩ C := by
  unfold convAt
  have e5 : (fun D => taps (fun k => rowTap (iblk m c 4 t) k D) (fun k => bufAt (m ((c : Thread nD τ).loc main_arg0)) t (2 + k + r.val) D) + iblk m c 5 t (ix2 0 D))
      = fun D => taps (fun k => tapAt (m ((c : Thread nD τ).loc main_arg1)) k D) (fun k => padded (m ((c : Thread nD τ).loc main_arg0)) (seqAt t) (t.val % 8 * 512 + r.val + k) D) + m ((c : Thread nD τ).loc main_arg2) (ix1 D) := by
    funext D
    refine congrArg₂ (· + ·) (Finset.sum_congr rfl fun k hk => ?_) (v2_block m c t D)
    refine congrArg₂ (· * ·) (w_block m c t k (Finset.mem_range.mp hk) D) ?_
    unfold bufAt
    exact congrArg (fun n => padded (m ((c : Thread nD τ).loc main_arg0)) (seqAt t) n D) (by omega)
  rw [e5, funext fun D => v3_block m c t D, funext fun D => v4_block m c t D]

/-- The windows' blocks tile the array of the convolution. -/
theorem conv_covers : win0_8.Covers := by decide +kernel

/-- The convolution's rows. -/
def convOf (c : Dev nD) : S16384x768.Idx → EReal := fun j =>
  convAt (m ((c : Thread nD τ).loc main_arg0)) (m ((c : Thread nD τ).loc main_arg1)) (m ((c : Thread nD τ).loc main_arg2)) (m ((c : Thread nD τ).loc main_arg3)) (m ((c : Thread nD τ).loc main_arg4))
    (seqOf (j 0)) (timeOf (j 0)) (j 1)

/-- The convolution's rows at an index given by its sequence, its position and its channel. -/
theorem conv_at (c : Dev nD) (j : S16384x768.Idx) (b : Fin 4) (t : Fin 4096) (C : Fin 768) (h0 : (j 0).val = b.val * 4096 + t.val) (h1 : (j 1).val = C.val) :
    convOf m c j = convAt (m ((c : Thread nD τ).loc main_arg0)) (m ((c : Thread nD τ).loc main_arg1)) (m ((c : Thread nD τ).loc main_arg2)) (m ((c : Thread nD τ).loc main_arg3)) (m ((c : Thread nD τ).loc main_arg4)) b t C := by
  have e0 : seqOf (j 0) = b := Fin.ext (by show (j 0).val / 4096 = b.val; omega)
  have e1 : timeOf (j 0) = t := Fin.ext (by show (j 0).val % 4096 = t.val; omega)
  have e2 : j 1 = C := Fin.ext h1
  unfold convOf
  rw [e0, e1, e2]

/-- What a grid point leaves of the convolution is its rows at its block's places. -/
theorem conv_point (c : Dev nD) (t : Fin grid0.N) (r : Fin 512) (C : Fin 768) :
    (outsAt0 m c t.val t.isLt).1 (ix2 r C) = convOf m c ((win0_8.blk t).view.emb (ix2 r C)) := by
  have ht := lt t
  rw [conv_at m c _ (seqAt t) ⟨t.val % 8 * 512 + r.val, by omega⟩ C (by blk_simp [idx t]; show _ = t.val / 8 * 4096 + (t.val % 8 * 512 + r.val); omega) (by blk_simp [idx t]), ← conv_value m c t r C]
  by_cases h : t.val % 8 = 7
  · rw [outsAt0_B m c t h]
    dsimp only
    exact conv_B c (grid0.coords t) _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (bufAt (m ((c : Thread nD τ).loc main_arg0)) t)
      (fun s C hs => prev_rows m c t s C hs) (fun r C => cur_rows m c t r C) r C
  · rw [outsAt0_A m c t h]
    dsimp only
    exact conv_A c (grid0.coords t) _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (bufAt (m ((c : Thread nD τ).loc main_arg0)) t)
      (fun s C hs => prev_rows m c t s C hs) (fun r C => cur_rows m c t r C) r C

/-- The array of the convolution the kernel leaves. -/
theorem conv_arr (c : Dev nD) : (dats m 0 c).arrAt 8 cfg0.N = convOf m c := by
  refine (dats m 0 c).arrAt_eq_of_covers 8 _ conv_covers fun t hf y => ?_
  blk_simp
  rw [after0_8]
  have e : y = ix2 (y 0) (y 1) := eq_ix2 y
  rw [e]
  exact conv_point m c t (y 0) (y 1)

/-- The windows' blocks tile the array of the last rows. -/
theorem tail_covers : win0_9.Covers := by decide +kernel

/-- A sequence's last gated rows. -/
def tailOf (c : Dev nD) : S4x32x768.Idx → EReal := fun j => tailAt (m ((c : Thread nD τ).loc main_arg0)) (j 0) (j 1) (j 2)

/-- A sequence's last gated rows at an index given by its coordinates. -/
theorem tail_at (c : Dev nD) (j : S4x32x768.Idx) (b : Fin 4) (s : Fin 32) (C : Fin 768) (h0 : (j 0).val = b.val) (h1 : (j 1).val = s.val) (h2 : (j 2).val = C.val) :
    tailOf m c j = tailAt (m ((c : Thread nD τ).loc main_arg0)) b s C := by
  have e0 : j 0 = b := Fin.ext h0
  have e1 : j 1 = s := Fin.ext h1
  have e2 : j 2 = C := Fin.ext h2
  unfold tailOf
  rw [e0, e1, e2]

/-- What a sequence's last grid point leaves of its last gated rows is them. -/
theorem tail_point (c : Dev nD) (t : Fin grid0.N) (h : t.val % 8 = 7) (s : Fin 32) (C : Fin 768) :
    (outsAt0 m c t.val t.isLt).2 (ix3 0 s C) = tailOf m c ((win0_9.blk t).view.emb (ix3 0 s C)) := by
  have ht := lt t
  rw [tail_at m c _ (seqAt t) s C (by blk_simp [idx t]; rfl) (by blk_simp [idx t]) (by blk_simp [idx t]), outsAt0_B m c t h]
  dsimp only
  refine (tail_B c (grid0.coords t) _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) s C).trans ?_
  rw [a_block, b_block]
  have e : rowAt t ⟨480 + s.val, by omega⟩ = rowOf (seqAt t) ⟨4064 + s.val, by omega⟩ :=
    Fin.ext (by show t.val * 512 + (480 + s.val) = t.val / 8 * 4096 + (4064 + s.val); omega)
  rw [e]
  rfl

/-- The array of the last gated rows the kernel leaves. -/
theorem tail_arr (c : Dev nD) : (dats m 0 c).arrAt 9 cfg0.N = tailOf m c := by
  refine (dats m 0 c).arrAt_eq_of_covers 9 _ tail_covers fun t hf y => ?_
  blk_simp
  rw [after0_9]
  have e : y = ix3 (y 0) (y 1) (y 2) := eq_ix3 y
  have e0 : y 0 = (0 : Fin 1) := Subsingleton.elim (α := Fin 1) _ _
  rw [e, e0]
  exact tail_point m c t (flush_last t hf) (y 1) (y 2)

/-- The run: the result arrays are the convolution and the sequences' last gated rows; the arguments end unchanged. -/
theorem run :
    θ_run (defs (F := Ideal)) (onTc (τ := τ) (main (F := Ideal))) ⟨m, fun _ => 0, ρ⟩ fun r => ∀ c : Dev nD,
      r.2.mem ((c : Thread nD τ).loc main_v5_0) = convOf m c
      ∧ r.2.mem ((c : Thread nD τ).loc main_v5_1) = tailOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun _ h c => by
    obtain ⟨a0, a1, a2⟩ := h c
    exact ⟨a0.trans (conv_arr m c), a1.trans (tail_arr m c), a2⟩) (Value.run_blocks m ρ)

end Cert.ConvIdeal.Conv

end
-- ==== Proof.Conv.Reference.lean ====
module

public import proofs.«01_k».proof.Proof.Gen.ConvRefIdeal.Read
public import proofs.«01_k».proof.Proof.Conv.Spec
public import Idealize.ShloMosaic.Lib.Pointwise

@[expose] public section

set_option maxRecDepth 16384

noncomputable section

namespace Cert.ConvRefIdeal.Read

open Cert.ConvRefIdeal Cert.ConvRefIdeal.Gen Cert.ConvRows
open Idealize.ShloMosaic

variable (x0 : FVec Ideal S16384x1792 .f32) (x1 : FVec Ideal S31x768 .f32) (x2 x3 x4 : FVec Ideal S768 .f32)

/-- The gated channels. -/
theorem glu_at (R : Fin 16384) (C : Fin 768) : val_main_v8 (F := Ideal) x0 (ix2 R C) = gluAt x0 R C := by
  unfold gluAt gated
  pointwise [val_main_v8, val_main_v7, val_main_v6, val_main_cst_0, val_main_v5, val_main_v4, val_main_cst, val_main_v3, val_main_v2, val_main_v1, val_main_v0]
  simp only [zero_sub]

/-- The gated channels by sequence. -/
theorem glu3_at (b : Fin 4) (t : Fin 4096) (C : Fin 768) : val_main_v9 (F := Ideal) x0 (ix3 b t C) = gluAt x0 (rowOf b t) C := by
  refine (val_main_v9_apply x0 (ix3 b t C)).trans (Eq.trans ?_ (glu_at x0 (rowOf b t) C))
  refine congrArg (val_main_v8 (F := Ideal) x0) (funext fun a => ?_)
  match a with
  | ⟨0, _⟩ => exact Fin.ext (by show ((b.val * 4096 + t.val) * 768 + C.val) / 768 = b.val * 4096 + t.val; omega)
  | ⟨1, _⟩ => exact Fin.ext (by show ((b.val * 4096 + t.val) * 768 + C.val) % 768 = C.val; omega)

/-- The gated channels with the zeros before them. -/
theorem xin_at (b : Fin 4) (s : Fin 4126) (C : Fin 768) : val_main_v11 (F := Ideal) x0 (ix3 b s C) = padded x0 b s.val C := by
  have hz (k : Fin 30) : val_main_v10 (F := Ideal) (ix3 b k C) = 0 := by pointwise [val_main_v10, val_main_cst_1]
  have hy (t : Fin 4096) : val_main_v9 (F := Ideal) x0 (ix3 b t C) = padded x0 b (30 + t.val) C := (glu3_at x0 b t C).trans (padded_ge x0 b (30 + t.val) C t rfl).symm
  unfold val_main_v11
  generalize val_main_v10 (F := Ideal) = z at hz ⊢
  generalize val_main_v9 (F := Ideal) x0 = y at hy ⊢
  pointwise
  by_cases h : s.val < 30
  · rw [dif_pos h, hz, padded_lt _ _ _ _ h]
  · rw [dif_neg h]
    exact (hy _).trans (congrArg (fun n => padded x0 b n C) (by show 30 + (s.val - 30) = s.val; omega))

/-- The first tap. -/
theorem tap_0 (b : Fin 4) (t : Fin 4096) (C : Fin 768) : val_main_v17 (F := Ideal) x0 x1 (ix3 b t C) = tapAt x1 0 C * padded x0 b (t.val + 0) C := by
  have hx : padded x0 b (t.val + 0) C = val_main_v11 (F := Ideal) x0 (ix3 b ⟨0 + t.val, by omega⟩ C) :=
    (congrArg (fun n => padded x0 b n C) (Nat.add_comm t.val 0)).trans (xin_at x0 b ⟨0 + t.val, by omega⟩ C).symm
  have hw : tapAt x1 0 C = x1 (ix2 ⟨0, by omega⟩ C) := dif_pos (by omega)
  rw [hx, hw]
  unfold val_main_v17 val_main_v12
  generalize val_main_v11 (F := Ideal) x0 = y
  pointwise [val_main_v16, val_main_v15, val_main_v14, val_main_v13]
  exact mul_comm _ _

/-- The first tap added to zero. -/
theorem sum_0 (b : Fin 4) (t : Fin 4096) (C : Fin 768) : val_main_v19 (F := Ideal) x0 x1 (ix3 b t C) = ∑ k ∈ Finset.range 1, tapAt x1 k C * padded x0 b (t.val + k) C := by
  have hz : val_main_v18 (F := Ideal) (ix3 b t C) = 0 := by pointwise [val_main_v18, val_main_cst_2]
  rw [Finset.sum_range_succ, Finset.sum_range_zero]
  have h := val_main_v19_apply (F := Ideal) x0 x1 (ix3 b t C)
  rw [hz, tap_0] at h
  exact h

/-- Tap 2. -/
theorem tap_1 (b : Fin 4) (t : Fin 4096) (C : Fin 768) : val_main_v25 (F := Ideal) x0 x1 (ix3 b t C) = tapAt x1 1 C * padded x0 b (t.val + 1) C := by
  have hx : padded x0 b (t.val + 1) C = val_main_v11 (F := Ideal) x0 (ix3 b ⟨1 + t.val, by omega⟩ C) :=
    (congrArg (fun n => padded x0 b n C) (Nat.add_comm t.val 1)).trans (xin_at x0 b ⟨1 + t.val, by omega⟩ C).symm
  have hw : tapAt x1 1 C = x1 (ix2 ⟨1, by omega⟩ C) := dif_pos (by omega)
  rw [hx, hw]
  unfold val_main_v25 val_main_v20
  generalize val_main_v11 (F := Ideal) x0 = y
  pointwise [val_main_v24, val_main_v23, val_main_v22, val_main_v21]
  exact mul_comm _ _

/-- The first 2 taps added. -/
theorem sum_1 (b : Fin 4) (t : Fin 4096) (C : Fin 768) : val_main_v26 (F := Ideal) x0 x1 (ix3 b t C) = ∑ k ∈ Finset.range 2, tapAt x1 k C * padded x0 b (t.val + k) C := by
  rw [Finset.sum_range_succ]
  have h := val_main_v26_apply (F := Ideal) x0 x1 (ix3 b t C)
  rw [sum_0, tap_1] at h
  exact h

/-- Tap 3. -/
theorem tap_2 (b : Fin 4) (t : Fin 4096) (C : Fin 768) : val_main_v32 (F := Ideal) x0 x1 (ix3 b t C) = tapAt x1 2 C * padded x0 b (t.val + 2) C := by
  have hx : padded x0 b (t.val + 2) C = val_main_v11 (F := Ideal) x0 (ix3 b ⟨2 + t.val, by omega⟩ C) :=
    (congrArg (fun n => padded x0 b n C) (Nat.add_comm t.val 2)).trans (xin_at x0 b ⟨2 + t.val, by omega⟩ C).symm
  have hw : tapAt x1 2 C = x1 (ix2 ⟨2, by omega⟩ C) := dif_pos (by omega)
  rw [hx, hw]
  unfold val_main_v32 val_main_v27
  generalize val_main_v11 (F := Ideal) x0 = y
  pointwise [val_main_v31, val_main_v30, val_main_v29, val_main_v28]
  exact mul_comm _ _

/-- The first 3 taps added. -/
theorem sum_2 (b : Fin 4) (t : Fin 4096) (C : Fin 768) : val_main_v33 (F := Ideal) x0 x1 (ix3 b t C) = ∑ k ∈ Finset.range 3, tapAt x1 k C * padded x0 b (t.val + k) C := by
  rw [Finset.sum_range_succ]
  have h := val_main_v33_apply (F := Ideal) x0 x1 (ix3 b t C)
  rw [sum_1, tap_2] at h
  exact h

/-- Tap 4. -/
theorem tap_3 (b : Fin 4) (t : Fin 4096) (C : Fin 768) : val_main_v39 (F := Ideal) x0 x1 (ix3 b t C) = tapAt x1 3 C * padded x0 b (t.val + 3) C := by
  have hx : padded x0 b (t.val + 3) C = val_main_v11 (F := Ideal) x0 (ix3 b ⟨3 + t.val, by omega⟩ C) :=
    (congrArg (fun n => padded x0 b n C) (Nat.add_comm t.val 3)).trans (xin_at x0 b ⟨3 + t.val, by omega⟩ C).symm
  have hw : tapAt x1 3 C = x1 (ix2 ⟨3, by omega⟩ C) := dif_pos (by omega)
  rw [hx, hw]
  unfold val_main_v39 val_main_v34
  generalize val_main_v11 (F := Ideal) x0 = y
  pointwise [val_main_v38, val_main_v37, val_main_v36, val_main_v35]
  exact mul_comm _ _

/-- The first 4 taps added. -/
theorem sum_3 (b : Fin 4) (t : Fin 4096) (C : Fin 768) : val_main_v40 (F := Ideal) x0 x1 (ix3 b t C) = ∑ k ∈ Finset.range 4, tapAt x1 k C * padded x0 b (t.val + k) C := by
  rw [Finset.sum_range_succ]
  have h := val_main_v40_apply (F := Ideal) x0 x1 (ix3 b t C)
  rw [sum_2, tap_3] at h
  exact h

/-- Tap 5. -/
theorem tap_4 (b : Fin 4) (t : Fin 4096) (C : Fin 768) : val_main_v46 (F := Ideal) x0 x1 (ix3 b t C) = tapAt x1 4 C * padded x0 b (t.val + 4) C := by
  have hx : padded x0 b (t.val + 4) C = val_main_v11 (F := Ideal) x0 (ix3 b ⟨4 + t.val, by omega⟩ C) :=
    (congrArg (fun n => padded x0 b n C) (Nat.add_comm t.val 4)).trans (xin_at x0 b ⟨4 + t.val, by omega⟩ C).symm
  have hw : tapAt x1 4 C = x1 (ix2 ⟨4, by omega⟩ C) := dif_pos (by omega)
  rw [hx, hw]
  unfold val_main_v46 val_main_v41
  generalize val_main_v11 (F := Ideal) x0 = y
  pointwise [val_main_v45, val_main_v44, val_main_v43, val_main_v42]
  exact mul_comm _ _

/-- The first 5 taps added. -/
theorem sum_4 (b : Fin 4) (t : Fin 4096) (C : Fin 768) : val_main_v47 (F := Ideal) x0 x1 (ix3 b t C) = ∑ k ∈ Finset.range 5, tapAt x1 k C * padded x0 b (t.val + k) C := by
  rw [Finset.sum_range_succ]
  have h := val_main_v47_apply (F := Ideal) x0 x1 (ix3 b t C)
  rw [sum_3, tap_4] at h
  exact h

/-- Tap 6. -/
theorem tap_5 (b : Fin 4) (t : Fin 4096) (C : Fin 768) : val_main_v53 (F := Ideal) x0 x1 (ix3 b t C) = tapAt x1 5 C * padded x0 b (t.val + 5) C := by
  have hx : padded x0 b (t.val + 5) C = val_main_v11 (F := Ideal) x0 (ix3 b ⟨5 + t.val, by omega⟩ C) :=
    (congrArg (fun n => padded x0 b n C) (Nat.add_comm t.val 5)).trans (xin_at x0 b ⟨5 + t.val, by omega⟩ C).symm
  have hw : tapAt x1 5 C = x1 (ix2 ⟨5, by omega⟩ C) := dif_pos (by omega)
  rw [hx, hw]
  unfold val_main_v53 val_main_v48
  generalize val_main_v11 (F := Ideal) x0 = y
  pointwise [val_main_v52, val_main_v51, val_main_v50, val_main_v49]
  exact mul_comm _ _

/-- The first 6 taps added. -/
theorem sum_5 (b : Fin 4) (t : Fin 4096) (C : Fin 768) : val_main_v54 (F := Ideal) x0 x1 (ix3 b t C) = ∑ k ∈ Finset.range 6, tapAt x1 k C * padded x0 b (t.val + k) C := by
  rw [Finset.sum_range_succ]
  have h := val_main_v54_apply (F := Ideal) x0 x1 (ix3 b t C)
  rw [sum_4, tap_5] at h
  exact h

/-- Tap 7. -/
theorem tap_6 (b : Fin 4) (t : Fin 4096) (C : Fin 768) : val_main_v60 (F := Ideal) x0 x1 (ix3 b t C) = tapAt x1 6 C * padded x0 b (t.val + 6) C := by
  have hx : padded x0 b (t.val + 6) C = val_main_v11 (F := Ideal) x0 (ix3 b ⟨6 + t.val, by omega⟩ C) :=
    (congrArg (fun n => padded x0 b n C) (Nat.add_comm t.val 6)).trans (xin_at x0 b ⟨6 + t.val, by omega⟩ C).symm
  have hw : tapAt x1 6 C = x1 (ix2 ⟨6, by omega⟩ C) := dif_pos (by omega)
  rw [hx, hw]
  unfold val_main_v60 val_main_v55
  generalize val_main_v11 (F := Ideal) x0 = y
  pointwise [val_main_v59, val_main_v58, val_main_v57, val_main_v56]
  exact mul_comm _ _

/-- The first 7 taps added. -/
theorem sum_6 (b : Fin 4) (t : Fin 4096) (C : Fin 768) : val_main_v61 (F := Ideal) x0 x1 (ix3 b t C) = ∑ k ∈ Finset.range 7, tapAt x1 k C * padded x0 b (t.val + k) C := by
  rw [Finset.sum_range_succ]
  have h := val_main_v61_apply (F := Ideal) x0 x1 (ix3 b t C)
  rw [sum_5, tap_6] at h
  exact h

/-- Tap 8. -/
theorem tap_7 (b : Fin 4) (t : Fin 4096) (C : Fin 768) : val_main_v67 (F := Ideal) x0 x1 (ix3 b t C) = tapAt x1 7 C * padded x0 b (t.val + 7) C := by
  have hx : padded x0 b (t.val + 7) C = val_main_v11 (F := Ideal) x0 (ix3 b ⟨7 + t.val, by omega⟩ C) :=
    (congrArg (fun n => padded x0 b n C) (Nat.add_comm t.val 7)).trans (xin_at x0 b ⟨7 + t.val, by omega⟩ C).symm
  have hw : tapAt x1 7 C = x1 (ix2 ⟨7, by omega⟩ C) := dif_pos (by omega)
  rw [hx, hw]
  unfold val_main_v67 val_main_v62
  generalize val_main_v11 (F := Ideal) x0 = y
  pointwise [val_main_v66, val_main_v65, val_main_v64, val_main_v63]
  exact mul_comm _ _

/-- The first 8 taps added. -/
theorem sum_7 (b : Fin 4) (t : Fin 4096) (C : Fin 768) : val_main_v68 (F := Ideal) x0 x1 (ix3 b t C) = ∑ k ∈ Finset.range 8, tapAt x1 k C * padded x0 b (t.val + k) C := by
  rw [Finset.sum_range_succ]
  have h := val_main_v68_apply (F := Ideal) x0 x1 (ix3 b t C)
  rw [sum_6, tap_7] at h
  exact h

/-- Tap 9. -/
theorem tap_8 (b : Fin 4) (t : Fin 4096) (C : Fin 768) : val_main_v74 (F := Ideal) x0 x1 (ix3 b t C) = tapAt x1 8 C * padded x0 b (t.val + 8) C := by
  have hx : padded x0 b (t.val + 8) C = val_main_v11 (F := Ideal) x0 (ix3 b ⟨8 + t.val, by omega⟩ C) :=
    (congrArg (fun n => padded x0 b n C) (Nat.add_comm t.val 8)).trans (xin_at x0 b ⟨8 + t.val, by omega⟩ C).symm
  have hw : tapAt x1 8 C = x1 (ix2 ⟨8, by omega⟩ C) := dif_pos (by omega)
  rw [hx, hw]
  unfold val_main_v74 val_main_v69
  generalize val_main_v11 (F := Ideal) x0 = y
  pointwise [val_main_v73, val_main_v72, val_main_v71, val_main_v70]
  exact mul_comm _ _

/-- The first 9 taps added. -/
theorem sum_8 (b : Fin 4) (t : Fin 4096) (C : Fin 768) : val_main_v75 (F := Ideal) x0 x1 (ix3 b t C) = ∑ k ∈ Finset.range 9, tapAt x1 k C * padded x0 b (t.val + k) C := by
  rw [Finset.sum_range_succ]
  have h := val_main_v75_apply (F := Ideal) x0 x1 (ix3 b t C)
  rw [sum_7, tap_8] at h
  exact h

/-- Tap 10. -/
theorem tap_9 (b : Fin 4) (t : Fin 4096) (C : Fin 768) : val_main_v81 (F := Ideal) x0 x1 (ix3 b t C) = tapAt x1 9 C * padded x0 b (t.val + 9) C := by
  have hx : padded x0 b (t.val + 9) C = val_main_v11 (F := Ideal) x0 (ix3 b ⟨9 + t.val, by omega⟩ C) :=
    (congrArg (fun n => padded x0 b n C) (Nat.add_comm t.val 9)).trans (xin_at x0 b ⟨9 + t.val, by omega⟩ C).symm
  have hw : tapAt x1 9 C = x1 (ix2 ⟨9, by omega⟩ C) := dif_pos (by omega)
  rw [hx, hw]
  unfold val_main_v81 val_main_v76
  generalize val_main_v11 (F := Ideal) x0 = y
  pointwise [val_main_v80, val_main_v79, val_main_v78, val_main_v77]
  exact mul_comm _ _

/-- The first 10 taps added. -/
theorem sum_9 (b : Fin 4) (t : Fin 4096) (C : Fin 768) : val_main_v82 (F := Ideal) x0 x1 (ix3 b t C) = ∑ k ∈ Finset.range 10, tapAt x1 k C * padded x0 b (t.val + k) C := by
  rw [Finset.sum_range_succ]
  have h := val_main_v82_apply (F := Ideal) x0 x1 (ix3 b t C)
  rw [sum_8, tap_9] at h
  exact h

/-- Tap 11. -/
theorem tap_10 (b : Fin 4) (t : Fin 4096) (C : Fin 768) : val_main_v88 (F := Ideal) x0 x1 (ix3 b t C) = tapAt x1 10 C * padded x0 b (t.val + 10) C := by
  have hx : padded x0 b (t.val + 10) C = val_main_v11 (F := Ideal) x0 (ix3 b ⟨10 + t.val, by omega⟩ C) :=
    (congrArg (fun n => padded x0 b n C) (Nat.add_comm t.val 10)).trans (xin_at x0 b ⟨10 + t.val, by omega⟩ C).symm
  have hw : tapAt x1 10 C = x1 (ix2 ⟨10, by omega⟩ C) := dif_pos (by omega)
  rw [hx, hw]
  unfold val_main_v88 val_main_v83
  generalize val_main_v11 (F := Ideal) x0 = y
  pointwise [val_main_v87, val_main_v86, val_main_v85, val_main_v84]
  exact mul_comm _ _

/-- The first 11 taps added. -/
theorem sum_10 (b : Fin 4) (t : Fin 4096) (C : Fin 768) : val_main_v89 (F := Ideal) x0 x1 (ix3 b t C) = ∑ k ∈ Finset.range 11, tapAt x1 k C * padded x0 b (t.val + k) C := by
  rw [Finset.sum_range_succ]
  have h := val_main_v89_apply (F := Ideal) x0 x1 (ix3 b t C)
  rw [sum_9, tap_10] at h
  exact h

/-- Tap 12. -/
theorem tap_11 (b : Fin 4) (t : Fin 4096) (C : Fin 768) : val_main_v95 (F := Ideal) x0 x1 (ix3 b t C) = tapAt x1 11 C * padded x0 b (t.val + 11) C := by
  have hx : padded x0 b (t.val + 11) C = val_main_v11 (F := Ideal) x0 (ix3 b ⟨11 + t.val, by omega⟩ C) :=
    (congrArg (fun n => padded x0 b n C) (Nat.add_comm t.val 11)).trans (xin_at x0 b ⟨11 + t.val, by omega⟩ C).symm
  have hw : tapAt x1 11 C = x1 (ix2 ⟨11, by omega⟩ C) := dif_pos (by omega)
  rw [hx, hw]
  unfold val_main_v95 val_main_v90
  generalize val_main_v11 (F := Ideal) x0 = y
  pointwise [val_main_v94, val_main_v93, val_main_v92, val_main_v91]
  exact mul_comm _ _

/-- The first 12 taps added. -/
theorem sum_11 (b : Fin 4) (t : Fin 4096) (C : Fin 768) : val_main_v96 (F := Ideal) x0 x1 (ix3 b t C) = ∑ k ∈ Finset.range 12, tapAt x1 k C * padded x0 b (t.val + k) C := by
  rw [Finset.sum_range_succ]
  have h := val_main_v96_apply (F := Ideal) x0 x1 (ix3 b t C)
  rw [sum_10, tap_11] at h
  exact h

/-- Tap 13. -/
theorem tap_12 (b : Fin 4) (t : Fin 4096) (C : Fin 768) : val_main_v102 (F := Ideal) x0 x1 (ix3 b t C) = tapAt x1 12 C * padded x0 b (t.val + 12) C := by
  have hx : padded x0 b (t.val + 12) C = val_main_v11 (F := Ideal) x0 (ix3 b ⟨12 + t.val, by omega⟩ C) :=
    (congrArg (fun n => padded x0 b n C) (Nat.add_comm t.val 12)).trans (xin_at x0 b ⟨12 + t.val, by omega⟩ C).symm
  have hw : tapAt x1 12 C = x1 (ix2 ⟨12, by omega⟩ C) := dif_pos (by omega)
  rw [hx, hw]
  unfold val_main_v102 val_main_v97
  generalize val_main_v11 (F := Ideal) x0 = y
  pointwise [val_main_v101, val_main_v100, val_main_v99, val_main_v98]
  exact mul_comm _ _

/-- The first 13 taps added. -/
theorem sum_12 (b : Fin 4) (t : Fin 4096) (C : Fin 768) : val_main_v103 (F := Ideal) x0 x1 (ix3 b t C) = ∑ k ∈ Finset.range 13, tapAt x1 k C * padded x0 b (t.val + k) C := by
  rw [Finset.sum_range_succ]
  have h := val_main_v103_apply (F := Ideal) x0 x1 (ix3 b t C)
  rw [sum_11, tap_12] at h
  exact h

/-- Tap 14. -/
theorem tap_13 (b : Fin 4) (t : Fin 4096) (C : Fin 768) : val_main_v109 (F := Ideal) x0 x1 (ix3 b t C) = tapAt x1 13 C * padded x0 b (t.val + 13) C := by
  have hx : padded x0 b (t.val + 13) C = val_main_v11 (F := Ideal) x0 (ix3 b ⟨13 + t.val, by omega⟩ C) :=
    (congrArg (fun n => padded x0 b n C) (Nat.add_comm t.val 13)).trans (xin_at x0 b ⟨13 + t.val, by omega⟩ C).symm
  have hw : tapAt x1 13 C = x1 (ix2 ⟨13, by omega⟩ C) := dif_pos (by omega)
  rw [hx, hw]
  unfold val_main_v109 val_main_v104
  generalize val_main_v11 (F := Ideal) x0 = y
  pointwise [val_main_v108, val_main_v107, val_main_v106, val_main_v105]
  exact mul_comm _ _

/-- The first 14 taps added. -/
theorem sum_13 (b : Fin 4) (t : Fin 4096) (C : Fin 768) : val_main_v110 (F := Ideal) x0 x1 (ix3 b t C) = ∑ k ∈ Finset.range 14, tapAt x1 k C * padded x0 b (t.val + k) C := by
  rw [Finset.sum_range_succ]
  have h := val_main_v110_apply (F := Ideal) x0 x1 (ix3 b t C)
  rw [sum_12, tap_13] at h
  exact h

/-- Tap 15. -/
theorem tap_14 (b : Fin 4) (t : Fin 4096) (C : Fin 768) : val_main_v116 (F := Ideal) x0 x1 (ix3 b t C) = tapAt x1 14 C * padded x0 b (t.val + 14) C := by
  have hx : padded x0 b (t.val + 14) C = val_main_v11 (F := Ideal) x0 (ix3 b ⟨14 + t.val, by omega⟩ C) :=
    (congrArg (fun n => padded x0 b n C) (Nat.add_comm t.val 14)).trans (xin_at x0 b ⟨14 + t.val, by omega⟩ C).symm
  have hw : tapAt x1 14 C = x1 (ix2 ⟨14, by omega⟩ C) := dif_pos (by omega)
  rw [hx, hw]
  unfold val_main_v116 val_main_v111
  generalize val_main_v11 (F := Ideal) x0 = y
  pointwise [val_main_v115, val_main_v114, val_main_v113, val_main_v112]
  exact mul_comm _ _

/-- The first 15 taps added. -/
theorem sum_14 (b : Fin 4) (t : Fin 4096) (C : Fin 768) : val_main_v117 (F := Ideal) x0 x1 (ix3 b t C) = ∑ k ∈ Finset.range 15, tapAt x1 k C * padded x0 b (t.val + k) C := by
  rw [Finset.sum_range_succ]
  have h := val_main_v117_apply (F := Ideal) x0 x1 (ix3 b t C)
  rw [sum_13, tap_14] at h
  exact h

/-- Tap 16. -/
theorem tap_15 (b : Fin 4) (t : Fin 4096) (C : Fin 768) : val_main_v123 (F := Ideal) x0 x1 (ix3 b t C) = tapAt x1 15 C * padded x0 b (t.val + 15) C := by
  have hx : padded x0 b (t.val + 15) C = val_main_v11 (F := Ideal) x0 (ix3 b ⟨15 + t.val, by omega⟩ C) :=
    (congrArg (fun n => padded x0 b n C) (Nat.add_comm t.val 15)).trans (xin_at x0 b ⟨15 + t.val, by omega⟩ C).symm
  have hw : tapAt x1 15 C = x1 (ix2 ⟨15, by omega⟩ C) := dif_pos (by omega)
  rw [hx, hw]
  unfold val_main_v123 val_main_v118
  generalize val_main_v11 (F := Ideal) x0 = y
  pointwise [val_main_v122, val_main_v121, val_main_v120, val_main_v119]
  exact mul_comm _ _

/-- The first 16 taps added. -/
theorem sum_15 (b : Fin 4) (t : Fin 4096) (C : Fin 768) : val_main_v124 (F := Ideal) x0 x1 (ix3 b t C) = ∑ k ∈ Finset.range 16, tapAt x1 k C * padded x0 b (t.val + k) C := by
  rw [Finset.sum_range_succ]
  have h := val_main_v124_apply (F := Ideal) x0 x1 (ix3 b t C)
  rw [sum_14, tap_15] at h
  exact h

/-- Tap 17. -/
theorem tap_16 (b : Fin 4) (t : Fin 4096) (C : Fin 768) : val_main_v130 (F := Ideal) x0 x1 (ix3 b t C) = tapAt x1 16 C * padded x0 b (t.val + 16) C := by
  have hx : padded x0 b (t.val + 16) C = val_main_v11 (F := Ideal) x0 (ix3 b ⟨16 + t.val, by omega⟩ C) :=
    (congrArg (fun n => padded x0 b n C) (Nat.add_comm t.val 16)).trans (xin_at x0 b ⟨16 + t.val, by omega⟩ C).symm
  have hw : tapAt x1 16 C = x1 (ix2 ⟨16, by omega⟩ C) := dif_pos (by omega)
  rw [hx, hw]
  unfold val_main_v130 val_main_v125
  generalize val_main_v11 (F := Ideal) x0 = y
  pointwise [val_main_v129, val_main_v128, val_main_v127, val_main_v126]
  exact mul_comm _ _

/-- The first 17 taps added. -/
theorem sum_16 (b : Fin 4) (t : Fin 4096) (C : Fin 768) : val_main_v131 (F := Ideal) x0 x1 (ix3 b t C) = ∑ k ∈ Finset.range 17, tapAt x1 k C * padded x0 b (t.val + k) C := by
  rw [Finset.sum_range_succ]
  have h := val_main_v131_apply (F := Ideal) x0 x1 (ix3 b t C)
  rw [sum_15, tap_16] at h
  exact h

/-- Tap 18. -/
theorem tap_17 (b : Fin 4) (t : Fin 4096) (C : Fin 768) : val_main_v137 (F := Ideal) x0 x1 (ix3 b t C) = tapAt x1 17 C * padded x0 b (t.val + 17) C := by
  have hx : padded x0 b (t.val + 17) C = val_main_v11 (F := Ideal) x0 (ix3 b ⟨17 + t.val, by omega⟩ C) :=
    (congrArg (fun n => padded x0 b n C) (Nat.add_comm t.val 17)).trans (xin_at x0 b ⟨17 + t.val, by omega⟩ C).symm
  have hw : tapAt x1 17 C = x1 (ix2 ⟨17, by omega⟩ C) := dif_pos (by omega)
  rw [hx, hw]
  unfold val_main_v137 val_main_v132
  generalize val_main_v11 (F := Ideal) x0 = y
  pointwise [val_main_v136, val_main_v135, val_main_v134, val_main_v133]
  exact mul_comm _ _

/-- The first 18 taps added. -/
theorem sum_17 (b : Fin 4) (t : Fin 4096) (C : Fin 768) : val_main_v138 (F := Ideal) x0 x1 (ix3 b t C) = ∑ k ∈ Finset.range 18, tapAt x1 k C * padded x0 b (t.val + k) C := by
  rw [Finset.sum_range_succ]
  have h := val_main_v138_apply (F := Ideal) x0 x1 (ix3 b t C)
  rw [sum_16, tap_17] at h
  exact h

/-- Tap 19. -/
theorem tap_18 (b : Fin 4) (t : Fin 4096) (C : Fin 768) : val_main_v144 (F := Ideal) x0 x1 (ix3 b t C) = tapAt x1 18 C * padded x0 b (t.val + 18) C := by
  have hx : padded x0 b (t.val + 18) C = val_main_v11 (F := Ideal) x0 (ix3 b ⟨18 + t.val, by omega⟩ C) :=
    (congrArg (fun n => padded x0 b n C) (Nat.add_comm t.val 18)).trans (xin_at x0 b ⟨18 + t.val, by omega⟩ C).symm
  have hw : tapAt x1 18 C = x1 (ix2 ⟨18, by omega⟩ C) := dif_pos (by omega)
  rw [hx, hw]
  unfold val_main_v144 val_main_v139
  generalize val_main_v11 (F := Ideal) x0 = y
  pointwise [val_main_v143, val_main_v142, val_main_v141, val_main_v140]
  exact mul_comm _ _

/-- The first 19 taps added. -/
theorem sum_18 (b : Fin 4) (t : Fin 4096) (C : Fin 768) : val_main_v145 (F := Ideal) x0 x1 (ix3 b t C) = ∑ k ∈ Finset.range 19, tapAt x1 k C * padded x0 b (t.val + k) C := by
  rw [Finset.sum_range_succ]
  have h := val_main_v145_apply (F := Ideal) x0 x1 (ix3 b t C)
  rw [sum_17, tap_18] at h
  exact h

/-- Tap 20. -/
theorem tap_19 (b : Fin 4) (t : Fin 4096) (C : Fin 768) : val_main_v151 (F := Ideal) x0 x1 (ix3 b t C) = tapAt x1 19 C * padded x0 b (t.val + 19) C := by
  have hx : padded x0 b (t.val + 19) C = val_main_v11 (F := Ideal) x0 (ix3 b ⟨19 + t.val, by omega⟩ C) :=
    (congrArg (fun n => padded x0 b n C) (Nat.add_comm t.val 19)).trans (xin_at x0 b ⟨19 + t.val, by omega⟩ C).symm
  have hw : tapAt x1 19 C = x1 (ix2 ⟨19, by omega⟩ C) := dif_pos (by omega)
  rw [hx, hw]
  unfold val_main_v151 val_main_v146
  generalize val_main_v11 (F := Ideal) x0 = y
  pointwise [val_main_v150, val_main_v149, val_main_v148, val_main_v147]
  exact mul_comm _ _

/-- The first 20 taps added. -/
theorem sum_19 (b : Fin 4) (t : Fin 4096) (C : Fin 768) : val_main_v152 (F := Ideal) x0 x1 (ix3 b t C) = ∑ k ∈ Finset.range 20, tapAt x1 k C * padded x0 b (t.val + k) C := by
  rw [Finset.sum_range_succ]
  have h := val_main_v152_apply (F := Ideal) x0 x1 (ix3 b t C)
  rw [sum_18, tap_19] at h
  exact h

/-- Tap 21. -/
theorem tap_20 (b : Fin 4) (t : Fin 4096) (C : Fin 768) : val_main_v158 (F := Ideal) x0 x1 (ix3 b t C) = tapAt x1 20 C * padded x0 b (t.val + 20) C := by
  have hx : padded x0 b (t.val + 20) C = val_main_v11 (F := Ideal) x0 (ix3 b ⟨20 + t.val, by omega⟩ C) :=
    (congrArg (fun n => padded x0 b n C) (Nat.add_comm t.val 20)).trans (xin_at x0 b ⟨20 + t.val, by omega⟩ C).symm
  have hw : tapAt x1 20 C = x1 (ix2 ⟨20, by omega⟩ C) := dif_pos (by omega)
  rw [hx, hw]
  unfold val_main_v158 val_main_v153
  generalize val_main_v11 (F := Ideal) x0 = y
  pointwise [val_main_v157, val_main_v156, val_main_v155, val_main_v154]
  exact mul_comm _ _

/-- The first 21 taps added. -/
theorem sum_20 (b : Fin 4) (t : Fin 4096) (C : Fin 768) : val_main_v159 (F := Ideal) x0 x1 (ix3 b t C) = ∑ k ∈ Finset.range 21, tapAt x1 k C * padded x0 b (t.val + k) C := by
  rw [Finset.sum_range_succ]
  have h := val_main_v159_apply (F := Ideal) x0 x1 (ix3 b t C)
  rw [sum_19, tap_20] at h
  exact h

/-- Tap 22. -/
theorem tap_21 (b : Fin 4) (t : Fin 4096) (C : Fin 768) : val_main_v165 (F := Ideal) x0 x1 (ix3 b t C) = tapAt x1 21 C * padded x0 b (t.val + 21) C := by
  have hx : padded x0 b (t.val + 21) C = val_main_v11 (F := Ideal) x0 (ix3 b ⟨21 + t.val, by omega⟩ C) :=
    (congrArg (fun n => padded x0 b n C) (Nat.add_comm t.val 21)).trans (xin_at x0 b ⟨21 + t.val, by omega⟩ C).symm
  have hw : tapAt x1 21 C = x1 (ix2 ⟨21, by omega⟩ C) := dif_pos (by omega)
  rw [hx, hw]
  unfold val_main_v165 val_main_v160
  generalize val_main_v11 (F := Ideal) x0 = y
  pointwise [val_main_v164, val_main_v163, val_main_v162, val_main_v161]
  exact mul_comm _ _

/-- The first 22 taps added. -/
theorem sum_21 (b : Fin 4) (t : Fin 4096) (C : Fin 768) : val_main_v166 (F := Ideal) x0 x1 (ix3 b t C) = ∑ k ∈ Finset.range 22, tapAt x1 k C * padded x0 b (t.val + k) C := by
  rw [Finset.sum_range_succ]
  have h := val_main_v166_apply (F := Ideal) x0 x1 (ix3 b t C)
  rw [sum_20, tap_21] at h
  exact h

/-- Tap 23. -/
theorem tap_22 (b : Fin 4) (t : Fin 4096) (C : Fin 768) : val_main_v172 (F := Ideal) x0 x1 (ix3 b t C) = tapAt x1 22 C * padded x0 b (t.val + 22) C := by
  have hx : padded x0 b (t.val + 22) C = val_main_v11 (F := Ideal) x0 (ix3 b ⟨22 + t.val, by omega⟩ C) :=
    (congrArg (fun n => padded x0 b n C) (Nat.add_comm t.val 22)).trans (xin_at x0 b ⟨22 + t.val, by omega⟩ C).symm
  have hw : tapAt x1 22 C = x1 (ix2 ⟨22, by omega⟩ C) := dif_pos (by omega)
  rw [hx, hw]
  unfold val_main_v172 val_main_v167
  generalize val_main_v11 (F := Ideal) x0 = y
  pointwise [val_main_v171, val_main_v170, val_main_v169, val_main_v168]
  exact mul_comm _ _

/-- The first 23 taps added. -/
theorem sum_22 (b : Fin 4) (t : Fin 4096) (C : Fin 768) : val_main_v173 (F := Ideal) x0 x1 (ix3 b t C) = ∑ k ∈ Finset.range 23, tapAt x1 k C * padded x0 b (t.val + k) C := by
  rw [Finset.sum_range_succ]
  have h := val_main_v173_apply (F := Ideal) x0 x1 (ix3 b t C)
  rw [sum_21, tap_22] at h
  exact h

/-- Tap 24. -/
theorem tap_23 (b : Fin 4) (t : Fin 4096) (C : Fin 768) : val_main_v179 (F := Ideal) x0 x1 (ix3 b t C) = tapAt x1 23 C * padded x0 b (t.val + 23) C := by
  have hx : padded x0 b (t.val + 23) C = val_main_v11 (F := Ideal) x0 (ix3 b ⟨23 + t.val, by omega⟩ C) :=
    (congrArg (fun n => padded x0 b n C) (Nat.add_comm t.val 23)).trans (xin_at x0 b ⟨23 + t.val, by omega⟩ C).symm
  have hw : tapAt x1 23 C = x1 (ix2 ⟨23, by omega⟩ C) := dif_pos (by omega)
  rw [hx, hw]
  unfold val_main_v179 val_main_v174
  generalize val_main_v11 (F := Ideal) x0 = y
  pointwise [val_main_v178, val_main_v177, val_main_v176, val_main_v175]
  exact mul_comm _ _

/-- The first 24 taps added. -/
theorem sum_23 (b : Fin 4) (t : Fin 4096) (C : Fin 768) : val_main_v180 (F := Ideal) x0 x1 (ix3 b t C) = ∑ k ∈ Finset.range 24, tapAt x1 k C * padded x0 b (t.val + k) C := by
  rw [Finset.sum_range_succ]
  have h := val_main_v180_apply (F := Ideal) x0 x1 (ix3 b t C)
  rw [sum_22, tap_23] at h
  exact h

/-- Tap 25. -/
theorem tap_24 (b : Fin 4) (t : Fin 4096) (C : Fin 768) : val_main_v186 (F := Ideal) x0 x1 (ix3 b t C) = tapAt x1 24 C * padded x0 b (t.val + 24) C := by
  have hx : padded x0 b (t.val + 24) C = val_main_v11 (F := Ideal) x0 (ix3 b ⟨24 + t.val, by omega⟩ C) :=
    (congrArg (fun n => padded x0 b n C) (Nat.add_comm t.val 24)).trans (xin_at x0 b ⟨24 + t.val, by omega⟩ C).symm
  have hw : tapAt x1 24 C = x1 (ix2 ⟨24, by omega⟩ C) := dif_pos (by omega)
  rw [hx, hw]
  unfold val_main_v186 val_main_v181
  generalize val_main_v11 (F := Ideal) x0 = y
  pointwise [val_main_v185, val_main_v184, val_main_v183, val_main_v182]
  exact mul_comm _ _

/-- The first 25 taps added. -/
theorem sum_24 (b : Fin 4) (t : Fin 4096) (C : Fin 768) : val_main_v187 (F := Ideal) x0 x1 (ix3 b t C) = ∑ k ∈ Finset.range 25, tapAt x1 k C * padded x0 b (t.val + k) C := by
  rw [Finset.sum_range_succ]
  have h := val_main_v187_apply (F := Ideal) x0 x1 (ix3 b t C)
  rw [sum_23, tap_24] at h
  exact h

/-- Tap 26. -/
theorem tap_25 (b : Fin 4) (t : Fin 4096) (C : Fin 768) : val_main_v193 (F := Ideal) x0 x1 (ix3 b t C) = tapAt x1 25 C * padded x0 b (t.val + 25) C := by
  have hx : padded x0 b (t.val + 25) C = val_main_v11 (F := Ideal) x0 (ix3 b ⟨25 + t.val, by omega⟩ C) :=
    (congrArg (fun n => padded x0 b n C) (Nat.add_comm t.val 25)).trans (xin_at x0 b ⟨25 + t.val, by omega⟩ C).symm
  have hw : tapAt x1 25 C = x1 (ix2 ⟨25, by omega⟩ C) := dif_pos (by omega)
  rw [hx, hw]
  unfold val_main_v193 val_main_v188
  generalize val_main_v11 (F := Ideal) x0 = y
  pointwise [val_main_v192, val_main_v191, val_main_v190, val_main_v189]
  exact mul_comm _ _

/-- The first 26 taps added. -/
theorem sum_25 (b : Fin 4) (t : Fin 4096) (C : Fin 768) : val_main_v194 (F := Ideal) x0 x1 (ix3 b t C) = ∑ k ∈ Finset.range 26, tapAt x1 k C * padded x0 b (t.val + k) C := by
  rw [Finset.sum_range_succ]
  have h := val_main_v194_apply (F := Ideal) x0 x1 (ix3 b t C)
  rw [sum_24, tap_25] at h
  exact h

/-- Tap 27. -/
theorem tap_26 (b : Fin 4) (t : Fin 4096) (C : Fin 768) : val_main_v200 (F := Ideal) x0 x1 (ix3 b t C) = tapAt x1 26 C * padded x0 b (t.val + 26) C := by
  have hx : padded x0 b (t.val + 26) C = val_main_v11 (F := Ideal) x0 (ix3 b ⟨26 + t.val, by omega⟩ C) :=
    (congrArg (fun n => padded x0 b n C) (Nat.add_comm t.val 26)).trans (xin_at x0 b ⟨26 + t.val, by omega⟩ C).symm
  have hw : tapAt x1 26 C = x1 (ix2 ⟨26, by omega⟩ C) := dif_pos (by omega)
  rw [hx, hw]
  unfold val_main_v200 val_main_v195
  generalize val_main_v11 (F := Ideal) x0 = y
  pointwise [val_main_v199, val_main_v198, val_main_v197, val_main_v196]
  exact mul_comm _ _

/-- The first 27 taps added. -/
theorem sum_26 (b : Fin 4) (t : Fin 4096) (C : Fin 768) : val_main_v201 (F := Ideal) x0 x1 (ix3 b t C) = ∑ k ∈ Finset.range 27, tapAt x1 k C * padded x0 b (t.val + k) C := by
  rw [Finset.sum_range_succ]
  have h := val_main_v201_apply (F := Ideal) x0 x1 (ix3 b t C)
  rw [sum_25, tap_26] at h
  exact h

/-- Tap 28. -/
theorem tap_27 (b : Fin 4) (t : Fin 4096) (C : Fin 768) : val_main_v207 (F := Ideal) x0 x1 (ix3 b t C) = tapAt x1 27 C * padded x0 b (t.val + 27) C := by
  have hx : padded x0 b (t.val + 27) C = val_main_v11 (F := Ideal) x0 (ix3 b ⟨27 + t.val, by omega⟩ C) :=
    (congrArg (fun n => padded x0 b n C) (Nat.add_comm t.val 27)).trans (xin_at x0 b ⟨27 + t.val, by omega⟩ C).symm
  have hw : tapAt x1 27 C = x1 (ix2 ⟨27, by omega⟩ C) := dif_pos (by omega)
  rw [hx, hw]
  unfold val_main_v207 val_main_v202
  generalize val_main_v11 (F := Ideal) x0 = y
  pointwise [val_main_v206, val_main_v205, val_main_v204, val_main_v203]
  exact mul_comm _ _

/-- The first 28 taps added. -/
theorem sum_27 (b : Fin 4) (t : Fin 4096) (C : Fin 768) : val_main_v208 (F := Ideal) x0 x1 (ix3 b t C) = ∑ k ∈ Finset.range 28, tapAt x1 k C * padded x0 b (t.val + k) C := by
  rw [Finset.sum_range_succ]
  have h := val_main_v208_apply (F := Ideal) x0 x1 (ix3 b t C)
  rw [sum_26, tap_27] at h
  exact h

/-- Tap 29. -/
theorem tap_28 (b : Fin 4) (t : Fin 4096) (C : Fin 768) : val_main_v214 (F := Ideal) x0 x1 (ix3 b t C) = tapAt x1 28 C * padded x0 b (t.val + 28) C := by
  have hx : padded x0 b (t.val + 28) C = val_main_v11 (F := Ideal) x0 (ix3 b ⟨28 + t.val, by omega⟩ C) :=
    (congrArg (fun n => padded x0 b n C) (Nat.add_comm t.val 28)).trans (xin_at x0 b ⟨28 + t.val, by omega⟩ C).symm
  have hw : tapAt x1 28 C = x1 (ix2 ⟨28, by omega⟩ C) := dif_pos (by omega)
  rw [hx, hw]
  unfold val_main_v214 val_main_v209
  generalize val_main_v11 (F := Ideal) x0 = y
  pointwise [val_main_v213, val_main_v212, val_main_v211, val_main_v210]
  exact mul_comm _ _

/-- The first 29 taps added. -/
theorem sum_28 (b : Fin 4) (t : Fin 4096) (C : Fin 768) : val_main_v215 (F := Ideal) x0 x1 (ix3 b t C) = ∑ k ∈ Finset.range 29, tapAt x1 k C * padded x0 b (t.val + k) C := by
  rw [Finset.sum_range_succ]
  have h := val_main_v215_apply (F := Ideal) x0 x1 (ix3 b t C)
  rw [sum_27, tap_28] at h
  exact h

/-- Tap 30. -/
theorem tap_29 (b : Fin 4) (t : Fin 4096) (C : Fin 768) : val_main_v221 (F := Ideal) x0 x1 (ix3 b t C) = tapAt x1 29 C * padded x0 b (t.val + 29) C := by
  have hx : padded x0 b (t.val + 29) C = val_main_v11 (F := Ideal) x0 (ix3 b ⟨29 + t.val, by omega⟩ C) :=
    (congrArg (fun n => padded x0 b n C) (Nat.add_comm t.val 29)).trans (xin_at x0 b ⟨29 + t.val, by omega⟩ C).symm
  have hw : tapAt x1 29 C = x1 (ix2 ⟨29, by omega⟩ C) := dif_pos (by omega)
  rw [hx, hw]
  unfold val_main_v221 val_main_v216
  generalize val_main_v11 (F := Ideal) x0 = y
  pointwise [val_main_v220, val_main_v219, val_main_v218, val_main_v217]
  exact mul_comm _ _

/-- The first 30 taps added. -/
theorem sum_29 (b : Fin 4) (t : Fin 4096) (C : Fin 768) : val_main_v222 (F := Ideal) x0 x1 (ix3 b t C) = ∑ k ∈ Finset.range 30, tapAt x1 k C * padded x0 b (t.val + k) C := by
  rw [Finset.sum_range_succ]
  have h := val_main_v222_apply (F := Ideal) x0 x1 (ix3 b t C)
  rw [sum_28, tap_29] at h
  exact h

/-- Tap 31. -/
theorem tap_30 (b : Fin 4) (t : Fin 4096) (C : Fin 768) : val_main_v228 (F := Ideal) x0 x1 (ix3 b t C) = tapAt x1 30 C * padded x0 b (t.val + 30) C := by
  have hx : padded x0 b (t.val + 30) C = val_main_v11 (F := Ideal) x0 (ix3 b ⟨30 + t.val, by omega⟩ C) :=
    (congrArg (fun n => padded x0 b n C) (Nat.add_comm t.val 30)).trans (xin_at x0 b ⟨30 + t.val, by omega⟩ C).symm
  have hw : tapAt x1 30 C = x1 (ix2 ⟨30, by omega⟩ C) := dif_pos (by omega)
  rw [hx, hw]
  unfold val_main_v228 val_main_v223
  generalize val_main_v11 (F := Ideal) x0 = y
  pointwise [val_main_v227, val_main_v226, val_main_v225, val_main_v224]
  exact mul_comm _ _

/-- The first 31 taps added. -/
theorem sum_30 (b : Fin 4) (t : Fin 4096) (C : Fin 768) : val_main_v229 (F := Ideal) x0 x1 (ix3 b t C) = ∑ k ∈ Finset.range 31, tapAt x1 k C * padded x0 b (t.val + k) C := by
  rw [Finset.sum_range_succ]
  have h := val_main_v229_apply (F := Ideal) x0 x1 (ix3 b t C)
  rw [sum_29, tap_30] at h
  exact h

/-- The convolution's row before it is normed. -/
def rawRow (b : Fin 4) (t : Fin 4096) (D : Fin 768) : EReal := taps (fun k => tapAt x1 k D) (fun k => padded x0 b (t.val + k) D) + x2 (ix1 D)

/-- The sum with the shift. -/
theorem raw_at (b : Fin 4) (t : Fin 4096) (D : Fin 768) : val_main_v232 (F := Ideal) x0 x1 x2 (ix3 b t D) = rawRow x0 x1 x2 b t D := by
  have hb : val_main_v231 (F := Ideal) x2 (ix3 b t D) = x2 (ix1 D) := by pointwise [val_main_v231, val_main_v230]
  have h := val_main_v232_apply (F := Ideal) x0 x1 x2 (ix3 b t D)
  rw [sum_30, hb] at h
  exact h

/-- A row's mean. -/
theorem mean_at (b : Fin 4) (t : Fin 4096) : val_main_v236 (F := Ideal) x0 x1 x2 (ix3 b t 0) = mean (rawRow x0 x1 x2 b t) := by
  rw [← funext fun D => raw_at x0 x1 x2 b t D]
  unfold mean val_main_v236 val_main_v234 val_main_v233
  generalize val_main_v232 (F := Ideal) x0 x1 x2 = y
  pointwise [val_main_v235, val_main_cst_4, val_main_cst_3]

/-- A row minus its mean. -/
theorem dev_at (b : Fin 4) (t : Fin 4096) (D : Fin 768) : val_main_v238 (F := Ideal) x0 x1 x2 (ix3 b t D) = rawRow x0 x1 x2 b t D - mean (rawRow x0 x1 x2 b t) := by
  rw [← mean_at, ← raw_at]
  unfold val_main_v238 val_main_v237
  generalize val_main_v236 (F := Ideal) x0 x1 x2 = z
  generalize val_main_v232 (F := Ideal) x0 x1 x2 = y
  pointwise

/-- The same, as it is taken again. -/
theorem dev_again (b : Fin 4) (t : Fin 4096) (D : Fin 768) : val_main_v245 (F := Ideal) x0 x1 x2 (ix3 b t D) = rawRow x0 x1 x2 b t D - mean (rawRow x0 x1 x2 b t) :=
  dev_at x0 x1 x2 b t D

/-- A row's variance. -/
theorem var_at (b : Fin 4) (t : Fin 4096) : val_main_v243 (F := Ideal) x0 x1 x2 (ix3 b t 0)
    = mean (fun D => (rawRow x0 x1 x2 b t D - mean (rawRow x0 x1 x2 b t)) * (rawRow x0 x1 x2 b t D - mean (rawRow x0 x1 x2 b t))) := by
  have e : (fun D => (rawRow x0 x1 x2 b t D - mean (rawRow x0 x1 x2 b t)) * (rawRow x0 x1 x2 b t D - mean (rawRow x0 x1 x2 b t)))
      = fun D => val_main_v238 (F := Ideal) x0 x1 x2 (ix3 b t D) * val_main_v238 (F := Ideal) x0 x1 x2 (ix3 b t D) := by
    funext D
    rw [dev_at]
  rw [e]
  unfold mean val_main_v243 val_main_v241 val_main_v240 val_main_v239
  generalize val_main_v238 (F := Ideal) x0 x1 x2 = y
  pointwise [val_main_v242, val_main_cst_6, val_main_cst_5]

/-- The normed row. -/
theorem norm_at (b : Fin 4) (t : Fin 4096) (C : Fin 768) : val_main_v256 (F := Ideal) x0 x1 x2 x3 x4 (ix3 b t C) = normRow (rawRow x0 x1 x2 b t) (fun D => x3 (ix1 D)) (fun D => x4 (ix1 D)) C := by
  unfold normRow
  rw [← var_at, ← dev_again]
  unfold val_main_v256 val_main_v253 val_main_v250 val_main_v249 val_main_v248 val_main_v247
  generalize val_main_v243 (F := Ideal) x0 x1 x2 = v
  generalize val_main_v245 (F := Ideal) x0 x1 x2 = y
  pointwise [val_main_v255, val_main_v254, val_main_v252, val_main_v251, val_main_v246, val_main_cst_7]

/-- The normed row gated by itself. -/
theorem swish_at (b : Fin 4) (t : Fin 4096) (C : Fin 768) : val_main_v263 (F := Ideal) x0 x1 x2 x3 x4 (ix3 b t C) = convAt x0 x1 x2 x3 x4 b t C := by
  show _ = gated (normRow (rawRow x0 x1 x2 b t) (fun D => x3 (ix1 D)) (fun D => x4 (ix1 D)) C) (normRow (rawRow x0 x1 x2 b t) (fun D => x3 (ix1 D)) (fun D => x4 (ix1 D)) C)
  rw [← norm_at]
  unfold gated val_main_v263 val_main_v262 val_main_v260 val_main_v258 val_main_v257
  generalize val_main_v256 (F := Ideal) x0 x1 x2 x3 x4 = y
  pointwise [val_main_v261, val_main_cst_9, val_main_v259, val_main_cst_8]
  simp only [zero_sub]

/-- All of the convolution's rows. -/
def convAll (x0 : S16384x1792.Idx → EReal) (x1 : S31x768.Idx → EReal) (x2 x3 x4 : S768.Idx → EReal) : S16384x768.Idx → EReal := fun j => convAt x0 x1 x2 x3 x4 (seqOf (j 0)) (timeOf (j 0)) (j 1)

/-- The reference's first result at an index. -/
theorem conv_row (R : Fin 16384) (C : Fin 768) : val_main_v264 (F := Ideal) x0 x1 x2 x3 x4 (ix2 R C) = convAt x0 x1 x2 x3 x4 (seqOf R) (timeOf R) C := by
  refine (val_main_v264_apply (F := Ideal) x0 x1 x2 x3 x4 (ix2 R C)).trans ?_
  rw [← swish_at]
  generalize val_main_v263 (F := Ideal) x0 x1 x2 x3 x4 = y
  refine congrArg y (funext fun a => ?_)
  match a with
  | ⟨0, _⟩ => exact Fin.ext (by show (R.val * 768 + C.val) / 3145728 = R.val / 4096; omega)
  | ⟨1, _⟩ => exact Fin.ext (by show (R.val * 768 + C.val) / 768 % 4096 = R.val % 4096; omega)
  | ⟨2, _⟩ => exact Fin.ext (by show (R.val * 768 + C.val) % 768 = C.val; omega)

/-- The reference's first result is the convolution's rows. -/
theorem conv_all : val_main_v264 (F := Ideal) x0 x1 x2 x3 x4 = convAll x0 x1 x2 x3 x4 := by
  funext j
  exact (congrArg (val_main_v264 (F := Ideal) x0 x1 x2 x3 x4) (eq_ix2 (n0 := 16384) (n1 := 768) j)).trans (conv_row x0 x1 x2 x3 x4 (j 0) (j 1))

/-- All of the sequences' last gated rows. -/
def tailAll (x0 : S16384x1792.Idx → EReal) : S4x32x768.Idx → EReal := fun j => tailAt x0 (j 0) (j 1) (j 2)

/-- The reference's second result is the sequences' last gated rows. -/
theorem tail_all : val_main_v265 (F := Ideal) x0 = tailAll x0 := by
  funext j
  have h1 : (j 1).val < 32 := (j 1).isLt
  refine (val_main_v265_apply x0 j).trans (Eq.trans ?_ (xin_at x0 (j 0) ⟨4094 + (j 1).val, by omega⟩ (j 2)) |>.trans ?_)
  · refine congrArg (val_main_v11 (F := Ideal) x0) (funext fun a => ?_)
    match a with
    | ⟨0, _⟩ => rfl
    | ⟨1, _⟩ => rfl
    | ⟨2, _⟩ => rfl
  · exact padded_ge x0 (j 0) (4094 + (j 1).val) (j 2) ⟨4064 + (j 1).val, by omega⟩ (by show 4094 + (j 1).val = 30 + (4064 + (j 1).val); omega)

end Cert.ConvRefIdeal.Read

end
-- ==== Proof.MemAttn.Spec.lean ====
module

public import proofs.«01_k».proof.Proof.HeadRms

@[expose] public section

noncomputable section

namespace Cert.Rows

open Idealize.ShloMosaic

/-- The greatest of a row's scores. -/
def rowMax (s : Fin 256 → EReal) : EReal := Finset.fold max (Ideal.ofBits .f32 0xFF800000#32) s Finset.univ

/-- The softmax of a row of scores. -/
def softRow (s : Fin 256 → EReal) (m : Fin 256) : EReal := Ideal.div (Ideal.exp (s m - rowMax s)) (∑ n, Ideal.exp (s n - rowMax s))

/-- One head's attention to the memories: the scores' softmax against one lane of the values. -/
def memHead (q : Fin 64 → EReal) (k : Fin 256 → Fin 64 → EReal) (v : Fin 256 → EReal) : EReal :=
  ∑ m, softRow (fun n => (∑ e, q e * k n e) * Ideal.ofBits .f32 0x3E000000#32) m * v m

/-- The literal minus infinity is below everything. -/
theorem max_below (x : EReal) : max (Ideal.ofBits .f32 0xFF800000#32) x = x := by
  have h : Ideal.ofBits .f32 0xFF800000#32 = ⊥ := by simp [Ideal.ofBits, Ideal.ieee]
  rw [h]
  exact max_eq_right bot_le

/-- The literal one eighth. -/
theorem lit_eighth : Ideal.ofBits .f32 0x3E000000#32 = ((1 / 8 : ℝ) : EReal) := by
  simp [Ideal.ofBits, Ideal.ieee, -EReal.coe_mul]; norm_num

/-- A sum scaled by one eighth is the sum of the scaled terms, even among infinities. -/
theorem sum_eighth {n : ℕ} (f : Fin n → EReal) : ∑ e, f e * Ideal.ofBits .f32 0x3E000000#32 = (∑ e, f e) * Ideal.ofBits .f32 0x3E000000#32 := by
  rw [lit_eighth]
  have h : ∀ s : Finset (Fin n), ∑ e ∈ s, f e * ((1 / 8 : ℝ) : EReal) = (∑ e ∈ s, f e) * ((1 / 8 : ℝ) : EReal) := by
    intro s
    induction s using Finset.induction_on with
    | empty => simp
    | insert a s ha ih =>
      rw [Finset.sum_insert ha, Finset.sum_insert ha, ih,
        EReal.right_distrib_of_nonneg_of_ne_top (EReal.coe_nonneg.mpr (by norm_num)) (EReal.coe_ne_top _)]
  exact h _

/-- A lane of a head among the four heads' lanes. -/
def lane (h : Fin 4) (e : Fin 64) : Fin 256 := ⟨h.val * 64 + e.val, by omega⟩

/-- A sum over all lanes that counts only one head's lanes is the sum over the head. -/
theorem sum_lane (f : Fin 256 → EReal) (h : Fin 4) : ∑ c : Fin 256, (if c.val / 64 = h.val then f c else 0) = ∑ e : Fin 64, f (lane h e) := by
  have split : ∀ g : Fin 256 → EReal, ∑ c, g c
      = (∑ e : Fin 64, g ⟨e.val, by omega⟩) + (∑ e : Fin 64, g ⟨64 + e.val, by omega⟩) + (∑ e : Fin 64, g ⟨128 + e.val, by omega⟩) + ∑ e : Fin 64, g ⟨192 + e.val, by omega⟩ := by
    intro g
    refine (Fin.sum_univ_add (a := 192) (b := 64) g).trans (congrArg₂ _ ?_ rfl)
    refine (Fin.sum_univ_add (a := 128) (b := 64) fun c => g ⟨c.val, by omega⟩).trans (congrArg₂ _ ?_ rfl)
    exact Fin.sum_univ_add (a := 64) (b := 64) fun c => g ⟨c.val, by omega⟩
  rw [split]
  have e0 : ∀ e : Fin 64, e.val / 64 = 0 := fun e => by omega
  have e1 : ∀ e : Fin 64, (64 + e.val) / 64 = 1 := fun e => by omega
  have e2 : ∀ e : Fin 64, (128 + e.val) / 64 = 2 := fun e => by omega
  have e3 : ∀ e : Fin 64, (192 + e.val) / 64 = 3 := fun e => by omega
  fin_cases h <;> simp [lane, e0, e1, e2, e3]

/-- A head's scaled score as a sum over all lanes, the queries cleared outside the head. -/
theorem score_lane (q k : Fin 256 → EReal) (h : Fin 4) :
    (∑ c : Fin 128, (if c.val / 64 = h.val then q ⟨c.val, by omega⟩ * Ideal.ofBits .f32 0x3E000000#32 else 0) * k ⟨c.val, by omega⟩)
      + (∑ c : Fin 128, (if (128 + c.val) / 64 = h.val then q ⟨128 + c.val, by omega⟩ * Ideal.ofBits .f32 0x3E000000#32 else 0) * k ⟨128 + c.val, by omega⟩)
      = (∑ e, q (lane h e) * k (lane h e)) * Ideal.ofBits .f32 0x3E000000#32 := by
  rw [← sum_eighth]
  refine (Fin.sum_univ_add (a := 128) (b := 128) fun c : Fin 256 => (if c.val / 64 = h.val then q c * Ideal.ofBits .f32 0x3E000000#32 else 0) * k c).symm.trans ?_
  simp only [ite_mul, zero_mul]
  rw [sum_lane (fun c => q c * Ideal.ofBits .f32 0x3E000000#32 * k c) h]
  exact Finset.sum_congr rfl fun e _ => mul_right_comm _ _ _

/-- Which head a lane lies in, as the comparison of its shifted number says it. -/
theorem lane_head : ∀ (c : Fin 256) (h : Fin 4),
    IntOp.cmpi .eq (IntOp.shrsi ArithUnit.vector (BitVec.ofNat 32 c.val) 6#32) (BitVec.ofNat 32 h.val) = if c.val / 64 = h.val then 1#1 else 0#1 := by
  decide +kernel

/-- A choice by a lane's head. -/
theorem select_head (n : ℕ) (hn : n < 256) (h : Fin 4) (a : EReal) :
    Scalar.select (IntOp.cmpi .eq (IntOp.shrsi ArithUnit.vector (BitVec.ofNat 32 n) 6#32) (BitVec.ofNat 32 h.val)) a 0 = if n / 64 = h.val then a else 0 := by
  rw [show IntOp.cmpi .eq (IntOp.shrsi ArithUnit.vector (BitVec.ofNat 32 n) 6#32) (BitVec.ofNat 32 h.val) = if n / 64 = h.val then 1#1 else 0#1 from lane_head ⟨n, hn⟩ h]
  split <;> simp [Scalar.select]

/-- The output at a row and lane: the lane's head's attention with the row's queries, normed per head. -/
def memAttnOf (u : (⟨2, ![16384, 2560]⟩ : Shape).Idx → EReal) (kv : (⟨2, ![1024, 512]⟩ : Shape).Idx → EReal) (g : (⟨1, ![64]⟩ : Shape).Idx → EReal)
    (j : (⟨2, ![16384, 256]⟩ : Shape).Idx) : EReal :=
  let R : Fin 16384 := j 0
  let C : Fin 256 := j 1
  memHead (headRms (fun e => u (ix2 R ⟨2304 + (C.val / 64 * 64 + e.val), by omega⟩)) fun e => g (ix1 e))
    (fun m e => kv (ix2 ⟨R.val / 4096 * 256 + m.val, by omega⟩ ⟨C.val / 64 * 64 + e.val, by omega⟩))
    (fun m => kv (ix2 ⟨R.val / 4096 * 256 + m.val, by omega⟩ ⟨256 + C.val, by omega⟩))

end Cert.Rows

end
-- ==== Proof.MemAttn.Kernel.lean ====
module

public import proofs.«01_k».proof.Proof.Gen.MemAttnIdeal.Value
public import proofs.«01_k».proof.Proof.MemAttn.Spec
public import Idealize.ShloMosaic.Lib.Pointwise
public import Idealize.ShloMosaic.Lib.Pipeline.ValueKit
public import Idealize.ShloMosaic.Lib.Claim

@[expose] public section

set_option maxRecDepth 16384

noncomputable section

namespace Cert.MemAttnIdeal.Matt

open Cert.MemAttnIdeal Cert.MemAttnIdeal.Gen Cert.Rows
open Idealize.ShloMosaic Idealize.ShloMosaic.TcCoe Idealize.ShloMosaic.Tactic Idealize.SL.Sem
open Idealize.ShloMosaic.Pipeline (Dat)

section

variable (v0 : Vec Ideal S256x256 .f32) (v1 : Vec Ideal S128x128 .bf16) (v3 : Vec Ideal S1x128 .f32) (v23 v40 v41 : FVec Ideal S256x128 .f32)
  (v74 : Vec Ideal S256x256 .f32) (v48 : IVec S1x256 32) (v86 : FVec Ideal S1024x256 .f32) (v87 : Vec Ideal S256x256 .f32)

/-- The queries of a row in both pairs of heads: the first pair as given, the second still to be scaled. -/
def queries (r c : Fin 256) : EReal :=
  if h : c.val < 128 then v23 (ix2 r ⟨c.val, h⟩) else v40 (ix2 r ⟨c.val - 128, by omega⟩) * v41 (ix2 r ⟨c.val - 128, by omega⟩)

/-- The four stacked copies of the first pair's queries, each cleared outside its head. -/
theorem stack_first (R : Fin 1024) (c : Fin 128) :
    (if h : R.val < 256 then Scalar.select (IntOp.cmpi .eq (IntOp.shrsi ArithUnit.vector (BitVec.ofNat 32 c.val) 6#32) 0#32) (v23 (ix2 ⟨R.val, h⟩ c) * Ideal.ofBits .f32 1040187392#32) 0
      else if h : R.val - 256 < 256 then Scalar.select (IntOp.cmpi .eq (IntOp.shrsi ArithUnit.vector (BitVec.ofNat 32 c.val) 6#32) 1#32) (v23 (ix2 ⟨R.val - 256, h⟩ c) * Ideal.ofBits .f32 1040187392#32) 0
      else if h : R.val - 256 - 256 < 256 then Scalar.select (IntOp.cmpi .eq (IntOp.shrsi ArithUnit.vector (BitVec.ofNat 32 c.val) 6#32) 2#32) (v23 (ix2 ⟨R.val - 256 - 256, h⟩ c) * Ideal.ofBits .f32 1040187392#32) 0
      else Scalar.select (IntOp.cmpi .eq (IntOp.shrsi ArithUnit.vector (BitVec.ofNat 32 c.val) 6#32) 3#32) (v23 (ix2 ⟨R.val - 256 - 256 - 256, by omega⟩ c) * Ideal.ofBits .f32 1040187392#32) 0)
      = if c.val / 64 = R.val / 256 then queries v23 v40 v41 ⟨R.val % 256, Nat.mod_lt _ (by omega)⟩ ⟨c.val, by omega⟩ * Ideal.ofBits .f32 0x3E000000#32 else 0 := by
  have s0 := select_head c.val (by omega) 0
  have s1 := select_head c.val (by omega) 1
  have s2 := select_head c.val (by omega) 2
  have s3 := select_head c.val (by omega) 3
  have hq : queries v23 v40 v41 ⟨R.val % 256, Nat.mod_lt _ (by omega)⟩ ⟨c.val, by omega⟩ = v23 (ix2 ⟨R.val % 256, Nat.mod_lt _ (by omega)⟩ c) := dif_pos c.isLt
  rw [hq]
  by_cases h0 : R.val < 256
  · have e1 : R.val / 256 = 0 := by omega
    have e2 : R.val % 256 = R.val := by omega
    rw [dif_pos h0]
    simp only [e1, e2]
    exact s0 _
  rw [dif_neg h0]
  by_cases h1 : R.val - 256 < 256
  · have e1 : R.val / 256 = 1 := by omega
    have e2 : R.val % 256 = R.val - 256 := by omega
    rw [dif_pos h1]
    simp only [e1, e2]
    exact s1 _
  rw [dif_neg h1]
  by_cases h2 : R.val - 256 - 256 < 256
  · have e1 : R.val / 256 = 2 := by omega
    have e2 : R.val % 256 = R.val - 256 - 256 := by omega
    rw [dif_pos h2]
    simp only [e1, e2]
    exact s2 _
  rw [dif_neg h2]
  have e1 : R.val / 256 = 3 := by omega
  have e2 : R.val % 256 = R.val - 256 - 256 - 256 := by omega
  simp only [e1, e2]
  exact s3 _

/-- The same of the second pair's queries. -/
theorem stack_second (R : Fin 1024) (c : Fin 128) :
    (if h : R.val < 256 then Scalar.select (IntOp.cmpi .eq (IntOp.shrsi ArithUnit.vector (BitVec.ofNat 32 (128 + c.val)) 6#32) 0#32) (v40 (ix2 ⟨R.val, h⟩ c) * v41 (ix2 ⟨R.val, h⟩ c) * Ideal.ofBits .f32 1040187392#32) 0
      else if h : R.val - 256 < 256 then Scalar.select (IntOp.cmpi .eq (IntOp.shrsi ArithUnit.vector (BitVec.ofNat 32 (128 + c.val)) 6#32) 1#32) (v40 (ix2 ⟨R.val - 256, h⟩ c) * v41 (ix2 ⟨R.val - 256, h⟩ c) * Ideal.ofBits .f32 1040187392#32) 0
      else if h : R.val - 256 - 256 < 256 then Scalar.select (IntOp.cmpi .eq (IntOp.shrsi ArithUnit.vector (BitVec.ofNat 32 (128 + c.val)) 6#32) 2#32) (v40 (ix2 ⟨R.val - 256 - 256, h⟩ c) * v41 (ix2 ⟨R.val - 256 - 256, h⟩ c) * Ideal.ofBits .f32 1040187392#32) 0
      else Scalar.select (IntOp.cmpi .eq (IntOp.shrsi ArithUnit.vector (BitVec.ofNat 32 (128 + c.val)) 6#32) 3#32) (v40 (ix2 ⟨R.val - 256 - 256 - 256, by omega⟩ c) * v41 (ix2 ⟨R.val - 256 - 256 - 256, by omega⟩ c) * Ideal.ofBits .f32 1040187392#32) 0)
      = if (128 + c.val) / 64 = R.val / 256 then queries v23 v40 v41 ⟨R.val % 256, Nat.mod_lt _ (by omega)⟩ ⟨128 + c.val, by omega⟩ * Ideal.ofBits .f32 0x3E000000#32 else 0 := by
  have s0 := select_head (128 + c.val) (by omega) 0
  have s1 := select_head (128 + c.val) (by omega) 1
  have s2 := select_head (128 + c.val) (by omega) 2
  have s3 := select_head (128 + c.val) (by omega) 3
  have hq : queries v23 v40 v41 ⟨R.val % 256, Nat.mod_lt _ (by omega)⟩ ⟨128 + c.val, by omega⟩
      = v40 (ix2 ⟨R.val % 256, Nat.mod_lt _ (by omega)⟩ ⟨128 + c.val - 128, by omega⟩) * v41 (ix2 ⟨R.val % 256, Nat.mod_lt _ (by omega)⟩ ⟨128 + c.val - 128, by omega⟩) :=
    dif_neg (by show ¬ 128 + c.val < 128; omega)
  rw [hq]
  have ec : 128 + c.val - 128 = c.val := by omega
  simp only [ec]
  by_cases h0 : R.val < 256
  · have e1 : R.val / 256 = 0 := by omega
    have e2 : R.val % 256 = R.val := by omega
    rw [dif_pos h0]
    simp only [e1, e2]
    exact s0 _
  rw [dif_neg h0]
  by_cases h1 : R.val - 256 < 256
  · have e1 : R.val / 256 = 1 := by omega
    have e2 : R.val % 256 = R.val - 256 := by omega
    rw [dif_pos h1]
    simp only [e1, e2]
    exact s1 _
  rw [dif_neg h1]
  by_cases h2 : R.val - 256 - 256 < 256
  · have e1 : R.val / 256 = 2 := by omega
    have e2 : R.val % 256 = R.val - 256 - 256 := by omega
    rw [dif_pos h2]
    simp only [e1, e2]
    exact s2 _
  rw [dif_neg h2]
  have e1 : R.val / 256 = 3 := by omega
  have e2 : R.val % 256 = R.val - 256 - 256 - 256 := by omega
  simp only [e1, e2]
  exact s3 _

/-- A stacked row's softmax: row `R` is head `R / 256` of row `R % 256`. -/
theorem pay8_apply (R : Fin 1024) (M : Fin 256) :
    k0_pay8 (F := Ideal) v23 v40 v41 v74 (ix2 R M)
      = softRow (fun n => (∑ e, queries v23 v40 v41 ⟨R.val % 256, Nat.mod_lt _ (by omega)⟩ (lane ⟨R.val / 256, by omega⟩ e) * v74 (ix2 n (lane ⟨R.val / 256, by omega⟩ e)))
          * Ideal.ofBits .f32 0x3E000000#32) M := by
  refine Eq.trans ?_ (congrArg (fun s => softRow s M) (funext fun n =>
    score_lane (queries v23 v40 v41 ⟨R.val % 256, Nat.mod_lt _ (by omega)⟩) (fun c => v74 (ix2 n c)) ⟨R.val / 256, by omega⟩))
  unfold softRow rowMax
  have hk := R.isLt
  pointwise [k0_pay8, k0_pay7]
  simp only [stack_first v23 v40 v41 R, stack_second v23 v40 v41 R]

/-- The output at a row and lane: the row of the lane's head against the values. -/
theorem pay1_apply (r C : Fin 256) :
    k0_pay1 (F := Ideal) k0_pay7 v86 v87 (ix2 r C) = ∑ m, v86 (ix2 ⟨C.val / 64 * 256 + r.val, by omega⟩ m) * v87 (ix2 m C) := by
  have hk := C.isLt
  have s0 := select_head C.val hk 0
  have s1 := select_head C.val hk 1
  have s2 := select_head C.val hk 2
  have s3 := select_head C.val hk 3
  pointwise [k0_pay1, k0_pay7]
  refine (congrArg₂ _ (congrArg₂ _ (congrArg₂ _ (s0 _) (s1 _)) (s2 _)) (s3 _)).trans ?_
  have hC : C.val / 64 = 0 ∨ C.val / 64 = 1 ∨ C.val / 64 = 2 ∨ C.val / 64 = 3 := by omega
  rcases hC with h | h | h | h <;> simp [h]

variable (kv : Vec Ideal S256x512 .f32)

/-- The first pair of heads' queries, divided by their heads' root mean squares and scaled. -/
theorem pay4_apply (r : Fin 256) (C : Fin 128) (hx : ∀ c, IsReal (v0 (ix2 r c))) (hs : ∀ k : Fin 128, v1 (ix2 k C) = if k.val / 64 = C.val / 64 then 1 else 0)
    (g : Fin 64 → EReal) (hg : v3 (ix2 0 C) = g ⟨C.val % 64, Nat.mod_lt _ (by omega)⟩) :
    k0_pay4 (F := Ideal) v0 v1 v3 (ix2 r C)
      = headRms (headOf (fun k => v0 (ix2 r ⟨k.val, by omega⟩)) C) g ⟨C.val % 64, Nat.mod_lt _ (by omega)⟩ := by
  rw [← pair_norm (fun k => v0 (ix2 r ⟨k.val, by omega⟩)) (fun k => hx _) (fun k => v1 (ix2 k C)) C hs _ g hg]
  pointwise [k0_pay4, k0_pay3, k0_pay2]

/-- The second pair of heads' queries. -/
theorem pay5_apply (r : Fin 256) (C : Fin 128) (hx : ∀ c, IsReal (v0 (ix2 r c))) (hs : ∀ k : Fin 128, v1 (ix2 k C) = if k.val / 64 = C.val / 64 then 1 else 0)
    (g : Fin 64 → EReal) (hg : v3 (ix2 0 C) = g ⟨C.val % 64, Nat.mod_lt _ (by omega)⟩) :
    k0_pay5 (F := Ideal) v0 v1 (ix2 r C) * k0_pay6 (F := Ideal) v3 (ix2 r C)
      = headRms (headOf (fun k => v0 (ix2 r ⟨128 + k.val, by omega⟩)) C) g ⟨C.val % 64, Nat.mod_lt _ (by omega)⟩ := by
  rw [← pair_norm (fun k => v0 (ix2 r ⟨128 + k.val, by omega⟩)) (fun k => hx _) (fun k => v1 (ix2 k C)) C hs _ g hg]
  pointwise [k0_pay5, k0_pay6, k0_pay3, k0_pay2]

/-- A row's queries at a lane of a head. -/
theorem queries_lane (r : Fin 256) (hx : ∀ c, IsReal (v0 (ix2 r c))) (hs : ∀ k C : Fin 128, v1 (ix2 k C) = if k.val / 64 = C.val / 64 then 1 else 0)
    (g : Fin 64 → EReal) (hg : ∀ C : Fin 128, v3 (ix2 0 C) = g ⟨C.val % 64, Nat.mod_lt _ (by omega)⟩) (h : Fin 4) (e : Fin 64) :
    queries (k0_pay4 (F := Ideal) v0 v1 v3) (k0_pay5 v0 v1) (k0_pay6 v3) r (lane h e) = headRms (fun e => v0 (ix2 r (lane h e))) g e := by
  have he : ∀ n (hn : n < 64), n = e.val → (⟨n, hn⟩ : Fin 64) = e := fun n hn h => Fin.ext h
  unfold queries
  split
  · rename_i hc
    have hc' : h.val * 64 + e.val < 128 := hc
    refine (pay4_apply v0 v1 v3 r _ hx (fun k => hs k _) g (hg _)).trans ?_
    rw [he _ _ (by show (h.val * 64 + e.val) % 64 = e.val; omega)]
    refine congrArg (fun f => headRms f g e) (funext fun a => congrArg (fun c => v0 (ix2 r c)) (Fin.ext ?_))
    show (h.val * 64 + e.val) / 64 * 64 + a.val = h.val * 64 + a.val
    omega
  · rename_i hc
    have hc' : ¬ h.val * 64 + e.val < 128 := hc
    refine (pay5_apply v0 v1 v3 r _ hx (fun k => hs k _) g (hg _)).trans ?_
    rw [he _ _ (by show (h.val * 64 + e.val - 128) % 64 = e.val; omega)]
    refine congrArg (fun f => headRms f g e) (funext fun a => congrArg (fun c => v0 (ix2 r c)) (Fin.ext ?_))
    show 128 + ((h.val * 64 + e.val - 128) / 64 * 64 + a.val) = h.val * 64 + a.val
    omega

/-- The keys among the memories' block. -/
theorem keys_apply (x1 : Vec Ideal S256x512 .f32) (m C : Fin 256) : View.ld x1 r0_3 (ix2 m C) = x1 (ix2 m ⟨C.val, by omega⟩) := by
  pointwise [r0_3]
  done

/-- The values among the memories' block. -/
theorem values_apply (x1 : Vec Ideal S256x512 .f32) (m C : Fin 256) : View.ld x1 r0_4 (ix2 m C) = x1 (ix2 m ⟨256 + C.val, by omega⟩) := by
  pointwise [r0_4]
  done

/-- What one grid point leaves in its block. -/
theorem out_apply (x0 : Vec Ideal S256x256 .f32) (x1 : Vec Ideal S256x512 .f32) (x2 : Vec Ideal S1x128 .f32) (x3 : Vec Ideal S128x128 .bf16) (r C : Fin 256)
    (hx : ∀ c, IsReal (x0 (ix2 r c))) (hs : ∀ k C : Fin 128, x3 (ix2 k C) = if k.val / 64 = C.val / 64 then 1 else 0)
    (g : Fin 64 → EReal) (hg : ∀ C : Fin 128, x2 (ix2 0 C) = g ⟨C.val % 64, Nat.mod_lt _ (by omega)⟩) :
    out0_4 (F := Ideal) x0 x1 x2 x3 (ix2 r C)
      = memHead (headRms (fun e => x0 (ix2 r ⟨C.val / 64 * 64 + e.val, by omega⟩)) g)
          (fun m e => x1 (ix2 m ⟨C.val / 64 * 64 + e.val, by omega⟩)) (fun m => x1 (ix2 m ⟨256 + C.val, by omega⟩)) := by
  unfold out0_4
  rw [View.canon_cons_unit_lit _ _ _ (by decide), View.ld_unit_lit _ x0 (by decide), View.ld_unit_lit _ x2 (by decide), View.ld_unit_lit _ x3 (by decide)]
  refine (pay1_apply _ _ r C).trans ?_
  unfold memHead
  refine Finset.sum_congr rfl fun m _ => ?_
  rw [pay8_apply]
  have e1 : (C.val / 64 * 256 + r.val) % 256 = r.val := by omega
  have e2 : (C.val / 64 * 256 + r.val) / 256 = C.val / 64 := by omega
  simp only [e1, e2]
  exact congrArg₂ (· * ·) (congrArg (fun s => softRow s m) (funext fun n => congrArg (· * Ideal.ofBits .f32 0x3E000000#32) (Finset.sum_congr rfl fun e _ =>
    congrArg₂ (· * ·) (queries_lane x0 x3 x2 r hx hs g hg _ e) (keys_apply x1 n _)))) (values_apply x1 m C)

end

end Cert.MemAttnIdeal.Matt

end
-- ==== Proof.MemAttn.Array.lean ====
module

public import proofs.«01_k».proof.Proof.MemAttn.Kernel

@[expose] public section

set_option maxRecDepth 16384

noncomputable section

namespace Cert.MemAttnIdeal.Matt

open Cert.MemAttnIdeal Cert.MemAttnIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gains, as the pipeline finds them: twice one after the other. -/
theorem V_g (c : Dev nD) (C : Fin 128) : V m c main_v3 (ix2 0 C) = m ((c : Thread nD τ).loc main_arg2) (ix1 ⟨C.val % 64, Nat.mod_lt _ (by omega)⟩) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise

/-- The matrix of ones on the heads' lanes, as the pipeline finds it. -/
theorem V_s (c : Dev nD) (k C : Fin 128) : V m c main_v14 (ix2 k C) = (if k.val / 64 = C.val / 64 then 1 else 0 : EReal) := by
  show StableHlo.after (List.flatten [hostOps0, hostOps0_1, hostOps0_2, hostOps0_3, hostOps0_4]) _ (Proc.devRef .tc _) _ = _
  simp only [List.flatten_cons, List.flatten_nil, List.append_nil, List.cons_append, List.nil_append, hostOps0, hostOps0_1, hostOps0_2, hostOps0_3, hostOps0_4]
  after_results
  pointwise
  simp only [StableHlo.TRef.toBuf, StableHlo.TRef.ofBuf, cast_eq]
  pointwise
  exact ones_entry k C

/-- The windows' block indices. -/
theorem idx : ∀ t : Fin grid0.N, win0_0.index t = ![t.val, 9] ∧ win0_1.index t = ![t.val / 16, 0] ∧ win0_2.index t = ![0, 0]
    ∧ win0_3.index t = ![0, 0] ∧ win0_4.index t = ![t.val, 0] := by
  decide +kernel

/-- The grid has sixty-four points. -/
theorem lt (t : Fin grid0.N) : t.val < 64 := t.isLt

/-- The queries at a grid point. -/
theorem x_block (c : Dev nD) (t : Fin grid0.N) (r C : Fin 256) :
    iblk m c 0 t (ix2 r C) = m ((c : Thread nD τ).loc main_arg0) (ix2 ⟨t.val * 256 + r.val, by have := lt t; omega⟩ ⟨2304 + C.val, by omega⟩) := by
  refine Eq.trans ?_ (congrFun (V_main_arg0 m c) _)
  blk_ext [iblk, V, idx t]

/-- The memories' keys and values at a grid point. -/
theorem kv_block (c : Dev nD) (t : Fin grid0.N) (r : Fin 256) (C : Fin 512) :
    iblk m c 1 t (ix2 r C) = m ((c : Thread nD τ).loc main_arg1) (ix2 ⟨t.val / 16 * 256 + r.val, by have := lt t; omega⟩ C) := by
  refine Eq.trans ?_ (congrFun (V_main_arg1 m c) _)
  blk_ext [iblk, V, idx t]

/-- The gains at a grid point. -/
theorem g_block (c : Dev nD) (t : Fin grid0.N) (C : Fin 128) : iblk m c 2 t (ix2 0 C) = V m c main_v3 (ix2 0 C) := by
  blk_ext [iblk, V, idx t]

/-- The matrix of ones at a grid point. -/
theorem s_block (c : Dev nD) (t : Fin grid0.N) (k C : Fin 128) : iblk m c 3 t (ix2 k C) = V m c main_v14 (ix2 k C) := by
  blk_ext [iblk, V, idx t]

/-- The windows' blocks tile the array. -/
theorem covers : win0_4.Covers := by decide +kernel

/-- The whole output. -/
def results (c : Dev nD) : S16384x256.Idx → EReal :=
  memAttnOf (m ((c : Thread nD τ).loc main_arg0)) (m ((c : Thread nD τ).loc main_arg1)) (m ((c : Thread nD τ).loc main_arg2))

/-- The output at an index given by its two coordinates. -/
theorem results_at (c : Dev nD) (j : S16384x256.Idx) (R : Fin 16384) (C : Fin 256) (b : ℕ) (hb : b < 4) (h0 : (j 0).val = R.val) (h1 : (j 1).val = C.val) (h2 : R.val / 4096 = b) :
    results m c j = memHead (headRms (fun e => m ((c : Thread nD τ).loc main_arg0) (ix2 R ⟨2304 + (C.val / 64 * 64 + e.val), by omega⟩)) fun e => m ((c : Thread nD τ).loc main_arg2) (ix1 e))
      (fun n e => m ((c : Thread nD τ).loc main_arg1) (ix2 ⟨b * 256 + n.val, by omega⟩ ⟨C.val / 64 * 64 + e.val, by omega⟩))
      (fun n => m ((c : Thread nD τ).loc main_arg1) (ix2 ⟨b * 256 + n.val, by omega⟩ ⟨256 + C.val, by omega⟩)) := by
  have e0 : j 0 = R := Fin.ext h0
  have e1 : j 1 = C := Fin.ext h1
  subst h2
  unfold results memAttnOf
  simp only [e0, e1]

/-- What a grid point's body leaves is the output at its block's places, when the queries are real. -/
theorem point (c : Dev nD) (hx : ∀ (R : Fin 16384) (C : Fin 256), IsReal (m ((c : Thread nD τ).loc main_arg0) (ix2 R ⟨2304 + C.val, by omega⟩))) (t : Fin grid0.N) (r C : Fin 256) :
    out0_4 (iblk m c 0 t) (iblk m c 1 t) (iblk m c 2 t) (iblk m c 3 t) (ix2 r C) = results m c ((win0_4.blk t).view.emb (ix2 r C)) := by
  have ht := lt t
  rw [results_at m c _ ⟨t.val * 256 + r.val, by omega⟩ C (t.val / 16) (by omega) (by blk_simp [idx t]) (by blk_simp [idx t]) (by show (t.val * 256 + r.val) / 4096 = t.val / 16; omega)]
  refine (out_apply (iblk m c 0 t) (iblk m c 1 t) (iblk m c 2 t) (iblk m c 3 t) r C (fun k => by rw [x_block]; exact hx _ _)
    (fun k C => (s_block m c t k C).trans (V_s m c k C)) (fun e => m ((c : Thread nD τ).loc main_arg2) (ix1 e)) (fun C => (g_block m c t C).trans (V_g m c C))).trans ?_
  simp only [x_block, kv_block]

/-- The array the kernel leaves. -/
theorem arr_eq (c : Dev nD) (hx : ∀ (R : Fin 16384) (C : Fin 256), IsReal (m ((c : Thread nD τ).loc main_arg0) (ix2 R ⟨2304 + C.val, by omega⟩))) : (dats m 0 c).arrAt 4 cfg0.N = results m c := by
  refine (dats m 0 c).arrAt_eq_of_covers 4 _ covers fun t hf y => ?_
  blk_simp
  rw [after0_4]
  have e : y = ix2 (y 0) (y 1) := eq_ix2 y
  rw [e]
  exact point m c hx t (y 0) (y 1)

/-- The run: the result array is the output, and the arguments end unchanged. -/
theorem run (hx : ∀ (c : Dev nD) (R : Fin 16384) (C : Fin 256), IsReal (m ((c : Thread nD τ).loc main_arg0) (ix2 R ⟨2304 + C.val, by omega⟩))) :
    θ_run (defs (F := Ideal)) (onTc (τ := τ) (main (F := Ideal))) ⟨m, fun _ => 0, ρ⟩ fun r => ∀ c : Dev nD,
      r.2.mem ((c : Thread nD τ).loc main_v15) = results m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun _ h c => ⟨(h c).1.trans (arr_eq m c (hx c)), (h c).2⟩) (Value.run_blocks m ρ)

end Cert.MemAttnIdeal.Matt

end
-- ==== Proof.MemAttn.Reference.lean ====
module

public import proofs.«01_k».proof.Proof.Gen.MemAttnRefIdeal.Read
public import proofs.«01_k».proof.Proof.MemAttn.Spec
public import Idealize.ShloMosaic.Lib.Pointwise
public import Idealize.ShloMosaic.Lib.Pipeline.ValueKit

@[expose] public section

set_option maxRecDepth 16384

noncomputable section

namespace Cert.MemAttnRefIdeal.Matt

open Cert.MemAttnRefIdeal Cert.MemAttnRefIdeal.Read Cert.Rows
open Idealize.ShloMosaic

variable (x0 : Vec Ideal S16384x2560 .f32) (x1 : Vec Ideal S1024x512 .f32) (x2 : Vec Ideal S64 .f32)

/-- The queries, normed per head. -/
theorem query_apply (b : Fin 4) (t : Fin 4096) (h : Fin 4) (e : Fin 64) :
    val_main_v14 (F := Ideal) x0 x2 (ix4 b t h e)
      = headRms (fun e => x0 (ix2 ⟨b.val * 4096 + t.val, by omega⟩ ⟨2304 + (h.val * 64 + e.val), by omega⟩)) (fun e => x2 (ix1 e)) e := by
  unfold headRms
  pointwise [val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

/-- The scaled scores. -/
theorem score_apply (b h : Fin 4) (t : Fin 4096) (m : Fin 256) :
    val_main_v20 (F := Ideal) x0 x1 x2 (ix4 b h t m)
      = (∑ e, val_main_v14 (F := Ideal) x0 x2 (ix4 b t h e) * x1 (ix2 ⟨b.val * 256 + m.val, by omega⟩ ⟨h.val * 64 + e.val, by omega⟩)) * Ideal.ofBits .f32 0x3E000000#32 := by
  pointwise [val_main_v20, val_main_v19, val_main_v18, val_main_v17, val_main_v16, val_main_v15, val_main_cst_2]

/-- The greatest score of a row. -/
theorem max_apply (b h : Fin 4) (t : Fin 4096) :
    val_main_v21 (F := Ideal) x0 x1 x2 (ix3 b h t) = rowMax fun n => val_main_v20 (F := Ideal) x0 x1 x2 (ix4 b h t n) := by
  unfold rowMax val_main_v21
  generalize val_main_v20 (F := Ideal) x0 x1 x2 = s
  pointwise [val_main_cst_3]

/-- The exponentials of the shifted scores. -/
theorem exp_apply (b h : Fin 4) (t : Fin 4096) (m : Fin 256) :
    val_main_v27 (F := Ideal) x0 x1 x2 (ix4 b h t m)
      = Ideal.exp (val_main_v20 (F := Ideal) x0 x1 x2 (ix4 b h t m) - rowMax fun n => val_main_v20 (F := Ideal) x0 x1 x2 (ix4 b h t n)) := by
  have h25 : val_main_v25 (F := Ideal) x0 x1 x2 (ix4 b h t m) = val_main_v23 (F := Ideal) x0 x1 x2 (ix3 b h t) := by
    unfold val_main_v25 val_main_v24
    generalize val_main_v23 (F := Ideal) x0 x1 x2 = y
    pointwise
  have h23 : val_main_v23 (F := Ideal) x0 x1 x2 (ix3 b h t) = val_main_v21 (F := Ideal) x0 x1 x2 (ix3 b h t) := by
    rw [val_main_v23_apply, val_main_v22_apply]
    exact max_below _
  rw [val_main_v27_apply, val_main_v26_apply, h25, h23, max_apply]
  rfl

/-- The softmax. -/
theorem soft_apply (b h : Fin 4) (t : Fin 4096) (m : Fin 256) :
    val_main_v31 (F := Ideal) x0 x1 x2 (ix4 b h t m) = softRow (fun n => val_main_v20 (F := Ideal) x0 x1 x2 (ix4 b h t n)) m := by
  refine Eq.trans ?_ (congrArg₂ Ideal.div (exp_apply x0 x1 x2 b h t m) (Finset.sum_congr rfl fun n _ => exp_apply x0 x1 x2 b h t n))
  unfold val_main_v31 val_main_v30 val_main_v29 val_main_v28
  generalize val_main_v27 (F := Ideal) x0 x1 x2 = p
  pointwise [val_main_cst_5]

/-- The reference's output at a place. -/
theorem out_apply (R : Fin 16384) (C : Fin 256) :
    val_main_v36 (F := Ideal) x0 x1 x2 (ix2 R C) = memAttnOf x0 x1 x2 (ix2 R C) := by
  show _ = memHead (headRms (fun e => x0 (ix2 R ⟨2304 + (C.val / 64 * 64 + e.val), by omega⟩)) fun e => x2 (ix1 e))
    (fun m e => x1 (ix2 ⟨R.val / 4096 * 256 + m.val, by omega⟩ ⟨C.val / 64 * 64 + e.val, by omega⟩))
    (fun m => x1 (ix2 ⟨R.val / 4096 * 256 + m.val, by omega⟩ ⟨256 + C.val, by omega⟩))
  have eR : (⟨R.val / 4096 * 4096 + R.val % 4096, by omega⟩ : Fin 16384) = R := Fin.ext (by show R.val / 4096 * 4096 + R.val % 4096 = R.val; omega)
  have eC : (⟨256 + C.val / 64 * 64 + C.val % 64, by omega⟩ : Fin 512) = ⟨256 + C.val, by omega⟩ := Fin.ext (by show 256 + C.val / 64 * 64 + C.val % 64 = 256 + C.val; omega)
  have hq := fun e => query_apply x0 x2 ⟨R.val / 4096, by omega⟩ ⟨R.val % 4096, Nat.mod_lt _ (by omega)⟩ ⟨C.val / 64, by omega⟩ e
  simp only [eR] at hq
  unfold memHead
  simp only [← hq]
  have hsc := fun n => (score_apply x0 x1 x2 ⟨R.val / 4096, by omega⟩ ⟨C.val / 64, by omega⟩ ⟨R.val % 4096, Nat.mod_lt _ (by omega)⟩ n)
  simp only at hsc
  simp only [← hsc, ← soft_apply]
  unfold val_main_v36 val_main_v35 val_main_v34 val_main_v33 val_main_v32 val_main_v15
  generalize val_main_v31 (F := Ideal) x0 x1 x2 = p
  pointwise
  exact Finset.sum_congr rfl fun m _ => by rw [eC]; exact mul_comm _ _

/-- The reference's output. -/
theorem out_eq : val_main_v36 (F := Ideal) x0 x1 x2 = memAttnOf x0 x1 x2 := by
  funext j
  have ej : j = ix2 (j 0) (j 1) := eq_ix2 j
  rw [ej]
  exact out_apply x0 x1 x2 (j 0) (j 1)

end Cert.MemAttnRefIdeal.Matt

end
-- ==== Proof.RowsSample.lean ====
module

public import proofs.«01_k».proof.Proof.Rows

@[expose] public section

noncomputable section

namespace Cert.Rows

open Idealize.ShloMosaic

/-- The layer's result for the sample's 128 rows, from the arrays the call is given. -/
def layerSample (x0 : (⟨2, ![128, 768]⟩ : Shape).Idx → EReal) (x1 : (⟨2, ![128, 256]⟩ : Shape).Idx → EReal) (x2 : (⟨2, ![128, 1024]⟩ : Shape).Idx → EReal)
    (x3 : (⟨2, ![1024, 1024]⟩ : Shape).Idx → EReal) (x4 : (⟨1, ![1024]⟩ : Shape).Idx → EReal) (x5 : (⟨2, ![1024, 5632]⟩ : Shape).Idx → EReal)
    (x6 : (⟨2, ![2816, 1024]⟩ : Shape).Idx → EReal) (j : (⟨2, ![128, 1024]⟩ : Shape).Idx) : EReal :=
  layer (fun k => x0 (ix2 (j 0) k)) (fun k => x1 (ix2 (j 0) k)) (fun k => x2 (ix2 (j 0) k)) (fun k c => x3 (ix2 k c)) (fun k => x4 (ix1 k))
    (fun k c => x5 (ix2 k c)) (fun k c => x6 (ix2 k c)) (j 1)

/-- The projections of the sample's 128 rows. -/
def projSample (x0 : (⟨2, ![128, 1024]⟩ : Shape).Idx → EReal) (x1 : (⟨1, ![1024]⟩ : Shape).Idx → EReal)
    (x2 : (⟨2, ![1024, 2560]⟩ : Shape).Idx → EReal) (j : (⟨2, ![128, 2560]⟩ : Shape).Idx) : EReal :=
  proj (fun k => x0 (ix2 (j 0) k)) (fun k => x1 (ix1 k)) (fun k c => x2 (ix2 k c)) (j 1)

end Cert.Rows

end
-- ==== Proof.OutFfnS.Kernel.lean ====
module

public import proofs.«01_k».proof.Proof.Gen.OutFfnSIdeal.Value
public import proofs.«01_k».proof.Proof.RowsSample
public import Idealize.ShloMosaic.Lib.Pointwise
public import Idealize.ShloMosaic.Lib.Pipeline.ValueKit
public import Idealize.ShloMosaic.Lib.Claim

@[expose] public section

set_option maxRecDepth 16384

noncomputable section

namespace Cert.OutFfnSIdeal.Out

open Cert.OutFfnSIdeal Cert.OutFfnSIdeal.Gen Cert.Rows
open Idealize.ShloMosaic Idealize.ShloMosaic.TcCoe Idealize.SL.Sem
open Idealize.ShloMosaic.Pipeline (Dat)

section

variable (v0 : Vec Ideal S128x1024 .f32) (v1 : Vec Ideal S128x768 .f32) (v2 : Vec Ideal S768x1024 .bf16) (v7 : Vec Ideal S128x256 .f32)
  (v8 : Vec Ideal S256x1024 .bf16) (v13 : Vec Ideal S1x1024 .f32) (v28 : Vec Ideal S1024x5632 .bf16)

/-- The residual stream after the output projection. -/
theorem pay2_apply (r : Fin 128) (C : Fin 1024) :
    k0_pay2 (F := Ideal) v0 v1 v2 v7 v8 (ix2 r C)
      = v0 (ix2 r C) + (∑ k : Fin 768, v1 (ix2 r k) * v2 (ix2 k C)) + ∑ k : Fin 256, v7 (ix2 r k) * v8 (ix2 k C) := by
  pointwise [k0_pay2]

/-- The gates and values. -/
theorem pay3_apply (r : Fin 128) (C : Fin 5632) :
    k0_pay3 (F := Ideal) v0 v1 v2 v7 v8 v13 v28 (ix2 r C)
      = gateUp (fun c => k0_pay2 (F := Ideal) v0 v1 v2 v7 v8 (ix2 r c)) (fun c => v13 (ix2 0 c)) (fun c j => v28 (ix2 c j)) C := by
  pointwise [k0_pay3]
  rfl

/-- The gates. -/
theorem pay4_apply (r : Fin 128) (j : Fin 2816) :
    k0_pay4 (F := Ideal) v0 v1 v2 v7 v8 v13 v28 (ix2 r j)
      = k0_pay3 (F := Ideal) v0 v1 v2 v7 v8 v13 v28 (ix2 r ⟨j.val, by omega⟩) := by
  pointwise [k0_pay4]

/-- The values. -/
theorem pay5_apply (r : Fin 128) (j : Fin 2816) :
    k0_pay5 (F := Ideal) v0 v1 v2 v7 v8 v13 v28 (ix2 r j)
      = k0_pay3 (F := Ideal) v0 v1 v2 v7 v8 v13 v28 (ix2 r ⟨2816 + j.val, by omega⟩) := by
  pointwise [k0_pay5]

/-- The exponentials of the gates. -/
theorem pay6_apply (r : Fin 128) (j : Fin 2816) :
    k0_pay6 (F := Ideal) v0 v1 v2 v7 v8 v13 v28 (ix2 r j)
      = Ideal.exp (-k0_pay4 (F := Ideal) v0 v1 v2 v7 v8 v13 v28 (ix2 r j)) := by
  pointwise [k0_pay6]
  rw [zero_sub]

/-- The ones of the logistic function. -/
theorem pay7_apply (r : Fin 128) (j : Fin 2816) : k0_pay7 (F := Ideal) (ix2 r j) = 1 := by
  pointwise [k0_pay7]

/-- The last product. -/
theorem pay1_apply (v12 : FVec Ideal S128x1024 .f32) (v31 v32 v35 v36 : FVec Ideal S128x2816 .f32) (v43 : Vec Ideal S2816x1024 .bf16)
    (r : Fin 128) (C : Fin 1024) :
    k0_pay1 (F := Ideal) v12 v31 v32 v35 v36 v43 (ix2 r C)
      = v12 (ix2 r C) + ∑ x : Fin 2816, v31 (ix2 r x) * Ideal.div 1 (v36 (ix2 r x) + v35 (ix2 r x)) * v32 (ix2 r x) * v43 (ix2 x C) := by
  pointwise [k0_pay1]

end

/-- What a block's body leaves, row by row. -/
theorem out_apply (x0 : Vec Ideal S128x768 .f32) (x1 : Vec Ideal S128x256 .f32) (x2 : Vec Ideal S128x1024 .f32) (x3 : Vec Ideal S768x1024 .bf16)
    (x4 : Vec Ideal S256x1024 .bf16) (x5 : Vec Ideal S1x1024 .f32) (x6 : Vec Ideal S1024x5632 .bf16) (x7 : Vec Ideal S2816x1024 .bf16)
    (w : Fin 1024 → Fin 1024 → EReal)
    (h3 : ∀ (k : Fin 768) (c : Fin 1024), x3 (ix2 k c) = w ⟨k.val, by omega⟩ c)
    (h4 : ∀ (k : Fin 256) (c : Fin 1024), x4 (ix2 k c) = w ⟨768 + k.val, by omega⟩ c) (r : Fin 128) (C : Fin 1024) :
    out0_8 (F := Ideal) x0 x1 x2 x3 x4 x5 x6 x7 (ix2 r C)
      = layer (fun k => x0 (ix2 r k)) (fun k => x1 (ix2 r k)) (fun c => x2 (ix2 r c)) w (fun c => x5 (ix2 0 c))
          (fun c j => x6 (ix2 c j)) (fun j c => x7 (ix2 j c)) C := by
  have hm : (fun c => k0_pay2 (F := Ideal) x2 x0 x3 x1 x4 (ix2 r c))
      = mid (fun k => x0 (ix2 r k)) (fun k => x1 (ix2 r k)) (fun c => x2 (ix2 r c)) w := by
    funext c
    rw [pay2_apply, add_assoc]
    unfold mid
    simp only [h3, h4]
  unfold out0_8
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide),
    View.ld_unit_lit _ x7 (by decide)]
  rw [pay1_apply]
  simp only [pay7_apply, pay6_apply, pay5_apply, pay4_apply, pay3_apply, hm]
  rw [congrFun hm C]
  rfl

end Cert.OutFfnSIdeal.Out

end
-- ==== Proof.OutFfnS.Array.lean ====
module

public import proofs.«01_k».proof.Proof.OutFfnS.Kernel

@[expose] public section

set_option maxRecDepth 16384

noncomputable section

namespace Cert.OutFfnSIdeal.Out

open Cert.OutFfnSIdeal Cert.OutFfnSIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The upper rows of the output projection, as the pipeline finds them. -/
theorem V_w1 (c : Dev nD) (k : Fin 768) (C : Fin 1024) : V m c main_v1 (ix2 k C) = m ((c : Thread nD τ).loc main_arg3) (ix2 ⟨k.val, by omega⟩ C) := by
  show StableHlo.after hostOps0 _ (Proc.devRef .tc _) _ = _
  simp only [hostOps0]
  after_results
  pointwise

/-- The lower rows of the output projection, as the pipeline finds them. -/
theorem V_w2 (c : Dev nD) (k : Fin 256) (C : Fin 1024) : V m c main_v3 (ix2 k C) = m ((c : Thread nD τ).loc main_arg3) (ix2 ⟨768 + k.val, by omega⟩ C) := by
  show StableHlo.after hostOps0 _ (Proc.devRef .tc _) _ = _
  simp only [hostOps0]
  after_results
  pointwise

/-- The first weights of the gated block, as the pipeline finds them. -/
theorem V_wi (c : Dev nD) (k : Fin 1024) (C : Fin 5632) : V m c main_v4 (ix2 k C) = m ((c : Thread nD τ).loc main_arg5) (ix2 k C) := by
  show StableHlo.after hostOps0 _ (Proc.devRef .tc _) _ = _
  simp only [hostOps0]
  after_results
  pointwise

/-- The last weights of the gated block, as the pipeline finds them. -/
theorem V_wo (c : Dev nD) (k : Fin 2816) (C : Fin 1024) : V m c main_v5 (ix2 k C) = m ((c : Thread nD τ).loc main_arg6) (ix2 k C) := by
  show StableHlo.after hostOps0 _ (Proc.devRef .tc _) _ = _
  simp only [hostOps0]
  after_results
  pointwise

/-- The gains, as the pipeline finds them. -/
theorem V_g (c : Dev nD) (C : Fin 1024) : V m c main_v6 (ix2 0 C) = m ((c : Thread nD τ).loc main_arg4) (ix1 C) := by
  show StableHlo.after hostOps0 _ (Proc.devRef .tc _) _ = _
  simp only [hostOps0]
  after_results
  pointwise

/-- The windows' block indices. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] := by
  decide +kernel

/-- The grid has one point. -/
theorem lt (t : Fin grid0.N) : t.val < 1 := t.isLt

/-- The rows of argument 0 at a grid point. -/
theorem o_block (c : Dev nD) (t : Fin grid0.N) (r : Fin 128) (k : Fin 768) :
    iblk m c 0 t (ix2 r k) = m ((c : Thread nD τ).loc main_arg0) (ix2 ⟨t.val * 128 + r.val, by have := lt t; omega⟩ k) := by
  refine Eq.trans ?_ (congrFun (V_main_arg0 m c) _)
  blk_ext [iblk, V, idx t]

/-- The rows of argument 1 at a grid point. -/
theorem om_block (c : Dev nD) (t : Fin grid0.N) (r : Fin 128) (k : Fin 256) :
    iblk m c 1 t (ix2 r k) = m ((c : Thread nD τ).loc main_arg1) (ix2 ⟨t.val * 128 + r.val, by have := lt t; omega⟩ k) := by
  refine Eq.trans ?_ (congrFun (V_main_arg1 m c) _)
  blk_ext [iblk, V, idx t]

/-- The rows of argument 2 at a grid point. -/
theorem x_block (c : Dev nD) (t : Fin grid0.N) (r : Fin 128) (k : Fin 1024) :
    iblk m c 2 t (ix2 r k) = m ((c : Thread nD τ).loc main_arg2) (ix2 ⟨t.val * 128 + r.val, by have := lt t; omega⟩ k) := by
  refine Eq.trans ?_ (congrFun (V_main_arg2 m c) _)
  blk_ext [iblk, V, idx t]

/-- Block 3 at a grid point is the whole array. -/
theorem w1_block (c : Dev nD) (t : Fin grid0.N) (k : Fin 768) (C : Fin 1024) : iblk m c 3 t (ix2 k C) = V m c main_v1 (ix2 k C) := by
  blk_ext [iblk, V, idx t]

/-- Block 4 at a grid point is the whole array. -/
theorem w2_block (c : Dev nD) (t : Fin grid0.N) (k : Fin 256) (C : Fin 1024) : iblk m c 4 t (ix2 k C) = V m c main_v3 (ix2 k C) := by
  blk_ext [iblk, V, idx t]

/-- Block 6 at a grid point is the whole array. -/
theorem wi_block (c : Dev nD) (t : Fin grid0.N) (k : Fin 1024) (C : Fin 5632) : iblk m c 6 t (ix2 k C) = V m c main_v4 (ix2 k C) := by
  blk_ext [iblk, V, idx t]

/-- Block 7 at a grid point is the whole array. -/
theorem wo_block (c : Dev nD) (t : Fin grid0.N) (k : Fin 2816) (C : Fin 1024) : iblk m c 7 t (ix2 k C) = V m c main_v5 (ix2 k C) := by
  blk_ext [iblk, V, idx t]

/-- Block 5 at a grid point is the whole array. -/
theorem g_block (c : Dev nD) (t : Fin grid0.N) (k : Fin 1) (C : Fin 1024) : iblk m c 5 t (ix2 k C) = V m c main_v6 (ix2 k C) := by
  blk_ext [iblk, V, idx t]

/-- The output window's blocks tile the array. -/
theorem covers : win0_8.Covers := by decide +kernel

/-- The whole array of results. -/
def results (c : Dev nD) : S128x1024.Idx → EReal :=
  layerSample (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The layer's result at an index given by its two coordinates. -/
theorem results_at (c : Dev nD) (j : S128x1024.Idx) (R : Fin 128) (C : Fin 1024) (h0 : (j 0).val = R.val) (h1 : (j 1).val = C.val) :
    results m c j = layer (fun k => m ((c : Thread nD τ).loc main_arg0) (ix2 R k)) (fun k => m ((c : Thread nD τ).loc main_arg1) (ix2 R k)) (fun k => m ((c : Thread nD τ).loc main_arg2) (ix2 R k))
      (fun k c' => m ((c : Thread nD τ).loc main_arg3) (ix2 k c')) (fun k => m ((c : Thread nD τ).loc main_arg4) (ix1 k)) (fun k c' => m ((c : Thread nD τ).loc main_arg5) (ix2 k c')) (fun k c' => m ((c : Thread nD τ).loc main_arg6) (ix2 k c')) C := by
  have e0 : j 0 = R := Fin.ext h0
  have e1 : j 1 = C := Fin.ext h1
  unfold results layerSample
  rw [e0, e1]

/-- What a grid point's body leaves is the layer's result at its block's places. -/
theorem point (c : Dev nD) (t : Fin grid0.N) (r : Fin 128) (C : Fin 1024) :
    out0_8 (iblk m c 0 t) (iblk m c 1 t) (iblk m c 2 t) (iblk m c 3 t) (iblk m c 4 t) (iblk m c 5 t) (iblk m c 6 t) (iblk m c 7 t) (ix2 r C)
      = results m c ((win0_8.blk t).view.emb (ix2 r C)) := by
  have ht := lt t
  rw [results_at m c _ ⟨t.val * 128 + r.val, by omega⟩ C (by blk_simp [idx t]) (by blk_simp [idx t])]
  rw [out_apply _ _ _ _ _ _ _ _ (fun k c' => m ((c : Thread nD τ).loc main_arg3) (ix2 k c'))
    (fun k c' => (w1_block m c t k c').trans (V_w1 m c k c')) (fun k c' => (w2_block m c t k c').trans (V_w2 m c k c'))]
  have e5 : (fun k => iblk m c 5 t (ix2 0 k)) = fun k => m ((c : Thread nD τ).loc main_arg4) (ix1 k) := funext fun k => (g_block m c t 0 k).trans (V_g m c k)
  have e6 : (fun k c' => iblk m c 6 t (ix2 k c')) = fun k c' => m ((c : Thread nD τ).loc main_arg5) (ix2 k c') :=
    funext fun k => funext fun c' => (wi_block m c t k c').trans (V_wi m c k c')
  have e7 : (fun k c' => iblk m c 7 t (ix2 k c')) = fun k c' => m ((c : Thread nD τ).loc main_arg6) (ix2 k c') :=
    funext fun k => funext fun c' => (wo_block m c t k c').trans (V_wo m c k c')
  simp only [o_block, om_block, x_block, e5, e6, e7]

/-- The array the kernel leaves is the layer's result. -/
theorem arr_eq (c : Dev nD) : (dats m 0 c).arrAt 8 cfg0.N = results m c := by
  refine (dats m 0 c).arrAt_eq_of_covers 8 _ covers fun t hf y => ?_
  blk_simp
  rw [after0_8]
  have e : y = ix2 (y 0) (y 1) := eq_ix2 y
  rw [e]
  exact point m c t (y 0) (y 1)

/-- The run: the result array is the layer's result and the arguments end unchanged. -/
theorem run : θ_run (defs (F := Ideal)) (onTc (τ := τ) (main (F := Ideal))) ⟨m, fun _ => 0, ρ⟩ fun r => ∀ c : Dev nD,
      r.2.mem ((c : Thread nD τ).loc main_v7) = results m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun _ h c => ⟨(h c).1.trans (arr_eq m c), (h c).2⟩) (Value.run_blocks m ρ)

end Cert.OutFfnSIdeal.Out

end
-- ==== Proof.OutFfnS.Reference.lean ====
module

public import proofs.«01_k».proof.Proof.Gen.OutFfnSRefIdeal.Read
public import proofs.«01_k».proof.Proof.RowsSample
public import Idealize.ShloMosaic.Lib.Pointwise
public import Idealize.ShloMosaic.Lib.Pipeline.ValueKit

@[expose] public section

set_option maxRecDepth 16384

noncomputable section

namespace Cert.OutFfnSRefIdeal.Out

open Cert.OutFfnSRefIdeal Cert.OutFfnSRefIdeal.Read Cert.Rows
open Idealize.ShloMosaic

variable (x0 : Vec Ideal S128x768 .f32) (x1 : Vec Ideal S128x256 .f32) (x2 : Vec Ideal S128x1024 .f32) (x3 : Vec Ideal S1024x1024 .f32) (x4 : Vec Ideal S1024 .f32) (x5 : Vec Ideal S1024x5632 .f32) (x6 : Vec Ideal S2816x1024 .f32)

/-- The mixers' outputs side by side: the first's columns. -/
theorem cat_lo (R : Fin 128) (k : Fin 768) : val_main_v0 (F := Ideal) x0 x1 (ix2 R ⟨k.val, by omega⟩) = x0 (ix2 R k) := by
  have hk := k.isLt
  pointwise [val_main_v0]

/-- The mixers' outputs side by side: the second's columns. -/
theorem cat_hi (R : Fin 128) (k : Fin 256) : val_main_v0 (F := Ideal) x0 x1 (ix2 R ⟨768 + k.val, by omega⟩) = x1 (ix2 R k) := by
  have hk := k.isLt
  pointwise [val_main_v0]

/-- The residual stream after the output projection. -/
theorem mid_apply (R : Fin 128) (C : Fin 1024) :
    val_main_v2 (F := Ideal) x0 x1 x2 x3 (ix2 R C)
      = mid (fun k => x0 (ix2 R k)) (fun k => x1 (ix2 R k)) (fun k => x2 (ix2 R k)) (fun k c => x3 (ix2 k c)) C := by
  have e : val_main_v1 (F := Ideal) x0 x1 x3 (ix2 R C)
      = ∑ k : Fin (768 + 256), val_main_v0 (F := Ideal) x0 x1 (ix2 R k) * x3 (ix2 k C) := by
    pointwise [val_main_v1]
  rw [Fin.sum_univ_add] at e
  rw [val_main_v2_apply, e]
  unfold mid
  exact congrArg (x2 (ix2 R C) + ·) (congrArg₂ (· + ·)
    (Finset.sum_congr rfl fun k _ => congrArg (· * _) (cat_lo x0 x1 R k)) (Finset.sum_congr rfl fun k _ => congrArg (· * _) (cat_hi x0 x1 R k)))

/-- The rows divided by their root mean square and scaled. -/
theorem rms_apply (R : Fin 128) (C : Fin 1024) :
    val_main_v15 (F := Ideal) x0 x1 x2 x3 x4 (ix2 R C)
      = rms (fun c => val_main_v2 (F := Ideal) x0 x1 x2 x3 (ix2 R c)) (fun k => x4 (ix1 k)) C := by
  pointwise [val_main_v15, val_main_v14, val_main_v13, val_main_v12, val_main_v11, val_main_v10, val_main_v9, val_main_v8, val_main_v7, val_main_v6,
    val_main_v5, val_main_v4, val_main_v3, val_main_cst, val_main_cst_0, val_main_cst_1]
  rfl

/-- The gates and values. -/
theorem gate_apply (R : Fin 128) (C : Fin 5632) :
    val_main_v16 (F := Ideal) x0 x1 x2 x3 x4 x5 (ix2 R C)
      = gateUp (fun c => val_main_v2 (F := Ideal) x0 x1 x2 x3 (ix2 R c)) (fun k => x4 (ix1 k)) (fun k c => x5 (ix2 k c)) C := by
  unfold gateUp
  simp only [← rms_apply]
  pointwise [val_main_v16]

/-- The gated values. -/
theorem gated_apply (R : Fin 128) (j : Fin 2816) :
    val_main_v20 (F := Ideal) x0 x1 x2 x3 x4 x5 (ix2 R j)
      = silu (val_main_v16 (F := Ideal) x0 x1 x2 x3 x4 x5 (ix2 R ⟨j.val, by omega⟩)) * val_main_v16 (F := Ideal) x0 x1 x2 x3 x4 x5 (ix2 R ⟨2816 + j.val, by omega⟩) := by
  pointwise [val_main_v20, val_main_v19, val_main_v18, val_main_v17, val_main_call0_v0, val_main_call0_v1, val_main_call0_v2, val_main_call0_v3, val_main_call0_v4, val_main_call0_v5, val_main_call0_cst, val_main_call0_cst_0]
  rfl

/-- The reference's result at a place. -/
theorem out_apply (R : Fin 128) (C : Fin 1024) : val_main_v22 (F := Ideal) x0 x1 x2 x3 x4 x5 x6 (ix2 R C) = layerSample x0 x1 x2 x3 x4 x5 x6 (ix2 R C) := by
  have e : val_main_v21 (F := Ideal) x0 x1 x2 x3 x4 x5 x6 (ix2 R C)
      = ∑ k : Fin 2816, val_main_v20 (F := Ideal) x0 x1 x2 x3 x4 x5 (ix2 R k) * x6 (ix2 k C) := by
    pointwise [val_main_v21]
  rw [val_main_v22_apply, e]
  simp only [gated_apply, gate_apply, mid_apply]
  rfl

/-- The reference's result is the layer's. -/
theorem out_eq : val_main_v22 (F := Ideal) x0 x1 x2 x3 x4 x5 x6 = layerSample x0 x1 x2 x3 x4 x5 x6 := by
  funext j
  have ej : j = ix2 (j 0) (j 1) := eq_ix2 j
  rw [ej]
  exact out_apply x0 x1 x2 x3 x4 x5 x6 (j 0) (j 1)

end Cert.OutFfnSRefIdeal.Out

end
-- ==== Proof.ProjInS.Kernel.lean ====
module

public import proofs.«01_k».proof.Proof.Gen.ProjInSIdeal.Value
public import proofs.«01_k».proof.Proof.RowsSample
public import Idealize.ShloMosaic.Lib.Pointwise
public import Idealize.ShloMosaic.Lib.Pipeline.ValueKit
public import Idealize.ShloMosaic.Lib.Claim

@[expose] public section

set_option maxRecDepth 16384

noncomputable section

namespace Cert.ProjInSIdeal.Pin

open Cert.ProjInSIdeal Cert.ProjInSIdeal.Gen Cert.Rows
open Idealize.ShloMosaic Idealize.ShloMosaic.TcCoe Idealize.SL.Sem
open Idealize.ShloMosaic.Pipeline (Dat)

section

variable (v0 : Vec Ideal S128x1024 .f32) (v1 : Vec Ideal S1x1024 .f32) (v16 : Vec Ideal S1024x2560 .bf16)

/-- A block's projections. -/
theorem pay1_apply (r : Fin 128) (C : Fin 2560) :
    k0_pay1 (F := Ideal) v0 v1 v16 (ix2 r C)
      = proj (fun c => v0 (ix2 r c)) (fun c => v1 (ix2 0 c)) (fun c j => v16 (ix2 c j)) C := by
  pointwise [k0_pay1]
  rfl

end

section

variable (x0 : Vec Ideal S128x1024 .f32) (x1 : Vec Ideal S1x1024 .f32) (x2 : Vec Ideal S1024x2560 .bf16)

/-- What a block's body leaves of the projections. -/
theorem out3_apply (r : Fin 128) (C : Fin 2560) :
    out0_3 (F := Ideal) x0 x1 x2 (ix2 r C)
      = proj (fun c => x0 (ix2 r c)) (fun c => x1 (ix2 0 c)) (fun c j => x2 (ix2 c j)) C := by
  unfold out0_3
  rw [View.canon_cons_unit_lit _ _ _ (by decide), View.ld_unit_lit _ x0 (by decide), View.ld_unit_lit _ x1 (by decide), View.ld_unit_lit _ x2 (by decide)]
  exact pay1_apply x0 x1 x2 r C

end

end Cert.ProjInSIdeal.Pin

end
-- ==== Proof.ProjInS.Array.lean ====
module

public import proofs.«01_k».proof.Proof.ProjInS.Kernel

@[expose] public section

set_option maxRecDepth 16384

noncomputable section

namespace Cert.ProjInSIdeal.Pin

open Cert.ProjInSIdeal Cert.ProjInSIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weights, as the pipeline finds them. -/
theorem V_w (c : Dev nD) (k : Fin 1024) (C : Fin 2560) : V m c main_v0 (ix2 k C) = m ((c : Thread nD τ).loc main_arg2) (ix2 k C) := by
  show StableHlo.after hostOps0 _ (Proc.devRef .tc _) _ = _
  simp only [hostOps0]
  after_results
  pointwise

/-- The gains, as the pipeline finds them. -/
theorem V_g (c : Dev nD) (C : Fin 1024) : V m c main_v1 (ix2 0 C) = m ((c : Thread nD τ).loc main_arg1) (ix1 C) := by
  show StableHlo.after hostOps0 _ (Proc.devRef .tc _) _ = _
  simp only [hostOps0]
  after_results
  pointwise

/-- The windows' block indices. -/
theorem idx : ∀ t : Fin grid0.N, win0_0.index t = ![t.val, 0] ∧ win0_1.index t = ![0, 0] ∧ win0_2.index t = ![0, 0]
    ∧ win0_3.index t = ![t.val, 0] := by
  decide +kernel

/-- The grid has one point. -/
theorem lt (t : Fin grid0.N) : t.val < 1 := t.isLt

/-- The rows at a grid point. -/
theorem x_block (c : Dev nD) (t : Fin grid0.N) (r : Fin 128) (k : Fin 1024) :
    iblk m c 0 t (ix2 r k) = m ((c : Thread nD τ).loc main_arg0) (ix2 ⟨t.val * 128 + r.val, by have := lt t; omega⟩ k) := by
  refine Eq.trans ?_ (congrFun (V_main_arg0 m c) _)
  blk_ext [iblk, V, idx t]

/-- The gains at a grid point. -/
theorem g_block (c : Dev nD) (t : Fin grid0.N) (k : Fin 1) (C : Fin 1024) : iblk m c 1 t (ix2 k C) = V m c main_v1 (ix2 k C) := by
  blk_ext [iblk, V, idx t]

/-- The weights at a grid point. -/
theorem w_block (c : Dev nD) (t : Fin grid0.N) (k : Fin 1024) (C : Fin 2560) : iblk m c 2 t (ix2 k C) = V m c main_v0 (ix2 k C) := by
  blk_ext [iblk, V, idx t]

/-- A grid point's block of the projections, before it is stored. -/
theorem block_apply (c : Dev nD) (t : Fin grid0.N) (r : Fin 128) (C : Fin 2560) :
    proj (fun k => iblk m c 0 t (ix2 r k)) (fun k => iblk m c 1 t (ix2 0 k)) (fun k c' => iblk m c 2 t (ix2 k c')) C
      = proj (fun k => m ((c : Thread nD τ).loc main_arg0) (ix2 ⟨t.val * 128 + r.val, by have := lt t; omega⟩ k)) (fun k => m ((c : Thread nD τ).loc main_arg1) (ix1 k)) (fun k c' => m ((c : Thread nD τ).loc main_arg2) (ix2 k c')) C := by
  have e0 : (fun k => iblk m c 0 t (ix2 r k)) = fun k => m ((c : Thread nD τ).loc main_arg0) (ix2 ⟨t.val * 128 + r.val, by have := lt t; omega⟩ k) :=
    funext fun k => x_block m c t r k
  have e1 : (fun k => iblk m c 1 t (ix2 0 k)) = fun k => m ((c : Thread nD τ).loc main_arg1) (ix1 k) := funext fun k => (g_block m c t 0 k).trans (V_g m c k)
  have e2 : (fun k c' => iblk m c 2 t (ix2 k c')) = fun k c' => m ((c : Thread nD τ).loc main_arg2) (ix2 k c') :=
    funext fun k => funext fun c' => (w_block m c t k c').trans (V_w m c k c')
  rw [e0, e1, e2]

/-- The output window's blocks tile the array. -/
theorem covers3 : win0_3.Covers := by decide +kernel

/-- All projections. -/
def results (c : Dev nD) : S128x2560.Idx → EReal := projSample (m ((c : Thread nD τ).loc main_arg0)) (m ((c : Thread nD τ).loc main_arg1)) (m ((c : Thread nD τ).loc main_arg2))

/-- The projections at an index given by its two coordinates. -/
theorem results_at (c : Dev nD) (j : S128x2560.Idx) (R : Fin 128) (C : Fin 2560) (h0 : (j 0).val = R.val) (h1 : (j 1).val = C.val) :
    results m c j = proj (fun k => m ((c : Thread nD τ).loc main_arg0) (ix2 R k)) (fun k => m ((c : Thread nD τ).loc main_arg1) (ix1 k)) (fun k c' => m ((c : Thread nD τ).loc main_arg2) (ix2 k c')) C := by
  have e0 : j 0 = R := Fin.ext h0
  have e1 : j 1 = C := Fin.ext h1
  unfold results projSample
  rw [e0, e1]

/-- What a grid point's body leaves is the projections at its block's places. -/
theorem point3 (c : Dev nD) (t : Fin grid0.N) (r : Fin 128) (C : Fin 2560) :
    out0_3 (iblk m c 0 t) (iblk m c 1 t) (iblk m c 2 t) (ix2 r C) = results m c ((win0_3.blk t).view.emb (ix2 r C)) := by
  have ht := lt t
  rw [results_at m c _ ⟨t.val * 128 + r.val, by omega⟩ C (by blk_simp [idx t]) (by blk_simp [idx t])]
  exact (out3_apply _ _ _ r C).trans (block_apply m c t r C)

/-- The array of projections the kernel leaves. -/
theorem arr3_eq (c : Dev nD) : (dats m 0 c).arrAt 3 cfg0.N = results m c := by
  refine (dats m 0 c).arrAt_eq_of_covers 3 _ covers3 fun t hf y => ?_
  blk_simp
  rw [after0_3]
  have e : y = ix2 (y 0) (y 1) := eq_ix2 y
  rw [e]
  exact point3 m c t (y 0) (y 1)

/-- The run: the result array is the projections and the arguments end unchanged. -/
theorem run : θ_run (defs (F := Ideal)) (onTc (τ := τ) (main (F := Ideal))) ⟨m, fun _ => 0, ρ⟩ fun r => ∀ c : Dev nD,
      r.2.mem ((c : Thread nD τ).loc main_v2) = results m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun _ h c => ⟨(h c).1.trans (arr3_eq m c), (h c).2⟩) (Value.run_blocks m ρ)

end Cert.ProjInSIdeal.Pin

end
-- ==== Proof.ProjInS.Reference.lean ====
module

public import proofs.«01_k».proof.Proof.Gen.ProjInSRefIdeal.Read
public import proofs.«01_k».proof.Proof.RowsSample
public import Idealize.ShloMosaic.Lib.Pointwise
public import Idealize.ShloMosaic.Lib.Pipeline.ValueKit

@[expose] public section

set_option maxRecDepth 16384

noncomputable section

namespace Cert.ProjInSRefIdeal.Pin

open Cert.ProjInSRefIdeal Cert.ProjInSRefIdeal.Read Cert.Rows
open Idealize.ShloMosaic

variable (x0 : Vec Ideal S128x1024 .f32) (x1 : Vec Ideal S1024 .f32) (x2 : Vec Ideal S1024x2560 .f32)

/-- The rows divided by their root mean square and scaled. -/
theorem rms_apply (R : Fin 128) (C : Fin 1024) :
    val_main_v12 (F := Ideal) x0 x1 (ix2 R C) = rms (fun c => x0 (ix2 R c)) (fun k => x1 (ix1 k)) C := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The projections at a place. -/
theorem proj_apply (R : Fin 128) (C : Fin 2560) :
    val_main_v13 (F := Ideal) x0 x1 x2 (ix2 R C) = proj (fun c => x0 (ix2 R c)) (fun k => x1 (ix1 k)) (fun k c => x2 (ix2 k c)) C := by
  unfold proj
  simp only [← rms_apply]
  pointwise [val_main_v13]

/-- The reference's projections. -/
theorem proj_eq : val_main_v13 (F := Ideal) x0 x1 x2 = projSample x0 x1 x2 := by
  funext j
  have ej : j = ix2 (j 0) (j 1) := eq_ix2 j
  rw [ej]
  exact proj_apply x0 x1 x2 (j 0) (j 1)

end Cert.ProjInSRefIdeal.Pin

end
-- ==== Proof.OutFfn.Kernel.lean ====
module

public import proofs.«01_k».proof.Proof.Gen.OutFfnIdeal.Value
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.OutFfnIdeal.Out

open Cert.OutFfnIdeal Cert.OutFfnIdeal.Gen Cert.Rows
open Idealize.ShloMosaic Idealize.ShloMosaic.TcCoe Idealize.SL.Sem
open Idealize.ShloMosaic.Pipeline (Dat)

section

variable (v0 : Vec Ideal S256x1024 .f32) (v1 : Vec Ideal S256x768 .f32) (v2 : Vec Ideal S768x1024 .bf16) (v7 : Vec Ideal S256x256 .f32)
  (v8 : Vec Ideal S256x1024 .bf16) (v13 : Vec Ideal S1x1024 .f32) (v28 : Vec Ideal S1024x5632 .bf16)

/-- The residual stream after the output projection. -/
theorem pay2_apply (r : Fin 256) (C : Fin 1024) :
    k0_pay2 (F := Ideal) v0 v1 v2 v7 v8 (ix2 r C)
      = v0 (ix2 r C) + (∑ k : Fin 768, v1 (ix2 r k) * v2 (ix2 k C)) + ∑ k : Fin 256, v7 (ix2 r k) * v8 (ix2 k C) := by
  pointwise [k0_pay2]

/-- The gates and values. -/
theorem pay3_apply (r : Fin 256) (C : Fin 5632) :
    k0_pay3 (F := Ideal) v0 v1 v2 v7 v8 v13 v28 (ix2 r C)
      = gateUp (fun c => k0_pay2 (F := Ideal) v0 v1 v2 v7 v8 (ix2 r c)) (fun c => v13 (ix2 0 c)) (fun c j => v28 (ix2 c j)) C := by
  pointwise [k0_pay3]
  rfl

/-- The gates. -/
theorem pay4_apply (r : Fin 256) (j : Fin 2816) :
    k0_pay4 (F := Ideal) v0 v1 v2 v7 v8 v13 v28 (ix2 r j)
      = k0_pay3 (F := Ideal) v0 v1 v2 v7 v8 v13 v28 (ix2 r ⟨j.val, by omega⟩) := by
  pointwise [k0_pay4]

/-- The values. -/
theorem pay5_apply (r : Fin 256) (j : Fin 2816) :
    k0_pay5 (F := Ideal) v0 v1 v2 v7 v8 v13 v28 (ix2 r j)
      = k0_pay3 (F := Ideal) v0 v1 v2 v7 v8 v13 v28 (ix2 r ⟨2816 + j.val, by omega⟩) := by
  pointwise [k0_pay5]

/-- The exponentials of the gates. -/
theorem pay6_apply (r : Fin 256) (j : Fin 2816) :
    k0_pay6 (F := Ideal) v0 v1 v2 v7 v8 v13 v28 (ix2 r j)
      = Ideal.exp (-k0_pay4 (F := Ideal) v0 v1 v2 v7 v8 v13 v28 (ix2 r j)) := by
  pointwise [k0_pay6]
  rw [zero_sub]

/-- The ones of the logistic function. -/
theorem pay7_apply (r : Fin 256) (j : Fin 2816) : k0_pay7 (F := Ideal) (ix2 r j) = 1 := by
  pointwise [k0_pay7]

/-- The last product. -/
theorem pay1_apply (v12 : FVec Ideal S256x1024 .f32) (v31 v32 v35 v36 : FVec Ideal S256x2816 .f32) (v43 : Vec Ideal S2816x1024 .bf16)
    (r : Fin 256) (C : Fin 1024) :
    k0_pay1 (F := Ideal) v12 v31 v32 v35 v36 v43 (ix2 r C)
      = v12 (ix2 r C) + ∑ x : Fin 2816, v31 (ix2 r x) * Ideal.div 1 (v36 (ix2 r x) + v35 (ix2 r x)) * v32 (ix2 r x) * v43 (ix2 x C) := by
  pointwise [k0_pay1]

end

/-- What a block's body leaves, row by row. -/
theorem out_apply (x0 : Vec Ideal S256x768 .f32) (x1 : Vec Ideal S256x256 .f32) (x2 : Vec Ideal S256x1024 .f32) (x3 : Vec Ideal S768x1024 .bf16)
    (x4 : Vec Ideal S256x1024 .bf16) (x5 : Vec Ideal S1x1024 .f32) (x6 : Vec Ideal S1024x5632 .bf16) (x7 : Vec Ideal S2816x1024 .bf16)
    (w : Fin 1024 → Fin 1024 → EReal)
    (h3 : ∀ (k : Fin 768) (c : Fin 1024), x3 (ix2 k c) = w ⟨k.val, by omega⟩ c)
    (h4 : ∀ (k : Fin 256) (c : Fin 1024), x4 (ix2 k c) = w ⟨768 + k.val, by omega⟩ c) (r : Fin 256) (C : Fin 1024) :
    out0_8 (F := Ideal) x0 x1 x2 x3 x4 x5 x6 x7 (ix2 r C)
      = layer (fun k => x0 (ix2 r k)) (fun k => x1 (ix2 r k)) (fun c => x2 (ix2 r c)) w (fun c => x5 (ix2 0 c))
          (fun c j => x6 (ix2 c j)) (fun j c => x7 (ix2 j c)) C := by
  have hm : (fun c => k0_pay2 (F := Ideal) x2 x0 x3 x1 x4 (ix2 r c))
      = mid (fun k => x0 (ix2 r k)) (fun k => x1 (ix2 r k)) (fun c => x2 (ix2 r c)) w := by
    funext c
    rw [pay2_apply, add_assoc]
    unfold mid
    simp only [h3, h4]
  unfold out0_8
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide),
    View.ld_unit_lit _ x7 (by decide)]
  rw [pay1_apply]
  simp only [pay7_apply, pay6_apply, pay5_apply, pay4_apply, pay3_apply, hm]
  rw [congrFun hm C]
  rfl

end Cert.OutFfnIdeal.Out

end
-- ==== Proof.OutFfn.Array.lean ====
module

public import proofs.«01_k».proof.Proof.OutFfn.Kernel

@[expose] public section

set_option maxRecDepth 16384

noncomputable section

namespace Cert.OutFfnIdeal.Out

open Cert.OutFfnIdeal Cert.OutFfnIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The upper rows of the output projection, as the pipeline finds them. -/
theorem V_w1 (c : Dev nD) (k : Fin 768) (C : Fin 1024) : V m c main_v1 (ix2 k C) = m ((c : Thread nD τ).loc main_arg3) (ix2 ⟨k.val, by omega⟩ C) := by
  show StableHlo.after hostOps0 _ (Proc.devRef .tc _) _ = _
  simp only [hostOps0]
  after_results
  pointwise

/-- The lower rows of the output projection, as the pipeline finds them. -/
theorem V_w2 (c : Dev nD) (k : Fin 256) (C : Fin 1024) : V m c main_v3 (ix2 k C) = m ((c : Thread nD τ).loc main_arg3) (ix2 ⟨768 + k.val, by omega⟩ C) := by
  show StableHlo.after hostOps0 _ (Proc.devRef .tc _) _ = _
  simp only [hostOps0]
  after_results
  pointwise

/-- The first weights of the gated block, as the pipeline finds them. -/
theorem V_wi (c : Dev nD) (k : Fin 1024) (C : Fin 5632) : V m c main_v4 (ix2 k C) = m ((c : Thread nD τ).loc main_arg5) (ix2 k C) := by
  show StableHlo.after hostOps0 _ (Proc.devRef .tc _) _ = _
  simp only [hostOps0]
  after_results
  pointwise

/-- The last weights of the gated block, as the pipeline finds them. -/
theorem V_wo (c : Dev nD) (k : Fin 2816) (C : Fin 1024) : V m c main_v5 (ix2 k C) = m ((c : Thread nD τ).loc main_arg6) (ix2 k C) := by
  show StableHlo.after hostOps0 _ (Proc.devRef .tc _) _ = _
  simp only [hostOps0]
  after_results
  pointwise

/-- The gains, as the pipeline finds them. -/
theorem V_g (c : Dev nD) (C : Fin 1024) : V m c main_v6 (ix2 0 C) = m ((c : Thread nD τ).loc main_arg4) (ix1 C) := by
  show StableHlo.after hostOps0 _ (Proc.devRef .tc _) _ = _
  simp only [hostOps0]
  after_results
  pointwise

/-- The windows' block indices. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] := by
  decide +kernel

/-- The grid has sixty-four points. -/
theorem lt (t : Fin grid0.N) : t.val < 64 := t.isLt

/-- The rows of argument 0 at a grid point. -/
theorem o_block (c : Dev nD) (t : Fin grid0.N) (r : Fin 256) (k : Fin 768) :
    iblk m c 0 t (ix2 r k) = m ((c : Thread nD τ).loc main_arg0) (ix2 ⟨t.val * 256 + r.val, by have := lt t; omega⟩ k) := by
  refine Eq.trans ?_ (congrFun (V_main_arg0 m c) _)
  blk_ext [iblk, V, idx t]

/-- The rows of argument 1 at a grid point. -/
theorem om_block (c : Dev nD) (t : Fin grid0.N) (r : Fin 256) (k : Fin 256) :
    iblk m c 1 t (ix2 r k) = m ((c : Thread nD τ).loc main_arg1) (ix2 ⟨t.val * 256 + r.val, by have := lt t; omega⟩ k) := by
  refine Eq.trans ?_ (congrFun (V_main_arg1 m c) _)
  blk_ext [iblk, V, idx t]

/-- The rows of argument 2 at a grid point. -/
theorem x_block (c : Dev nD) (t : Fin grid0.N) (r : Fin 256) (k : Fin 1024) :
    iblk m c 2 t (ix2 r k) = m ((c : Thread nD τ).loc main_arg2) (ix2 ⟨t.val * 256 + r.val, by have := lt t; omega⟩ k) := by
  refine Eq.trans ?_ (congrFun (V_main_arg2 m c) _)
  blk_ext [iblk, V, idx t]

/-- Block 3 at a grid point is the whole array. -/
theorem w1_block (c : Dev nD) (t : Fin grid0.N) (k : Fin 768) (C : Fin 1024) : iblk m c 3 t (ix2 k C) = V m c main_v1 (ix2 k C) := by
  blk_ext [iblk, V, idx t]

/-- Block 4 at a grid point is the whole array. -/
theorem w2_block (c : Dev nD) (t : Fin grid0.N) (k : Fin 256) (C : Fin 1024) : iblk m c 4 t (ix2 k C) = V m c main_v3 (ix2 k C) := by
  blk_ext [iblk, V, idx t]

/-- Block 6 at a grid point is the whole array. -/
theorem wi_block (c : Dev nD) (t : Fin grid0.N) (k : Fin 1024) (C : Fin 5632) : iblk m c 6 t (ix2 k C) = V m c main_v4 (ix2 k C) := by
  blk_ext [iblk, V, idx t]

/-- Block 7 at a grid point is the whole array. -/
theorem wo_block (c : Dev nD) (t : Fin grid0.N) (k : Fin 2816) (C : Fin 1024) : iblk m c 7 t (ix2 k C) = V m c main_v5 (ix2 k C) := by
  blk_ext [iblk, V, idx t]

/-- Block 5 at a grid point is the whole array. -/
theorem g_block (c : Dev nD) (t : Fin grid0.N) (k : Fin 1) (C : Fin 1024) : iblk m c 5 t (ix2 k C) = V m c main_v6 (ix2 k C) := by
  blk_ext [iblk, V, idx t]

/-- The output window's blocks tile the array. -/
theorem covers : win0_8.Covers := by decide +kernel

/-- The whole array of results. -/
def results (c : Dev nD) : S16384x1024.Idx → EReal :=
  layerOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The layer's result at an index given by its two coordinates. -/
theorem results_at (c : Dev nD) (j : S16384x1024.Idx) (R : Fin 16384) (C : Fin 1024) (h0 : (j 0).val = R.val) (h1 : (j 1).val = C.val) :
    results m c j = layer (fun k => m ((c : Thread nD τ).loc main_arg0) (ix2 R k)) (fun k => m ((c : Thread nD τ).loc main_arg1) (ix2 R k)) (fun k => m ((c : Thread nD τ).loc main_arg2) (ix2 R k))
      (fun k c' => m ((c : Thread nD τ).loc main_arg3) (ix2 k c')) (fun k => m ((c : Thread nD τ).loc main_arg4) (ix1 k)) (fun k c' => m ((c : Thread nD τ).loc main_arg5) (ix2 k c')) (fun k c' => m ((c : Thread nD τ).loc main_arg6) (ix2 k c')) C := by
  have e0 : j 0 = R := Fin.ext h0
  have e1 : j 1 = C := Fin.ext h1
  unfold results layerOf
  rw [e0, e1]

/-- What a grid point's body leaves is the layer's result at its block's places. -/
theorem point (c : Dev nD) (t : Fin grid0.N) (r : Fin 256) (C : Fin 1024) :
    out0_8 (iblk m c 0 t) (iblk m c 1 t) (iblk m c 2 t) (iblk m c 3 t) (iblk m c 4 t) (iblk m c 5 t) (iblk m c 6 t) (iblk m c 7 t) (ix2 r C)
      = results m c ((win0_8.blk t).view.emb (ix2 r C)) := by
  have ht := lt t
  rw [results_at m c _ ⟨t.val * 256 + r.val, by omega⟩ C (by blk_simp [idx t]) (by blk_simp [idx t])]
  rw [out_apply _ _ _ _ _ _ _ _ (fun k c' => m ((c : Thread nD τ).loc main_arg3) (ix2 k c'))
    (fun k c' => (w1_block m c t k c').trans (V_w1 m c k c')) (fun k c' => (w2_block m c t k c').trans (V_w2 m c k c'))]
  have e5 : (fun k => iblk m c 5 t (ix2 0 k)) = fun k => m ((c : Thread nD τ).loc main_arg4) (ix1 k) := funext fun k => (g_block m c t 0 k).trans (V_g m c k)
  have e6 : (fun k c' => iblk m c 6 t (ix2 k c')) = fun k c' => m ((c : Thread nD τ).loc main_arg5) (ix2 k c') :=
    funext fun k => funext fun c' => (wi_block m c t k c').trans (V_wi m c k c')
  have e7 : (fun k c' => iblk m c 7 t (ix2 k c')) = fun k c' => m ((c : Thread nD τ).loc main_arg6) (ix2 k c') :=
    funext fun k => funext fun c' => (wo_block m c t k c').trans (V_wo m c k c')
  simp only [o_block, om_block, x_block, e5, e6, e7]

/-- The array the kernel leaves is the layer's result. -/
theorem arr_eq (c : Dev nD) : (dats m 0 c).arrAt 8 cfg0.N = results m c := by
  refine (dats m 0 c).arrAt_eq_of_covers 8 _ covers fun t hf y => ?_
  blk_simp
  rw [after0_8]
  have e : y = ix2 (y 0) (y 1) := eq_ix2 y
  rw [e]
  exact point m c t (y 0) (y 1)

/-- The run: the result array is the layer's result and the arguments end unchanged. -/
theorem run : θ_run (defs (F := Ideal)) (onTc (τ := τ) (main (F := Ideal))) ⟨m, fun _ => 0, ρ⟩ fun r => ∀ c : Dev nD,
      r.2.mem ((c : Thread nD τ).loc main_v7) = results m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun _ h c => ⟨(h c).1.trans (arr_eq m c), (h c).2⟩) (Value.run_blocks m ρ)

end Cert.OutFfnIdeal.Out

end
-- ==== Proof.OutFfn.Reference.lean ====
module

public import proofs.«01_k».proof.Proof.Gen.OutFfnRefIdeal.Read
public import proofs.«01_k».proof.Proof.Rows
public import Idealize.ShloMosaic.Lib.Pointwise
public import Idealize.ShloMosaic.Lib.Pipeline.ValueKit

@[expose] public section

set_option maxRecDepth 16384

noncomputable section

namespace Cert.OutFfnRefIdeal.Out

open Cert.OutFfnRefIdeal Cert.OutFfnRefIdeal.Read Cert.Rows
open Idealize.ShloMosaic

variable (x0 : Vec Ideal S16384x768 .f32) (x1 : Vec Ideal S16384x256 .f32) (x2 : Vec Ideal S16384x1024 .f32) (x3 : Vec Ideal S1024x1024 .f32) (x4 : Vec Ideal S1024 .f32) (x5 : Vec Ideal S1024x5632 .f32) (x6 : Vec Ideal S2816x1024 .f32)

/-- The mixers' outputs side by side: the first's columns. -/
theorem cat_lo (R : Fin 16384) (k : Fin 768) : val_main_v0 (F := Ideal) x0 x1 (ix2 R ⟨k.val, by omega⟩) = x0 (ix2 R k) := by
  have hk := k.isLt
  pointwise [val_main_v0]

/-- The mixers' outputs side by side: the second's columns. -/
theorem cat_hi (R : Fin 16384) (k : Fin 256) : val_main_v0 (F := Ideal) x0 x1 (ix2 R ⟨768 + k.val, by omega⟩) = x1 (ix2 R k) := by
  have hk := k.isLt
  pointwise [val_main_v0]

/-- The residual stream after the output projection. -/
theorem mid_apply (R : Fin 16384) (C : Fin 1024) :
    val_main_v2 (F := Ideal) x0 x1 x2 x3 (ix2 R C)
      = mid (fun k => x0 (ix2 R k)) (fun k => x1 (ix2 R k)) (fun k => x2 (ix2 R k)) (fun k c => x3 (ix2 k c)) C := by
  have e : val_main_v1 (F := Ideal) x0 x1 x3 (ix2 R C)
      = ∑ k : Fin (768 + 256), val_main_v0 (F := Ideal) x0 x1 (ix2 R k) * x3 (ix2 k C) := by
    pointwise [val_main_v1]
  rw [Fin.sum_univ_add] at e
  rw [val_main_v2_apply, e]
  unfold mid
  exact congrArg (x2 (ix2 R C) + ·) (congrArg₂ (· + ·)
    (Finset.sum_congr rfl fun k _ => congrArg (· * _) (cat_lo x0 x1 R k)) (Finset.sum_congr rfl fun k _ => congrArg (· * _) (cat_hi x0 x1 R k)))

/-- The rows divided by their root mean square and scaled. -/
theorem rms_apply (R : Fin 16384) (C : Fin 1024) :
    val_main_v15 (F := Ideal) x0 x1 x2 x3 x4 (ix2 R C)
      = rms (fun c => val_main_v2 (F := Ideal) x0 x1 x2 x3 (ix2 R c)) (fun k => x4 (ix1 k)) C := by
  pointwise [val_main_v15, val_main_v14, val_main_v13, val_main_v12, val_main_v11, val_main_v10, val_main_v9, val_main_v8, val_main_v7, val_main_v6,
    val_main_v5, val_main_v4, val_main_v3, val_main_cst, val_main_cst_0, val_main_cst_1]
  rfl

/-- The gates and values. -/
theorem gate_apply (R : Fin 16384) (C : Fin 5632) :
    val_main_v16 (F := Ideal) x0 x1 x2 x3 x4 x5 (ix2 R C)
      = gateUp (fun c => val_main_v2 (F := Ideal) x0 x1 x2 x3 (ix2 R c)) (fun k => x4 (ix1 k)) (fun k c => x5 (ix2 k c)) C := by
  unfold gateUp
  simp only [← rms_apply]
  pointwise [val_main_v16]

/-- The gated values. -/
theorem gated_apply (R : Fin 16384) (j : Fin 2816) :
    val_main_v20 (F := Ideal) x0 x1 x2 x3 x4 x5 (ix2 R j)
      = silu (val_main_v16 (F := Ideal) x0 x1 x2 x3 x4 x5 (ix2 R ⟨j.val, by omega⟩)) * val_main_v16 (F := Ideal) x0 x1 x2 x3 x4 x5 (ix2 R ⟨2816 + j.val, by omega⟩) := by
  pointwise [val_main_v20, val_main_v19, val_main_v18, val_main_v17, val_main_call0_v0, val_main_call0_v1, val_main_call0_v2, val_main_call0_v3, val_main_call0_v4, val_main_call0_v5, val_main_call0_cst, val_main_call0_cst_0]
  rfl

/-- The reference's result at a place. -/
theorem out_apply (R : Fin 16384) (C : Fin 1024) : val_main_v22 (F := Ideal) x0 x1 x2 x3 x4 x5 x6 (ix2 R C) = layerOf x0 x1 x2 x3 x4 x5 x6 (ix2 R C) := by
  have e : val_main_v21 (F := Ideal) x0 x1 x2 x3 x4 x5 x6 (ix2 R C)
      = ∑ k : Fin 2816, val_main_v20 (F := Ideal) x0 x1 x2 x3 x4 x5 (ix2 R k) * x6 (ix2 k C) := by
    pointwise [val_main_v21]
  rw [val_main_v22_apply, e]
  simp only [gated_apply, gate_apply, mid_apply]
  rfl

/-- The reference's result is the layer's. -/
theorem out_eq : val_main_v22 (F := Ideal) x0 x1 x2 x3 x4 x5 x6 = layerOf x0 x1 x2 x3 x4 x5 x6 := by
  funext j
  have ej : j = ix2 (j 0) (j 1) := eq_ix2 j
  rw [ej]
  exact out_apply x0 x1 x2 x3 x4 x5 x6 (j 0) (j 1)

end Cert.OutFfnRefIdeal.Out

end
-- ==== Proof.ProjIn.Kernel.lean ====
module

public import proofs.«01_k».proof.Proof.Gen.ProjInIdeal.Value
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.ProjInIdeal.Pin

open Cert.ProjInIdeal Cert.ProjInIdeal.Gen Cert.Rows
open Idealize.ShloMosaic Idealize.ShloMosaic.TcCoe Idealize.SL.Sem
open Idealize.ShloMosaic.Pipeline (Dat)

section

variable (v0 : Vec Ideal S512x1024 .f32) (v1 : Vec Ideal S1x1024 .f32) (v16 : Vec Ideal S1024x2560 .bf16) (v18 : FVec Ideal S512x2560 .f32)
  (x : S1x128x512.Idx)

/-- A block's projections. -/
theorem pay4_apply (r : Fin 512) (C : Fin 2560) :
    k0_pay4 (F := Ideal) v0 v1 v16 (ix2 r C)
      = proj (fun c => v0 (ix2 r c)) (fun c => v1 (ix2 0 c)) (fun c j => v16 (ix2 c j)) C := by
  pointwise [k0_pay4]
  rfl

/-- The tile of columns from 2176 on, turned. -/
theorem pay3_at (a : Fin 1) (b : Fin 128) (c : Fin 512) :
    k0_pay3 (F := Ideal) v18 (ix3 a b c) = v18 (ix2 c ⟨2176 + b.val, by omega⟩) := by
  pointwise [k0_pay3]

/-- The tile of columns from 2048 on, turned. -/
theorem pay2_at (a : Fin 1) (b : Fin 128) (c : Fin 512) :
    k0_pay2 (F := Ideal) v18 (ix3 a b c) = v18 (ix2 c ⟨2048 + b.val, by omega⟩) := by
  pointwise [k0_pay2]

/-- The tile of columns from 1920 on, turned. -/
theorem pay1_at (a : Fin 1) (b : Fin 128) (c : Fin 512) :
    k0_pay1 (F := Ideal) v18 (ix3 a b c) = v18 (ix2 c ⟨1920 + b.val, by omega⟩) := by
  pointwise [k0_pay1]

/-- The tile of columns from 1792 on, turned. -/
theorem pay15_at (a : Fin 1) (b : Fin 128) (c : Fin 512) :
    k0_pay15 (F := Ideal) v18 (ix3 a b c) = v18 (ix2 c ⟨1792 + b.val, by omega⟩) := by
  pointwise [k0_pay15]

/-- The tile of columns from 1664 on, turned. -/
theorem pay14_at (a : Fin 1) (b : Fin 128) (c : Fin 512) :
    k0_pay14 (F := Ideal) v18 (ix3 a b c) = v18 (ix2 c ⟨1664 + b.val, by omega⟩) := by
  pointwise [k0_pay14]

/-- The tile of columns from 1536 on, turned. -/
theorem pay13_at (a : Fin 1) (b : Fin 128) (c : Fin 512) :
    k0_pay13 (F := Ideal) v18 (ix3 a b c) = v18 (ix2 c ⟨1536 + b.val, by omega⟩) := by
  pointwise [k0_pay13]

/-- The tile of columns from 1408 on, turned. -/
theorem pay12_at (a : Fin 1) (b : Fin 128) (c : Fin 512) :
    k0_pay12 (F := Ideal) v18 (ix3 a b c) = v18 (ix2 c ⟨1408 + b.val, by omega⟩) := by
  pointwise [k0_pay12]

/-- The tile of columns from 1280 on, turned. -/
theorem pay11_at (a : Fin 1) (b : Fin 128) (c : Fin 512) :
    k0_pay11 (F := Ideal) v18 (ix3 a b c) = v18 (ix2 c ⟨1280 + b.val, by omega⟩) := by
  pointwise [k0_pay11]

/-- The tile of columns from 1152 on, turned. -/
theorem pay10_at (a : Fin 1) (b : Fin 128) (c : Fin 512) :
    k0_pay10 (F := Ideal) v18 (ix3 a b c) = v18 (ix2 c ⟨1152 + b.val, by omega⟩) := by
  pointwise [k0_pay10]

/-- The tile of columns from 1024 on, turned. -/
theorem pay9_at (a : Fin 1) (b : Fin 128) (c : Fin 512) :
    k0_pay9 (F := Ideal) (k0_pay8 v0 v1 v16) (ix3 a b c) = k0_pay4 (F := Ideal) v0 v1 v16 (ix2 c ⟨1024 + b.val, by omega⟩) := by
  pointwise [k0_pay9, k0_pay8]

/-- The tile of columns from 896 on, turned. -/
theorem pay7_at (a : Fin 1) (b : Fin 128) (c : Fin 512) :
    k0_pay7 (F := Ideal) v0 v1 v16 (ix3 a b c) = k0_pay4 (F := Ideal) v0 v1 v16 (ix2 c ⟨896 + b.val, by omega⟩) := by
  pointwise [k0_pay7]

/-- The tile of columns from 768 on, turned. -/
theorem pay6_at (a : Fin 1) (b : Fin 128) (c : Fin 512) :
    k0_pay6 (F := Ideal) v0 v1 v16 (ix3 a b c) = k0_pay4 (F := Ideal) v0 v1 v16 (ix2 c ⟨768 + b.val, by omega⟩) := by
  pointwise [k0_pay6]

end

section

variable (x0 : Vec Ideal S512x1024 .f32) (x1 : Vec Ideal S1x1024 .f32) (x2 : Vec Ideal S1024x2560 .bf16)

/-- What a block's body leaves of the projections. -/
theorem out3_apply (r : Fin 512) (C : Fin 2560) :
    out0_3 (F := Ideal) x0 x1 x2 (ix2 r C)
      = proj (fun c => x0 (ix2 r c)) (fun c => x1 (ix2 0 c)) (fun c j => x2 (ix2 c j)) C := by
  unfold out0_3
  rw [View.canon_cons_unit_lit _ _ _ (by decide), View.ld_unit_lit _ x0 (by decide), View.ld_unit_lit _ x1 (by decide), View.ld_unit_lit _ x2 (by decide)]
  exact pay4_apply x0 x1 x2 r C

/-- Two indices of a block's projections with the same coordinates. -/
theorem pay4_congr {r r' : Fin 512} {C C' : Fin 2560} (hr : r.val = r'.val) (hC : C.val = C'.val) :
    k0_pay4 (F := Ideal) x0 x1 x2 (ix2 r C) = k0_pay4 (F := Ideal) x0 x1 x2 (ix2 r' C') := by
  rw [Fin.ext hr, Fin.ext hC]

/-- What a block's body leaves of the keys and values. -/
theorem out5_apply (b : Fin 1536) (c : Fin 512) :
    out0_5 (F := Ideal) x0 x1 x2 (ix3 0 b c)
      = k0_pay4 (F := Ideal) x0 x1 x2 (ix2 c ⟨768 + b.val, by omega⟩) := by
  unfold_out out0_5
  rw [View.ld_unit_lit _ x0 (by decide), View.ld_unit_lit _ x1 (by decide), View.ld_unit_lit _ x2 (by decide)]
  canon_tiles x h using cover0_5 ..
  all_goals rw [eq_ix3 x]
  · refine (pay3_at _ _ _ _).trans (pay4_congr x0 x1 x2 ?_ ?_) <;> simp at * <;> omega
  · refine (pay2_at _ _ _ _).trans (pay4_congr x0 x1 x2 ?_ ?_) <;> simp at * <;> omega
  · refine (pay1_at _ _ _ _).trans (pay4_congr x0 x1 x2 ?_ ?_) <;> simp at * <;> omega
  · refine (pay15_at _ _ _ _).trans (pay4_congr x0 x1 x2 ?_ ?_) <;> simp at * <;> omega
  · refine (pay14_at _ _ _ _).trans (pay4_congr x0 x1 x2 ?_ ?_) <;> simp at * <;> omega
  · refine (pay13_at _ _ _ _).trans (pay4_congr x0 x1 x2 ?_ ?_) <;> simp at * <;> omega
  · refine (pay12_at _ _ _ _).trans (pay4_congr x0 x1 x2 ?_ ?_) <;> simp at * <;> omega
  · refine (pay11_at _ _ _ _).trans (pay4_congr x0 x1 x2 ?_ ?_) <;> simp at * <;> omega
  · refine (pay10_at _ _ _ _).trans (pay4_congr x0 x1 x2 ?_ ?_) <;> simp at * <;> omega
  · refine (pay9_at _ _ _ _ _ _).trans (pay4_congr x0 x1 x2 ?_ ?_) <;> simp at * <;> omega
  · refine (pay7_at _ _ _ _ _ _).trans (pay4_congr x0 x1 x2 ?_ ?_) <;> simp at * <;> omega
  · refine (pay6_at _ _ _ _ _ _).trans (pay4_congr x0 x1 x2 ?_ ?_) <;> simp at * <;> omega

end

end Cert.ProjInIdeal.Pin

end
-- ==== Proof.ProjIn.Array.lean ====
module

public import proofs.«01_k».proof.Proof.ProjIn.Kernel

@[expose] public section

set_option maxRecDepth 16384

noncomputable section

namespace Cert.ProjInIdeal.Pin

open Cert.ProjInIdeal Cert.ProjInIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weights, as the pipeline finds them. -/
theorem V_w (c : Dev nD) (k : Fin 1024) (C : Fin 2560) : V m c main_v0 (ix2 k C) = m ((c : Thread nD τ).loc main_arg2) (ix2 k C) := by
  show StableHlo.after hostOps0 _ (Proc.devRef .tc _) _ = _
  simp only [hostOps0]
  after_results
  pointwise

/-- The gains, as the pipeline finds them. -/
theorem V_g (c : Dev nD) (C : Fin 1024) : V m c main_v1 (ix2 0 C) = m ((c : Thread nD τ).loc main_arg1) (ix1 C) := by
  show StableHlo.after hostOps0 _ (Proc.devRef .tc _) _ = _
  simp only [hostOps0]
  after_results
  pointwise

/-- The windows' block indices. -/
theorem idx : ∀ t : Fin grid0.N, win0_0.index t = ![t.val, 0] ∧ win0_1.index t = ![0, 0] ∧ win0_2.index t = ![0, 0]
    ∧ win0_3.index t = ![t.val, 0] ∧ win0_5.index t = ![t.val / 8, 0, t.val % 8] := by
  decide +kernel

/-- The grid has thirty-two points. -/
theorem lt (t : Fin grid0.N) : t.val < 32 := t.isLt

/-- The rows at a grid point. -/
theorem x_block (c : Dev nD) (t : Fin grid0.N) (r : Fin 512) (k : Fin 1024) :
    iblk m c 0 t (ix2 r k) = m ((c : Thread nD τ).loc main_arg0) (ix2 ⟨t.val * 512 + r.val, by have := lt t; omega⟩ k) := by
  refine Eq.trans ?_ (congrFun (V_main_arg0 m c) _)
  blk_ext [iblk, V, idx t]

/-- The gains at a grid point. -/
theorem g_block (c : Dev nD) (t : Fin grid0.N) (k : Fin 1) (C : Fin 1024) : iblk m c 1 t (ix2 k C) = V m c main_v1 (ix2 k C) := by
  blk_ext [iblk, V, idx t]

/-- The weights at a grid point. -/
theorem w_block (c : Dev nD) (t : Fin grid0.N) (k : Fin 1024) (C : Fin 2560) : iblk m c 2 t (ix2 k C) = V m c main_v0 (ix2 k C) := by
  blk_ext [iblk, V, idx t]

/-- A grid point's block of the projections, before it is stored. -/
theorem block_apply (c : Dev nD) (t : Fin grid0.N) (r : Fin 512) (C : Fin 2560) :
    proj (fun k => iblk m c 0 t (ix2 r k)) (fun k => iblk m c 1 t (ix2 0 k)) (fun k c' => iblk m c 2 t (ix2 k c')) C
      = proj (fun k => m ((c : Thread nD τ).loc main_arg0) (ix2 ⟨t.val * 512 + r.val, by have := lt t; omega⟩ k)) (fun k => m ((c : Thread nD τ).loc main_arg1) (ix1 k)) (fun k c' => m ((c : Thread nD τ).loc main_arg2) (ix2 k c')) C := by
  have e0 : (fun k => iblk m c 0 t (ix2 r k)) = fun k => m ((c : Thread nD τ).loc main_arg0) (ix2 ⟨t.val * 512 + r.val, by have := lt t; omega⟩ k) :=
    funext fun k => x_block m c t r k
  have e1 : (fun k => iblk m c 1 t (ix2 0 k)) = fun k => m ((c : Thread nD τ).loc main_arg1) (ix1 k) := funext fun k => (g_block m c t 0 k).trans (V_g m c k)
  have e2 : (fun k c' => iblk m c 2 t (ix2 k c')) = fun k c' => m ((c : Thread nD τ).loc main_arg2) (ix2 k c') :=
    funext fun k => funext fun c' => (w_block m c t k c').trans (V_w m c k c')
  rw [e0, e1, e2]

/-- The windows' blocks tile the arrays. -/
theorem covers3 : win0_3.Covers := by decide +kernel

/-- The windows' blocks tile the arrays. -/
theorem covers5 : win0_5.Covers := by decide +kernel

/-- All projections. -/
def results (c : Dev nD) : S16384x2560.Idx → EReal := projOf (m ((c : Thread nD τ).loc main_arg0)) (m ((c : Thread nD τ).loc main_arg1)) (m ((c : Thread nD τ).loc main_arg2))

/-- All keys and values. -/
def turned (c : Dev nD) : S4x1536x4096.Idx → EReal := kvOf (m ((c : Thread nD τ).loc main_arg0)) (m ((c : Thread nD τ).loc main_arg1)) (m ((c : Thread nD τ).loc main_arg2))

/-- The projections at an index given by its two coordinates. -/
theorem results_at (c : Dev nD) (j : S16384x2560.Idx) (R : Fin 16384) (C : Fin 2560) (h0 : (j 0).val = R.val) (h1 : (j 1).val = C.val) :
    results m c j = proj (fun k => m ((c : Thread nD τ).loc main_arg0) (ix2 R k)) (fun k => m ((c : Thread nD τ).loc main_arg1) (ix1 k)) (fun k c' => m ((c : Thread nD τ).loc main_arg2) (ix2 k c')) C := by
  have e0 : j 0 = R := Fin.ext h0
  have e1 : j 1 = C := Fin.ext h1
  unfold results projOf
  rw [e0, e1]

/-- The keys and values at an index given by its three coordinates. -/
theorem turned_at (c : Dev nD) (j : S4x1536x4096.Idx) (R : Fin 16384) (C : Fin 2560) (h0 : (j 0).val * 4096 + (j 2).val = R.val)
    (h1 : 768 + (j 1).val = C.val) :
    turned m c j = proj (fun k => m ((c : Thread nD τ).loc main_arg0) (ix2 R k)) (fun k => m ((c : Thread nD τ).loc main_arg1) (ix1 k)) (fun k c' => m ((c : Thread nD τ).loc main_arg2) (ix2 k c')) C := by
  obtain ⟨R, hR⟩ := R
  obtain ⟨C, hC⟩ := C
  simp only at h0 h1
  subst h0 h1
  rfl

/-- What a grid point's body leaves is the projections at its block's places. -/
theorem point3 (c : Dev nD) (t : Fin grid0.N) (r : Fin 512) (C : Fin 2560) :
    out0_3 (iblk m c 0 t) (iblk m c 1 t) (iblk m c 2 t) (ix2 r C) = results m c ((win0_3.blk t).view.emb (ix2 r C)) := by
  have ht := lt t
  rw [results_at m c _ ⟨t.val * 512 + r.val, by omega⟩ C (by blk_simp [idx t]) (by blk_simp [idx t])]
  exact (out3_apply _ _ _ r C).trans (block_apply m c t r C)

/-- What a grid point's body leaves is the keys and values at its block's places. -/
theorem point5 (c : Dev nD) (t : Fin grid0.N) (b : Fin 1536) (r : Fin 512) :
    out0_5 (iblk m c 0 t) (iblk m c 1 t) (iblk m c 2 t) (ix3 0 b r) = turned m c ((win0_5.blk t).view.emb (ix3 0 b r)) := by
  have ht := lt t
  rw [turned_at m c _ ⟨t.val * 512 + r.val, by omega⟩ ⟨768 + b.val, by omega⟩ (by blk_simp [idx t]; show _ = t.val * 512 + r.val; omega) (by blk_simp [idx t])]
  exact (out5_apply _ _ _ b r).trans ((pay4_apply _ _ _ r _).trans (block_apply m c t r _))

/-- The array of projections the kernel leaves. -/
theorem arr3_eq (c : Dev nD) : (dats m 0 c).arrAt 3 cfg0.N = results m c := by
  refine (dats m 0 c).arrAt_eq_of_covers 3 _ covers3 fun t hf y => ?_
  blk_simp
  rw [after0_3]
  have e : y = ix2 (y 0) (y 1) := eq_ix2 y
  rw [e]
  exact point3 m c t (y 0) (y 1)

/-- The array of keys and values the kernel leaves. -/
theorem arr5_eq (c : Dev nD) : (dats m 0 c).arrAt 5 cfg0.N = turned m c := by
  refine (dats m 0 c).arrAt_eq_of_covers 5 _ covers5 fun t hf y => ?_
  blk_simp
  rw [after0_5]
  have e : y = ix3 (y 0) (y 1) (y 2) := eq_ix3 y
  have e0 : y 0 = (0 : Fin 1) := Subsingleton.elim (α := Fin 1) _ _
  rw [e, e0]
  exact point5 m c t (y 1) (y 2)

/-- The run: the result arrays are the projections and the keys and values, and the arguments end unchanged. -/
theorem run : θ_run (defs (F := Ideal)) (onTc (τ := τ) (main (F := Ideal))) ⟨m, fun _ => 0, ρ⟩ fun r => ∀ c : Dev nD,
      r.2.mem ((c : Thread nD τ).loc main_v2_0) = results m c
      ∧ r.2.mem ((c : Thread nD τ).loc main_v2_2) = turned m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun _ h c => ⟨(h c).1.trans (arr3_eq m c), (h c).2.2.1.trans (arr5_eq m c), (h c).2.2.2⟩) (Value.run_blocks m ρ)

end Cert.ProjInIdeal.Pin

end
-- ==== Proof.ProjIn.Reference.lean ====
module

public import proofs.«01_k».proof.Proof.Gen.ProjInRefIdeal.Read
public import proofs.«01_k».proof.Proof.Rows
public import Idealize.ShloMosaic.Lib.Pointwise
public import Idealize.ShloMosaic.Lib.Pipeline.ValueKit

@[expose] public section

set_option maxRecDepth 16384

noncomputable section

namespace Cert.ProjInRefIdeal.Pin

open Cert.ProjInRefIdeal Cert.ProjInRefIdeal.Read Cert.Rows
open Idealize.ShloMosaic

variable (x0 : Vec Ideal S16384x1024 .f32) (x1 : Vec Ideal S1024 .f32) (x2 : Vec Ideal S1024x2560 .f32)

/-- The rows divided by their root mean square and scaled. -/
theorem rms_apply (R : Fin 16384) (C : Fin 1024) :
    val_main_v12 (F := Ideal) x0 x1 (ix2 R C) = rms (fun c => x0 (ix2 R c)) (fun k => x1 (ix1 k)) C := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The projections at a place. -/
theorem proj_apply (R : Fin 16384) (C : Fin 2560) :
    val_main_v13 (F := Ideal) x0 x1 x2 (ix2 R C) = proj (fun c => x0 (ix2 R c)) (fun k => x1 (ix1 k)) (fun k c => x2 (ix2 k c)) C := by
  unfold proj
  simp only [← rms_apply]
  pointwise [val_main_v13]

/-- The reference's projections. -/
theorem proj_eq : val_main_v13 (F := Ideal) x0 x1 x2 = projOf x0 x1 x2 := by
  funext j
  have ej : j = ix2 (j 0) (j 1) := eq_ix2 j
  rw [ej]
  exact proj_apply x0 x1 x2 (j 0) (j 1)

/-- The reference's keys and values at a place. -/
theorem kv_apply (b : Fin 4) (C : Fin 1536) (s : Fin 4096) :
    val_main_v16 (F := Ideal) x0 x1 x2 (ix3 b C s) = kvOf x0 x1 x2 (ix3 b C s) := by
  have e : val_main_v16 (F := Ideal) x0 x1 x2 (ix3 b C s)
      = val_main_v13 (F := Ideal) x0 x1 x2 (ix2 ⟨b.val * 4096 + s.val, by omega⟩ ⟨768 + C.val, by omega⟩) := by
    pointwise [val_main_v16, val_main_v15, val_main_v14]
  exact e.trans (proj_apply x0 x1 x2 _ _)

/-- The reference's keys and values. -/
theorem kv_eq : val_main_v16 (F := Ideal) x0 x1 x2 = kvOf x0 x1 x2 := by
  funext j
  have ej : j = ix3 (j 0) (j 1) (j 2) := eq_ix3 j
  rw [ej]
  exact kv_apply x0 x1 x2 (j 0) (j 1) (j 2)

end Cert.ProjInRefIdeal.Pin

end
-- ==== Proof.KernelIdeal.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) (cfgs (F := F)) 0  (defs₀ (F := F)) 𝒱₀ m (main (F := F)) (V m) :=
  Pipeline.hmain_prefixes (cfgs (F := F)) 0  (defs₀ (F := F)) 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0 is of the clipped KIND (its block does not tile its array `S16384x2560`), but no block the grid
    reaches is cut, so no part of its staging buffer is left unfilled by a fetch. A default for such a part, which
    nothing reads. -/
def dflt0_0 : ((cfg0 (F := F)).win 0).block.Idx → Elt F ((cfg0 (F := F)).win 0).elt := fun _ => Classical.choice inferInstance
/-- What input window 0's current staging buffer holds when the body runs at `t`: its block read off the array,
    filled over `dflt0_0` (block-typed, where `iblk` is typed at the cut). -/
def X0_0 (c : Dev nD) (t : Fin (cfg0 (F := F)).N) : ((cfg0 (F := F)).win 0).block.Idx → Elt F ((cfg0 (F := F)).win 0).elt :=
  ((cfg0 (F := F)).win 0).fill ((cfg0 (F := F)).grid.coords t) dflt0_0 (iblk m c 0 t)
/-- At every point the cut's extent is the block's, decided over the grid: no transfer of input window 0 is cut. -/
theorem xsize0_0 : ∀ t : Fin (cfg0 (F := F)).N, ∀ a, ((cfg0 (F := F)).win 0).xsize ((cfg0 (F := F)).grid.coords t) a = ((cfg0 (F := F)).win 0).size a :=
  (by decide +kernel : ∀ t : Fin grid0.N, ∀ a, win0_0.xsize (grid0.coords t) a = win0_0.size a)
/-- Every index of input window 0's block is moved at every point. -/
theorem moved0_0 (t : Fin (cfg0 (F := F)).N) (j : ((cfg0 (F := F)).win 0).block.Idx) : ((cfg0 (F := F)).win 0).moved ((cfg0 (F := F)).grid.coords t) j = true :=
  (((cfg0 (F := F)).win 0).moved_iff _ j).mpr fun a => by rw [xsize0_0 t a]; exact (j a).isLt
/-- A fill of input window 0's block covers the whole buffer, whatever it held. -/
theorem fill0_0 (t : Fin (cfg0 (F := F)).N) (d d' : ((cfg0 (F := F)).win 0).block.Idx → Elt F ((cfg0 (F := F)).win 0).elt) (g) :
    ((cfg0 (F := F)).win 0).fill ((cfg0 (F := F)).grid.coords t) d g = ((cfg0 (F := F)).win 0).fill ((cfg0 (F := F)).grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = X0_0 m c t) (t : Fin (cfg0 (F := F)).N) (d) : dat.before 0 t d = X0_0 m c t :=
  (dat.before_in_eq_fetched 0 rfl (fun _ => rfl)
      (fun t t' h => funext fun a => congrArg (fun n => Pipeline.Clip.of n (((cfg0 (F := F)).win 0).size a) (S16384x2560.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run (defs (F := F)) (onTc (τ := τ) (main (F := F))) (s₀ m ρ) (Pipeline.FramePost (cfgs (F := F)) dats 0 (V m))) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => ((h c).1 0).trans (((dats 0 c).arrAt_in 0 rfl _).trans ((hA c 0).trans (V_main_arg0 m c)))) h

/-! ## The kernel body on any staging memrefs: a subtype the run finds -/

/-- One staging buffer of output window 4, through which its contents are stated (`View.read_writes_of_cover`: the
    choice does not matter). -/
abbrev VO0_4 : View sig .tc .vmem S128x768 .f32 := (Memref.whole cc0_stg4_0 : Memref sig .tc .vmem S128x768 .f32).view
/-- Each window's current staging memref at point `t`, spelled as the pipeline passes it (`bodyAt0`), and its wholeness. -/
abbrev ms0_0 (t : Fin (cfg0 (F := F)).N) : Memref sig .tc .vmem S128x768 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x768 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x768 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S128x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S128x768 .f32 := win0_4.stage ((cfg0 (F := F)).slots t 4)
abbrev hs0_4 (t : Fin (cfg0 (F := F)).N) : (ms0_4 t).IsWhole := hstage0_4 (((cfg0 (F := F)).slots t 4).cast nbuf0_4)
/-- The scratch operands: whole scoped buffers of the kernel's own, passed beside the windows. -/
abbrev scM0_0 : Memref sig .tc .vmem S6x256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Sb

end
-- ==== Proof.KernelIdeal.Model.lean ====
module

public import proofs.«01_k».proof.Proof.KernelIdeal.Setup
public import Idealize.ShloMosaic.Lib.ValueIdxCore

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx (ix2 ix3)

/-- What stays fixed while the chunks of one tile of queries are swept: the grid point, the queries' positions, the six
    pairs of heads' queries (a pair's two heads one below the other), the table of later positions, and the keys and the
    values of the whole sequence. -/
structure Ops (F : FTy → Type) where
  i : grid0.Coords
  v8 : IVec S1536x1 32
  v23 : FVec F S256x128 .bf16
  v36 : FVec F S256x128 .bf16
  v49 : FVec F S256x128 .bf16
  v62 : FVec F S256x128 .bf16
  v75 : FVec F S256x128 .bf16
  v88 : FVec F S256x128 .bf16
  v10 : FVec F S128x128 .bf16
  kx : Vec F S4096x768 .bf16
  vx : Vec F S4096x768 .bf16

/-- The tile of 128 rows from row `r` and of the 128 lanes of pair `p`. -/
def tile (x : Vec F S4096x768 .bf16) (r p : ℕ) : Vec F S128x128 .bf16 := fun j =>
  x (ix2 ⟨(r + (j 0).val) % 4096, Nat.mod_lt _ (by decide)⟩ ⟨(p * 128 + (j 1).val) % 768, Nat.mod_lt _ (by decide)⟩)

/-- Pair `p`'s block of the accumulators. -/
def accBlk (A : Vec F S6x256x128 .f32) (p : Fin 6) : Vec F S1x256x128 .f32 := fun j => A (ix3 p (j 1) (j 2))

namespace Ops

variable (o : Ops F)

/-- The number of the tile of queries. -/
def qt : ℕ := (o.i 1).val

/-- The first row of the chunk swept at trip `n`: from the queries' own chunk downwards. -/
def row (n : ℕ) : ℕ := (o.qt - n) * 128

/-- Which keys of trip `n`'s chunk come before each query. -/
def mask (n : ℕ) : IVec S1536x128 1 := k0_pay26 o.v8 (BitVec.ofNat 32 n) (BitVec.ofNat 32 (o.i 1).val)

/-- The scores of trip `n`'s chunk. -/
def z (n : ℕ) : FVec F S1536x128 .f32 :=
  k0_pay27 o.v23 o.v36 o.v49 o.v62 o.v75 o.v88 (tile o.kx (o.row n) 0) (tile o.kx (o.row n) 1) (tile o.kx (o.row n) 2)
    (tile o.kx (o.row n) 3) (tile o.kx (o.row n) 4) (tile o.kx (o.row n) 5)

/-- Their softplus. -/
def sp (n : ℕ) : FVec F S1536x128 .f32 :=
  k0_pay28 o.v23 o.v36 o.v49 o.v62 o.v75 o.v88 (tile o.kx (o.row n) 0) (tile o.kx (o.row n) 1) (tile o.kx (o.row n) 2)
    (tile o.kx (o.row n) 3) (tile o.kx (o.row n) 4) (tile o.kx (o.row n) 5)

/-- What the chunk's keys take off every earlier key's logarithm. -/
def total (n : ℕ) : FVec F S1536x1 .f32 := k0_pay32 o.v10 (o.mask n) (o.sp n) k0_pay29

/-- The chunk's weights, the later chunks having taken `later`. -/
def weights (n : ℕ) (later : FVec F S1536x1 .f32) : FVec F S1536x128 .bf16 :=
  k0_pay33 o.v10 later (o.mask n) (o.z n) (o.sp n) k0_pay29

/-- Pair `p`'s accumulators after trip `n`. -/
def accStep (n : ℕ) (A : Vec F S6x256x128 .f32) (later : FVec F S1536x1 .f32) : Fin 6 → FVec F S1x256x128 .f32
  | 0 => k0_pay34 o.v10 later (o.mask n) (o.z n) (o.sp n) k0_pay29 (accBlk A 0) (tile o.vx (o.row n) 0)
  | 1 => k0_pay37 (k0_pay35 (accBlk A 1)) (k0_pay36 o.v10 later (o.mask n) (o.z n) (o.sp n) k0_pay29 (tile o.vx (o.row n) 1))
  | 2 => k0_pay38 (o.weights n later) (accBlk A 2) (tile o.vx (o.row n) 2)
  | 3 => k0_pay39 (o.weights n later) (accBlk A 3) (tile o.vx (o.row n) 3)
  | 4 => k0_pay1 (k0_pay40 (accBlk A 4)) (k0_pay41 (o.weights n later) (tile o.vx (o.row n) 4))
  | 5 => k0_pay2 (o.weights n later) (accBlk A 5) (tile o.vx (o.row n) 5)

/-- All the accumulators after trip `n`. -/
def accNext (n : ℕ) (A : Vec F S6x256x128 .f32) (later : FVec F S1536x1 .f32) : Vec F S6x256x128 .f32 := fun y =>
  o.accStep n A later (y 0) (ix3 0 (y 1) (y 2))

/-- Whether a further trip is worth while after trip `n`, as the kernel's word. -/
def liveNext (n : ℕ) (later : FVec F S1536x1 .f32) : BitVec 32 :=
  Scalar.extui (Scalar.cmpf .ogt (k0_pay4 later (o.total n)) (Named.named κ "underflow" 0xC2D00000#32))

/-- What the chunks so far have taken off, after trip `n`. -/
def laterNext (n : ℕ) (later : FVec F S1536x1 .f32) : FVec F S1536x1 .f32 := k0_pay3 later (o.total n)

end Ops

/-- What the loop carries: the accumulators, the word that says whether to go on, and what the chunks swept have taken. -/
structure St (F : FTy → Type) where
  A : Vec F S6x256x128 .f32
  live : BitVec 32
  later : FVec F S1536x1 .f32

namespace Ops

variable (o : Ops F)

/-- One trip. -/
def next (n : ℕ) (s : St F) : St F := ⟨o.accNext n s.A s.later, o.liveNext n s.later, o.laterNext n s.later⟩

/-- The loop's condition, as the kernel's word. -/
def cond (n : ℕ) (s : St F) : BitVec 1 :=
  Scalar.andi (Scalar.cmpi .sle (BitVec.ofNat 32 n) (BitVec.ofNat 32 (o.i 1).val)) (Scalar.cmpi .sgt s.live 0#32)

/-- The state the loop ends in, from trip `n` with at most `f` trips to go. -/
def loop : ℕ → ℕ → St F → ℕ × St F
  | 0, n, s => (n, s)
  | f + 1, n, s => if o.cond n s = 1#1 then loop f (n + 1) (o.next n s) else (n, s)

end Ops

end Cert.KernelIdeal.Sb

end
-- ==== Proof.KernelIdeal.Trip.lean ====
module

public import proofs.«01_k».proof.Proof.KernelIdeal.Model
public import Idealize.ShloMosaic.Lib.WritesUnit
public import Idealize.ShloMosaic.Lib.WholeRead

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx (ix2 ix3)

local notation "𝕄" => MT nD τ sig Unit (Elt F) ℕ (UR sig nD τ) ℕ

/-- The row offset of a chunk, computed in words, is the row offset computed in numbers. -/
theorem row_toNat (i : grid0.Coords) (n : ℕ) (h : n ≤ (i 1).val) :
    (k0_mult1 i (BitVec.ofNat 32 n)).toNat = ((i 1).val - n) * 128 := by
  have hi : (i 1).val < 32 := (i 1).isLt
  unfold k0_mult1
  simp only [Scalar.subi, Scalar.muli, IntOp.subi, IntOp.muli, BitVec.toNat_mul, BitVec.toNat_sub, BitVec.toNat_ofNat]
  omega

/-- The side conditions of a trip hold while the chunk is one of the sequence's. -/
theorem chk (i : grid0.Coords) (n : ℕ) (h : n ≤ (i 1).val) : k0_chk1 i (BitVec.ofNat 32 n) := by
  have hi : (i 1).val < 32 := (i 1).isLt
  have hr := row_toNat i n h
  have h2 : ∀ c : ℕ, c + 128 ≤ 768 → ∀ a : Fin 2,
      (![(k0_mult1 i (BitVec.ofNat 32 n)).toNat, c] : Fin 2 → ℕ) a + S128x128.size a ≤ S4096x768.size a := by
    intro c hc a
    rw [hr]
    match a with
    | ⟨0, _⟩ => show ((i 1).val - n) * 128 + 128 ≤ 4096; omega
    | ⟨1, _⟩ => show c + 128 ≤ 768; exact hc
  refine ⟨by rw [hr]; exact Dvd.intro_left _ rfl, ?_, ?_, ?_, ?_, ?_, ?_⟩
  · exact h2 0 (by decide)
  · exact h2 128 (by decide)
  · exact h2 256 (by decide)
  · exact h2 384 (by decide)
  · exact h2 512 (by decide)
  · exact h2 640 (by decide)

/-- What a load of a tile reads of a whole operand. -/
theorem read_tile (M : Memref sig .tc .vmem S4096x768 .bf16) (hM : M.IsWhole) (x : Vec F S4096x768 .bf16) (off : Fin 2 → ℕ)
    (hin : ∀ a, off a + S128x128.size a ≤ S4096x768.size a) (r p : ℕ) (h0 : off 0 = r) (h1 : off 1 = p * 128) :
    View.readAt (Elt F) M.view (Rect.unit (s := S4096x768) off S128x128.size hin).toLoadRect (hM.unread x) = tile x r p := by
  subst h0
  have hr : off 0 + 128 ≤ 4096 := hin 0
  have hp : off 1 + 128 ≤ 768 := hin 1
  funext j
  have hj0 : (j 0).val < 128 := (j 0).isLt
  have hj1 : (j 1).val < 128 := (j 1).isLt
  rw [Memref.IsWhole.readAt_unread]
  unfold tile
  congr 1
  funext a
  match a with
  | ⟨0, _⟩ => apply Fin.ext; show off 0 + 1 * (j 0).val = (off 0 + (j 0).val) % 4096; rw [Nat.mod_eq_of_lt (by omega), Nat.one_mul]
  | ⟨1, _⟩ => apply Fin.ext; show off 1 + 1 * (j 1).val = (p * 128 + (j 1).val) % 768; rw [Nat.mod_eq_of_lt (by omega), Nat.one_mul, h1]

/-- What a load of a pair's block reads of the accumulators. -/
theorem read_accBlk (M : Memref sig .tc .vmem S6x256x128 .f32) (hM : M.IsWhole) (A : Vec F S6x256x128 .f32) (p : Fin 6)
    (hin : ∀ a, (![p.val, 0, 0] : Fin 3 → ℕ) a + S1x256x128.size a ≤ S6x256x128.size a) :
    View.readAt (Elt F) M.view (Rect.unit (s := S6x256x128) ![p.val, 0, 0] S1x256x128.size hin).toLoadRect (hM.unread A) = accBlk A p := by
  funext j
  have hj0 : (j 0).val = 0 := Nat.lt_one_iff.mp (j 0).isLt
  rw [Memref.IsWhole.readAt_unread]
  unfold accBlk
  congr 1
  funext a
  match a with
  | ⟨0, _⟩ => apply Fin.ext; show p.val + 1 * (j 0).val = p.val; omega
  | ⟨1, _⟩ => apply Fin.ext; show 0 + 1 * (j 1).val = (j 1).val; omega
  | ⟨2, _⟩ => apply Fin.ext; show 0 + 1 * (j 2).val = (j 2).val; omega

/-- Six stores, one per pair, leave the accumulators at what was stored. -/
theorem read_stores (M : Memref sig .tc .vmem S6x256x128 .f32) (f : M.view.ty.Contents (Elt F)) (w : Fin 6 → FVec F S1x256x128 .f32) :
    View.read (Elt F) M.view (M.view.writes (Elt F) f
      [⟨Rect.unit (s := S6x256x128) ![5, 0, 0] S1x256x128.size inb_S6x256x128_S1x256x128_5_0_0, w 5⟩,
       ⟨Rect.unit (s := S6x256x128) ![4, 0, 0] S1x256x128.size inb_S6x256x128_S1x256x128_4_0_0, w 4⟩,
       ⟨Rect.unit (s := S6x256x128) ![3, 0, 0] S1x256x128.size inb_S6x256x128_S1x256x128_3_0_0, w 3⟩,
       ⟨Rect.unit (s := S6x256x128) ![2, 0, 0] S1x256x128.size inb_S6x256x128_S1x256x128_2_0_0, w 2⟩,
       ⟨Rect.unit (s := S6x256x128) ![1, 0, 0] S1x256x128.size inb_S6x256x128_S1x256x128_1_0_0, w 1⟩,
       ⟨Rect.unit (s := S6x256x128) ![0, 0, 0] S1x256x128.size inb_S6x256x128_S1x256x128_0_0_0, w 0⟩])
      = fun y => w (y 0) (ix3 0 (y 1) (y 2)) := by
  funext y
  obtain ⟨y0, y1, y2, rfl⟩ : ∃ a b c, y = ix3 (n0 := 6) (n1 := 256) (n2 := 128) a b c := ⟨_, _, _, ValueIdx.eq_ix3 y⟩
  have hit : ∀ (p : ℕ) (hp : y0.val = p) (inb : ∀ a, (![p, 0, 0] : Fin 3 → ℕ) a + S1x256x128.size a ≤ S6x256x128.size a)
      (v : FVec F S1x256x128 .f32) (L : List (View.Piece (Elt F) S6x256x128 .f32)),
      View.read (Elt F) M.view (M.view.writes (Elt F) f
        ((⟨Rect.unit (s := S6x256x128) ![p, 0, 0] S1x256x128.size inb, v⟩ : View.Piece (Elt F) S6x256x128 .f32) :: L)) (ix3 y0 y1 y2)
        = v (ix3 0 y1 y2) := by
    intro p hp inb v L
    refine View.read_writes_cons_unit_of_mem M.view f inb v L (ix3 y0 y1 y2) (ix3 0 y1 y2) rfl fun a => ?_
    match a with
    | ⟨0, _⟩ => show y0.val = p + 0; omega
    | ⟨1, _⟩ => show y1.val = 0 + y1.val; omega
    | ⟨2, _⟩ => show y2.val = 0 + y2.val; omega
  have miss : ∀ (p : ℕ) (hp : y0.val ≠ p) (inb : ∀ a, (![p, 0, 0] : Fin 3 → ℕ) a + S1x256x128.size a ≤ S6x256x128.size a)
      (v : FVec F S1x256x128 .f32) (L : List (View.Piece (Elt F) S6x256x128 .f32)),
      View.read (Elt F) M.view (M.view.writes (Elt F) f
        ((⟨Rect.unit (s := S6x256x128) ![p, 0, 0] S1x256x128.size inb, v⟩ : View.Piece (Elt F) S6x256x128 .f32) :: L)) (ix3 y0 y1 y2)
        = View.read (Elt F) M.view (M.view.writes (Elt F) f L) (ix3 y0 y1 y2) := by
    intro p hp inb v L
    refine View.read_writes_cons_unit_of_not_mem M.view f inb v L (ix3 y0 y1 y2) rfl 0 ?_
    show y0.val < p ∨ p + 1 ≤ y0.val
    omega
  match y0, hit, miss with
  | ⟨0, _⟩, hit, miss =>
    rw [miss 5 (show (0 : ℕ) ≠ 5 by decide), miss 4 (show (0 : ℕ) ≠ 4 by decide), miss 3 (show (0 : ℕ) ≠ 3 by decide), miss 2 (show (0 : ℕ) ≠ 2 by decide), miss 1 (show (0 : ℕ) ≠ 1 by decide), hit 0 rfl]; rfl
  | ⟨1, _⟩, hit, miss => rw [miss 5 (show (1 : ℕ) ≠ 5 by decide), miss 4 (show (1 : ℕ) ≠ 4 by decide), miss 3 (show (1 : ℕ) ≠ 3 by decide), miss 2 (show (1 : ℕ) ≠ 2 by decide), hit 1 rfl]; rfl
  | ⟨2, _⟩, hit, miss => rw [miss 5 (show (2 : ℕ) ≠ 5 by decide), miss 4 (show (2 : ℕ) ≠ 4 by decide), miss 3 (show (2 : ℕ) ≠ 3 by decide), hit 2 rfl]; rfl
  | ⟨3, _⟩, hit, miss => rw [miss 5 (show (3 : ℕ) ≠ 5 by decide), miss 4 (show (3 : ℕ) ≠ 4 by decide), hit 3 rfl]; rfl
  | ⟨4, _⟩, hit, miss => rw [miss 5 (show (4 : ℕ) ≠ 5 by decide), hit 4 rfl]; rfl
  | ⟨5, _⟩, hit, miss => rw [hit 5 rfl]; rfl

set_option maxHeartbeats 2000000 in
/-- One trip of the loop: while its condition holds, the keys' and the values' chunk read and the accumulators at `s.A`,
    the body runs to the loop's next call with the accumulators, the word and the sums of the next state. -/
theorem trip (c : Dev nD) (o : Ops F) (arg3 : Memref sig .tc .vmem S4096x768 .bf16) (harg3 : arg3.IsWhole) (arg7 : Memref sig .tc .vmem S6x256x128 .f32) (harg7 : arg7.IsWhole) (arg4 : Memref sig .tc .vmem S4096x768 .bf16) (harg4 : arg4.IsWhole)
    (n : ℕ) (s : St F) (hn : n ≤ (o.i 1).val) (hc : o.cond n s = 1#1)
    (𝒱 : Variants) (v : Option 𝒱.V) (E : Set ℕ) (K : BitVec 32 × BitVec 32 × FVec F S1536x1 .f32 → sProp 𝕄) :
    iprop(owns (c : Thread nD τ) arg3 fullShare o.kx ∗ owns (c : Thread nD τ) arg4 fullShare o.vx ∗ owns (c : Thread nD τ) arg7 fullShare s.A
        ∗ (iprop(owns (c : Thread nD τ) arg3 fullShare o.kx ∗ owns (c : Thread nD τ) arg4 fullShare o.vx
            ∗ owns (c : Thread nD τ) arg7 fullShare (o.next n s).A)
          -∗ wp frame (wpE (defs₀ (F := F)) 𝒱 c v) E
              (Prog.op (.call (1 : (Λ₀ F).Label) ⟨o.i, o.v8, arg3, harg3, o.v23, o.v36, o.v49, o.v62, o.v75, o.v88, o.v10, arg7, harg7, arg4, harg4,
                BitVec.ofNat 32 (n + 1), (o.next n s).live, (o.next n s).later⟩) Prog.ret) K))
      ⊢ wp frame (wpE (defs₀ (F := F)) 𝒱 c v) E
          (cc0_while1 o.i o.v8 arg3 harg3 o.v23 o.v36 o.v49 o.v62 o.v75 o.v88 o.v10 arg7 harg7 arg4 harg4 (BitVec.ofNat 32 n) s.live s.later) K := by
  obtain ⟨i, v8, v23, v36, v49, v62, v75, v88, v10, x1, x2⟩ := o
  obtain ⟨A, arg9, arg10⟩ := s
  dsimp only at hn
  have hk := chk i n hn
  have hr := row_toNat i n hn
  unfold Ops.cond at hc
  simp only [cc0_while1_eq_skeleton]; unfold cc0_while1_skel
  simp only [k0_part5_eq_skeleton, k0_part6_eq_skeleton, k0_part7_eq_skeleton]
  simp only [hc, if_true]
  unfold owns
  iintro ⟨⟨%f1, %hf1, H1⟩, ⟨%f2, %hf2, H2⟩, ⟨%fs0, %hfs, HS0⟩, Hk⟩
  obtain rfl := harg3.eq_unread hf1; obtain rfl := harg4.eq_unread hf2; obtain rfl := harg7.eq_unread hfs
  sl_exec
  have e1 := read_tile arg3 harg3 x1 (k0_off1 i (BitVec.ofNat 32 n)) (hk.2.1) _ 0 hr rfl
  have e2 := read_tile arg3 harg3 x1 (k0_off2 i (BitVec.ofNat 32 n)) (hk.2.2.1) _ 1 hr rfl
  have e3 := read_tile arg3 harg3 x1 (k0_off3 i (BitVec.ofNat 32 n)) (hk.2.2.2.1) _ 2 hr rfl
  have e4 := read_tile arg3 harg3 x1 (k0_off4 i (BitVec.ofNat 32 n)) (hk.2.2.2.2.1) _ 3 hr rfl
  have e5 := read_tile arg3 harg3 x1 (k0_off5 i (BitVec.ofNat 32 n)) (hk.2.2.2.2.2.1) _ 4 hr rfl
  have e6 := read_tile arg3 harg3 x1 (k0_off6 i (BitVec.ofNat 32 n)) (hk.2.2.2.2.2.2) _ 5 hr rfl
  have d1 := read_tile arg4 harg4 x2 (k0_off1 i (BitVec.ofNat 32 n)) (hk.2.1) _ 0 hr rfl
  have d2 := read_tile arg4 harg4 x2 (k0_off2 i (BitVec.ofNat 32 n)) (hk.2.2.1) _ 1 hr rfl
  have d3 := read_tile arg4 harg4 x2 (k0_off3 i (BitVec.ofNat 32 n)) (hk.2.2.2.1) _ 2 hr rfl
  have d4 := read_tile arg4 harg4 x2 (k0_off4 i (BitVec.ofNat 32 n)) (hk.2.2.2.2.1) _ 3 hr rfl
  have d5 := read_tile arg4 harg4 x2 (k0_off5 i (BitVec.ofNat 32 n)) (hk.2.2.2.2.2.1) _ 4 hr rfl
  have d6 := read_tile arg4 harg4 x2 (k0_off6 i (BitVec.ofNat 32 n)) (hk.2.2.2.2.2.2) _ 5 hr rfl
  have b0 : View.readAt (Elt F) arg7.view (Rect.unit (s := S6x256x128) ![0, 0, 0] S1x256x128.size inb_S6x256x128_S1x256x128_0_0_0).toLoadRect (harg7.unread A) = accBlk A 0 :=
    read_accBlk arg7 harg7 A 0 inb_S6x256x128_S1x256x128_0_0_0
  have b1 : View.readAt (Elt F) arg7.view (Rect.unit (s := S6x256x128) ![1, 0, 0] S1x256x128.size inb_S6x256x128_S1x256x128_1_0_0).toLoadRect (harg7.unread A) = accBlk A 1 :=
    read_accBlk arg7 harg7 A 1 inb_S6x256x128_S1x256x128_1_0_0
  have b2 : View.readAt (Elt F) arg7.view (Rect.unit (s := S6x256x128) ![2, 0, 0] S1x256x128.size inb_S6x256x128_S1x256x128_2_0_0).toLoadRect (harg7.unread A) = accBlk A 2 :=
    read_accBlk arg7 harg7 A 2 inb_S6x256x128_S1x256x128_2_0_0
  have b3 : View.readAt (Elt F) arg7.view (Rect.unit (s := S6x256x128) ![3, 0, 0] S1x256x128.size inb_S6x256x128_S1x256x128_3_0_0).toLoadRect (harg7.unread A) = accBlk A 3 :=
    read_accBlk arg7 harg7 A 3 inb_S6x256x128_S1x256x128_3_0_0
  have b4 : View.readAt (Elt F) arg7.view (Rect.unit (s := S6x256x128) ![4, 0, 0] S1x256x128.size inb_S6x256x128_S1x256x128_4_0_0).toLoadRect (harg7.unread A) = accBlk A 4 :=
    read_accBlk arg7 harg7 A 4 inb_S6x256x128_S1x256x128_4_0_0
  have b5 : View.readAt (Elt F) arg7.view (Rect.unit (s := S6x256x128) ![5, 0, 0] S1x256x128.size inb_S6x256x128_S1x256x128_5_0_0).toLoadRect (harg7.unread A) = accBlk A 5 :=
    read_accBlk arg7 harg7 A 5 inb_S6x256x128_S1x256x128_5_0_0
  have hs : Scalar.addi (BitVec.ofNat 32 n) 1#32 = BitVec.ofNat 32 (n + 1) := BitVec.ofNat_add_ofNat n 1
  rw [hs]
  unfold trip.sl.r_8 trip.sl.r_7 trip.sl.r_6 trip.sl.r_5 trip.sl.r_4 trip.sl.r_3 trip.sl.v264 trip.sl.v242 trip.sl.v231 trip.sl.v220 trip.sl.v253
  unfold trip.sl.r trip.sl.r_1 trip.sl.r_2
  rw [e1, e2, e3, e4, e5, e6, d1, d2, d3, d4, d5, d6]
  iapply Hk
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  refine Eq.trans ?_ (read_stores arg7 (harg7.unread A) (Ops.accStep ⟨i, v8, v23, v36, v49, v62, v75, v88, v10, x1, x2⟩ n A arg10))
  rw [b0, b1, b2, b3, b4, b5]
  unfold Ops.accStep Ops.weights Ops.mask Ops.z Ops.sp Ops.row Ops.qt
  dsimp only

/-- The loop: called at trip `n` with at most `f` trips to go (`n + f` one more than the number of the tile), it returns the
    state `Ops.loop` ends in, the accumulators with it. By induction on `f`, each call below the one before. -/
theorem loop_spec (c : Dev nD) (o : Ops F) (arg3 : Memref sig .tc .vmem S4096x768 .bf16) (harg3 : arg3.IsWhole) (arg7 : Memref sig .tc .vmem S6x256x128 .f32) (harg7 : arg7.IsWhole) (arg4 : Memref sig .tc .vmem S4096x768 .bf16) (harg4 : arg4.IsWhole)
    (E : Set ℕ) (f : ℕ) : ∀ (n : ℕ) (s : St F), n + f = (o.i 1).val + 1 →
    ∀ K : BitVec 32 × BitVec 32 × FVec F S1536x1 .f32 → sProp 𝕄,
    iprop(owns (c : Thread nD τ) arg3 fullShare o.kx ∗ owns (c : Thread nD τ) arg4 fullShare o.vx ∗ owns (c : Thread nD τ) arg7 fullShare s.A
        ∗ (iprop(owns (c : Thread nD τ) arg3 fullShare o.kx ∗ owns (c : Thread nD τ) arg4 fullShare o.vx
            ∗ owns (c : Thread nD τ) arg7 fullShare (o.loop f n s).2.A)
          -∗ K (BitVec.ofNat 32 (o.loop f n s).1, (o.loop f n s).2.live, (o.loop f n s).2.later)))
      ⊢ wp frame (wpE (defs₀ (F := F)) Variants.nat c (some f)) E
          (cc0_while1 o.i o.v8 arg3 harg3 o.v23 o.v36 o.v49 o.v62 o.v75 o.v88 o.v10 arg7 harg7 arg4 harg4 (BitVec.ofNat 32 n) s.live s.later) K := by
  have stop : ∀ (n : ℕ) (s : St F) (hc : ¬ o.cond n s = 1#1) (v : Option ℕ) (K : BitVec 32 × BitVec 32 × FVec F S1536x1 .f32 → sProp 𝕄),
      K (BitVec.ofNat 32 n, s.live, s.later)
      ⊢ wp frame (wpE (defs₀ (F := F)) Variants.nat c v) E
          (cc0_while1 o.i o.v8 arg3 harg3 o.v23 o.v36 o.v49 o.v62 o.v75 o.v88 o.v10 arg7 harg7 arg4 harg4 (BitVec.ofNat 32 n) s.live s.later) K := by
    intro n s hc v K
    unfold Ops.cond at hc
    simp only [cc0_while1_eq_skeleton]; unfold cc0_while1_skel
    simp only [hc, if_false]
    exact le_wp_ret _ _ _ _ K
  induction f with
  | zero =>
    intro n s hn K
    have hi : (o.i 1).val < 32 := (o.i 1).isLt
    have hc : ¬ o.cond n s = 1#1 := by
      unfold Ops.cond
      have e : Scalar.cmpi .sle (BitVec.ofNat 32 n) (BitVec.ofNat 32 (o.i 1).val) = 0#1 := by
        obtain rfl : n = (o.i 1).val + 1 := by omega
        generalize (o.i 1).val = q at hi
        interval_cases q <;> rfl
      rw [e]
      show ¬ (0#1 &&& _) = 1#1
      rw [BitVec.zero_and]
      decide
    unfold Ops.loop
    iintro ⟨H1, H2, HS, Hk⟩
    iapply (stop n s hc _ K)
    iapply Hk
    isplitl [H1]; · iexact H1
    isplitl [H2]; · iexact H2
    iexact HS
  | succ f ih =>
    intro n s hn K
    by_cases hc : o.cond n s = 1#1
    · have e : o.loop (f + 1) n s = o.loop f (n + 1) (o.next n s) := by
        rw [Ops.loop, if_pos hc]
      rw [e]
      iintro ⟨H1, H2, HS, Hk⟩
      iapply (trip c o arg3 harg3 arg7 harg7 arg4 harg4 n s (by omega) hc Variants.nat (some (f + 1)) E K)
      isplitl [H1]; · iexact H1
      isplitl [H2]; · iexact H2
      isplitl [HS]; · iexact HS
      iintro ⟨H1, H2, HS⟩
      iapply (wp_call Variants.nat (c : Thread nD τ) (some (f + 1)) E f (fun u hu => by cases hu; exact Nat.lt_succ_self f))
      iapply (ih (n + 1) (o.next n s) (by omega))
      isplitl [H1]; · iexact H1
      isplitl [H2]; · iexact H2
      isplitl [HS]; · iexact HS
      iintro ⟨H1, H2, HS⟩
      rw [wp_ret]
      imodintro
      iapply Hk
      isplitl [H1]; · iexact H1
      isplitl [H2]; · iexact H2
      iexact HS
    · have e : o.loop (f + 1) n s = (n, s) := by
        rw [Ops.loop, if_neg hc]
      rw [e]
      iintro ⟨H1, H2, HS, Hk⟩
      iapply (stop n s hc _ K)
      iapply Hk
      isplitl [H1]; · iexact H1
      isplitl [H2]; · iexact H2
      iexact HS

end Cert.KernelIdeal.Sb

end
-- ==== Proof.KernelIdeal.Body.lean ====
module

public import proofs.«01_k».proof.Proof.KernelIdeal.Trip
public import Idealize.ShloMosaic.Lib.VecWindow

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx (ix2 ix3)

local notation "𝕄" => MT nD τ sig Unit (Elt F) ℕ (UR sig nD τ) ℕ

/-- The 128 lanes of pair `p` of a tile of queries. -/
def qtile (x : Vec F S128x768 .f32) (p : ℕ) : Vec F S128x128 .f32 := fun j =>
  x (ix2 (j 0) ⟨(p * 128 + (j 1).val) % 768, Nat.mod_lt _ (by decide)⟩)

/-- The rows of one head of pair `p`'s accumulators, from row `r`. -/
def half (A : Vec F S6x256x128 .f32) (p : Fin 6) (r : ℕ) : Vec F S1x128x128 .f32 := fun j =>
  A (ix3 p ⟨(r + (j 1).val) % 256, Nat.mod_lt _ (by decide)⟩ (j 2))

/-- What the loop is entered with, from the blocks of the queries, the keys, the values and the table. -/
def bodyOps (i : grid0.Coords) (x0 : Vec F S128x768 .f32) (x1 x2 : Vec F S4096x768 .bf16) (x3 : Vec F S128x128 .bf16) : Ops F where
  i := i
  v8 := k0_pay6 i
  v23 := k0_pay8 (qtile x0 0)
  v36 := k0_pay9 (qtile x0 1)
  v49 := k0_pay11 k0_pay5 (k0_pay10 (qtile x0 2))
  v62 := k0_pay12 k0_pay5 (qtile x0 3)
  v75 := k0_pay13 k0_pay5 (qtile x0 4)
  v88 := k0_pay16 k0_pay5 (k0_pay14 (qtile x0 5)) (k0_pay15 k0_pay5 (qtile x0 5)) (Scalar.ofBits .f32 0x00000000#32)
  v10 := k0_pay7 x3
  kx := x1
  vx := x2

/-- The state the loop is entered in: nothing accumulated, nothing taken. -/
def start : St F := ⟨k0_pay17, 1#32, k0_pay18⟩

/-- The accumulators the loop leaves. -/
def bodyAcc (i : grid0.Coords) (x0 : Vec F S128x768 .f32) (x1 x2 : Vec F S4096x768 .bf16) (x3 : Vec F S128x128 .bf16) : Vec F S6x256x128 .f32 :=
  ((bodyOps i x0 x1 x2 x3).loop ((i 1).val + 1) 0 start).2.A

/-- What is stored of pair `p`: its low lanes from the one head, its high lanes from the other. -/
def outTile (A : Vec F S6x256x128 .f32) : Fin 6 → FVec F S128x128 .f32
  | 0 => k0_pay19 k0_pay5 (half A 0 0) (half A 0 128)
  | 1 => k0_pay20 k0_pay5 (half A 1 0) (half A 1 128)
  | 2 => k0_pay22 k0_pay5 (k0_pay21 (half A 2 0)) (half A 2 128)
  | 3 => k0_pay23 k0_pay5 (half A 3 0) (half A 3 128)
  | 4 => k0_pay24 k0_pay5 (half A 4 0) (half A 4 128)
  | 5 => k0_pay25 k0_pay5 (half A 5 0) (half A 5 128)

/-- The whole tile of results. -/
def bodyOut (A : Vec F S6x256x128 .f32) : Vec F S128x768 .f32 := fun y =>
  outTile A ⟨(y 1).val / 128, Nat.div_lt_of_lt_mul (y 1).isLt⟩ (ix2 (y 0) ⟨(y 1).val % 128, Nat.mod_lt _ (by decide)⟩)

/-- What a load of a pair's queries reads. -/
theorem read_qtile (M : Memref sig .tc .vmem S128x768 .f32) (hM : M.IsWhole) (x : Vec F S128x768 .f32) (off p : ℕ)
    (hin : ∀ a, (![0, off] : Fin 2 → ℕ) a + S128x128.size a ≤ S128x768.size a) (h : off = p * 128) :
    View.readAt (Elt F) M.view (Rect.unit (s := S128x768) ![0, off] S128x128.size hin).toLoadRect (hM.unread x) = qtile x p := by
  have hp : off + 128 ≤ 768 := hin 1
  funext j
  have hj1 : (j 1).val < 128 := (j 1).isLt
  rw [Memref.IsWhole.readAt_unread]
  unfold qtile
  congr 1
  funext a
  match a with
  | ⟨0, _⟩ => apply Fin.ext; show 0 + 1 * (j 0).val = (j 0).val; omega
  | ⟨1, _⟩ => apply Fin.ext; show off + 1 * (j 1).val = (p * 128 + (j 1).val) % 768; omega

/-- What a load of one head's accumulators reads. -/
theorem read_half (M : Memref sig .tc .vmem S6x256x128 .f32) (hM : M.IsWhole) (A : Vec F S6x256x128 .f32) (p : Fin 6) (r : ℕ)
    (hin : ∀ a, (![p.val, r, 0] : Fin 3 → ℕ) a + S1x128x128.size a ≤ S6x256x128.size a) :
    View.readAt (Elt F) M.view (Rect.unit (s := S6x256x128) ![p.val, r, 0] S1x128x128.size hin).toLoadRect (hM.unread A) = half A p r := by
  have hr : r + 128 ≤ 256 := hin 1
  funext j
  have hj0 : (j 0).val = 0 := Nat.lt_one_iff.mp (j 0).isLt
  have hj1 : (j 1).val < 128 := (j 1).isLt
  rw [Memref.IsWhole.readAt_unread]
  unfold half
  congr 1
  funext a
  match a with
  | ⟨0, _⟩ => apply Fin.ext; show p.val + 1 * (j 0).val = p.val; omega
  | ⟨1, _⟩ => apply Fin.ext; show r + 1 * (j 1).val = (r + (j 1).val) % 256; omega
  | ⟨2, _⟩ => apply Fin.ext; show 0 + 1 * (j 2).val = (j 2).val; omega

/-- What a load of the whole table reads. -/
theorem read_tri (M : Memref sig .tc .vmem S128x128 .bf16) (hM : M.IsWhole) (x : Vec F S128x128 .bf16)
    (hin : ∀ a, (![0, 0] : Fin 2 → ℕ) a + S128x128.size a ≤ S128x128.size a) :
    View.readAt (Elt F) M.view (Rect.unit (s := S128x128) ![0, 0] S128x128.size hin).toLoadRect (hM.unread x) = x := by
  funext j
  rw [Memref.IsWhole.readAt_unread]
  congr 1
  funext a
  match a with
  | ⟨0, _⟩ => apply Fin.ext; show 0 + 1 * (j 0).val = (j 0).val; omega
  | ⟨1, _⟩ => apply Fin.ext; show 0 + 1 * (j 1).val = (j 1).val; omega

/-- Six stores, one per pair of heads, leave the output's tile at what was stored. -/
theorem read_out (M : Memref sig .tc .vmem S128x768 .f32) (f : M.view.ty.Contents (Elt F)) (w : Fin 6 → FVec F S128x128 .f32) :
    View.read (Elt F) M.view (M.view.writes (Elt F) f
      [⟨Rect.unit (s := S128x768) ![0, 640] S128x128.size inb_S128x768_S128x128_0_640, w 5⟩,
       ⟨Rect.unit (s := S128x768) ![0, 512] S128x128.size inb_S128x768_S128x128_0_512, w 4⟩,
       ⟨Rect.unit (s := S128x768) ![0, 384] S128x128.size inb_S128x768_S128x128_0_384, w 3⟩,
       ⟨Rect.unit (s := S128x768) ![0, 256] S128x128.size inb_S128x768_S128x128_0_256, w 2⟩,
       ⟨Rect.unit (s := S128x768) ![0, 128] S128x128.size inb_S128x768_S128x128_0_128, w 1⟩,
       ⟨Rect.unit (s := S128x768) ![0, 0] S128x128.size inb_S128x768_S128x128_0_0, w 0⟩])
      = fun y => w ⟨(y 1).val / 128, Nat.div_lt_of_lt_mul (y 1).isLt⟩ (ix2 (y 0) ⟨(y 1).val % 128, Nat.mod_lt _ (by decide)⟩) := by
  funext y
  have hy : (y 1).val < 768 := (y 1).isLt
  have hit : ∀ (p : ℕ) (q : Fin 6) (hq : q.val * 128 = p) (hp : (y 1).val / 128 = q.val) (inb : ∀ a, (![0, p] : Fin 2 → ℕ) a + S128x128.size a ≤ S128x768.size a)
      (L : List (View.Piece (Elt F) S128x768 .f32)),
      View.read (Elt F) M.view (M.view.writes (Elt F) f
        ((⟨Rect.unit (s := S128x768) ![0, p] S128x128.size inb, w q⟩ : View.Piece (Elt F) S128x768 .f32) :: L)) y
        = w ⟨(y 1).val / 128, Nat.div_lt_of_lt_mul (y 1).isLt⟩ (ix2 (y 0) ⟨(y 1).val % 128, Nat.mod_lt _ (by decide)⟩) := by
    intro p q hq hp inb L
    have e : q = ⟨(y 1).val / 128, Nat.div_lt_of_lt_mul (y 1).isLt⟩ := Fin.ext hp.symm
    rw [← e]
    refine View.read_writes_cons_unit_of_mem M.view f inb (w q) L y (ix2 (y 0) ⟨(y 1).val % 128, Nat.mod_lt _ (by decide)⟩) rfl fun a => ?_
    match a with
    | ⟨0, _⟩ => show (y 0).val = 0 + (y 0).val; omega
    | ⟨1, _⟩ => show (y 1).val = p + (y 1).val % 128; omega
  have miss : ∀ (p : ℕ) (hp : (y 1).val < p ∨ p + 128 ≤ (y 1).val) (inb : ∀ a, (![0, p] : Fin 2 → ℕ) a + S128x128.size a ≤ S128x768.size a)
      (v : FVec F S128x128 .f32) (L : List (View.Piece (Elt F) S128x768 .f32)),
      View.read (Elt F) M.view (M.view.writes (Elt F) f
        ((⟨Rect.unit (s := S128x768) ![0, p] S128x128.size inb, v⟩ : View.Piece (Elt F) S128x768 .f32) :: L)) y
        = View.read (Elt F) M.view (M.view.writes (Elt F) f L) y := by
    intro p hp inb v L
    exact View.read_writes_cons_unit_of_not_mem M.view f inb v L y rfl 1 hp
  have h6 : (y 1).val / 128 = 0 ∨ (y 1).val / 128 = 1 ∨ (y 1).val / 128 = 2 ∨ (y 1).val / 128 = 3 ∨ (y 1).val / 128 = 4 ∨ (y 1).val / 128 = 5 := by omega
  rcases h6 with h | h | h | h | h | h
  · rw [miss 640 (by omega), miss 512 (by omega), miss 384 (by omega), miss 256 (by omega), miss 128 (by omega), hit 0 0 rfl h]
  · rw [miss 640 (by omega), miss 512 (by omega), miss 384 (by omega), miss 256 (by omega), hit 128 1 rfl h]
  · rw [miss 640 (by omega), miss 512 (by omega), miss 384 (by omega), hit 256 2 rfl h]
  · rw [miss 640 (by omega), miss 512 (by omega), hit 384 3 rfl h]
  · rw [miss 640 (by omega), hit 512 4 rfl h]
  · rw [hit 640 5 rfl h]

set_option maxHeartbeats 4000000 in
/-- The body at any grid point, on whole memrefs: it leaves the inputs as they were and the output's at `bodyOut` of the
    accumulators the loop ends with. -/
theorem body_run (c : Dev nD) (i : grid0.Coords) (arg2 : Memref sig .tc .vmem S128x768 .f32) (harg2 : arg2.IsWhole) (arg3 : Memref sig .tc .vmem S4096x768 .bf16) (harg3 : arg3.IsWhole) (arg4 : Memref sig .tc .vmem S4096x768 .bf16) (harg4 : arg4.IsWhole) (arg5 : Memref sig .tc .vmem S128x128 .bf16) (harg5 : arg5.IsWhole) (arg6 : Memref sig .tc .vmem S128x768 .f32) (harg6 : arg6.IsWhole) (arg7 : Memref sig .tc .vmem S6x256x128 .f32) (harg7 : arg7.IsWhole)
    (x0 : Vec F S128x768 .f32) (x1 : Vec F S4096x768 .bf16) (x2 : Vec F S4096x768 .bf16) (x3 : Vec F S128x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (bodyOut (bodyAcc i x0 x1 x2 x3)) ∗ (∃ d, owns (c : Thread nD τ) arg7 fullShare d)) -∗ K ⟨⟩))
          ⊢ wp frame (wpE (defs₀ (F := F)) Variants.nat c none) E (cc0_sb_attn_prompt i arg2 harg2 arg3 harg3 arg4 harg4 arg5 harg5 arg6 harg6 arg7 harg7) K := by
    simp only [cc0_sb_attn_prompt_eq_skeleton]; unfold cc0_sb_attn_prompt_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec
    unfold body_run.sl.r_4 body_run.sl.r_7 body_run.sl.r_8
    unfold body_run.sl.r body_run.sl.r_1 body_run.sl.r_2 body_run.sl.r_3 body_run.sl.r_5 body_run.sl.r_6 body_run.sl.cst_24
    rw [read_tri arg5 harg5 x3, read_qtile arg2 harg2 x0 0 0 _ rfl, read_qtile arg2 harg2 x0 128 1 _ rfl, read_qtile arg2 harg2 x0 256 2 _ rfl,
      read_qtile arg2 harg2 x0 384 3 _ rfl, read_qtile arg2 harg2 x0 512 4 _ rfl, read_qtile arg2 harg2 x0 640 5 _ rfl]
    iapply (wp_call Variants.nat (c : Thread nD τ) none E ((i 1).val + 1) (fun u hu => by cases hu))
    iapply (loop_spec c (bodyOps i x0 x1 x2 x3) arg3 harg3 arg7 harg7 arg4 harg4 E ((i 1).val + 1) 0 start (Nat.zero_add _) _)
    rw [show ((bodyOps i x0 x1 x2 x3).loop ((i 1).val + 1) 0 start).2.A = bodyAcc i x0 x1 x2 x3 from rfl]
    generalize (bodyOps i x0 x1 x2 x3).loop ((i 1).val + 1) 0 start = R
    generalize bodyAcc i x0 x1 x2 x3 = A
    unfold owns
    isplitl [H1]
    · iexists _; isplitr
      swap; · iexact H1
      ipureintro; exact hf1
    isplitl [H2]
    · iexists _; isplitr
      swap; · iexact H2
      ipureintro; exact hf2
    isplitl [HS0]
    · iexists _; isplitr
      swap; · iexact HS0
      ipureintro; exact View.read_writes_full arg7.view fs0 inb_S6x256x128_S6x256x128_0_0_0 _ []
    iintro ⟨⟨%g1, %hg1, H1⟩, ⟨%g2, %hg2, H2⟩, ⟨%gs, %hgs, HS0⟩⟩
    obtain rfl := harg7.eq_unread hgs
    obtain rfl := harg3.eq_unread hg1
    obtain rfl := harg4.eq_unread hg2
    simp only [k0_part4_eq_skeleton]
    sl_exec
    unfold body_run.sl.r_10 body_run.sl.r_9
    have e0_0 : View.readAt (Elt F) arg7.view (Rect.unit (s := S6x256x128) ![0, 0, 0] ![1, 128, 128] inb_S6x256x128_S1x128x128_0_0_0).toLoadRect (harg7.unread A) = half A 0 0 := read_half arg7 harg7 A 0 0 _
    have e0_128 : View.readAt (Elt F) arg7.view (Rect.unit (s := S6x256x128) ![0, 128, 0] ![1, 128, 128] inb_S6x256x128_S1x128x128_0_128_0).toLoadRect (harg7.unread A) = half A 0 128 := read_half arg7 harg7 A 0 128 _
    have e1_0 : View.readAt (Elt F) arg7.view (Rect.unit (s := S6x256x128) ![1, 0, 0] ![1, 128, 128] inb_S6x256x128_S1x128x128_1_0_0).toLoadRect (harg7.unread A) = half A 1 0 := read_half arg7 harg7 A 1 0 _
    have e1_128 : View.readAt (Elt F) arg7.view (Rect.unit (s := S6x256x128) ![1, 128, 0] ![1, 128, 128] inb_S6x256x128_S1x128x128_1_128_0).toLoadRect (harg7.unread A) = half A 1 128 := read_half arg7 harg7 A 1 128 _
    have e2_0 : View.readAt (Elt F) arg7.view (Rect.unit (s := S6x256x128) ![2, 0, 0] S1x128x128.size inb_S6x256x128_S1x128x128_2_0_0).toLoadRect (harg7.unread A) = half A 2 0 := read_half arg7 harg7 A 2 0 _
    have e2_128 : View.readAt (Elt F) arg7.view (Rect.unit (s := S6x256x128) ![2, 128, 0] S1x128x128.size inb_S6x256x128_S1x128x128_2_128_0).toLoadRect (harg7.unread A) = half A 2 128 := read_half arg7 harg7 A 2 128 _
    have e3_0 : View.readAt (Elt F) arg7.view (Rect.unit (s := S6x256x128) ![3, 0, 0] S1x128x128.size inb_S6x256x128_S1x128x128_3_0_0).toLoadRect (harg7.unread A) = half A 3 0 := read_half arg7 harg7 A 3 0 _
    have e3_128 : View.readAt (Elt F) arg7.view (Rect.unit (s := S6x256x128) ![3, 128, 0] S1x128x128.size inb_S6x256x128_S1x128x128_3_128_0).toLoadRect (harg7.unread A) = half A 3 128 := read_half arg7 harg7 A 3 128 _
    have e4_0 : View.readAt (Elt F) arg7.view (Rect.unit (s := S6x256x128) ![4, 0, 0] S1x128x128.size inb_S6x256x128_S1x128x128_4_0_0).toLoadRect (harg7.unread A) = half A 4 0 := read_half arg7 harg7 A 4 0 _
    have e4_128 : View.readAt (Elt F) arg7.view (Rect.unit (s := S6x256x128) ![4, 128, 0] S1x128x128.size inb_S6x256x128_S1x128x128_4_128_0).toLoadRect (harg7.unread A) = half A 4 128 := read_half arg7 harg7 A 4 128 _
    have e5_0 : View.readAt (Elt F) arg7.view (Rect.unit (s := S6x256x128) ![5, 0, 0] S1x128x128.size inb_S6x256x128_S1x128x128_5_0_0).toLoadRect (harg7.unread A) = half A 5 0 := read_half arg7 harg7 A 5 0 _
    have e5_128 : View.readAt (Elt F) arg7.view (Rect.unit (s := S6x256x128) ![5, 128, 0] S1x128x128.size inb_S6x256x128_S1x128x128_5_128_0).toLoadRect (harg7.unread A) = half A 5 128 := read_half arg7 harg7 A 5 128 _
    rw [e0_0, e0_128, e1_0, e1_128, e2_0, e2_128, e3_0, e3_128, e4_0, e4_128, e5_0, e5_128]
    rw [wp_ret]
    imodintro
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact read_out arg6 f4 (outTile A)
    iexists _; iexists _; isplitr
    swap; · iexact HS0
    ipureintro; rfl

end Cert.KernelIdeal.Sb

end
-- ==== Proof.KernelIdeal.Frame.lean ====
module

public import proofs.«01_k».proof.Proof.KernelIdeal.Body
public import Idealize.ShloMosaic.Lib.Claim

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## What the outputs hold after each point -/

/-- What the output's staging buffer holds after the body at point `t`: the tile of results of the accumulators the loop ends with there. -/
def outsAt0 (c : Dev nD) (t : Fin (cfg0 (F := F)).N) : Vec F S128x768 .f32 :=
  bodyOut (bodyAcc (grid0.coords t) (X0_0 m c t) (iblk m c 1 t) (iblk m c 2 t) (iblk m c 3 t))

/-! ## The pipeline's proof data -/

/-- The proof data of the one pipeline on core `c`: the arrays as the region finds them; after the body at point `t` each input's buffer at its
    block and the output's at `outsAt0`; nothing owed; each input's share of its array. -/
def dats (_ : Fin 1) (c : Dev nD) : Dat τ (Elt F) Unit ℕ (UR sig nD τ) ℕ (cfg0 (F := F)) c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The proof data's arrays are what the region finds. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = X0_0 m c t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = (outsAt0 m c t) := rfl

/-- Each input's staging buffer holds its block at every point, fetched there or not. -/
theorem before0_0 (c : Dev nD) (t : Fin (cfg0 (F := F)).N) (d) : (dats m 0 c).before 0 t d = X0_0 m c t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so the run applies, and the scratch is handed back at some contents. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (X0_0 m c t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body of the table at point `t` is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation, at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
/-- The launch terminates with every array of the pipeline as the proof data say and every counter at zero. -/
theorem run_main_quiescent : θ_run (defs (F := F)) (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 (defs₀ (F := F)) Variants.nat m ρ main
    (hbody := fun c => (body_obligation m c).loose) (hq := fun _ _ _ => rfl)
    (howed := fun _ _ => rfl) (V := V m) (hmain := hmain m Variants.nat) (hA := A_eq m) (hΦ := fun _ _ => rfl)

/-- The same without the counters. -/
theorem run_main : θ_run (defs (F := F)) (onTc (τ := τ) (main (F := F))) (s₀ m ρ) (Pipeline.FramePost (cfgs (F := F)) (dats m) 0 (V m)) :=
  (θ_run (defs (F := F)) _ _).mono (fun _ h => h.1) (run_main_quiescent m ρ)

/-- The argument ends unchanged. -/
theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the program terminates, its argument ends unchanged and the counters end at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run (defs (F := F)) _ _).mono (fun _ h => h.2) (run_main_quiescent m ρ))

end Cert.KernelIdeal.Sb

end
-- ==== Proof.Math.lean ====
module

public import Idealize.ShloMosaic.PureOps.Ideal
public import Mathlib.Algebra.BigOperators.Intervals
public import Mathlib.Analysis.SpecialFunctions.Log.Basic

@[expose] public section

noncomputable section

namespace Cert.Sb

open Idealize.ShloMosaic

/-! Stick-breaking attention over the real numbers. A query at position `T` has a score `x s` for every key `s`; a key
    before `T` takes the share `sigmoid (x s)` of what the keys after it have left of the stick. -/

/-- The softplus, in the form that does not overflow. -/
def sp (x : ℝ) : ℝ := max x 0 + Real.log (1 + Real.exp (-|x|))

/-- The logarithm of what key `j` leaves of the stick: nothing is taken by a key that is not before the query. -/
def stay (x : ℕ → ℝ) (T j : ℕ) : ℝ := if j < T then -sp (x j) else 0

/-- The logarithm of what the keys from `s` on leave. -/
def left (x : ℕ → ℝ) (T s : ℕ) : ℝ := ∑ j ∈ Finset.Ico s 4096, stay x T j

/-- The share key `s` takes. -/
def weight (x : ℕ → ℝ) (T s : ℕ) : ℝ := if s < T then Real.exp (x s - sp (x s) + left x T (s + 1)) else 0

/-- The values of the keys from `a` on, mixed by their shares. -/
def mix (x : ℕ → ℝ) (T : ℕ) (v : ℕ → ℝ) (a : ℕ) : ℝ := ∑ s ∈ Finset.Ico a 4096, weight x T s * v s

/-- The score of key `s` for query `T` in head `h` of sequence `b`, from the rows `u` of queries, keys and values. -/
def score (u : ℕ → ℕ → ℝ) (b T h s : ℕ) : ℝ :=
  (∑ d ∈ Finset.range 64, u (b * 4096 + T) (h * 64 + d) * u (b * 4096 + s) (768 + (h * 64 + d))) * (1 / 8)

/-- The layer's result at position `T` of sequence `b`, lane `c` of all the heads' lanes. -/
def result (u : ℕ → ℕ → ℝ) (b T c : ℕ) : ℝ :=
  mix (score u b T (c / 64)) T (fun s => u (b * 4096 + s) (1536 + c)) 0

/-- The softplus of the opposite. -/
theorem sp_neg (x : ℝ) : sp (-x) = sp x - x := by
  unfold sp
  rw [abs_neg]
  rcases le_total 0 x with h | h
  · rw [max_eq_right (by linarith), max_eq_left h]; ring
  · rw [max_eq_left (by linarith), max_eq_right h]; ring

/-- A sum of real numbers, taken among the extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, taken among the extended ones. -/
theorem coe_max (a b : ℝ) : ((max a b : ℝ) : EReal) = max (a : EReal) (b : EReal) :=
  (EReal.coe_strictMono.monotone).map_max

/-- The exponential of a real number. -/
theorem exp_real (r : ℝ) : Ideal.exp (r : EReal) = (Real.exp r : EReal) := Ideal.exp_coe r

/-- The logarithm that the softplus takes. -/
theorem log1p_exp (r : ℝ) : Ideal.log1p (Ideal.exp (r : EReal)) = (Real.log (1 + Real.exp r) : EReal) := by
  rw [exp_real]
  unfold Ideal.log1p
  rw [show (1 : EReal) + (Real.exp r : EReal) = ((1 + Real.exp r : ℝ) : EReal) from (EReal.coe_add 1 _).symm, Ideal.log_coe,
    if_neg (by have := Real.exp_pos r; linarith)]

/-- The kernel's softplus of a real number. -/
theorem sp_real (x : ℝ) :
    max (x : EReal) 0 + Ideal.log1p (Ideal.exp (0 - max (x : EReal) (-(x : EReal)))) = (sp x : EReal) := by
  rw [← EReal.coe_neg, ← coe_max, ← EReal.coe_zero, ← EReal.coe_sub, log1p_exp, ← coe_max, ← EReal.coe_add]
  congr 1
  unfold sp
  rw [zero_sub]
  rfl

/-- What the keys from `a` on leave, a chunk of 128 keys taken apart. -/
theorem left_chunk (x : ℕ → ℝ) (T a : ℕ) (h : a + 128 ≤ 4096) :
    left x T a = ∑ l : Fin 128, stay x T (a + l.val) + left x T (a + 128) := by
  unfold left
  rw [← Finset.sum_Ico_consecutive _ (Nat.le_add_right a 128) h, Finset.sum_Ico_eq_sum_range, Nat.add_sub_cancel_left,
    Finset.sum_range]

/-- What the keys after key `l` of a chunk leave: those of the chunk, then those after it. -/
theorem left_row (x : ℕ → ℝ) (T a : ℕ) (l : Fin 128) (h : a + 128 ≤ 4096) :
    left x T (a + l.val + 1) = ∑ i : Fin 128, (if l.val < i.val then stay x T (a + i.val) else 0) + left x T (a + 128) := by
  have hl := l.isLt
  unfold left
  rw [← Finset.sum_Ico_consecutive _ (show a + l.val + 1 ≤ a + 128 by omega) h]
  congr 1
  rw [← Finset.sum_filter,
    show ∑ i : Fin 128 with l.val < i.val, stay x T (a + i.val)
      = ∑ i : Fin 128, if l.val < i.val then stay x T (a + i.val) else 0 from Finset.sum_filter _ _,
    ← Finset.sum_range (fun i => if l.val < i then stay x T (a + i) else 0), ← Finset.sum_filter]
  refine Finset.sum_nbij' (fun j => j - a) (fun i => a + i) ?_ ?_ ?_ ?_ ?_ <;>
    simp only [Finset.mem_Ico, Finset.mem_filter, Finset.mem_range]
  · intro j hj; omega
  · intro j hj; omega
  · intro j hj; omega
  · intro j hj; omega
  · intro j hj; congr 1; omega

/-- From the query's own position on, nothing is taken. -/
theorem left_end (x : ℕ → ℝ) (T a : ℕ) (h : T ≤ a) : left x T a = 0 :=
  Finset.sum_eq_zero fun j hj => if_neg (by have := (Finset.mem_Ico.mp hj).1; omega)

/-- The mixed values from `a` on, a chunk of 128 keys taken apart. -/
theorem mix_chunk (x : ℕ → ℝ) (T : ℕ) (v : ℕ → ℝ) (a : ℕ) (h : a + 128 ≤ 4096) :
    mix x T v a = mix x T v (a + 128) + ∑ l : Fin 128, weight x T (a + l.val) * v (a + l.val) := by
  unfold mix
  rw [← Finset.sum_Ico_consecutive _ (Nat.le_add_right a 128) h, Finset.sum_Ico_eq_sum_range, Nat.add_sub_cancel_left,
    Finset.sum_range, add_comm]

/-- From the query's own position on, nothing is mixed in. -/
theorem mix_end (x : ℕ → ℝ) (T : ℕ) (v : ℕ → ℝ) (a : ℕ) (h : T ≤ a) : mix x T v a = 0 :=
  Finset.sum_eq_zero fun j hj => by
    rw [weight, if_neg (by have := (Finset.mem_Ico.mp hj).1; omega), zero_mul]

/-- A product of a pair of heads' lanes in which the query's row has only its own head's lanes is that head's score. -/
theorem dot_pair (p r : ℕ) (hr : r < 256) (f g : ℕ → ℝ) :
    ∑ k : Fin 128, (if (k.val < 64 ↔ r < 128) then f (p * 128 + k.val) * (1 / 8) else 0) * g (p * 128 + k.val)
      = (∑ d ∈ Finset.range 64, f ((p * 256 + r) / 128 * 64 + d) * g ((p * 256 + r) / 128 * 64 + d)) * (1 / 8) := by
  rw [← Finset.sum_range (fun k => (if (k < 64 ↔ r < 128) then f (p * 128 + k) * (1 / 8) else 0) * g (p * 128 + k)),
    show 128 = 64 + 64 from rfl, Finset.sum_range_add, Finset.sum_mul]
  rcases Nat.lt_or_ge r 128 with h | h
  · rw [show (∑ x ∈ Finset.range 64, (if (64 + x < 64 ↔ r < 64 + 64) then f (p * (64 + 64) + (64 + x)) * (1 / 8) else 0) * g (p * (64 + 64) + (64 + x))) = 0 from
      Finset.sum_eq_zero fun x _ => by rw [if_neg (by omega), zero_mul], add_zero]
    refine Finset.sum_congr rfl fun x hx => ?_
    have := Finset.mem_range.mp hx
    rw [if_pos (by omega), show (p * 256 + r) / (64 + 64) * 64 + x = p * (64 + 64) + x by omega]
    ring
  · rw [show (∑ x ∈ Finset.range 64, (if (x < 64 ↔ r < 64 + 64) then f (p * (64 + 64) + x) * (1 / 8) else 0) * g (p * (64 + 64) + x)) = 0 from
      Finset.sum_eq_zero fun x hx => by rw [if_neg (by have := Finset.mem_range.mp hx; omega), zero_mul], zero_add]
    refine Finset.sum_congr rfl fun x hx => ?_
    have := Finset.mem_range.mp hx
    rw [if_pos (by omega), show (p * 256 + r) / (64 + 64) * 64 + x = p * (64 + 64) + (64 + x) by omega]
    ring

end Cert.Sb

end
-- ==== Proof.KernelIdeal.Chunk.lean ====
module

public import proofs.«01_k».proof.Proof.KernelIdeal.Body
public import proofs.«01_k».proof.Proof.Math
public import Idealize.ShloMosaic.Lib.Pointwise

@[expose] public section

set_option maxRecDepth 16384

noncomputable section

namespace Cert.KernelIdeal.Sb

open Cert.KernelIdeal Cert.KernelIdeal.Gen Cert.Sb
open Idealize.ShloMosaic Idealize.ShloMosaic.TcCoe

/-- Choosing by a decided word. -/
theorem sel {α : Type} (p : Prop) [Decidable p] (a b : α) : Scalar.select (BitVec.ofBool (decide p)) a b = if p then a else b := by
  unfold Scalar.select
  by_cases h : p <;> simp [h]

/-- Comparing small numbers as words. -/
theorem slt_nat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt, BitVec.toInt_ofNat', BitVec.toInt_ofNat']
  have e1 : ((a : ℤ)).bmod (2 ^ 32) = a := by rw [Int.bmod_def]; omega
  have e2 : ((b : ℤ)).bmod (2 ^ 32) = b := by rw [Int.bmod_def]; omega
  simp only [e1, e2, Nat.cast_lt]

/-- The scale of the scores. -/
theorem eighth : Ideal.ofBits .f32 0x3E000000#32 = ((1 / 8 : ℝ) : EReal) := by
  simp [Ideal.ofBits, Ideal.ieee, -EReal.coe_mul]; norm_num

/-- A query's position, as the kernel computes it. -/
theorem pos_apply (i : grid0.Coords) (R : Fin 1536) :
    k0_pay6 i (ix2 R 0) = BitVec.ofNat 32 ((i 1).val * 128 + R.val % 128) := by
  have hi : (i 1).val < 32 := (i 1).isLt
  have hR := R.isLt
  pointwise [k0_pay6]
  have e : IntOp.andi (BitVec.ofNat 32 R.val) 127#32 = BitVec.ofNat 32 (R.val % 128) := by
    apply BitVec.eq_of_toNat_eq
    show ((BitVec.ofNat 32 R.val) &&& 127#32).toNat = _
    rw [BitVec.toNat_and, BitVec.toNat_ofNat, BitVec.toNat_ofNat, BitVec.toNat_ofNat,
      show 127 % 2 ^ 32 = 2 ^ 7 - 1 from rfl, Nat.and_two_pow_sub_one_eq_mod]
    omega
  rw [e]
  apply BitVec.eq_of_toNat_eq
  show (BitVec.ofNat 32 (i 1).val * 128#32 + BitVec.ofNat 32 (R.val % 128)).toNat = _
  rw [BitVec.toNat_add, BitVec.toNat_mul, BitVec.toNat_ofNat, BitVec.toNat_ofNat, BitVec.toNat_ofNat, BitVec.toNat_ofNat]
  omega

/-- Which keys of a chunk come before a query, as the kernel decides it. -/
theorem mask_apply (v8 : IVec S1536x1 32) (T n q : ℕ) (hn : n ≤ q) (hq : q < 32) (hT : T < 4096) (R : Fin 1536) (l : Fin 128)
    (h8 : v8 (ix2 R 0) = BitVec.ofNat 32 T) :
    k0_pay26 v8 (BitVec.ofNat 32 n) (BitVec.ofNat 32 q) (ix2 R l)
      = BitVec.ofBool (decide ((q - n) * 128 + l.val < T)) := by
  have hl := l.isLt
  pointwise [k0_pay26]
  rw [h8, ← slt_nat _ _ (by omega) (by omega)]
  congr 1
  apply BitVec.eq_of_toNat_eq
  show ((BitVec.ofNat 32 q - BitVec.ofNat 32 n) * 128#32 + BitVec.ofNat 32 l.val).toNat = _
  rw [BitVec.toNat_add, BitVec.toNat_mul, BitVec.toNat_sub, BitVec.toNat_ofNat, BitVec.toNat_ofNat, BitVec.toNat_ofNat,
    BitVec.toNat_ofNat, BitVec.toNat_ofNat]
  omega

/-- A pair's queries, one head below the other: a row keeps its own head's lanes. -/
def Stacked (x : Vec Ideal S128x128 .f32) (q : FVec Ideal S256x128 .bf16) : Prop :=
  ∀ (r : Fin 256) (k : Fin 128), q (ix2 r k)
    = if (k.val < 64 ↔ r.val < 128) then x (ix2 ⟨r.val % 128, Nat.mod_lt _ (by decide)⟩ k) * Ideal.ofBits .f32 0x3E000000#32 else 0

/-- What `Stacked` says, from what the reading of a payload leaves. -/
theorem stacked_of (x : Vec Ideal S128x128 .f32) (q : FVec Ideal S256x128 .bf16) (r : Fin 256) (k : Fin 128)
    (h : q (ix2 r k) = if hlt : r.val < 128 then
        Scalar.select (IntOp.cmpi .slt (BitVec.ofNat 32 k.val) 64#32) (x (ix2 ⟨r.val, hlt⟩ k) * Ideal.ofBits .f32 0x3E000000#32) 0
      else Scalar.select (IntOp.cmpi .slt (BitVec.ofNat 32 k.val) 64#32) 0
        (x (ix2 ⟨r.val - 128, by have := r.isLt; omega⟩ k) * Ideal.ofBits .f32 0x3E000000#32)) :
    q (ix2 r k)
    = if (k.val < 64 ↔ r.val < 128) then x (ix2 ⟨r.val % 128, Nat.mod_lt _ (by decide)⟩ k) * Ideal.ofBits .f32 0x3E000000#32 else 0 := by
  have hr := r.isLt
  have hk := k.isLt
  rw [h, show (64#32 : BitVec 32) = BitVec.ofNat 32 64 from rfl, slt_nat _ _ (by omega) (by omega)]
  simp only [sel]
  by_cases h1 : r.val < 128
  · rw [dif_pos h1]
    have e : r.val % 128 = r.val := Nat.mod_eq_of_lt h1
    by_cases h2 : k.val < 64 <;> simp only [h1, h2, if_true, if_false, iff_true, e]
  · rw [dif_neg h1]
    have e : r.val % 128 = r.val - 128 := by omega
    by_cases h2 : k.val < 64 <;> simp only [h1, h2, if_true, if_false, iff_false, not_true, not_false_iff, e]

/-- The stacked queries of pair 0. -/
theorem stacked_0 (x : Vec Ideal S128x128 .f32) : Stacked x (k0_pay8 x) := fun r k => stacked_of x _ r k (by
  pointwise [k0_pay8, k0_pay5])

/-- The stacked queries of pair 1. -/
theorem stacked_1 (x : Vec Ideal S128x128 .f32) : Stacked x (k0_pay9 x) := fun r k => stacked_of x _ r k (by
  pointwise [k0_pay9, k0_pay5])

/-- The stacked queries of pair 2. -/
theorem stacked_2 (x : Vec Ideal S128x128 .f32) : Stacked x (k0_pay11 k0_pay5 (k0_pay10 x)) := fun r k => stacked_of x _ r k (by
  pointwise [k0_pay11, k0_pay10, k0_pay5])

/-- The stacked queries of pair 3. -/
theorem stacked_3 (x : Vec Ideal S128x128 .f32) : Stacked x (k0_pay12 k0_pay5 x) := fun r k => stacked_of x _ r k (by
  pointwise [k0_pay12, k0_pay5])

/-- The stacked queries of pair 4. -/
theorem stacked_4 (x : Vec Ideal S128x128 .f32) : Stacked x (k0_pay13 k0_pay5 x) := fun r k => stacked_of x _ r k (by
  pointwise [k0_pay13, k0_pay5])

/-- The stacked queries of pair 5. -/
theorem stacked_5 (x : Vec Ideal S128x128 .f32) :
    Stacked x (k0_pay16 k0_pay5 (k0_pay14 x) (k0_pay15 k0_pay5 x) (Scalar.ofBits .f32 0x00000000#32)) := fun r k => stacked_of x _ r k (by
  pointwise [k0_pay16, k0_pay14, k0_pay15, k0_pay5])

/-- What the blocks of a grid point hold: the rows of the tile's queries, those of the sequence's keys and values, and the
    table of later positions. -/
structure Blocks (u : ℕ → ℕ → ℝ) (i : grid0.Coords) (x0 : Vec Ideal S128x768 .f32) (x1 x2 : Vec Ideal S4096x768 .bf16)
    (x3 : Vec Ideal S128x128 .bf16) : Prop where
  q : ∀ (t : Fin 128) (c : Fin 768), x0 (ix2 t c) = (u ((i 0).val * 4096 + ((i 1).val * 128 + t.val)) c.val : EReal)
  k : ∀ (s : Fin 4096) (c : Fin 768), x1 (ix2 s c) = (u ((i 0).val * 4096 + s.val) (768 + c.val) : EReal)
  v : ∀ (s : Fin 4096) (c : Fin 768), x2 (ix2 s c) = (u ((i 0).val * 4096 + s.val) (1536 + c.val) : EReal)
  tri : ∀ a l : Fin 128, x3 (ix2 a l) = if l.val < a.val then (1 : EReal) else 0

section

variable {u : ℕ → ℕ → ℝ} {i : grid0.Coords} {x0 : Vec Ideal S128x768 .f32} {x1 x2 : Vec Ideal S4096x768 .bf16}
  {x3 : Vec Ideal S128x128 .bf16}

/-- The position of the query of stacked row `R`. -/
def qpos (i : grid0.Coords) (R : ℕ) : ℕ := (i 1).val * 128 + R % 128

/-- The first key of trip `n`'s chunk. -/
def lo (i : grid0.Coords) (n : ℕ) : ℕ := ((i 1).val - n) * 128

/-- The scores of stacked row `R`. -/
def scores (u : ℕ → ℕ → ℝ) (i : grid0.Coords) (R : ℕ) : ℕ → ℝ := score u (i 0).val (qpos i R) (R / 128)

/-- A chunk lies within the sequence. -/
theorem lo_le (i : grid0.Coords) (n : ℕ) : lo i n + 128 ≤ 4096 := by
  have hi : (i 1).val < 32 := (i 1).isLt
  unfold lo; omega

/-- A chunk of keys. -/
theorem key_apply (H : Blocks u i x0 x1 x2 x3) (n p : ℕ) (hp : p < 6) (l k : Fin 128) :
    tile x1 (((i 1).val - n) * 128) p (ix2 l k)
      = (u ((i 0).val * 4096 + (lo i n + l.val)) (768 + (p * 128 + k.val)) : EReal) := by
  have hl := l.isLt
  have hk := k.isLt
  have h := lo_le i n
  unfold lo at *
  refine (H.k ⟨_, Nat.mod_lt _ (by decide)⟩ ⟨_, Nat.mod_lt _ (by decide)⟩).trans ?_
  congr 2
  · show _ + ((((i 1).val - n) * 128 + l.val) % 4096) = _
    rw [Nat.mod_eq_of_lt (by omega)]
  · show _ + ((p * 128 + k.val) % 768) = _
    rw [Nat.mod_eq_of_lt (by omega)]

/-- A chunk of values. -/
theorem value_apply (H : Blocks u i x0 x1 x2 x3) (n p : ℕ) (hp : p < 6) (l k : Fin 128) :
    tile x2 (((i 1).val - n) * 128) p (ix2 l k)
      = (u ((i 0).val * 4096 + (lo i n + l.val)) (1536 + (p * 128 + k.val)) : EReal) := by
  have hl := l.isLt
  have hk := k.isLt
  have h := lo_le i n
  unfold lo at *
  refine (H.v ⟨_, Nat.mod_lt _ (by decide)⟩ ⟨_, Nat.mod_lt _ (by decide)⟩).trans ?_
  congr 2
  · show _ + ((((i 1).val - n) * 128 + l.val) % 4096) = _
    rw [Nat.mod_eq_of_lt (by omega)]
  · show _ + ((p * 128 + k.val) % 768) = _
    rw [Nat.mod_eq_of_lt (by omega)]

/-- A product of a pair's stacked queries with a chunk of keys. -/
theorem pair_apply (H : Blocks u i x0 x1 x2 x3) (n p : ℕ) (hp : p < 6) (Q : FVec Ideal S256x128 .bf16)
    (hQ : Stacked (qtile x0 p) Q) (r : ℕ) (hr : r < 256) (l : Fin 128) :
    ∑ k : Fin 128, Q (ix2 ⟨r, hr⟩ k) * tile x1 (((i 1).val - n) * 128) p (ix2 l k)
      = (scores u i (p * 256 + r) (lo i n + l.val) : EReal) := by
  have e : ∀ k : Fin 128, Q (ix2 ⟨r, hr⟩ k) * tile x1 (((i 1).val - n) * 128) p (ix2 l k)
      = (((if (k.val < 64 ↔ r < 128) then u ((i 0).val * 4096 + qpos i (p * 256 + r)) (p * 128 + k.val) * (1 / 8) else 0)
          * u ((i 0).val * 4096 + (lo i n + l.val)) (768 + (p * 128 + k.val)) : ℝ) : EReal) := by
    intro k
    have hk := k.isLt
    have hx : qtile x0 p (ix2 ⟨r % 128, Nat.mod_lt _ (by decide)⟩ k)
        = (u ((i 0).val * 4096 + qpos i (p * 256 + r)) (p * 128 + k.val) : EReal) := by
      refine (H.q _ ⟨_, Nat.mod_lt _ (by decide)⟩).trans ?_
      congr 2
      · show _ + ((i 1).val * 128 + r % 128) = _ + ((i 1).val * 128 + (p * 256 + r) % 128)
        omega
      · show (p * 128 + k.val) % 768 = _
        rw [Nat.mod_eq_of_lt (by omega)]
    rw [key_apply H n p hp l k, hQ ⟨r, hr⟩ k, hx, eighth, ← EReal.coe_mul]
    by_cases hc : (k.val < 64 ↔ r < 128)
    · rw [if_pos hc, if_pos hc, ← EReal.coe_mul]
    · rw [if_neg hc, if_neg hc, zero_mul, zero_mul]; rfl
  rw [Finset.sum_congr rfl fun k _ => e k, ← coe_sum,
    dot_pair p r hr (fun j => u ((i 0).val * 4096 + qpos i (p * 256 + r)) j) (fun j => u ((i 0).val * 4096 + (lo i n + l.val)) (768 + j))]
  rfl

/-- The scores of all the stacked rows are the six pairs' products, one below the other. -/
theorem stack_apply (v0 v1 v2 v3 v4 v5 : FVec Ideal S256x128 .bf16) (a0 a1 a2 a3 a4 a5 : Vec Ideal S128x128 .bf16) (f : ℕ → EReal) (l : Fin 128)
    (h0 : ∀ (r : ℕ) (hr : r < 256), ∑ k : Fin 128, v0 (ix2 ⟨r, hr⟩ k) * a0 (ix2 l k) = f (0 * 256 + r))
    (h1 : ∀ (r : ℕ) (hr : r < 256), ∑ k : Fin 128, v1 (ix2 ⟨r, hr⟩ k) * a1 (ix2 l k) = f (1 * 256 + r))
    (h2 : ∀ (r : ℕ) (hr : r < 256), ∑ k : Fin 128, v2 (ix2 ⟨r, hr⟩ k) * a2 (ix2 l k) = f (2 * 256 + r))
    (h3 : ∀ (r : ℕ) (hr : r < 256), ∑ k : Fin 128, v3 (ix2 ⟨r, hr⟩ k) * a3 (ix2 l k) = f (3 * 256 + r))
    (h4 : ∀ (r : ℕ) (hr : r < 256), ∑ k : Fin 128, v4 (ix2 ⟨r, hr⟩ k) * a4 (ix2 l k) = f (4 * 256 + r))
    (h5 : ∀ (r : ℕ) (hr : r < 256), ∑ k : Fin 128, v5 (ix2 ⟨r, hr⟩ k) * a5 (ix2 l k) = f (5 * 256 + r))
    (R : Fin 1536) : k0_pay27 v0 v1 v2 v3 v4 v5 a0 a1 a2 a3 a4 a5 (ix2 R l) = f R.val := by
  have hR := R.isLt
  pointwise [k0_pay27]
  by_cases g0 : R.val < 256
  · rw [dif_pos g0]; exact (h0 _ (by omega)).trans (congrArg f (show 0 * 256 + R.val = R.val by omega))
  rw [dif_neg g0]
  by_cases g1 : R.val - 256 < 256
  · rw [dif_pos g1]; exact (h1 _ (by omega)).trans (congrArg f (show 1 * 256 + (R.val - 256) = R.val by omega))
  rw [dif_neg g1]
  by_cases g2 : R.val - 256 - 256 < 256
  · rw [dif_pos g2]; exact (h2 _ (by omega)).trans (congrArg f (show 2 * 256 + (R.val - 256 - 256) = R.val by omega))
  rw [dif_neg g2]
  by_cases g3 : R.val - 256 - 256 - 256 < 256
  · rw [dif_pos g3]; exact (h3 _ (by omega)).trans (congrArg f (show 3 * 256 + (R.val - 256 - 256 - 256) = R.val by omega))
  rw [dif_neg g3]
  by_cases g4 : R.val - 256 - 256 - 256 - 256 < 256
  · rw [dif_pos g4]; exact (h4 _ (by omega)).trans (congrArg f (show 4 * 256 + (R.val - 256 - 256 - 256 - 256) = R.val by omega))
  rw [dif_neg g4]
  exact (h5 _ (by omega)).trans (congrArg f (show 5 * 256 + (R.val - 256 - 256 - 256 - 256 - 256) = R.val by omega))

/-- The chunk's scores. -/
theorem z_apply (H : Blocks u i x0 x1 x2 x3) (n : ℕ) (R : Fin 1536) (l : Fin 128) :
    (bodyOps i x0 x1 x2 x3).z n (ix2 R l) = (scores u i R.val (lo i n + l.val) : EReal) :=
  stack_apply _ _ _ _ _ _ _ _ _ _ _ _ (fun j => (scores u i j (lo i n + l.val) : EReal)) l
    (fun r hr => pair_apply H n 0 (by decide) _ (stacked_0 _) r hr l)
    (fun r hr => pair_apply H n 1 (by decide) _ (stacked_1 _) r hr l)
    (fun r hr => pair_apply H n 2 (by decide) _ (stacked_2 _) r hr l)
    (fun r hr => pair_apply H n 3 (by decide) _ (stacked_3 _) r hr l)
    (fun r hr => pair_apply H n 4 (by decide) _ (stacked_4 _) r hr l)
    (fun r hr => pair_apply H n 5 (by decide) _ (stacked_5 _) r hr l) R

/-- The chunk's softplus. -/
theorem sp_apply (H : Blocks u i x0 x1 x2 x3) (n : ℕ) (R : Fin 1536) (l : Fin 128) :
    (bodyOps i x0 x1 x2 x3).sp n (ix2 R l) = (sp (scores u i R.val (lo i n + l.val)) : EReal) := by
  have hz := z_apply H n R l
  unfold Ops.z at hz
  unfold Ops.sp
  pointwise [k0_pay28]
  rw [hz]
  exact sp_real _

/-- Which keys of the chunk come before the query of stacked row `R`. -/
theorem before_apply (n : ℕ) (hn : n ≤ (i 1).val) (R : Fin 1536) (l : Fin 128) :
    (bodyOps i x0 x1 x2 x3).mask n (ix2 R l) = BitVec.ofBool (decide (lo i n + l.val < qpos i R.val)) := by
  have hi : (i 1).val < 32 := (i 1).isLt
  exact mask_apply _ (qpos i R.val) n (i 1).val hn hi (by unfold qpos; omega) R l (pos_apply i R)

/-- What a key of the chunk leaves. -/
theorem stay_apply (H : Blocks u i x0 x1 x2 x3) (n : ℕ) (hn : n ≤ (i 1).val) (R : Fin 1536) (l : Fin 128) :
    k0_pay30 ((bodyOps i x0 x1 x2 x3).mask n) ((bodyOps i x0 x1 x2 x3).sp n) k0_pay29 (ix2 R l)
      = (stay (scores u i R.val) (qpos i R.val) (lo i n + l.val) : EReal) := by
  pointwise [k0_pay30, k0_pay29]
  rw [before_apply n hn, sel, sp_apply H]
  unfold stay
  split_ifs
  · rw [zero_sub, EReal.coe_neg]
  · rfl

/-- What the chunk's keys after a key leave. -/
theorem inner_apply (H : Blocks u i x0 x1 x2 x3) (n : ℕ) (hn : n ≤ (i 1).val) (R : Fin 1536) (l : Fin 128) :
    k0_pay31 (bodyOps i x0 x1 x2 x3).v10 ((bodyOps i x0 x1 x2 x3).mask n) ((bodyOps i x0 x1 x2 x3).sp n) k0_pay29 (ix2 R l)
      = ((∑ j : Fin 128, (if l.val < j.val then stay (scores u i R.val) (qpos i R.val) (lo i n + j.val) else 0) : ℝ) : EReal) := by
  have ht : ∀ j : Fin 128, (bodyOps i x0 x1 x2 x3).v10 (ix2 j l) = if l.val < j.val then (1 : EReal) else 0 := by
    intro j
    refine Eq.trans ?_ (H.tri j l)
    show k0_pay7 x3 (ix2 j l) = _
    pointwise [k0_pay7]
  have hs := stay_apply H n hn R
  pointwise [k0_pay31]
  rw [coe_sum, ← Finset.sum_add_distrib]
  refine Finset.sum_congr rfl fun j _ => ?_
  rw [hs, ht, ← EReal.coe_sub, sub_self, EReal.coe_zero, zero_mul, add_zero]
  by_cases hj : l.val < j.val
  · rw [if_pos hj, if_pos hj, mul_one]
  · rw [if_neg hj, if_neg hj, mul_zero]; rfl

/-- What all the chunk's keys leave. -/
theorem total_apply (H : Blocks u i x0 x1 x2 x3) (n : ℕ) (hn : n ≤ (i 1).val) (R : Fin 1536) :
    (bodyOps i x0 x1 x2 x3).total n (ix2 R 0)
      = ((∑ j : Fin 128, stay (scores u i R.val) (qpos i R.val) (lo i n + j.val) : ℝ) : EReal) := by
  have h1 := inner_apply H n hn R 0
  have h2 := stay_apply H n hn R 0
  unfold Ops.total
  pointwise [k0_pay32]
  refine (congrArg₂ (· + ·) h1 h2).trans ?_
  rw [← EReal.coe_add, Fin.sum_univ_succ, Fin.sum_univ_succ (n := 127)]
  congr 1
  rw [if_neg (by decide), zero_add, add_comm]
  congr 1

/-- What the chunk's keys take, given what the later chunks leave. -/
theorem weight_apply (H : Blocks u i x0 x1 x2 x3) (n : ℕ) (hn : n ≤ (i 1).val) (later : FVec Ideal S1536x1 .f32) (R : Fin 1536)
    (hlater : later (ix2 R 0) = (left (scores u i R.val) (qpos i R.val) (lo i n + 128) : EReal)) (l : Fin 128) :
    (bodyOps i x0 x1 x2 x3).weights n later (ix2 R l) = (weight (scores u i R.val) (qpos i R.val) (lo i n + l.val) : EReal) := by
  have h1 := inner_apply H n hn R l
  have h2 := z_apply H n R l
  have h3 := sp_apply H n R l
  have h4 := before_apply (x0 := x0) (x1 := x1) (x2 := x2) (x3 := x3) n hn R l
  unfold Ops.weights
  pointwise [k0_pay33]
  rw [h4, sel, h2, h3, h1, hlater, ← EReal.coe_sub, ← EReal.coe_add, ← EReal.coe_add, exp_real]
  unfold weight
  rw [left_row _ _ _ l (lo_le i n), ← add_assoc]
  split_ifs <;> rfl

end

end Cert.KernelIdeal.Sb

end
-- ==== Proof.KernelIdeal.Sweep.lean ====
module

public import proofs.«01_k».proof.Proof.KernelIdeal.Chunk

@[expose] public section

set_option maxRecDepth 16384

noncomputable section

namespace Cert.KernelIdeal.Sb

open Cert.KernelIdeal Cert.KernelIdeal.Gen Cert.Sb
open Idealize.ShloMosaic Idealize.ShloMosaic.TcCoe

/-- Pair 0's accumulators after a trip: the chunk's weights times its values are added. -/
theorem acc_apply_0 (o : Ops Ideal) (n : ℕ) (A : Vec Ideal S6x256x128 .f32) (later : FVec Ideal S1536x1 .f32) (r : Fin 256) (l : Fin 128) :
    o.accStep n A later 0 (ix3 0 r l) = A (ix3 0 r l)
      + ∑ x : Fin 128, o.weights n later (ix2 ⟨0 * 256 + r.val, by omega⟩ x) * tile o.vx (o.row n) 0 (ix2 x l) := by
  have e : accBlk A 0 (ix3 0 r l) = A (ix3 0 r l) := congrArg A (ix3_eq_valueIdx _ _ _).symm
  have w : ∀ (a b : Fin 1536), a.val = b.val → ∀ x : Fin 128, o.weights n later (ix2 a x) = o.weights n later (ix2 b x) :=
    fun a b h x => by rw [Fin.ext h]
  rw [← e]
  unfold Ops.accStep
  pointwise [k0_pay34]
  refine congrArg (_ + ·) (Finset.sum_congr rfl fun x _ => congrArg (· * _) (w _ _ ?_ x))
  all_goals first | omega | (simp; done) | (simp; omega)

/-- Pair 1's accumulators after a trip: the chunk's weights times its values are added. -/
theorem acc_apply_1 (o : Ops Ideal) (n : ℕ) (A : Vec Ideal S6x256x128 .f32) (later : FVec Ideal S1536x1 .f32) (r : Fin 256) (l : Fin 128) :
    o.accStep n A later 1 (ix3 0 r l) = A (ix3 1 r l)
      + ∑ x : Fin 128, o.weights n later (ix2 ⟨1 * 256 + r.val, by omega⟩ x) * tile o.vx (o.row n) 1 (ix2 x l) := by
  have e : accBlk A 1 (ix3 0 r l) = A (ix3 1 r l) := congrArg A (ix3_eq_valueIdx _ _ _).symm
  have w : ∀ (a b : Fin 1536), a.val = b.val → ∀ x : Fin 128, o.weights n later (ix2 a x) = o.weights n later (ix2 b x) :=
    fun a b h x => by rw [Fin.ext h]
  rw [← e]
  unfold Ops.accStep
  pointwise [k0_pay37, k0_pay35, k0_pay36]
  refine congrArg (_ + ·) (Finset.sum_congr rfl fun x _ => congrArg (· * _) (w _ _ ?_ x))
  all_goals first | omega | (simp; done) | (simp; omega)

/-- Pair 2's accumulators after a trip: the chunk's weights times its values are added. -/
theorem acc_apply_2 (o : Ops Ideal) (n : ℕ) (A : Vec Ideal S6x256x128 .f32) (later : FVec Ideal S1536x1 .f32) (r : Fin 256) (l : Fin 128) :
    o.accStep n A later 2 (ix3 0 r l) = A (ix3 2 r l)
      + ∑ x : Fin 128, o.weights n later (ix2 ⟨2 * 256 + r.val, by omega⟩ x) * tile o.vx (o.row n) 2 (ix2 x l) := by
  have e : accBlk A 2 (ix3 0 r l) = A (ix3 2 r l) := congrArg A (ix3_eq_valueIdx _ _ _).symm
  rw [← e]
  unfold Ops.accStep
  pointwise [k0_pay38]

/-- Pair 3's accumulators after a trip: the chunk's weights times its values are added. -/
theorem acc_apply_3 (o : Ops Ideal) (n : ℕ) (A : Vec Ideal S6x256x128 .f32) (later : FVec Ideal S1536x1 .f32) (r : Fin 256) (l : Fin 128) :
    o.accStep n A later 3 (ix3 0 r l) = A (ix3 3 r l)
      + ∑ x : Fin 128, o.weights n later (ix2 ⟨3 * 256 + r.val, by omega⟩ x) * tile o.vx (o.row n) 3 (ix2 x l) := by
  have e : accBlk A 3 (ix3 0 r l) = A (ix3 3 r l) := congrArg A (ix3_eq_valueIdx _ _ _).symm
  rw [← e]
  unfold Ops.accStep
  pointwise [k0_pay39]

/-- Pair 4's accumulators after a trip: the chunk's weights times its values are added. -/
theorem acc_apply_4 (o : Ops Ideal) (n : ℕ) (A : Vec Ideal S6x256x128 .f32) (later : FVec Ideal S1536x1 .f32) (r : Fin 256) (l : Fin 128) :
    o.accStep n A later 4 (ix3 0 r l) = A (ix3 4 r l)
      + ∑ x : Fin 128, o.weights n later (ix2 ⟨4 * 256 + r.val, by omega⟩ x) * tile o.vx (o.row n) 4 (ix2 x l) := by
  have e : accBlk A 4 (ix3 0 r l) = A (ix3 4 r l) := congrArg A (ix3_eq_valueIdx _ _ _).symm
  rw [← e]
  unfold Ops.accStep
  pointwise [k0_pay1, k0_pay40, k0_pay41]

/-- Pair 5's accumulators after a trip: the chunk's weights times its values are added. -/
theorem acc_apply_5 (o : Ops Ideal) (n : ℕ) (A : Vec Ideal S6x256x128 .f32) (later : FVec Ideal S1536x1 .f32) (r : Fin 256) (l : Fin 128) :
    o.accStep n A later 5 (ix3 0 r l) = A (ix3 5 r l)
      + ∑ x : Fin 128, o.weights n later (ix2 ⟨5 * 256 + r.val, by omega⟩ x) * tile o.vx (o.row n) 5 (ix2 x l) := by
  have e : accBlk A 5 (ix3 0 r l) = A (ix3 5 r l) := congrArg A (ix3_eq_valueIdx _ _ _).symm
  rw [← e]
  unfold Ops.accStep
  pointwise [k0_pay2]

section

variable {u : ℕ → ℕ → ℝ} {i : grid0.Coords} {x0 : Vec Ideal S128x768 .f32} {x1 x2 : Vec Ideal S4096x768 .bf16}
  {x3 : Vec Ideal S128x128 .bf16}

/-- Any pair's accumulators after a trip. -/
theorem acc_apply (o : Ops Ideal) (n : ℕ) (A : Vec Ideal S6x256x128 .f32) (later : FVec Ideal S1536x1 .f32) (p : Fin 6) (r : Fin 256)
    (l : Fin 128) :
    o.accNext n A later (ix3 p r l) = A (ix3 p r l)
      + ∑ x : Fin 128, o.weights n later (ix2 ⟨p.val * 256 + r.val, by omega⟩ x) * tile o.vx (o.row n) p.val (ix2 x l) := by
  have e : o.accNext n A later (ix3 p r l) = o.accStep n A later p (ix3 0 r l) :=
    congrArg (o.accStep n A later p) (ix3_eq_valueIdx _ _ _).symm
  rw [e]
  match p with
  | 0 => exact acc_apply_0 o n A later r l
  | 1 => exact acc_apply_1 o n A later r l
  | 2 => exact acc_apply_2 o n A later r l
  | 3 => exact acc_apply_3 o n A later r l
  | 4 => exact acc_apply_4 o n A later r l
  | 5 => exact acc_apply_5 o n A later r l

/-- The values of the lane `l` of pair `p`. -/
def lane (u : ℕ → ℕ → ℝ) (i : grid0.Coords) (p l : ℕ) : ℕ → ℝ := fun s => u ((i 0).val * 4096 + s) (1536 + (p * 128 + l))

/-- What holds of the loop's state once the keys from `a` on have been swept. -/
structure Swept (u : ℕ → ℕ → ℝ) (i : grid0.Coords) (a : ℕ) (s : St Ideal) : Prop where
  acc : ∀ (p : Fin 6) (r : Fin 256) (l : Fin 128), s.A (ix3 p r l)
    = (mix (scores u i (p.val * 256 + r.val)) (qpos i (p.val * 256 + r.val)) (lane u i p.val l.val) a : EReal)
  live : s.live = 1#32
  later : ∀ R : Fin 1536, s.later (ix2 R 0) = (left (scores u i R.val) (qpos i R.val) a : EReal)

/-- Before the first trip, nothing has been swept that counts. -/
theorem swept_start : Swept u i (((i 1).val + 1) * 128) (start (F := Ideal)) where
  acc p r l := by
    rw [mix_end _ _ _ _ (by unfold qpos; omega)]
    show k0_pay17 (ix3 p r l) = _
    pointwise [k0_pay17]
    rfl
  live := rfl
  later R := by
    rw [left_end _ _ _ (by unfold qpos; omega)]
    show k0_pay18 (ix2 R 0) = _
    pointwise [k0_pay18]
    rfl

/-- One trip sweeps one chunk more. -/
theorem swept_next (H : Blocks u i x0 x1 x2 x3) (n : ℕ) (hn : n ≤ (i 1).val) (s : St Ideal)
    (hs : Swept u i (lo i n + 128) s) : Swept u i (lo i n) ((bodyOps i x0 x1 x2 x3).next n s) where
  acc p r l := by
    refine (acc_apply _ n s.A s.later p r l).trans ?_
    rw [hs.acc p r l, mix_chunk _ _ _ _ (lo_le i n), EReal.coe_add, coe_sum]
    congr 1
    refine Finset.sum_congr rfl fun x _ => ?_
    rw [EReal.coe_mul, weight_apply H n hn s.later _ (hs.later _) x]
    exact congrArg (_ * ·) (value_apply H n p.val p.isLt x l)
  live := by
    have ht := total_apply H n hn 0
    have hl := hs.later 0
    show (bodyOps i x0 x1 x2 x3).liveNext n s.later = 1#32
    unfold Ops.liveNext
    rw [IdealRules.named_const.ideal_named_scalar (φ := .f32) κ "underflow" 0xC2D00000#32 ⊥ rfl]
    pointwise [k0_pay4, k0_pay3]
    rw [decide_eq_true]
    · rfl
    · refine lt_of_lt_of_le (EReal.bot_lt_coe (left (scores u i 0) (qpos i 0) (lo i n + 128) + ∑ j : Fin 128, stay (scores u i 0) (qpos i 0) (lo i n + j.val))) ?_
      rw [Finset.le_fold_max]
      refine Or.inr ⟨(0, 0), Finset.mem_univ _, le_of_eq ?_⟩
      rw [EReal.coe_add]
      exact (congrArg₂ (· + ·) hl ht).symm
  later R := by
    have ht := total_apply H n hn R
    have hl := hs.later R
    show k0_pay3 s.later _ (ix2 R 0) = _
    pointwise [k0_pay3]
    rw [ht, hl, ← EReal.coe_add, left_chunk _ _ (lo i n) (lo_le i n), add_comm]

/-- While chunks remain the loop's condition holds. -/
theorem cond_true (n : ℕ) (hn : n ≤ (i 1).val) (s : St Ideal) (hs : s.live = 1#32) : (bodyOps i x0 x1 x2 x3).cond n s = 1#1 := by
  have hi : (i 1).val < 32 := (i 1).isLt
  have e : Scalar.cmpi .sle (BitVec.ofNat 32 n) (BitVec.ofNat 32 (i 1).val) = 1#1 := by
    show BitVec.ofBool ((BitVec.ofNat 32 n).sle (BitVec.ofNat 32 (i 1).val)) = 1#1
    rw [BitVec.sle, BitVec.toInt_ofNat', BitVec.toInt_ofNat']
    have e1 : ((n : ℤ)).bmod (2 ^ 32) = n := by rw [Int.bmod_def]; omega
    have e2 : (((i 1).val : ℤ)).bmod (2 ^ 32) = (i 1).val := by rw [Int.bmod_def]; omega
    rw [e1, e2, decide_eq_true (by exact_mod_cast hn)]
    rfl
  unfold Ops.cond
  rw [hs]
  show Scalar.andi (Scalar.cmpi .sle (BitVec.ofNat 32 n) (BitVec.ofNat 32 (i 1).val)) _ = 1#1
  rw [e]
  rfl

/-- The loop, from trip `n` on, sweeps every chunk down to the first key. -/
theorem swept_loop (H : Blocks u i x0 x1 x2 x3) (f n : ℕ) (h : f + n = (i 1).val + 1) (s : St Ideal)
    (hs : Swept u i (((i 1).val + 1 - n) * 128) s) :
    Swept u i 0 ((bodyOps i x0 x1 x2 x3).loop f n s).2 := by
  induction f generalizing n s with
  | zero =>
    rw [show (i 1).val + 1 - n = 0 by omega, Nat.zero_mul] at hs
    exact hs
  | succ f ih =>
    have hn : n ≤ (i 1).val := by omega
    rw [show ((i 1).val + 1 - n) * 128 = lo i n + 128 by unfold lo; omega] at hs
    unfold Ops.loop
    rw [if_pos (cond_true n hn s hs.live)]
    refine ih (n + 1) (by omega) _ ?_
    rw [show ((i 1).val + 1 - (n + 1)) * 128 = lo i n by unfold lo; omega]
    exact swept_next H n hn s hs

/-- The accumulators the loop leaves. -/
theorem bodyAcc_apply (H : Blocks u i x0 x1 x2 x3) (p : Fin 6) (r : Fin 256) (l : Fin 128) :
    bodyAcc i x0 x1 x2 x3 (ix3 p r l)
      = (mix (scores u i (p.val * 256 + r.val)) (qpos i (p.val * 256 + r.val)) (lane u i p.val l.val) 0 : EReal) :=
  (swept_loop H ((i 1).val + 1) 0 rfl start (by rw [Nat.sub_zero]; exact swept_start)).acc p r l

/-- What is stored of a pair, at a row and a lane. -/
theorem outTile_apply (A : Vec Ideal S6x256x128 .f32) (p : Fin 6) (t l : Fin 128) :
    outTile A p (ix2 t l) = if l.val < 64 then A (ix3 p ⟨t.val, by omega⟩ l) else A (ix3 p ⟨128 + t.val, by omega⟩ l) := by
  have hl := l.isLt
  have e : ∀ x y : EReal, Scalar.select (IntOp.cmpi .slt (BitVec.ofNat 32 l.val) 64#32) x y = if l.val < 64 then x else y := by
    intro x y
    rw [show (64#32 : BitVec 32) = BitVec.ofNat 32 64 from rfl, slt_nat _ _ (by omega) (by omega), sel]
  have h0 : half A p 0 (ix3 0 t l) = A (ix3 p ⟨t.val, by omega⟩ l) := by
    refine congrArg A ?_
    rw [ix3_eq_valueIdx]
    congr 1
    apply Fin.ext
    show (0 + t.val) % 256 = t.val
    omega
  have h1 : half A p 128 (ix3 0 t l) = A (ix3 p ⟨128 + t.val, by omega⟩ l) := by
    refine congrArg A ?_
    rw [ix3_eq_valueIdx]
    congr 1
    apply Fin.ext
    show (128 + t.val) % 256 = 128 + t.val
    omega
  rw [← h0, ← h1, ← e]
  match p with
  | 0 => unfold outTile; pointwise [k0_pay19, k0_pay5]
  | 1 => unfold outTile; pointwise [k0_pay20, k0_pay5]
  | 2 => unfold outTile; pointwise [k0_pay22, k0_pay21, k0_pay5]
  | 3 => unfold outTile; pointwise [k0_pay23, k0_pay5]
  | 4 => unfold outTile; pointwise [k0_pay24, k0_pay5]
  | 5 => unfold outTile; pointwise [k0_pay25, k0_pay5]

/-- The tile of results is the layer's result at the tile's positions. -/
theorem bodyOut_apply (H : Blocks u i x0 x1 x2 x3) (t : Fin 128) (c : Fin 768) :
    bodyOut (bodyAcc i x0 x1 x2 x3) (ix2 t c) = (result u (i 0).val ((i 1).val * 128 + t.val) c.val : EReal) := by
  have hc := c.isLt
  have ht := t.isLt
  have e : bodyOut (bodyAcc i x0 x1 x2 x3) (ix2 t c)
      = outTile (bodyAcc i x0 x1 x2 x3) ⟨c.val / 128, by omega⟩ (ix2 t ⟨c.val % 128, by omega⟩) :=
    congrArg (outTile (bodyAcc i x0 x1 x2 x3) ⟨c.val / 128, by omega⟩) (ix2_eq_valueIdx _ _).symm
  have g : ∀ (r : ℕ) (hr : r < 256), r % 128 = t.val → (c.val / 128 * 256 + r) / 128 = c.val / 64 →
      bodyAcc i x0 x1 x2 x3 (ix3 ⟨c.val / 128, by omega⟩ ⟨r, hr⟩ ⟨c.val % 128, by omega⟩)
        = (result u (i 0).val ((i 1).val * 128 + t.val) c.val : EReal) := by
    intro r hr h1 h2
    rw [bodyAcc_apply H]
    unfold result scores qpos lane
    have h3 : (c.val / 128 * 256 + r) % 128 = t.val := by omega
    have h4 : c.val / 128 * 128 + c.val % 128 = c.val := by omega
    simp only [h2, h3, h4]
  rw [e, outTile_apply]
  by_cases h : c.val % 128 < 64
  · rw [if_pos h]; exact g t.val (by omega) (by omega) (by omega)
  · rw [if_neg h]; exact g (128 + t.val) (by omega) (by omega) (by omega)

end

end Cert.KernelIdeal.Sb

end
-- ==== Proof.KernelIdeal.Array.lean ====
module

public import proofs.«01_k».proof.Proof.KernelIdeal.Sweep
public import proofs.«01_k».proof.Proof.KernelIdeal.Frame
public import Idealize.ShloMosaic.Lib.Pipeline.ValueKit
public import Idealize.ShloMosaic.Lib.Claim

@[expose] public section

set_option maxRecDepth 16384

noncomputable section

namespace Cert.KernelIdeal.Sb

open Cert.KernelIdeal Cert.KernelIdeal.Gen Cert.Sb
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The rows the program is launched with, as real numbers. -/
def rows (c : Dev nD) (R C : ℕ) : ℝ :=
  EReal.toReal (m ((c : Thread nD τ).loc main_arg0) (ix2 ⟨R % 16384, Nat.mod_lt _ (by decide)⟩ ⟨C % 2560, Nat.mod_lt _ (by decide)⟩))

/-- The keys and values as the pipeline finds them: the launched rows' columns from 768 on. -/
theorem V_kv (c : Dev nD) (R : Fin 16384) (C : Fin 1536) :
    V m c main_v1 (ix2 R C) = m ((c : Thread nD τ).loc main_arg0) (ix2 R ⟨768 + C.val, by omega⟩) := by
  show StableHlo.after (List.flatten [hostOps0, hostOps0_1, hostOps0_2]) _ (Proc.devRef .tc _) _ = _
  simp only [List.flatten_cons, List.flatten_nil, List.append_nil, List.cons_append, List.nil_append, hostOps0, hostOps0_1, hostOps0_2]
  after_results
  pointwise

/-- The table as the pipeline finds it. -/
theorem V_tri (c : Dev nD) (a l : Fin 128) :
    V m c main_v9 (ix2 a l) = if l.val < a.val then (1 : EReal) else 0 := by
  show StableHlo.after (List.flatten [hostOps0, hostOps0_1, hostOps0_2]) _ (Proc.devRef .tc _) _ = _
  simp only [List.flatten_cons, List.flatten_nil, List.append_nil, List.cons_append, List.nil_append, hostOps0, hostOps0_1, hostOps0_2]
  after_results
  show select (cmpi .sgt (broadcastInDim S128x128 ![0, 1] bcast_S128x1_S128x128_0_1
        (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
    (broadcastInDim S128x128 ![] bcast_S_S128x128 (constant (F := Ideal) S_ .f32 0x3F800000#32))
    (broadcastInDim S128x128 ![] bcast_S_S128x128 (constant (F := Ideal) S_ .f32 0x00000000#32)) (ix2 a l) = _
  pointwise
  rw [show IntOp.cmpi .sgt (BitVec.ofNat 32 a.val) (BitVec.ofNat 32 l.val) = IntOp.cmpi .slt (BitVec.ofNat 32 l.val) (BitVec.ofNat 32 a.val) from rfl,
    slt_nat _ _ (by omega) (by omega), sel]

/-- The windows' block indices. -/
theorem idx : ∀ t : Fin grid0.N, win0_0.index t = ![(grid0.coords t 0).val * 32 + (grid0.coords t 1).val, 0]
    ∧ win0_1.index t = ![(grid0.coords t 0).val, 0] ∧ win0_2.index t = ![(grid0.coords t 0).val, 1]
    ∧ win0_3.index t = ![0, 0] ∧ win0_4.index t = ![(grid0.coords t 0).val * 32 + (grid0.coords t 1).val, 0] := by
  decide +kernel

/-- A grid point's coordinates are within the grid. -/
theorem coords_lt (t : Fin grid0.N) : (grid0.coords t 0).val < 4 ∧ (grid0.coords t 1).val < 32 :=
  ⟨(grid0.coords t 0).isLt, (grid0.coords t 1).isLt⟩

/-- The block of keys at a grid point. -/
theorem keys_block (c : Dev nD) (t : Fin grid0.N) (s : Fin 4096) (C : Fin 768) :
    iblk m c 1 t (ix2 s C) = V m c main_v1 (ix2 ⟨(grid0.coords t 0).val * 4096 + s.val, by have := coords_lt t; omega⟩ ⟨C.val, by omega⟩) := by
  blk_ext [iblk, V, idx t]

/-- The block of values at a grid point. -/
theorem values_block (c : Dev nD) (t : Fin grid0.N) (s : Fin 4096) (C : Fin 768) :
    iblk m c 2 t (ix2 s C) = V m c main_v1 (ix2 ⟨(grid0.coords t 0).val * 4096 + s.val, by have := coords_lt t; omega⟩ ⟨768 + C.val, by omega⟩) := by
  blk_ext [iblk, V, idx t]

/-- The table at a grid point. -/
theorem tri_block (c : Dev nD) (t : Fin grid0.N) (a l : Fin 128) : iblk m c 3 t (ix2 a l) = V m c main_v9 (ix2 a l) := by
  blk_ext [iblk, V, idx t]

/-- The tile of queries at a grid point. -/
theorem queries_block (c : Dev nD) (t : Fin grid0.N) (s : Fin 128) (C : Fin 768) :
    X0_0 m c t (ix2 s C) = m ((c : Thread nD τ).loc main_arg0)
      (ix2 ⟨(grid0.coords t 0).val * 4096 + ((grid0.coords t 1).val * 128 + s.val), by have := coords_lt t; omega⟩ ⟨C.val, by omega⟩) := by
  unfold X0_0 Pipeline.Window.fill
  rw [dif_pos (moved0_0 t _)]
  blk_simp [iblk]
  refine (congrFun (V_main_arg0 m c) _).trans ?_
  blk_ext [idx t]

/-- A place in a row's bounds is itself. -/
theorem rows_eq (hfin : ∀ (c : Dev nD) (R : Fin 16384) (C : Fin 2560), ∃ x : ℝ, m ((c : Thread nD τ).loc main_arg0) (ix2 R C) = (x : EReal))
    (c : Dev nD) (R : Fin 16384) (C : Fin 2560) :
    m ((c : Thread nD τ).loc main_arg0) (ix2 R C) = (rows m c R.val C.val : EReal) := by
  obtain ⟨x, hx⟩ := hfin c R C
  unfold rows
  have e : (ix2 (⟨R.val % 16384, Nat.mod_lt _ (by decide)⟩ : Fin 16384) (⟨C.val % 2560, Nat.mod_lt _ (by decide)⟩ : Fin 2560)) = ix2 R C := by
    congr 1
    · exact Fin.ext (Nat.mod_eq_of_lt R.isLt)
    · exact Fin.ext (Nat.mod_eq_of_lt C.isLt)
  rw [e, hx, EReal.toReal_coe]

/-- The blocks at a grid point hold what `Blocks` says of them, when the launched rows are real numbers. -/
theorem blocks (hfin : ∀ (c : Dev nD) (R : Fin 16384) (C : Fin 2560), ∃ x : ℝ, m ((c : Thread nD τ).loc main_arg0) (ix2 R C) = (x : EReal))
    (c : Dev nD) (t : Fin grid0.N) :
    Blocks (rows m c) (grid0.coords t) (X0_0 m c t) (iblk m c 1 t) (iblk m c 2 t) (iblk m c 3 t) where
  q s C := (queries_block m c t s C).trans (rows_eq m hfin c _ _)
  k s C := (keys_block m c t s C).trans ((V_kv m c _ _).trans (rows_eq m hfin c _ _))
  v s C := (values_block m c t s C).trans ((V_kv m c _ _).trans ((rows_eq m hfin c _ _).trans (by
    show ((rows m c _ (768 + (768 + C.val)) : ℝ) : EReal) = _
    rw [← Nat.add_assoc])))
  tri a l := (tri_block m c t a l).trans (V_tri m c a l)

/-- The whole array of results. -/
def results (u : ℕ → ℕ → ℝ) : S16384x768.Idx → EReal := fun j => (result u ((j 0).val / 4096) ((j 0).val % 4096) (j 1).val : EReal)

/-- The result at an index given by its two coordinates. -/
theorem results_at (u : ℕ → ℕ → ℝ) (j : S16384x768.Idx) (b T C : ℕ) (hT : T < 4096) (h0 : (j 0).val = b * 4096 + T)
    (h1 : (j 1).val = C) : results u j = (result u b T C : EReal) := by
  unfold results
  rw [h0, h1, show (b * 4096 + T) / 4096 = b by omega, show (b * 4096 + T) % 4096 = T by omega]

/-- The output window's blocks tile the array. -/
theorem covers : win0_4.Covers := by decide +kernel

/-- What a grid point's body leaves is the layer's result at its block's places. -/
theorem point (hfin : ∀ (c : Dev nD) (R : Fin 16384) (C : Fin 2560), ∃ x : ℝ, m ((c : Thread nD τ).loc main_arg0) (ix2 R C) = (x : EReal))
    (c : Dev nD) (t : Fin grid0.N) (a : Fin 128) (b : Fin 768) :
    outsAt0 m c t (ix2 a b) = results (rows m c) ((win0_4.blk t).view.emb (ix2 a b)) := by
  have hc := coords_lt t
  have ha := a.isLt
  refine (bodyOut_apply (blocks m hfin c t) a b).trans (results_at _ _ _ _ _ (by omega) ?_ ?_).symm
  · blk_simp [idx t]
    omega
  · blk_simp [idx t]

/-- The array the kernel leaves is the layer's result. -/
theorem arr_eq (hfin : ∀ (c : Dev nD) (R : Fin 16384) (C : Fin 2560), ∃ x : ℝ, m ((c : Thread nD τ).loc main_arg0) (ix2 R C) = (x : EReal))
    (c : Dev nD) : (dats m 0 c).arrAt 4 (cfg0 (F := Ideal)).N = results (rows m c) := by
  refine (dats m 0 c).arrAt_eq_of_covers 4 _ covers fun t hf y => ?_
  blk_simp
  rw [after0_4]
  have e : y = ix2 (y 0) (y 1) := eq_ix2 y
  rw [e]
  exact point m hfin c t (y 0) (y 1)

/-- The run: the result array is the layer's result and the argument ends unchanged. -/
theorem run (hfin : ∀ (c : Dev nD) (R : Fin 16384) (C : Fin 2560), ∃ x : ℝ, m ((c : Thread nD τ).loc main_arg0) (ix2 R C) = (x : EReal)) :
    θ_run (defs (F := Ideal)) (onTc (τ := τ) (main (F := Ideal))) ⟨m, fun _ => 0, ρ⟩ fun r => ∀ c : Dev nD,
      r.2.mem ((c : Thread nD τ).loc main_v10) = results (rows m c)
      ∧ r.2.mem ((c : Thread nD τ).loc main_arg0) = m ((c : Thread nD τ).loc main_arg0) :=
  (θ_run (defs (F := Ideal)) _ _).mono (fun r h c => ⟨((h c).1 4).trans (arr_eq m hfin c),
      ((h c).1 0).trans (((dats m 0 c).arrAt_in 0 rfl _).trans ((A_eq m c 0).trans (V_main_arg0 m c)))⟩)
    (run_main m ρ)

end Cert.KernelIdeal.Sb

end
-- ==== Proof.Reference.lean ====
module

public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Sb

open Cert.ReferenceIdeal Cert.ReferenceIdeal.Gen Cert.ReferenceIdeal.Read Cert.Sb
open Idealize.ShloMosaic Idealize.ShloMosaic.TcCoe

/-- Choosing by a decided word. -/
theorem sel {α : Type} (p : Prop) [Decidable p] (a b : α) : Scalar.select (BitVec.ofBool (decide p)) a b = if p then a else b := by
  unfold Scalar.select
  by_cases h : p <;> simp [h]

/-- Comparing small numbers as words. -/
theorem slt_nat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt, BitVec.toInt_ofNat', BitVec.toInt_ofNat']
  have e1 : ((a : ℤ)).bmod (2 ^ 32) = a := by rw [Int.bmod_def]; omega
  have e2 : ((b : ℤ)).bmod (2 ^ 32) = b := by rw [Int.bmod_def]; omega
  simp only [e1, e2, Nat.cast_lt]

/-- The scale of the scores. -/
theorem eighth : Ideal.ofBits .f32 0x3E000000#32 = ((1 / 8 : ℝ) : EReal) := by
  simp [Ideal.ofBits, Ideal.ieee, -EReal.coe_mul]; norm_num

/-- The reference's softplus of a real number. -/
theorem softplus_real (x : ℝ) :
    Scalar.select (Ideal.cmp .une ((x : EReal) - 0) ((x : EReal) - 0)) ((x : EReal) + 0)
      (max (x : EReal) 0 + Ideal.log1p (Ideal.exp (-(max ((x : EReal) - 0) (-((x : EReal) - 0)))))) = (sp x : EReal) := by
  have e : Ideal.cmp .une ((x : EReal) - 0) ((x : EReal) - 0) = 0#1 := by simp [Ideal.cmp]
  rw [e, show ∀ a b : EReal, Scalar.select 0#1 a b = b from fun a b => by simp [Scalar.select], sub_zero]
  rw [← zero_sub (max (x : EReal) _)]
  exact sp_real x

/-- A fold of additions over the first numbers is a sum. -/
theorem foldl_sum (n : ℕ) (f : Fin n → EReal) : (List.finRange n).foldl (fun r i => r + f i) 0 = ∑ i, f i := by
  rw [Fin.sum_univ_def, List.sum_eq_foldl, List.foldl_map]

/-- The indices of a window along the last axis are that axis's places. -/
def windowEquiv : (⟨4, ![1, 1, 1, 4096]⟩ : Shape).Idx ≃ Fin 4096 where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- A running sum from the last key down, at a key: the sum of the entries from that key on. -/
theorem window_sum (x : S4x12x4096x4096.Idx → EReal) (h) (b : Fin 4) (g : Fin 12) (T s : Fin 4096) (f : ℕ → ℝ)
    (hx : ∀ j : Fin 4096, x (ix4 b g T j) = (f j.val : EReal)) :
    Ideal.hostReduceWindowAdd (t := S4x12x4096x4096) ![1, 1, 1, 4096] ![1, 1, 1, 1] ![0, 0, 0, 0] ![0, 0, 0, 4095] h x 0 (ix4 b g T s)
      = ((∑ j ∈ Finset.Ico s.val 4096, f j : ℝ) : EReal) := by
  unfold Ideal.hostReduceWindowAdd Host.reduceWindow
  dsimp only
  rw [foldl_sum]
  refine (Finset.sum_congr rfl (g := fun n => (fun k : Fin 4096 => ((if s.val + k.val < 4096 then f (s.val + k.val) else 0 : ℝ) : EReal)) (windowEquiv ((Shape.rowMajor ⟨4, ![1, 1, 1, 4096]⟩).symm n))) fun n _ => ?_).trans ?_
  · set i : (⟨4, ![1, 1, 1, 4096]⟩ : Shape).Idx := (Shape.rowMajor ⟨4, ![1, 1, 1, 4096]⟩).symm n with hi
    have e0 : (i 0).val = 0 := Nat.lt_one_iff.mp (i 0).isLt
    have e1 : (i 1).val = 0 := Nat.lt_one_iff.mp (i 1).isLt
    have e2 : (i 2).val = 0 := Nat.lt_one_iff.mp (i 2).isLt
    obtain ⟨k, hk3⟩ : ∃ k : Fin 4096, k = windowEquiv i := ⟨_, rfl⟩
    have e3 : (i 3).val = k.val := congrArg Fin.val hk3.symm
    rw [← hk3]
    have hb := b.isLt
    have hg := g.isLt
    have hT := T.isLt
    by_cases hk : s.val + k.val < 4096
    · rw [dif_pos (fun a => match a with
        | ⟨0, _⟩ => ⟨Nat.zero_le _, show b.val * 1 + (i 0).val - 0 < 4 by omega⟩
        | ⟨1, _⟩ => ⟨Nat.zero_le _, show g.val * 1 + (i 1).val - 0 < 12 by omega⟩
        | ⟨2, _⟩ => ⟨Nat.zero_le _, show T.val * 1 + (i 2).val - 0 < 4096 by omega⟩
        | ⟨3, _⟩ => ⟨Nat.zero_le _, show s.val * 1 + (i 3).val - 0 < 4096 by omega⟩)]
      simp only [if_pos hk]
      refine Eq.trans (congrArg x ?_) (hx ⟨s.val + k.val, hk⟩)
      funext a
      match a with
      | ⟨0, _⟩ => exact Fin.ext (show b.val * 1 + (i 0).val - 0 = b.val by omega)
      | ⟨1, _⟩ => exact Fin.ext (show g.val * 1 + (i 1).val - 0 = g.val by omega)
      | ⟨2, _⟩ => exact Fin.ext (show T.val * 1 + (i 2).val - 0 = T.val by omega)
      | ⟨3, _⟩ => exact Fin.ext (show s.val * 1 + (i 3).val - 0 = s.val + k.val by omega)
    · simp only [if_neg hk]
      rw [dif_neg]
      · rfl
      · intro hin
        have := (hin 3).2
        have h3 : s.val * 1 + (i 3).val - 0 < 4096 := this
        omega
  refine (Equiv.sum_comp (Shape.rowMajor ⟨4, ![1, 1, 1, 4096]⟩).symm (fun i => (fun k : Fin 4096 => ((if s.val + k.val < 4096 then f (s.val + k.val) else 0 : ℝ) : EReal)) (windowEquiv i))).trans ?_
  refine (Equiv.sum_comp windowEquiv (fun k : Fin 4096 => ((if s.val + k.val < 4096 then f (s.val + k.val) else 0 : ℝ) : EReal))).trans ?_
  rw [← coe_sum]
  congr 1
  rw [Finset.sum_Ico_eq_sum_range, ← Finset.sum_range (fun k => if s.val + k < 4096 then f (s.val + k) else 0),
    ← Finset.sum_filter]
  refine Finset.sum_congr ?_ fun _ _ => rfl
  ext k
  simp only [Finset.mem_filter, Finset.mem_range]
  omega

section

variable (x0 : (⟨S16384x2560, .f32⟩ : BufTy).Contents (Elt Ideal)) (u : ℕ → ℕ → ℝ)

/-- The queries, keys and values, position by position and head by head. -/
theorem q_apply (b : Fin 4) (t : Fin 4096) (h : Fin 12) (d : Fin 64) :
    val_main_v3 (F := Ideal) x0 (ix4 b t h d) = x0 (ix2 ⟨b.val * 4096 + t.val, by omega⟩ ⟨h.val * 64 + d.val, by omega⟩) := by
  rw [val_main_v3_apply, val_main_v2_apply, val_main_v1_apply, val_main_v0_apply]
  refine congrArg x0 (funext fun a => ?_)
  have hb := b.isLt
  have ht := t.isLt
  have hh := h.isLt
  have hd := d.isLt
  match a with
  | ⟨0, _⟩ => apply Fin.ext; simp; omega
  | ⟨1, _⟩ => apply Fin.ext; simp; omega

theorem k_apply (b : Fin 4) (t : Fin 4096) (h : Fin 12) (d : Fin 64) :
    val_main_v5 (F := Ideal) x0 (ix4 b t h d) = x0 (ix2 ⟨b.val * 4096 + t.val, by omega⟩ ⟨768 + (h.val * 64 + d.val), by omega⟩) := by
  rw [val_main_v5_apply, val_main_v4_apply, val_main_v1_apply, val_main_v0_apply]
  refine congrArg x0 (funext fun a => ?_)
  have hb := b.isLt
  have ht := t.isLt
  have hh := h.isLt
  have hd := d.isLt
  match a with
  | ⟨0, _⟩ => apply Fin.ext; simp; omega
  | ⟨1, _⟩ => apply Fin.ext; simp; omega

theorem v_apply (b : Fin 4) (t : Fin 4096) (h : Fin 12) (d : Fin 64) :
    val_main_v7 (F := Ideal) x0 (ix4 b t h d) = x0 (ix2 ⟨b.val * 4096 + t.val, by omega⟩ ⟨1536 + (h.val * 64 + d.val), by omega⟩) := by
  rw [val_main_v7_apply, val_main_v6_apply, val_main_v1_apply, val_main_v0_apply]
  refine congrArg x0 (funext fun a => ?_)
  have hb := b.isLt
  have ht := t.isLt
  have hh := h.isLt
  have hd := d.isLt
  match a with
  | ⟨0, _⟩ => apply Fin.ext; simp; omega
  | ⟨1, _⟩ => apply Fin.ext; simp; omega

variable (hx : ∀ (R : Fin 16384) (C : Fin 2560), x0 (ix2 R C) = (u R.val C.val : EReal))

include hx in
/-- The scores. -/
theorem z_apply (b : Fin 4) (h : Fin 12) (T s : Fin 4096) :
    val_main_v11 (F := Ideal) x0 (ix4 b h T s) = (score u b.val T.val h.val s.val : EReal) := by
  rw [val_main_v11_apply, val_main_v9_apply, val_main_v10_apply, val_main_cst_apply]
  have e : ∀ d : Fin 64, val_main_v3 (F := Ideal) x0 (lidx_main_v9 (ix4 b h T s) d) * val_main_v5 (F := Ideal) x0 (ridx_main_v9 (ix4 b h T s) d)
      = ((u (b.val * 4096 + T.val) (h.val * 64 + d.val) * u (b.val * 4096 + s.val) (768 + (h.val * 64 + d.val)) : ℝ) : EReal) := by
    intro d
    have e1 : lidx_main_v9 (ix4 b h T s) d = ix4 b T h d := by
      funext a
      match a with
      | ⟨0, _⟩ => rfl
      | ⟨1, _⟩ => rfl
      | ⟨2, _⟩ => rfl
      | ⟨3, _⟩ => rfl
    have e2 : ridx_main_v9 (ix4 b h T s) d = ix4 b s h d := by
      funext a
      match a with
      | ⟨0, _⟩ => rfl
      | ⟨1, _⟩ => rfl
      | ⟨2, _⟩ => rfl
      | ⟨3, _⟩ => rfl
    rw [e1, e2, q_apply, k_apply, hx, hx, ← EReal.coe_mul]
  rw [Finset.sum_congr rfl fun d _ => e d, ← coe_sum]
  refine (congrArg (_ * ·) eighth).trans ?_
  rw [← EReal.coe_mul]
  unfold score
  rw [Finset.sum_range]

/-- Which keys come before a query. -/
theorem before_apply (T s : Fin 4096) : val_main_v16 (F := Ideal) (ix2 T s) = BitVec.ofBool (decide (s.val < T.val)) := by
  rw [val_main_v16_apply, val_main_v14_apply, val_main_v15_apply, val_main_v12_apply, val_main_v13_apply, val_main_v8_apply, val_main_v8_apply]
  exact slt_nat s.val T.val (by have := s.isLt; omega) (by have := T.isLt; omega)

include hx in
/-- What a key leaves. -/
theorem stay_apply (b : Fin 4) (h : Fin 12) (T s : Fin 4096) :
    val_main_v19 (F := Ideal) x0 (ix4 b h T s) = (stay (score u b.val T.val h.val) T.val s.val : EReal) := by
  have hz := z_apply x0 u hx b h T s
  have hm : val_main_call1_v1 (F := Ideal) (ix4 b h T s) = BitVec.ofBool (decide (s.val < T.val)) := by
    rw [val_main_call1_v1_apply, ← before_apply T s]
    refine congrArg _ (funext fun a => ?_)
    match a with
    | ⟨0, _⟩ => rfl
    | ⟨1, _⟩ => rfl
  have h0 : val_main_call0_v0 (F := Ideal) x0 (ix4 b h T s) = (score u b.val T.val h.val s.val : EReal) := by
    rw [val_main_call0_v0_apply, val_main_v17_apply, hz]
    exact neg_neg _
  have h1 : val_main_call0_v1 (F := Ideal) x0 (ix4 b h T s) = (sp (score u b.val T.val h.val s.val) : EReal) := by
    rw [val_main_call0_v1_apply, val_main_call0_call0_v4_apply, val_main_call0_call0_v6_apply, val_main_call0_call0_v11_apply,
      val_main_call0_call0_v1_apply, val_main_call0_call0_v10_apply, val_main_call0_call0_v9_apply, val_main_call0_call0_v8_apply,
      val_main_call0_call0_v7_apply, val_main_call0_call0_v3_apply, val_main_call0_call0_v0_apply, val_main_call0_call0_v2_apply,
      val_main_call0_call0_v5_apply, h0]
    simp only [val_main_call0_call0_cst_apply]
    rw [Ideal.ofBits_def, Ideal.ofBits_zero_f32]
    exact softplus_real _
  rw [val_main_v19_apply, val_main_v18_apply, hm, sel, h1, val_main_call1_v2_apply, val_main_call1_v0_apply, val_main_cst_0_apply]
  unfold stay
  split_ifs
  · exact (EReal.coe_neg _).symm
  · exact Ideal.ofBits_zero_f32

include hx in
/-- What the keys after a key leave. -/
theorem later_apply (b : Fin 4) (h : Fin 12) (T s : Fin 4096) :
    val_main_v21 (F := Ideal) x0 (ix4 b h T s) = (left (score u b.val T.val h.val) T.val (s.val + 1) : EReal) := by
  have hw : val_main_v20 (F := Ideal) x0 (ix4 b h T s) = (left (score u b.val T.val h.val) T.val s.val : EReal) := by
    unfold val_main_v20 left
    have e0 : val_main_call2_v0 (F := Ideal) (Shape.Idx.first h_S_) = 0 := by
      rw [val_main_call2_v0_apply, val_main_call2_cst_apply]; exact Ideal.ofBits_zero_f32
    unfold Host.reduceWindowAdd
    rw [e0]
    exact window_sum _ _ b h T s _ fun j => stay_apply x0 u hx b h T j
  rw [val_main_v21_apply, hw, stay_apply x0 u hx]
  have e : left (score u b.val T.val h.val) T.val s.val - stay (score u b.val T.val h.val) T.val s.val
      = left (score u b.val T.val h.val) T.val (s.val + 1) := by
    unfold left
    rw [Finset.sum_eq_sum_Ico_succ_bot s.isLt, add_sub_cancel_left]
  exact (EReal.coe_sub _ _).symm.trans (congrArg Real.toEReal e)

include hx in
/-- What a key takes. -/
theorem weight_apply (b : Fin 4) (h : Fin 12) (T s : Fin 4096) :
    val_main_v25 (F := Ideal) x0 (ix4 b h T s) = (weight (score u b.val T.val h.val) T.val s.val : EReal) := by
  have hz := z_apply x0 u hx b h T s
  have hm : val_main_call4_v1 (F := Ideal) (ix4 b h T s) = BitVec.ofBool (decide (s.val < T.val)) := by
    rw [val_main_call4_v1_apply, ← before_apply T s]
    refine congrArg _ (funext fun a => ?_)
    match a with
    | ⟨0, _⟩ => rfl
    | ⟨1, _⟩ => rfl
  have h0 : val_main_call3_v0 (F := Ideal) x0 (ix4 b h T s) = ((-score u b.val T.val h.val s.val : ℝ) : EReal) := by
    rw [val_main_call3_v0_apply, hz]
    exact (EReal.coe_neg _).symm
  have h1 : val_main_call3_v1 (F := Ideal) x0 (ix4 b h T s) = (sp (-score u b.val T.val h.val s.val) : EReal) := by
    rw [val_main_call3_v1_apply, val_main_call3_call0_v4_apply, val_main_call3_call0_v6_apply, val_main_call3_call0_v11_apply,
      val_main_call3_call0_v1_apply, val_main_call3_call0_v10_apply, val_main_call3_call0_v9_apply, val_main_call3_call0_v8_apply,
      val_main_call3_call0_v7_apply, val_main_call3_call0_v3_apply, val_main_call3_call0_v0_apply, val_main_call3_call0_v2_apply,
      val_main_call3_call0_v5_apply, h0]
    simp only [val_main_call3_call0_cst_apply]
    rw [Ideal.ofBits_def, Ideal.ofBits_zero_f32]
    exact softplus_real _
  have h2 : val_main_v24 (F := Ideal) x0 (ix4 b h T s)
      = (Real.exp (score u b.val T.val h.val s.val - sp (score u b.val T.val h.val s.val)
          + left (score u b.val T.val h.val) T.val (s.val + 1)) : EReal) := by
    rw [val_main_v24_apply, val_main_v23_apply, val_main_v22_apply, h1, later_apply x0 u hx, sp_neg]
    have e : -((sp (score u b.val T.val h.val s.val) - score u b.val T.val h.val s.val : ℝ) : EReal)
          + (left (score u b.val T.val h.val) T.val (s.val + 1) : EReal)
        = ((score u b.val T.val h.val s.val - sp (score u b.val T.val h.val s.val)
          + left (score u b.val T.val h.val) T.val (s.val + 1) : ℝ) : EReal) := by
      rw [← EReal.coe_neg, neg_sub, ← EReal.coe_add]
    exact (congrArg Ideal.exp e).trans (exp_real _)
  rw [val_main_v25_apply, hm, sel, h2, val_main_call4_v2_apply, val_main_call4_v0_apply, val_main_cst_1_apply]
  unfold weight
  split_ifs
  · rfl
  · exact Ideal.ofBits_zero_f32

include hx in
/-- The reference's result at a row and a lane. -/
theorem out_apply (R : Fin 16384) (C : Fin 768) :
    val_main_v28 (F := Ideal) x0 (ix2 R C) = (result u (R.val / 4096) (R.val % 4096) C.val : EReal) := by
  have hR := R.isLt
  have hC := C.isLt
  rw [val_main_v28_apply, val_main_v27_apply, val_main_v26_apply]
  have e : ∀ s : Fin 4096, val_main_v7 (F := Ideal) x0 (lidx_main_v26 (idx_main_v27 (idx_main_v28 (ix2 R C))) s)
        * val_main_v25 (F := Ideal) x0 (ridx_main_v26 (idx_main_v27 (idx_main_v28 (ix2 R C))) s)
      = ((weight (score u (R.val / 4096) (R.val % 4096) (C.val / 64)) (R.val % 4096) s.val
          * u (R.val / 4096 * 4096 + s.val) (1536 + C.val) : ℝ) : EReal) := by
    intro s
    have e1 : lidx_main_v26 (idx_main_v27 (idx_main_v28 (ix2 R C))) s
        = ix4 ⟨R.val / 4096, by omega⟩ s ⟨C.val / 64, by omega⟩ ⟨C.val % 64, by omega⟩ := by
      funext a
      match a with
      | ⟨0, _⟩ => apply Fin.ext; simp; omega
      | ⟨1, _⟩ => rfl
      | ⟨2, _⟩ => apply Fin.ext; simp; omega
      | ⟨3, _⟩ => apply Fin.ext; simp; omega
    have e2 : ridx_main_v26 (idx_main_v27 (idx_main_v28 (ix2 R C))) s
        = ix4 ⟨R.val / 4096, by omega⟩ ⟨C.val / 64, by omega⟩ ⟨R.val % 4096, by omega⟩ s := by
      funext a
      match a with
      | ⟨0, _⟩ => apply Fin.ext; simp; omega
      | ⟨1, _⟩ => apply Fin.ext; simp; omega
      | ⟨2, _⟩ => apply Fin.ext; simp; omega
      | ⟨3, _⟩ => rfl
    rw [e1, e2, v_apply, weight_apply x0 u hx, hx, ← EReal.coe_mul, mul_comm]
    have h4 : 1536 + (C.val / 64 * 64 + C.val % 64) = 1536 + C.val := by omega
    simp only [h4]
  rw [Finset.sum_congr rfl fun s _ => e s, ← coe_sum]
  unfold result mix
  rw [← Finset.range_eq_Ico, Finset.sum_range]

end

end Cert.ReferenceIdeal.Sb

end
-- ==== Proof.lean ====
/- The claims of the certificate, assembled from the modules under Proof/. -/
module

public import proofs.«01_k».proof.Proof.Gen.OutFfn
public import proofs.«01_k».proof.Proof.Gen.OutFfn.Frame
public import proofs.«01_k».proof.Proof.Gen.OutFfnIdeal
public import proofs.«01_k».proof.Proof.Gen.OutFfnIdeal.Frame
public import proofs.«01_k».proof.Proof.Gen.OutFfnIdeal.Value
public import proofs.«01_k».proof.Proof.Gen.OutFfnRefIdeal
public import proofs.«01_k».proof.Proof.Gen.OutFfnRefIdeal.Run
public import proofs.«01_k».proof.Proof.Gen.OutFfnRefIdeal.Read
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.MemKv.Array
public import proofs.«01_k».proof.Proof.MemKv.Reference
public import proofs.«01_k».proof.Proof.Gen.Pre_finite_mem
public import proofs.«01_k».proof.Proof.Gen.NsaPrep
public import proofs.«01_k».proof.Proof.Gen.NsaPrep.Frame
public import proofs.«01_k».proof.Proof.Gen.NsaPrepIdeal
public import proofs.«01_k».proof.Proof.Gen.NsaPrepIdeal.Frame
public import proofs.«01_k».proof.Proof.Gen.NsaPrepIdeal.Value
public import proofs.«01_k».proof.Proof.Gen.NsaPrepRefIdeal
public import proofs.«01_k».proof.Proof.Gen.NsaPrepRefIdeal.Run
public import proofs.«01_k».proof.Proof.Gen.NsaPrepRefIdeal.Read
public import proofs.«01_k».proof.Proof.NsaPrep.Array
public import proofs.«01_k».proof.Proof.NsaPrep.Turned
public import proofs.«01_k».proof.Proof.Gen.Pre_finite_prep
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Conv.Array
public import proofs.«01_k».proof.Proof.Conv.Reference
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.MemAttn.Array
public import proofs.«01_k».proof.Proof.MemAttn.Reference
public import proofs.«01_k».proof.Proof.Gen.Pre_finite_matt
public import proofs.«01_k».proof.Proof.Gen.OutFfnS
public import proofs.«01_k».proof.Proof.Gen.OutFfnS.Frame
public import proofs.«01_k».proof.Proof.Gen.OutFfnSIdeal
public import proofs.«01_k».proof.Proof.Gen.OutFfnSIdeal.Frame
public import proofs.«01_k».proof.Proof.Gen.OutFfnSIdeal.Value
public import proofs.«01_k».proof.Proof.Gen.OutFfnSRefIdeal
public import proofs.«01_k».proof.Proof.Gen.OutFfnSRefIdeal.Run
public import proofs.«01_k».proof.Proof.Gen.OutFfnSRefIdeal.Read
public import proofs.«01_k».proof.Proof.OutFfnS.Array
public import proofs.«01_k».proof.Proof.OutFfnS.Reference
public import proofs.«01_k».proof.Proof.Gen.ProjInS
public import proofs.«01_k».proof.Proof.Gen.ProjInS.Frame
public import proofs.«01_k».proof.Proof.Gen.ProjInSIdeal
public import proofs.«01_k».proof.Proof.Gen.ProjInSIdeal.Frame
public import proofs.«01_k».proof.Proof.Gen.ProjInSIdeal.Value
public import proofs.«01_k».proof.Proof.Gen.ProjInSRefIdeal
public import proofs.«01_k».proof.Proof.Gen.ProjInSRefIdeal.Run
public import proofs.«01_k».proof.Proof.Gen.ProjInSRefIdeal.Read
public import proofs.«01_k».proof.Proof.ProjInS.Array
public import proofs.«01_k».proof.Proof.ProjInS.Reference
public import proofs.«01_k».proof.Proof.OutFfn.Array
public import proofs.«01_k».proof.Proof.OutFfn.Reference
public import proofs.«01_k».proof.Proof.ProjIn.Array
public import proofs.«01_k».proof.Proof.ProjIn.Reference
public import proofs.«01_k».proof.Proof.Gen.ReferenceIdeal.Read
public import proofs.«01_k».proof.Proof.Gen.Pre_finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Array
public import proofs.«01_k».proof.Proof.Reference
public import Idealize.ShloMosaic.Lib.ReduceAll
public import Idealize.ShloMosaic.Adequacy
public import Idealize.ShloMosaic.Init
public import Idealize.ShloMosaic.Lib.Quiescent

@[expose] public section

noncomputable section

namespace Cert.Proof

open Idealize.ShloMosaic Idealize.SL.Sem
open Idealize.ShloMosaic.TcCoe

/-- The reference's frame: its run leaves its argument, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant: the bound of the early exit stands for −∞. -/
theorem preserves : Cert.preserves_Kernel_KernelIdeal :=
  IdealRules.named_const.statement Cert.KernelIdeal.κ "underflow" .f32 0xC2D00000#32 ⊥ rfl

/-- A number whose size is below infinity is real. -/
theorem real_of_below (x : EReal) (e : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at e
  induction x using EReal.rec with
  | bot => simp [Ideal.cmp] at e
  | top => simp [Ideal.cmp] at e
  | coe r => exact ⟨r, rfl⟩

/-- Two conditions hold when their conjunction does. -/
theorem both_ones : ∀ {a b : BitVec 1}, a &&& b = 1#1 → a = 1#1 ∧ b = 1#1 := by decide

/-- Under the precondition every launched number is real. -/
theorem finite_rows (m : (ℓ : Loc Cert.KernelIdeal.nD Cert.KernelIdeal.τ Cert.KernelIdeal.sig) → Buf (Elt Ideal) ℓ)
    (hp : Cert.Pre_KernelIdeal_finite m) (c : Dev Cert.KernelIdeal.nD) (R : Fin 16384) (C : Fin 2560) :
    ∃ x : ℝ, m ((c.tc : Thread Cert.KernelIdeal.nD Cert.KernelIdeal.τ).loc Cert.KernelIdeal.main_arg0) (ix2 R C) = (x : EReal) := by
  have h := congrFun (hp c) (fun a : Fin 0 => a.elim0)
  dsimp only [Cert.Pre_finite.fn] at h
  haveI : Subsingleton Cert.Pre_finite.S_.Idx := ⟨fun a b => funext fun i => i.elim0⟩
  have hj := Host.reduce_andi_all _ _ _ _ _ h (ix2 R C)
  exact real_of_below _ hj

/-- The value claim: on finite rows the kernel and the plain attention compute the same array over the reals. -/
theorem algebraic : Cert.algebraic_KernelIdeal_ReferenceIdeal_pre_finite := by
  intro m g m' g' hp hm
  have hfin := finite_rows m hp
  refine ⟨fun c => Cert.KernelIdeal.Sb.results (Cert.KernelIdeal.Sb.rows m c), Cert.KernelIdeal.Sb.run m g hfin, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v28_eq]
  funext j
  have e := Cert.ReferenceIdeal.Sb.out_apply (m' ((c.tc : Thread Cert.ReferenceIdeal.nD Cert.ReferenceIdeal.τ).loc Cert.ReferenceIdeal.main_arg0))
    (Cert.KernelIdeal.Sb.rows m c) (fun R C => (congrFun (hm c) (ix2 R C)).trans (Cert.KernelIdeal.Sb.rows_eq m hfin c R C)) (j 0) (j 1)
  exact (congrArg _ (eq_ix2 j)).trans e

/-- The frame of the second reference (output projection and feed-forward block). -/
theorem frame_out_reference : Cert.quiescent_OutFfnRefIdeal := fun m ρ _ =>
  (θ_run Cert.OutFfnRefIdeal.defs _ _).mono (fun r h => ⟨fun c => (h c).2, sem_eq_zero_of_no_sems (by decide) r.2⟩)
    (Cert.OutFfnRefIdeal.Value.run (F := Ideal) m ρ)

/-- The output projection, the residual sum and the feed-forward block: kernel and reference compute the same array. -/
theorem algebraic_out : Cert.algebraic_OutFfnIdeal_OutFfnRefIdeal := by
  intro m g m' g' _ hm
  refine ⟨fun c => Cert.OutFfnIdeal.Out.results m c, Cert.OutFfnIdeal.Out.run m g, ?_⟩
  refine (θ_run Cert.OutFfnRefIdeal.defs _ _).mono (fun r h c => ⟨(h c).1.trans ?_, (h c).2⟩)
    (Cert.OutFfnRefIdeal.Value.run (F := Ideal) m' g')
  obtain ⟨h0, h1, h2, h3, h4, h5, h6⟩ := hm c
  rw [Cert.OutFfnRefIdeal.Read.val_main_v22_eq, Cert.OutFfnRefIdeal.Out.out_eq, h0, h1, h2, h3, h4, h5, h6]
  rfl

/-- The frame of the third reference (input projection). -/
theorem frame_in_reference : Cert.quiescent_ProjInRefIdeal := fun m ρ _ =>
  (θ_run Cert.ProjInRefIdeal.defs _ _).mono (fun r h => ⟨fun c => (h c).2.2, sem_eq_zero_of_no_sems (by decide) r.2⟩)
    (Cert.ProjInRefIdeal.Value.run (F := Ideal) m ρ)

/-- The input projection and the turned keys and values: kernel and reference compute the same two arrays. -/
theorem algebraic_in : Cert.algebraic_ProjInIdeal_ProjInRefIdeal := by
  intro m g m' g' _ hm
  refine ⟨fun c => Cert.ProjInIdeal.Pin.results m c, fun c => Cert.ProjInIdeal.Pin.turned m c, Cert.ProjInIdeal.Pin.run m g, ?_⟩
  refine (θ_run Cert.ProjInRefIdeal.defs _ _).mono (fun r h c => ⟨(h c).1.trans ?_, (h c).2.1.trans ?_, (h c).2.2⟩)
    (Cert.ProjInRefIdeal.Value.run (F := Ideal) m' g')
  all_goals obtain ⟨h0, h1, h2⟩ := hm c
  · rw [Cert.ProjInRefIdeal.Read.val_main_v13_eq, Cert.ProjInRefIdeal.Pin.proj_eq, h0, h1, h2]
    rfl
  · rw [Cert.ProjInRefIdeal.Read.val_main_v16_eq, Cert.ProjInRefIdeal.Pin.kv_eq, h0, h1, h2]
    rfl

/-- The frame of the fourth reference (the memories' keys and values). -/
theorem frame_mem_reference : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- Under the precondition the memories' gains are real. -/
theorem finite_mem_gains (m : (ℓ : Loc Cert.MemKvIdeal.nD Cert.MemKvIdeal.τ Cert.MemKvIdeal.sig) → Buf (Elt Ideal) ℓ)
    (hp : Cert.Pre_MemKvIdeal_finite_mem m) (c : Dev Cert.MemKvIdeal.nD) (l : Fin 4) (k : Fin 1024) :
    Cert.Rows.IsReal (m ((c.tc : Thread Cert.MemKvIdeal.nD Cert.MemKvIdeal.τ).loc Cert.MemKvIdeal.main_arg1) (ix2 l k)) := by
  have h := congrFun (hp c) (fun a : Fin 0 => a.elim0)
  dsimp only [Cert.Pre_finite_mem.fn] at h
  haveI : Subsingleton Cert.Pre_finite_mem.S_.Idx := ⟨fun a b => funext fun i => i.elim0⟩
  exact real_of_below _ (Host.reduce_andi_all _ _ _ _ _ (both_ones h).1 (ix2 l k))

/-- Under the precondition the memories' weights are real. -/
theorem finite_mem_weights (m : (ℓ : Loc Cert.MemKvIdeal.nD Cert.MemKvIdeal.τ Cert.MemKvIdeal.sig) → Buf (Elt Ideal) ℓ)
    (hp : Cert.Pre_MemKvIdeal_finite_mem m) (c : Dev Cert.MemKvIdeal.nD) (l : Fin 4) (k : Fin 1024) (C : Fin 512) :
    Cert.Rows.IsReal (m ((c.tc : Thread Cert.MemKvIdeal.nD Cert.MemKvIdeal.τ).loc Cert.MemKvIdeal.main_arg2) (ix3 l k C)) := by
  have h := congrFun (hp c) (fun a : Fin 0 => a.elim0)
  dsimp only [Cert.Pre_finite_mem.fn] at h
  haveI : Subsingleton Cert.Pre_finite_mem.S_.Idx := ⟨fun a b => funext fun i => i.elim0⟩
  exact real_of_below _ (Host.reduce_andi_all _ _ _ _ _ (both_ones h).2 (ix3 l k C))

/-- The memories' keys and values: with real gains and weights kernel and reference compute the same array. -/
theorem algebraic_mem : Cert.algebraic_MemKvIdeal_MemKvRefIdeal_pre_finite_mem := by
  intro m g m' g' hp hm
  have hg : ∀ (c : Dev Cert.MemKvIdeal.nD) i, Cert.Rows.IsReal (m ((c.tc : Thread Cert.MemKvIdeal.nD Cert.MemKvIdeal.τ).loc Cert.MemKvIdeal.main_arg1) i) :=
    fun c i => by have e := eq_ix2 (n0 := 4) (n1 := 1024) i; rw [e]; exact finite_mem_gains m hp c (i 0) (i 1)
  have hw : ∀ (c : Dev Cert.MemKvIdeal.nD) i, Cert.Rows.IsReal (m ((c.tc : Thread Cert.MemKvIdeal.nD Cert.MemKvIdeal.τ).loc Cert.MemKvIdeal.main_arg2) i) :=
    fun c i => by have e := eq_ix3 (n0 := 4) (n1 := 1024) (n2 := 512) i; rw [e]; exact finite_mem_weights m hp c (i 0) (i 1) (i 2)
  refine ⟨fun c => Cert.MemKvIdeal.Mem.results m c, Cert.MemKvIdeal.Mem.run m g hg hw, ?_⟩
  refine (θ_run Cert.MemKvRefIdeal.defs _ _).mono (fun r h c => ⟨(h c).1.trans ?_, (h c).2⟩)
    (Cert.MemKvRefIdeal.Value.run (F := Ideal) m' g')
  obtain ⟨h0, h1, h2, h3⟩ := hm c
  rw [Cert.MemKvRefIdeal.Read.val_main_v34_eq, Cert.MemKvRefIdeal.Mem.out_eq, h0, h1, h2, h3]
  rfl

/-- The frame of the reference of the preparation of the sparse attention. -/
theorem frame_prep_reference : Cert.quiescent_NsaPrepRefIdeal := fun m ρ _ =>
  (θ_run Cert.NsaPrepRefIdeal.defs _ _).mono (fun r h => ⟨fun c => (h c).2.2.2.2.2.2, sem_eq_zero_of_no_sems (by decide) r.2⟩)
    (Cert.NsaPrepRefIdeal.Value.run (F := Ideal) m ρ)

/-- Under the precondition the queries and the first keys are real. -/
theorem finite_prep_first (m : (ℓ : Loc Cert.NsaPrepIdeal.nD Cert.NsaPrepIdeal.τ Cert.NsaPrepIdeal.sig) → Buf (Elt Ideal) ℓ)
    (hp : Cert.Pre_NsaPrepIdeal_finite_prep m) (c : Dev Cert.NsaPrepIdeal.nD) (R : Fin 16384) (C : Fin 896) :
    Cert.Rows.IsReal (m ((c.tc : Thread Cert.NsaPrepIdeal.nD Cert.NsaPrepIdeal.τ).loc Cert.NsaPrepIdeal.main_arg0) (ix2 R ⟨C.val, by omega⟩)) := by
  have h := congrFun (hp c) (fun a : Fin 0 => a.elim0)
  dsimp only [Cert.Pre_finite_prep.fn] at h
  haveI : Subsingleton Cert.Pre_finite_prep.S_.Idx := ⟨fun a b => funext fun i => i.elim0⟩
  have hb := real_of_below _ (Host.reduce_andi_all _ _ _ _ _ (both_ones (both_ones h).1).1 (ix2 R C))
  revert hb
  pointwise
  exact id

/-- Under the precondition the second keys are real. -/
theorem finite_prep_second (m : (ℓ : Loc Cert.NsaPrepIdeal.nD Cert.NsaPrepIdeal.τ Cert.NsaPrepIdeal.sig) → Buf (Elt Ideal) ℓ)
    (hp : Cert.Pre_NsaPrepIdeal_finite_prep m) (c : Dev Cert.NsaPrepIdeal.nD) (R : Fin 16384) (C : Fin 128) :
    Cert.Rows.IsReal (m ((c.tc : Thread Cert.NsaPrepIdeal.nD Cert.NsaPrepIdeal.τ).loc Cert.NsaPrepIdeal.main_arg0) (ix2 R ⟨1024 + C.val, by omega⟩)) := by
  have h := congrFun (hp c) (fun a : Fin 0 => a.elim0)
  dsimp only [Cert.Pre_finite_prep.fn] at h
  haveI : Subsingleton Cert.Pre_finite_prep.S_.Idx := ⟨fun a b => funext fun i => i.elim0⟩
  have hb := real_of_below _ (Host.reduce_andi_all _ _ _ _ _ (both_ones (both_ones h).1).2 (ix2 R C))
  revert hb
  pointwise
  exact id

/-- Under the precondition the third keys are real. -/
theorem finite_prep_third (m : (ℓ : Loc Cert.NsaPrepIdeal.nD Cert.NsaPrepIdeal.τ Cert.NsaPrepIdeal.sig) → Buf (Elt Ideal) ℓ)
    (hp : Cert.Pre_NsaPrepIdeal_finite_prep m) (c : Dev Cert.NsaPrepIdeal.nD) (R : Fin 16384) (C : Fin 128) :
    Cert.Rows.IsReal (m ((c.tc : Thread Cert.NsaPrepIdeal.nD Cert.NsaPrepIdeal.τ).loc Cert.NsaPrepIdeal.main_arg0) (ix2 R ⟨1280 + C.val, by omega⟩)) := by
  have h := congrFun (hp c) (fun a : Fin 0 => a.elim0)
  dsimp only [Cert.Pre_finite_prep.fn] at h
  haveI : Subsingleton Cert.Pre_finite_prep.S_.Idx := ⟨fun a b => funext fun i => i.elim0⟩
  have hb := real_of_below _ (Host.reduce_andi_all _ _ _ _ _ (both_ones h).2 (ix2 R C))
  revert hb
  pointwise
  exact id

/-- Under the precondition all keys are real. -/
theorem finite_prep_keys (m : (ℓ : Loc Cert.NsaPrepIdeal.nD Cert.NsaPrepIdeal.τ Cert.NsaPrepIdeal.sig) → Buf (Elt Ideal) ℓ)
    (hp : Cert.Pre_NsaPrepIdeal_finite_prep m) (c : Dev Cert.NsaPrepIdeal.nD) (R : Fin 16384) (k : Fin 768) (hk : k.val / 128 % 2 = 0) :
    Cert.Rows.IsReal (m ((c.tc : Thread Cert.NsaPrepIdeal.nD Cert.NsaPrepIdeal.τ).loc Cert.NsaPrepIdeal.main_arg0) (ix2 R ⟨768 + k.val, by omega⟩)) := by
  have at_ : ∀ a b : Fin 1920, a.val = b.val → Cert.Rows.IsReal (m ((c.tc : Thread Cert.NsaPrepIdeal.nD Cert.NsaPrepIdeal.τ).loc Cert.NsaPrepIdeal.main_arg0) (ix2 R a)) → Cert.Rows.IsReal (m ((c.tc : Thread Cert.NsaPrepIdeal.nD Cert.NsaPrepIdeal.τ).loc Cert.NsaPrepIdeal.main_arg0) (ix2 R b)) :=
    fun a b e h => by rw [← Fin.ext e]; exact h
  by_cases h0 : k.val < 128
  · exact finite_prep_first m hp c R ⟨768 + k.val, by omega⟩
  · by_cases h1 : k.val < 384
    · exact at_ _ _ (by show 1024 + (k.val - 256) = 768 + k.val; omega) (finite_prep_second m hp c R ⟨k.val - 256, by omega⟩)
    · exact at_ _ _ (by show 1280 + (k.val - 512) = 768 + k.val; omega) (finite_prep_third m hp c R ⟨k.val - 512, by omega⟩)

/-- The preparation of the sparse attention: with real queries and keys kernel and reference compute the same six arrays. -/
theorem algebraic_prep : Cert.algebraic_NsaPrepIdeal_NsaPrepRefIdeal_pre_finite_prep := by
  intro m g m' g' hp hm
  refine ⟨fun c => Cert.NsaPrepIdeal.Prep.qOf m c, fun c => Cert.NsaPrepIdeal.Prep.csOf m c, fun c => Cert.NsaPrepIdeal.Prep.winOf m c, fun c => Cert.NsaPrepIdeal.Prep.gateOf m c,
    fun c => Cert.NsaPrepIdeal.Prep.csTOf m c, fun c => Cert.NsaPrepIdeal.Prep.winTOf m c,
    Cert.NsaPrepIdeal.Prep.run m g (fun c R k => finite_prep_first m hp c R ⟨k.val, by omega⟩) (fun c R k hk => finite_prep_keys m hp c R k hk), ?_⟩
  refine (θ_run Cert.NsaPrepRefIdeal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.NsaPrepRefIdeal.Value.run (F := Ideal) m' g')
  all_goals obtain ⟨h0, h1⟩ := hm c
  · exact (Cert.NsaPrepRefIdeal.Read.val_main_v52_eq _).trans ((Cert.NsaPrepRefIdeal.Prep.q_all _ _).trans ((congrArg₂ Cert.NsaPrepRefIdeal.Prep.qAll h0 h1).trans rfl))
  · exact (Cert.NsaPrepRefIdeal.Read.val_main_v161_eq _).trans ((Cert.NsaPrepRefIdeal.Prep.cs_all _ _).trans ((congrArg₂ Cert.NsaPrepRefIdeal.Prep.csAll h0 h1).trans rfl))
  · exact (Cert.NsaPrepRefIdeal.Read.val_main_v216_eq _).trans ((Cert.NsaPrepRefIdeal.Prep.win_all _ _).trans ((congrArg₂ Cert.NsaPrepRefIdeal.Prep.winAll h0 h1).trans rfl))
  · exact (Cert.NsaPrepRefIdeal.Read.val_main_v223_eq _).trans ((Cert.NsaPrepRefIdeal.Prep.gate_all _).trans ((congrArg Cert.NsaPrepRefIdeal.Prep.gateAll h0).trans rfl))
  · exact (Cert.NsaPrepRefIdeal.Read.val_main_v225_eq _).trans ((Cert.NsaPrepRefIdeal.Prep.csT_all _ _).trans ((congrArg₂ Cert.NsaPrepRefIdeal.Prep.csTAll h0 h1).trans rfl))
  · exact (Cert.NsaPrepRefIdeal.Read.val_main_v227_eq _).trans ((Cert.NsaPrepRefIdeal.Prep.winT_all _ _).trans ((congrArg₂ Cert.NsaPrepRefIdeal.Prep.winTAll h0 h1).trans rfl))

/-- The frame of the reference of the convolution. -/
theorem frame_conv_reference : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The convolution's rows of equal arguments are equal. -/
theorem conv_congr {a a' : Cert.ConvRefIdeal.S16384x1792.Idx → EReal} {b b' : Cert.ConvRefIdeal.S31x768.Idx → EReal} {c c' d d' e e' : Cert.ConvRefIdeal.S768.Idx → EReal}
    (ha : a = a') (hb : b = b') (hc : c = c') (hd : d = d') (he : e = e') : Cert.ConvRefIdeal.Read.convAll a b c d e = Cert.ConvRefIdeal.Read.convAll a' b' c' d' e' := by
  subst ha hb hc hd he
  rfl

/-- The convolution: kernel and reference compute the same rows and the same last gated rows. -/
theorem algebraic_conv : Cert.algebraic_ConvIdeal_ConvRefIdeal := by
  intro m g m' g' _ hm
  refine ⟨fun c => Cert.ConvIdeal.Conv.convOf m c, fun c => Cert.ConvIdeal.Conv.tailOf m c, Cert.ConvIdeal.Conv.run m g, ?_⟩
  refine (θ_run Cert.ConvRefIdeal.defs _ _).mono (fun r h c => ⟨(h c).1.trans ?_, (h c).2.1.trans ?_, (h c).2.2⟩)
    (Cert.ConvRefIdeal.Value.run (F := Ideal) m' g')
  all_goals obtain ⟨h0, h1, h2, h3, h4⟩ := hm c
  · exact (Cert.ConvRefIdeal.Read.val_main_v264_eq _).trans ((Cert.ConvRefIdeal.Read.conv_all _ _ _ _ _).trans ((conv_congr h0 h1 h2 h3 h4).trans rfl))
  · exact (Cert.ConvRefIdeal.Read.val_main_v265_eq _).trans ((Cert.ConvRefIdeal.Read.tail_all _).trans ((congrArg Cert.ConvRefIdeal.Read.tailAll h0).trans rfl))

/-- The frame of the reference of the attention to the memories. -/
theorem frame_matt_reference : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

/-- Under the precondition the queries among the projections are real. -/
theorem finite_matt_rows (m : (ℓ : Loc Cert.MemAttnIdeal.nD Cert.MemAttnIdeal.τ Cert.MemAttnIdeal.sig) → Buf (Elt Ideal) ℓ)
    (hp : Cert.Pre_MemAttnIdeal_finite_matt m) (c : Dev Cert.MemAttnIdeal.nD) (R : Fin 16384) (C : Fin 256) :
    Cert.Rows.IsReal (m ((c.tc : Thread Cert.MemAttnIdeal.nD Cert.MemAttnIdeal.τ).loc Cert.MemAttnIdeal.main_arg0) (ix2 R ⟨2304 + C.val, by omega⟩)) := by
  have h := congrFun (hp c) (fun a : Fin 0 => a.elim0)
  dsimp only [Cert.Pre_finite_matt.fn] at h
  haveI : Subsingleton Cert.Pre_finite_matt.S_.Idx := ⟨fun a b => funext fun i => i.elim0⟩
  have hb := real_of_below _ (Host.reduce_andi_all _ _ _ _ _ h (ix2 R C))
  revert hb
  pointwise
  exact id

/-- The attention to the memories: with real queries kernel and reference compute the same array. -/
theorem algebraic_matt : Cert.algebraic_MemAttnIdeal_MemAttnRefIdeal_pre_finite_matt := by
  intro m g m' g' hp hm
  refine ⟨fun c => Cert.MemAttnIdeal.Matt.results m c, Cert.MemAttnIdeal.Matt.run m g (finite_matt_rows m hp), ?_⟩
  refine (θ_run Cert.MemAttnRefIdeal.defs _ _).mono (fun r h c => ⟨(h c).1.trans ?_, (h c).2⟩)
    (Cert.MemAttnRefIdeal.Value.run (F := Ideal) m' g')
  obtain ⟨h0, h1, h2⟩ := hm c
  rw [Cert.MemAttnRefIdeal.Read.val_main_v36_eq, Cert.MemAttnRefIdeal.Matt.out_eq, h0, h1, h2]
  rfl

/-- The frame of the reference of the sample's output projection and feed-forward block. -/
theorem frame_out_sample_reference : Cert.quiescent_OutFfnSRefIdeal := fun m ρ _ =>
  (θ_run Cert.OutFfnSRefIdeal.defs _ _).mono (fun r h => ⟨fun c => (h c).2, sem_eq_zero_of_no_sems (by decide) r.2⟩)
    (Cert.OutFfnSRefIdeal.Value.run (F := Ideal) m ρ)

/-- The sample's output projection, residual sum and feed-forward block: kernel and reference compute the same array. -/
theorem algebraic_out_sample : Cert.algebraic_OutFfnSIdeal_OutFfnSRefIdeal := by
  intro m g m' g' _ hm
  refine ⟨fun c => Cert.OutFfnSIdeal.Out.results m c, Cert.OutFfnSIdeal.Out.run m g, ?_⟩
  refine (θ_run Cert.OutFfnSRefIdeal.defs _ _).mono (fun r h c => ⟨(h c).1.trans ?_, (h c).2⟩)
    (Cert.OutFfnSRefIdeal.Value.run (F := Ideal) m' g')
  obtain ⟨h0, h1, h2, h3, h4, h5, h6⟩ := hm c
  rw [Cert.OutFfnSRefIdeal.Read.val_main_v22_eq, Cert.OutFfnSRefIdeal.Out.out_eq, h0, h1, h2, h3, h4, h5, h6]
  rfl

/-- The frame of the reference of the sample's input projection. -/
theorem frame_in_sample_reference : Cert.quiescent_ProjInSRefIdeal := fun m ρ _ =>
  (θ_run Cert.ProjInSRefIdeal.defs _ _).mono (fun r h => ⟨fun c => (h c).2, sem_eq_zero_of_no_sems (by decide) r.2⟩)
    (Cert.ProjInSRefIdeal.Value.run (F := Ideal) m ρ)

/-- The sample's input projection: kernel and reference compute the same array. -/
theorem algebraic_in_sample : Cert.algebraic_ProjInSIdeal_ProjInSRefIdeal := by
  intro m g m' g' _ hm
  refine ⟨fun c => Cert.ProjInSIdeal.Pin.results m c, Cert.ProjInSIdeal.Pin.run m g, ?_⟩
  refine (θ_run Cert.ProjInSRefIdeal.defs _ _).mono (fun r h c => ⟨(h c).1.trans ?_, (h c).2⟩)
    (Cert.ProjInSRefIdeal.Value.run (F := Ideal) m' g')
  obtain ⟨h0, h1, h2⟩ := hm c
  rw [Cert.ProjInSRefIdeal.Read.val_main_v13_eq, Cert.ProjInSRefIdeal.Pin.proj_eq, h0, h1, h2]
  rfl

/-- Everything claimed. -/
theorem claim : Cert.Claim :=
  ⟨Cert.Kernel.Gen.facts, Cert.KernelIdeal.Gen.facts, Cert.ReferenceIdeal.Gen.facts,
    Cert.OutFfn.Gen.facts, Cert.OutFfnIdeal.Gen.facts, Cert.OutFfnRefIdeal.Gen.facts,
    Cert.ProjIn.Gen.facts, Cert.ProjInIdeal.Gen.facts, Cert.ProjInRefIdeal.Gen.facts,
    Cert.MemKv.Gen.facts, Cert.MemKvIdeal.Gen.facts, Cert.MemKvRefIdeal.Gen.facts,
    Cert.NsaPrep.Gen.facts, Cert.NsaPrepIdeal.Gen.facts, Cert.NsaPrepRefIdeal.Gen.facts,
    Cert.Conv.Gen.facts, Cert.ConvIdeal.Gen.facts, Cert.ConvRefIdeal.Gen.facts,
    Cert.MemAttn.Gen.facts, Cert.MemAttnIdeal.Gen.facts, Cert.MemAttnRefIdeal.Gen.facts,
    Cert.OutFfnS.Gen.facts, Cert.OutFfnSIdeal.Gen.facts, Cert.OutFfnSRefIdeal.Gen.facts,
    Cert.ProjInS.Gen.facts, Cert.ProjInSIdeal.Gen.facts, Cert.ProjInSRefIdeal.Gen.facts,
    Cert.Pre_finite.Gen.facts, Cert.Pre_finite_mem.Gen.facts, Cert.Pre_finite_prep.Gen.facts, Cert.Pre_finite_matt.Gen.facts,
    fun m ρ _ => Cert.Kernel.Sb.frame m ρ, fun m ρ _ => Cert.KernelIdeal.Sb.frame m ρ,
    fun m ρ _ => Cert.KernelIdeal.Sb.frame m ρ, frame_reference, fun m ρ _ => frame_reference m ρ trivial,
    fun m ρ _ => Cert.OutFfn.Gen.frame m ρ, fun m ρ _ => Cert.OutFfnIdeal.Gen.frame m ρ, frame_out_reference,
    fun m ρ _ => Cert.ProjIn.Gen.frame m ρ, fun m ρ _ => Cert.ProjInIdeal.Gen.frame m ρ, frame_in_reference,
    fun m ρ _ => Cert.MemKv.Gen.frame m ρ, fun m ρ _ => Cert.MemKvIdeal.Gen.frame m ρ, fun m ρ _ => Cert.MemKvIdeal.Gen.frame m ρ, frame_mem_reference,
    fun m ρ _ => frame_mem_reference m ρ trivial,
    fun m ρ _ => Cert.NsaPrep.Gen.frame m ρ, fun m ρ _ => Cert.NsaPrepIdeal.Gen.frame m ρ, fun m ρ _ => Cert.NsaPrepIdeal.Gen.frame m ρ, frame_prep_reference,
    fun m ρ _ => frame_prep_reference m ρ trivial,
    fun m ρ _ => Cert.Conv.Gen.frame m ρ, fun m ρ _ => Cert.ConvIdeal.Gen.frame m ρ, frame_conv_reference,
    fun m ρ _ => Cert.MemAttn.Gen.frame m ρ, fun m ρ _ => Cert.MemAttnIdeal.Gen.frame m ρ, fun m ρ _ => Cert.MemAttnIdeal.Gen.frame m ρ, frame_matt_reference,
    fun m ρ _ => frame_matt_reference m ρ trivial,
    fun m ρ _ => Cert.OutFfnS.Gen.frame m ρ, fun m ρ _ => Cert.OutFfnSIdeal.Gen.frame m ρ, frame_out_sample_reference,
    fun m ρ _ => Cert.ProjInS.Gen.frame m ρ, fun m ρ _ => Cert.ProjInSIdeal.Gen.frame m ρ, frame_in_sample_reference,
    preserves, algebraic, trivial, algebraic_out, trivial, algebraic_in, trivial, algebraic_mem, trivial, algebraic_prep, trivial, algebraic_conv, trivial, algebraic_matt, trivial, algebraic_out_sample, trivial, algebraic_in_sample⟩

end Cert.Proof

end
